-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "huge" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v43)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v161) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x8x64 : Shape := ⟨4, ![2, 16384, 8, 64]⟩
abbrev S2x16384x2x64 : Shape := ⟨4, ![2, 16384, 2, 64]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x2x64 : S_.BroadcastsInDim S2x16384x2x64 (![] : Fin 0 → Fin S2x16384x2x64.rank)
  reducesTo_S2x16384x2x64_S_d0_1_2_3 : S2x16384x2x64.ReducesTo [0, 1, 2, 3] S_

variable [Facts]

def fn {F : FTy → Type} [FloatOps F] (main_arg0 : FVec F S2x16384x8x64 .f32) (main_arg1 : FVec F S2x16384x2x64 .f32) (main_arg2 : FVec F S2x16384x2x64 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x2x64 .f32 := Host.absf main_arg1
  let main_cst_0 : FVec F S_ .f32 := constant S_ .f32 0x7F800000#32
  let main_v5 : FVec F S2x16384x2x64 .f32 := broadcastInDim S2x16384x2x64 ![] bcast_S_S2x16384x2x64 main_cst_0
  let main_v6 : IVec S2x16384x2x64 1 := cmpf .olt main_v4 main_v5
  let main_c_1 : IVec S_ 1 := constantI S_ 1 1#1
  let main_v7 : IVec S_ 1 := (fun x v => Host.reduce IntOp.andi x v reducesTo_S2x16384x2x64_S_d0_1_2_3 h_S_) main_v6 main_c_1
  let main_v8 : IVec S_ 1 := andi main_v3 main_v7
  main_v8
-- ==== Kernel.lean ====
abbrev S2x16384x8x64 : Shape := ⟨4, ![2, 16384, 8, 64]⟩
abbrev S2x16384x2x64 : Shape := ⟨4, ![2, 16384, 2, 64]⟩
abbrev S_ : Shape := ⟨0, ![]⟩
abbrev S2x16384x512 : Shape := ⟨3, ![2, 16384, 512]⟩
abbrev S2x16384x128 : Shape := ⟨3, ![2, 16384, 128]⟩
abbrev S2x16384x768 : Shape := ⟨3, ![2, 16384, 768]⟩
abbrev S2x16384x2560 : Shape := ⟨3, ![2, 16384, 2560]⟩
abbrev S2x2560x16384 : Shape := ⟨3, ![2, 2560, 16384]⟩
abbrev S2x128x16384 : Shape := ⟨3, ![2, 128, 16384]⟩
abbrev S2x2x64x16384 : Shape := ⟨4, ![2, 2, 64, 16384]⟩
abbrev S2x2x16384x64 : Shape := ⟨4, ![2, 2, 16384, 64]⟩
abbrev S2x2x16384 : Shape := ⟨3, ![2, 2, 16384]⟩
abbrev S2x2 : Shape := ⟨2, ![2, 2]⟩
abbrev S4 : Shape := ⟨1, ![4]⟩
abbrev S1x256x256 : Shape := ⟨3, ![1, 256, 256]⟩
abbrev S1x1x16384x64 : Shape := ⟨4, ![1, 1, 16384, 64]⟩
abbrev S1x64x16384 : Shape := ⟨3, ![1, 64, 16384]⟩
abbrev S4x80x256 : Shape := ⟨3, ![4, 80, 256]⟩
abbrev S4x1x256 : Shape := ⟨3, ![4, 1, 256]⟩
abbrev S2x4x512x256 : Shape := ⟨4, ![2, 4, 512, 256]⟩
abbrev S2x4x1x256 : Shape := ⟨4, ![2, 4, 1, 256]⟩
abbrev S16x512 : Shape := ⟨2, ![16, 512]⟩
abbrev S1x64x256 : Shape := ⟨3, ![1, 64, 256]⟩
abbrev S64x256 : Shape := ⟨2, ![64, 256]⟩
abbrev S256 : Shape := ⟨1, ![256]⟩
abbrev S1x256 : Shape := ⟨2, ![1, 256]⟩
abbrev S1 : Shape := ⟨1, ![1]⟩
abbrev S1x1x1x256 : Shape := ⟨4, ![1, 1, 1, 256]⟩
abbrev S1x1x256 : Shape := ⟨3, ![1, 1, 256]⟩
abbrev S1x1x1 : Shape := ⟨3, ![1, 1, 1]⟩
abbrev S1x1x512x64 : Shape := ⟨4, ![1, 1, 512, 64]⟩
abbrev S512x64 : Shape := ⟨2, ![512, 64]⟩
abbrev S512x256 : Shape := ⟨2, ![512, 256]⟩
abbrev S1x80x256 : Shape := ⟨3, ![1, 80, 256]⟩
abbrev S80x256 : Shape := ⟨2, ![80, 256]⟩
abbrev S1x64x512 : Shape := ⟨3, ![1, 64, 512]⟩
abbrev S64x512 : Shape := ⟨2, ![64, 512]⟩
abbrev S80x512 : Shape := ⟨2, ![80, 512]⟩
abbrev S4x512x256 : Shape := ⟨3, ![4, 512, 256]⟩
abbrev S1x4x512x256 : Shape := ⟨4, ![1, 4, 512, 256]⟩
abbrev S1x4x1x256 : Shape := ⟨4, ![1, 4, 1, 256]⟩
abbrev S1x1x512x256 : Shape := ⟨4, ![1, 1, 512, 256]⟩
abbrev S256x256 : Shape := ⟨2, ![256, 256]⟩

abbrev nBuf : Space → Nat
  | .hbm => 30
  | .vmem => 11
  | .smem => 1
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16384x8x64, .f32⟩
  | .hbm, ⟨8, _⟩ => ⟨S2x16384x8x64, .f32⟩
  | .hbm, ⟨9, _⟩ => ⟨S2x16384x512, .f32⟩
  | .hbm, ⟨10, _⟩ => ⟨S2x16384x128, .f32⟩
  | .hbm, ⟨11, _⟩ => ⟨S2x16384x128, .f32⟩
  | .hbm, ⟨12, _⟩ => ⟨S2x16384x768, .f32⟩
  | .hbm, ⟨13, _⟩ => ⟨S_, .i32⟩
  | .hbm, ⟨14, _⟩ => ⟨S_, .f32⟩
  | .hbm, ⟨15, _⟩ => ⟨S2x16384x2560, .f32⟩
  | .hbm, ⟨16, _⟩ => ⟨S2x2560x16384, .f32⟩
  | .hbm, ⟨17, _⟩ => ⟨S2x2560x16384, .bf16⟩
  | .hbm, ⟨18, _⟩ => ⟨S2x128x16384, .bf16⟩
  | .hbm, ⟨19, _⟩ => ⟨S2x2x64x16384, .bf16⟩
  | .hbm, ⟨20, _⟩ => ⟨S2x2x16384x64, .bf16⟩
  | .hbm, ⟨21, _⟩ => ⟨S2x2x16384x64, .f32⟩
  | .hbm, ⟨22, _⟩ => ⟨S2x2x16384x64, .f32⟩
  | .hbm, ⟨23, _⟩ => ⟨S_, .f32⟩
  | .hbm, ⟨24, _⟩ => ⟨S2x2x16384, .f32⟩
  | .hbm, ⟨25, _⟩ => ⟨S_, .f32⟩
  | .hbm, ⟨26, _⟩ => ⟨S2x2, .f32⟩
  | .hbm, ⟨27, _⟩ => ⟨S2x2, .f32⟩
  | .hbm, ⟨28, _⟩ => ⟨S4, .f32⟩
  | .hbm, ⟨29, _⟩ => ⟨S2x16384x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x16384x64, .bf16⟩
  | .local _ .vmem, ⟨3, _⟩ => ⟨S1x64x16384, .bf16⟩
  | .local _ .vmem, ⟨4, _⟩ => ⟨S1x256x256, .bf16⟩
  | .local _ .vmem, ⟨5, _⟩ => ⟨S1x256x256, .bf16⟩
  | .local _ .vmem, ⟨6, _⟩ => ⟨S4x80x256, .f32⟩
  | .local _ .vmem, ⟨7, _⟩ => ⟨S4x1x256, .f32⟩
  | .local _ .vmem, ⟨8, _⟩ => ⟨S2x4x512x256, .f32⟩
  | .local _ .vmem, ⟨9, _⟩ => ⟨S2x4x1x256, .f32⟩
  | .local _ .vmem, ⟨10, _⟩ => ⟨S2x4x1x256, .f32⟩
  | .local _ .smem, ⟨0, _⟩ => ⟨S4, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 64], ![false, false, false]⟩

def k0_off1 (i : grid0.Coords) : Fin 1 → Nat :=
  let arg0 : BitVec 32 := BitVec.ofNat 32 (i 0).val
  let c2_i32 : BitVec 32 := 2#32
  let v12 : BitVec 32 := Scalar.muli arg0 c2_i32
  let arg1 : BitVec 32 := BitVec.ofNat 32 (i 1).val
  let v13 : BitVec 32 := Scalar.addi v12 arg1
  let v14 : Index := Scalar.indexCast v13
  ![v14.toNat]
def k0_mult1 : BitVec 32 :=
  let c32_i32 : BitVec 32 := 32#32
  let c0_i32_61 : BitVec 32 := 0#32
  let v136 : BitVec 32 := Scalar.muli c32_i32 c0_i32_61
  let c0_i32_62 : BitVec 32 := 0#32
  let v137 : BitVec 32 := Scalar.addi v136 c0_i32_62
  let c512_i32 : BitVec 32 := 512#32
  let v392 : BitVec 32 := Scalar.muli v137 c512_i32
  v392
def k0_off2 (c0_i32_62 : BitVec 32) : Fin 4 → Nat :=
  let c0_287 : Index := 0#32
  let c0_288 : Index := 0#32
  let c32_i32 : BitVec 32 := 32#32
  let c0_i32_61 : BitVec 32 := 0#32
  let v136 : BitVec 32 := Scalar.muli c32_i32 c0_i32_61
  let v137 : BitVec 32 := Scalar.addi v136 c0_i32_62
  let c512_i32 : BitVec 32 := 512#32
  let v392 : BitVec 32 := Scalar.muli v137 c512_i32
  let v393 : BitVec 32 := v392
  let v394 : Index := Scalar.indexCast v393
  let c0_289 : Index := 0#32
  ![0, 0, v394.toNat, 0]
def k0_mult2 : BitVec 32 :=
  let c32_i32_63 : BitVec 32 := 32#32
  let c0_i32_61 : BitVec 32 := 0#32
  let v138 : BitVec 32 := Scalar.muli c32_i32_63 c0_i32_61
  let c0_i32_64 : BitVec 32 := 0#32
  let v139 : BitVec 32 := Scalar.addi v138 c0_i32_64
  let c512_i32_294 : BitVec 32 := 512#32
  let v400 : BitVec 32 := Scalar.muli v139 c512_i32_294
  v400
def k0_mult3 : BitVec 32 :=
  let c32_i32_65 : BitVec 32 := 32#32
  let c0_i32_61 : BitVec 32 := 0#32
  let v140 : BitVec 32 := Scalar.muli c32_i32_65 c0_i32_61
  let c0_i32_66 : BitVec 32 := 0#32
  let v141 : BitVec 32 := Scalar.addi v140 c0_i32_66
  let c512_i32_302 : BitVec 32 := 512#32
  let v408 : BitVec 32 := Scalar.muli v141 c512_i32_302
  v408
def k0_mult4 : BitVec 32 :=
  let c32_i32 : BitVec 32 := 32#32
  let c0_i32_61 : BitVec 32 := 0#32
  let v136 : BitVec 32 := Scalar.muli c32_i32 c0_i32_61
  let c0_i32_62 : BitVec 32 := 0#32
  let v137 : BitVec 32 := Scalar.addi v136 c0_i32_62
  let c0_i32_317 : BitVec 32 := 0#32
  let v424 : BitVec 32 := Scalar.maxsi v137 c0_i32_317
  let c512_i32_318 : BitVec 32 := 512#32
  let v425 : BitVec 32 := Scalar.muli v424 c512_i32_318
  v425
def k0_off3 (c0_i32_62 : BitVec 32) : Fin 3 → Nat :=
  let c0_319 : Index := 0#32
  let c0_320 : Index := 0#32
  let c32_i32 : BitVec 32 := 32#32
  let c0_i32_61 : BitVec 32 := 0#32
  let v136 : BitVec 32 := Scalar.muli c32_i32 c0_i32_61
  let v137 : BitVec 32 := Scalar.addi v136 c0_i32_62
  let c0_i32_317 : BitVec 32 := 0#32
  let v424 : BitVec 32 := Scalar.maxsi v137 c0_i32_317
  let c512_i32_318 : BitVec 32 := 512#32
  let v425 : BitVec 32 := Scalar.muli v424 c512_i32_318
  let v426 : BitVec 32 := v425
  let v427 : Index := Scalar.indexCast v426
  ![0, 0, v427.toNat]
def k0_mult5 : BitVec 32 :=
  let c32_i32_67 : BitVec 32 := 32#32
  let c0_i32_61 : BitVec 32 := 0#32
  let v142 : BitVec 32 := Scalar.muli c32_i32_67 c0_i32_61
  let c0_i32_68 : BitVec 32 := 0#32
  let v143 : BitVec 32 := Scalar.addi v142 c0_i32_68
  let c512_i32_325 : BitVec 32 := 512#32
  let v436 : BitVec 32 := Scalar.muli v143 c512_i32_325
  v436
def k0_mult6 : BitVec 32 :=
  let c32_i32_63 : BitVec 32 := 32#32
  let c0_i32_61 : BitVec 32 := 0#32
  let v138 : BitVec 32 := Scalar.muli c32_i32_63 c0_i32_61
  let c0_i32_64 : BitVec 32 := 0#32
  let v139 : BitVec 32 := Scalar.addi v138 c0_i32_64
  let c0_i32_340 : BitVec 32 := 0#32
  let v452 : BitVec 32 := Scalar.maxsi v139 c0_i32_340
  let c512_i32_341 : BitVec 32 := 512#32
  let v453 : BitVec 32 := Scalar.muli v452 c512_i32_341
  v453
def k0_mult7 : BitVec 32 :=
  let c32_i32_69 : BitVec 32 := 32#32
  let c0_i32_61 : BitVec 32 := 0#32
  let v144 : BitVec 32 := Scalar.muli c32_i32_69 c0_i32_61
  let c1_i32 : BitVec 32 := 1#32
  let v145 : BitVec 32 := Scalar.addi v144 c1_i32
  let c512_i32_348 : BitVec 32 := 512#32
  let v464 : BitVec 32 := Scalar.muli v145 c512_i32_348
  v464
def k0_mult8 : BitVec 32 :=
  let c32_i32_65 : BitVec 32 := 32#32
  let c0_i32_61 : BitVec 32 := 0#32
  let v140 : BitVec 32 := Scalar.muli c32_i32_65 c0_i32_61
  let c0_i32_66 : BitVec 32 := 0#32
  let v141 : BitVec 32 := Scalar.addi v140 c0_i32_66
  let c0_i32_363 : BitVec 32 := 0#32
  let v480 : BitVec 32 := Scalar.maxsi v141 c0_i32_363
  let c512_i32_364 : BitVec 32 := 512#32
  let v481 : BitVec 32 := Scalar.muli v480 c512_i32_364
  v481
def k0_mult9 : BitVec 32 :=
  let c32_i32_70 : BitVec 32 := 32#32
  let c0_i32_61 : BitVec 32 := 0#32
  let v146 : BitVec 32 := Scalar.muli c32_i32_70 c0_i32_61
  let c1_i32_71 : BitVec 32 := 1#32
  let v147 : BitVec 32 := Scalar.addi v146 c1_i32_71
  let c512_i32_371 : BitVec 32 := 512#32
  let v492 : BitVec 32 := Scalar.muli v147 c512_i32_371
  v492
def k0_mult10 : BitVec 32 :=
  let c32_i32_67 : BitVec 32 := 32#32
  let c0_i32_61 : BitVec 32 := 0#32
  let v142 : BitVec 32 := Scalar.muli c32_i32_67 c0_i32_61
  let c0_i32_68 : BitVec 32 := 0#32
  let v143 : BitVec 32 := Scalar.addi v142 c0_i32_68
  let c0_i32_386 : BitVec 32 := 0#32
  let v508 : BitVec 32 := Scalar.maxsi v143 c0_i32_386
  let c512_i32_387 : BitVec 32 := 512#32
  let v509 : BitVec 32 := Scalar.muli v508 c512_i32_387
  v509
def k0_mult11 : BitVec 32 :=
  let c32_i32_72 : BitVec 32 := 32#32
  let c0_i32_61 : BitVec 32 := 0#32
  let v148 : BitVec 32 := Scalar.muli c32_i32_72 c0_i32_61
  let c1_i32_73 : BitVec 32 := 1#32
  let v149 : BitVec 32 := Scalar.addi v148 c1_i32_73
  let c512_i32_394 : BitVec 32 := 512#32
  let v520 : BitVec 32 := Scalar.muli v149 c512_i32_394
  v520
def k0_mult12 : BitVec 32 :=
  let c32_i32_69 : BitVec 32 := 32#32
  let c0_i32_61 : BitVec 32 := 0#32
  let v144 : BitVec 32 := Scalar.muli c32_i32_69 c0_i32_61
  let c1_i32 : BitVec 32 := 1#32
  let v145 : BitVec 32 := Scalar.addi v144 c1_i32
  let c0_i32_409 : BitVec 32 := 0#32
  let v536 : BitVec 32 := Scalar.maxsi v145 c0_i32_409
  let c512_i32_410 : BitVec 32 := 512#32
  let v537 : BitVec 32 := Scalar.muli v536 c512_i32_410
  v537
def k0_mult13 : BitVec 32 :=
  let c32_i32_74 : BitVec 32 := 32#32
  let c0_i32_61 : BitVec 32 := 0#32
  let v150 : BitVec 32 := Scalar.muli c32_i32_74 c0_i32_61
  let c1_i32_75 : BitVec 32 := 1#32
  let v151 : BitVec 32 := Scalar.addi v150 c1_i32_75
  let c512_i32_417 : BitVec 32 := 512#32
  let v548 : BitVec 32 := Scalar.muli v151 c512_i32_417
  v548
def k0_mult14 : BitVec 32 :=
  let c32_i32_70 : BitVec 32 := 32#32
  let c0_i32_61 : BitVec 32 := 0#32
  let v146 : BitVec 32 := Scalar.muli c32_i32_70 c0_i32_61
  let c1_i32_71 : BitVec 32 := 1#32
  let v147 : BitVec 32 := Scalar.addi v146 c1_i32_71
  let c0_i32_432 : BitVec 32 := 0#32
  let v564 : BitVec 32 := Scalar.maxsi v147 c0_i32_432
  let c512_i32_433 : BitVec 32 := 512#32
  let v565 : BitVec 32 := Scalar.muli v564 c512_i32_433
  v565
def k0_mult15 : BitVec 32 :=
  let c32_i32_76 : BitVec 32 := 32#32
  let c0_i32_61 : BitVec 32 := 0#32
  let v152 : BitVec 32 := Scalar.muli c32_i32_76 c0_i32_61
  let c2_i32_77 : BitVec 32 := 2#32
  let v153 : BitVec 32 := Scalar.addi v152 c2_i32_77
  let c512_i32_440 : BitVec 32 := 512#32
  let v576 : BitVec 32 := Scalar.muli v153 c512_i32_440
  v576
def k0_mult16 : BitVec 32 :=
  let c32_i32_72 : BitVec 32 := 32#32
  let c0_i32_61 : BitVec 32 := 0#32
  let v148 : BitVec 32 := Scalar.muli c32_i32_72 c0_i32_61
  let c1_i32_73 : BitVec 32 := 1#32
  let v149 : BitVec 32 := Scalar.addi v148 c1_i32_73
  let c0_i32_455 : BitVec 32 := 0#32
  let v592 : BitVec 32 := Scalar.maxsi v149 c0_i32_455
  let c512_i32_456 : BitVec 32 := 512#32
  let v593 : BitVec 32 := Scalar.muli v592 c512_i32_456
  v593
def k0_mult17 : BitVec 32 :=
  let c32_i32_78 : BitVec 32 := 32#32
  let c0_i32_61 : BitVec 32 := 0#32
  let v154 : BitVec 32 := Scalar.muli c32_i32_78 c0_i32_61
  let c2_i32_79 : BitVec 32 := 2#32
  let v155 : BitVec 32 := Scalar.addi v154 c2_i32_79
  let c512_i32_463 : BitVec 32 := 512#32
  let v604 : BitVec 32 := Scalar.muli v155 c512_i32_463
  v604
def k0_mult18 : BitVec 32 :=
  let c32_i32_74 : BitVec 32 := 32#32
  let c0_i32_61 : BitVec 32 := 0#32
  let v150 : BitVec 32 := Scalar.muli c32_i32_74 c0_i32_61
  let c1_i32_75 : BitVec 32 := 1#32
  let v151 : BitVec 32 := Scalar.addi v150 c1_i32_75
  let c0_i32_478 : BitVec 32 := 0#32
  let v620 : BitVec 32 := Scalar.maxsi v151 c0_i32_478
  let c512_i32_479 : BitVec 32 := 512#32
  let v621 : BitVec 32 := Scalar.muli v620 c512_i32_479
  v621
def k0_mult19 : BitVec 32 :=
  let c32_i32_80 : BitVec 32 := 32#32
  let c0_i32_61 : BitVec 32 := 0#32
  let v156 : BitVec 32 := Scalar.muli c32_i32_80 c0_i32_61
  let c2_i32_81 : BitVec 32 := 2#32
  let v157 : BitVec 32 := Scalar.addi v156 c2_i32_81
  let c512_i32_486 : BitVec 32 := 512#32
  let v632 : BitVec 32 := Scalar.muli v157 c512_i32_486
  v632
def k0_mult20 : BitVec 32 :=
  let c32_i32_76 : BitVec 32 := 32#32
  let c0_i32_61 : BitVec 32 := 0#32
  let v152 : BitVec 32 := Scalar.muli c32_i32_76 c0_i32_61
  let c2_i32_77 : BitVec 32 := 2#32
  let v153 : BitVec 32 := Scalar.addi v152 c2_i32_77
  let c0_i32_501 : BitVec 32 := 0#32
  let v648 : BitVec 32 := Scalar.maxsi v153 c0_i32_501
  let c512_i32_502 : BitVec 32 := 512#32
  let v649 : BitVec 32 := Scalar.muli v648 c512_i32_502
  v649
def k0_mult21 : BitVec 32 :=
  let c32_i32_82 : BitVec 32 := 32#32
  let c0_i32_61 : BitVec 32 := 0#32
  let v158 : BitVec 32 := Scalar.muli c32_i32_82 c0_i32_61
  let c2_i32_83 : BitVec 32 := 2#32
  let v159 : BitVec 32 := Scalar.addi v158 c2_i32_83
  let c512_i32_509 : BitVec 32 := 512#32
  let v660 : BitVec 32 := Scalar.muli v159 c512_i32_509
  v660
def k0_mult22 : BitVec 32 :=
  let c32_i32_78 : BitVec 32 := 32#32
  let c0_i32_61 : BitVec 32 := 0#32
  let v154 : BitVec 32 := Scalar.muli c32_i32_78 c0_i32_61
  let c2_i32_79 : BitVec 32 := 2#32
  let v155 : BitVec 32 := Scalar.addi v154 c2_i32_79
  let c0_i32_524 : BitVec 32 := 0#32
  let v676 : BitVec 32 := Scalar.maxsi v155 c0_i32_524
  let c512_i32_525 : BitVec 32 := 512#32
  let v677 : BitVec 32 := Scalar.muli v676 c512_i32_525
  v677
def k0_mult23 : BitVec 32 :=
  let c32_i32_84 : BitVec 32 := 32#32
  let c0_i32_61 : BitVec 32 := 0#32
  let v160 : BitVec 32 := Scalar.muli c32_i32_84 c0_i32_61
  let c3_i32 : BitVec 32 := 3#32
  let v161 : BitVec 32 := Scalar.addi v160 c3_i32
  let c512_i32_532 : BitVec 32 := 512#32
  let v688 : BitVec 32 := Scalar.muli v161 c512_i32_532
  v688
def k0_mult24 : BitVec 32 :=
  let c32_i32_80 : BitVec 32 := 32#32
  let c0_i32_61 : BitVec 32 := 0#32
  let v156 : BitVec 32 := Scalar.muli c32_i32_80 c0_i32_61
  let c2_i32_81 : BitVec 32 := 2#32
  let v157 : BitVec 32 := Scalar.addi v156 c2_i32_81
  let c0_i32_547 : BitVec 32 := 0#32
  let v704 : BitVec 32 := Scalar.maxsi v157 c0_i32_547
  let c512_i32_548 : BitVec 32 := 512#32
  let v705 : BitVec 32 := Scalar.muli v704 c512_i32_548
  v705
def k0_mult25 : BitVec 32 :=
  let c32_i32_85 : BitVec 32 := 32#32
  let c0_i32_61 : BitVec 32 := 0#32
  let v162 : BitVec 32 := Scalar.muli c32_i32_85 c0_i32_61
  let c3_i32_86 : BitVec 32 := 3#32
  let v163 : BitVec 32 := Scalar.addi v162 c3_i32_86
  let c512_i32_555 : BitVec 32 := 512#32
  let v716 : BitVec 32 := Scalar.muli v163 c512_i32_555
  v716
def k0_mult26 : BitVec 32 :=
  let c32_i32_82 : BitVec 32 := 32#32
  let c0_i32_61 : BitVec 32 := 0#32
  let v158 : BitVec 32 := Scalar.muli c32_i32_82 c0_i32_61
  let c2_i32_83 : BitVec 32 := 2#32
  let v159 : BitVec 32 := Scalar.addi v158 c2_i32_83
  let c0_i32_570 : BitVec 32 := 0#32
  let v732 : BitVec 32 := Scalar.maxsi v159 c0_i32_570
  let c512_i32_571 : BitVec 32 := 512#32
  let v733 : BitVec 32 := Scalar.muli v732 c512_i32_571
  v733
def k0_mult27 : BitVec 32 :=
  let c32_i32_87 : BitVec 32 := 32#32
  let c0_i32_61 : BitVec 32 := 0#32
  let v164 : BitVec 32 := Scalar.muli c32_i32_87 c0_i32_61
  let c3_i32_88 : BitVec 32 := 3#32
  let v165 : BitVec 32 := Scalar.addi v164 c3_i32_88
  let c512_i32_578 : BitVec 32 := 512#32
  let v744 : BitVec 32 := Scalar.muli v165 c512_i32_578
  v744
def k0_mult28 : BitVec 32 :=
  let c32_i32_84 : BitVec 32 := 32#32
  let c0_i32_61 : BitVec 32 := 0#32
  let v160 : BitVec 32 := Scalar.muli c32_i32_84 c0_i32_61
  let c3_i32 : BitVec 32 := 3#32
  let v161 : BitVec 32 := Scalar.addi v160 c3_i32
  let c0_i32_593 : BitVec 32 := 0#32
  let v760 : BitVec 32 := Scalar.maxsi v161 c0_i32_593
  let c512_i32_594 : BitVec 32 := 512#32
  let v761 : BitVec 32 := Scalar.muli v760 c512_i32_594
  v761
def k0_mult29 : BitVec 32 :=
  let c32_i32_89 : BitVec 32 := 32#32
  let c0_i32_61 : BitVec 32 := 0#32
  let v166 : BitVec 32 := Scalar.muli c32_i32_89 c0_i32_61
  let c3_i32_90 : BitVec 32 := 3#32
  let v167 : BitVec 32 := Scalar.addi v166 c3_i32_90
  let c512_i32_601 : BitVec 32 := 512#32
  let v772 : BitVec 32 := Scalar.muli v167 c512_i32_601
  v772
def k0_mult30 : BitVec 32 :=
  let c32_i32_85 : BitVec 32 := 32#32
  let c0_i32_61 : BitVec 32 := 0#32
  let v162 : BitVec 32 := Scalar.muli c32_i32_85 c0_i32_61
  let c3_i32_86 : BitVec 32 := 3#32
  let v163 : BitVec 32 := Scalar.addi v162 c3_i32_86
  let c0_i32_616 : BitVec 32 := 0#32
  let v788 : BitVec 32 := Scalar.maxsi v163 c0_i32_616
  let c512_i32_617 : BitVec 32 := 512#32
  let v789 : BitVec 32 := Scalar.muli v788 c512_i32_617
  v789
def k0_mult31 : BitVec 32 :=
  let c32_i32_91 : BitVec 32 := 32#32
  let c0_i32_61 : BitVec 32 := 0#32
  let v168 : BitVec 32 := Scalar.muli c32_i32_91 c0_i32_61
  let c4_i32 : BitVec 32 := 4#32
  let v169 : BitVec 32 := Scalar.addi v168 c4_i32
  let c512_i32_624 : BitVec 32 := 512#32
  let v800 : BitVec 32 := Scalar.muli v169 c512_i32_624
  v800
def k0_mult32 : BitVec 32 :=
  let c32_i32_87 : BitVec 32 := 32#32
  let c0_i32_61 : BitVec 32 := 0#32
  let v164 : BitVec 32 := Scalar.muli c32_i32_87 c0_i32_61
  let c3_i32_88 : BitVec 32 := 3#32
  let v165 : BitVec 32 := Scalar.addi v164 c3_i32_88
  let c0_i32_639 : BitVec 32 := 0#32
  let v816 : BitVec 32 := Scalar.maxsi v165 c0_i32_639
  let c512_i32_640 : BitVec 32 := 512#32
  let v817 : BitVec 32 := Scalar.muli v816 c512_i32_640
  v817
def k0_mult33 : BitVec 32 :=
  let c32_i32_92 : BitVec 32 := 32#32
  let c0_i32_61 : BitVec 32 := 0#32
  let v170 : BitVec 32 := Scalar.muli c32_i32_92 c0_i32_61
  let c4_i32_93 : BitVec 32 := 4#32
  let v171 : BitVec 32 := Scalar.addi v170 c4_i32_93
  let c512_i32_647 : BitVec 32 := 512#32
  let v828 : BitVec 32 := Scalar.muli v171 c512_i32_647
  v828
def k0_mult34 : BitVec 32 :=
  let c32_i32_89 : BitVec 32 := 32#32
  let c0_i32_61 : BitVec 32 := 0#32
  let v166 : BitVec 32 := Scalar.muli c32_i32_89 c0_i32_61
  let c3_i32_90 : BitVec 32 := 3#32
  let v167 : BitVec 32 := Scalar.addi v166 c3_i32_90
  let c0_i32_662 : BitVec 32 := 0#32
  let v844 : BitVec 32 := Scalar.maxsi v167 c0_i32_662
  let c512_i32_663 : BitVec 32 := 512#32
  let v845 : BitVec 32 := Scalar.muli v844 c512_i32_663
  v845
def k0_mult35 : BitVec 32 :=
  let c32_i32_94 : BitVec 32 := 32#32
  let c0_i32_61 : BitVec 32 := 0#32
  let v172 : BitVec 32 := Scalar.muli c32_i32_94 c0_i32_61
  let c4_i32_95 : BitVec 32 := 4#32
  let v173 : BitVec 32 := Scalar.addi v172 c4_i32_95
  let c512_i32_670 : BitVec 32 := 512#32
  let v856 : BitVec 32 := Scalar.muli v173 c512_i32_670
  v856
def k0_mult36 : BitVec 32 :=
  let c32_i32_91 : BitVec 32 := 32#32
  let c0_i32_61 : BitVec 32 := 0#32
  let v168 : BitVec 32 := Scalar.muli c32_i32_91 c0_i32_61
  let c4_i32 : BitVec 32 := 4#32
  let v169 : BitVec 32 := Scalar.addi v168 c4_i32
  let c0_i32_685 : BitVec 32 := 0#32
  let v872 : BitVec 32 := Scalar.maxsi v169 c0_i32_685
  let c512_i32_686 : BitVec 32 := 512#32
  let v873 : BitVec 32 := Scalar.muli v872 c512_i32_686
  v873
def k0_mult37 : BitVec 32 :=
  let c32_i32_96 : BitVec 32 := 32#32
  let c0_i32_61 : BitVec 32 := 0#32
  let v174 : BitVec 32 := Scalar.muli c32_i32_96 c0_i32_61
  let c4_i32_97 : BitVec 32 := 4#32
  let v175 : BitVec 32 := Scalar.addi v174 c4_i32_97
  let c512_i32_693 : BitVec 32 := 512#32
  let v884 : BitVec 32 := Scalar.muli v175 c512_i32_693
  v884
def k0_mult38 : BitVec 32 :=
  let c32_i32_92 : BitVec 32 := 32#32
  let c0_i32_61 : BitVec 32 := 0#32
  let v170 : BitVec 32 := Scalar.muli c32_i32_92 c0_i32_61
  let c4_i32_93 : BitVec 32 := 4#32
  let v171 : BitVec 32 := Scalar.addi v170 c4_i32_93
  let c0_i32_708 : BitVec 32 := 0#32
  let v900 : BitVec 32 := Scalar.maxsi v171 c0_i32_708
  let c512_i32_709 : BitVec 32 := 512#32
  let v901 : BitVec 32 := Scalar.muli v900 c512_i32_709
  v901
def k0_mult39 : BitVec 32 :=
  let c32_i32_98 : BitVec 32 := 32#32
  let c0_i32_61 : BitVec 32 := 0#32
  let v176 : BitVec 32 := Scalar.muli c32_i32_98 c0_i32_61
  let c5_i32 : BitVec 32 := 5#32
  let v177 : BitVec 32 := Scalar.addi v176 c5_i32
  let c512_i32_716 : BitVec 32 := 512#32
  let v912 : BitVec 32 := Scalar.muli v177 c512_i32_716
  v912
def k0_mult40 : BitVec 32 :=
  let c32_i32_94 : BitVec 32 := 32#32
  let c0_i32_61 : BitVec 32 := 0#32
  let v172 : BitVec 32 := Scalar.muli c32_i32_94 c0_i32_61
  let c4_i32_95 : BitVec 32 := 4#32
  let v173 : BitVec 32 := Scalar.addi v172 c4_i32_95
  let c0_i32_731 : BitVec 32 := 0#32
  let v928 : BitVec 32 := Scalar.maxsi v173 c0_i32_731
  let c512_i32_732 : BitVec 32 := 512#32
  let v929 : BitVec 32 := Scalar.muli v928 c512_i32_732
  v929
def k0_mult41 : BitVec 32 :=
  let c32_i32_99 : BitVec 32 := 32#32
  let c0_i32_61 : BitVec 32 := 0#32
  let v178 : BitVec 32 := Scalar.muli c32_i32_99 c0_i32_61
  let c5_i32_100 : BitVec 32 := 5#32
  let v179 : BitVec 32 := Scalar.addi v178 c5_i32_100
  let c512_i32_739 : BitVec 32 := 512#32
  let v940 : BitVec 32 := Scalar.muli v179 c512_i32_739
  v940
def k0_mult42 : BitVec 32 :=
  let c32_i32_96 : BitVec 32 := 32#32
  let c0_i32_61 : BitVec 32 := 0#32
  let v174 : BitVec 32 := Scalar.muli c32_i32_96 c0_i32_61
  let c4_i32_97 : BitVec 32 := 4#32
  let v175 : BitVec 32 := Scalar.addi v174 c4_i32_97
  let c0_i32_754 : BitVec 32 := 0#32
  let v956 : BitVec 32 := Scalar.maxsi v175 c0_i32_754
  let c512_i32_755 : BitVec 32 := 512#32
  let v957 : BitVec 32 := Scalar.muli v956 c512_i32_755
  v957
def k0_mult43 : BitVec 32 :=
  let c32_i32_101 : BitVec 32 := 32#32
  let c0_i32_61 : BitVec 32 := 0#32
  let v180 : BitVec 32 := Scalar.muli c32_i32_101 c0_i32_61
  let c5_i32_102 : BitVec 32 := 5#32
  let v181 : BitVec 32 := Scalar.addi v180 c5_i32_102
  let c512_i32_762 : BitVec 32 := 512#32
  let v968 : BitVec 32 := Scalar.muli v181 c512_i32_762
  v968
def k0_mult44 : BitVec 32 :=
  let c32_i32_98 : BitVec 32 := 32#32
  let c0_i32_61 : BitVec 32 := 0#32
  let v176 : BitVec 32 := Scalar.muli c32_i32_98 c0_i32_61
  let c5_i32 : BitVec 32 := 5#32
  let v177 : BitVec 32 := Scalar.addi v176 c5_i32
  let c0_i32_777 : BitVec 32 := 0#32
  let v984 : BitVec 32 := Scalar.maxsi v177 c0_i32_777
  let c512_i32_778 : BitVec 32 := 512#32
  let v985 : BitVec 32 := Scalar.muli v984 c512_i32_778
  v985
def k0_mult45 : BitVec 32 :=
  let c32_i32_103 : BitVec 32 := 32#32
  let c0_i32_61 : BitVec 32 := 0#32
  let v182 : BitVec 32 := Scalar.muli c32_i32_103 c0_i32_61
  let c5_i32_104 : BitVec 32 := 5#32
  let v183 : BitVec 32 := Scalar.addi v182 c5_i32_104
  let c512_i32_785 : BitVec 32 := 512#32
  let v996 : BitVec 32 := Scalar.muli v183 c512_i32_785
  v996
def k0_mult46 : BitVec 32 :=
  let c32_i32_99 : BitVec 32 := 32#32
  let c0_i32_61 : BitVec 32 := 0#32
  let v178 : BitVec 32 := Scalar.muli c32_i32_99 c0_i32_61
  let c5_i32_100 : BitVec 32 := 5#32
  let v179 : BitVec 32 := Scalar.addi v178 c5_i32_100
  let c0_i32_800 : BitVec 32 := 0#32
  let v1012 : BitVec 32 := Scalar.maxsi v179 c0_i32_800
  let c512_i32_801 : BitVec 32 := 512#32
  let v1013 : BitVec 32 := Scalar.muli v1012 c512_i32_801
  v1013
def k0_mult47 : BitVec 32 :=
  let c32_i32_105 : BitVec 32 := 32#32
  let c0_i32_61 : BitVec 32 := 0#32
  let v184 : BitVec 32 := Scalar.muli c32_i32_105 c0_i32_61
  let c6_i32 : BitVec 32 := 6#32
  let v185 : BitVec 32 := Scalar.addi v184 c6_i32
  let c512_i32_808 : BitVec 32 := 512#32
  let v1024 : BitVec 32 := Scalar.muli v185 c512_i32_808
  v1024
def k0_mult48 : BitVec 32 :=
  let c32_i32_101 : BitVec 32 := 32#32
  let c0_i32_61 : BitVec 32 := 0#32
  let v180 : BitVec 32 := Scalar.muli c32_i32_101 c0_i32_61
  let c5_i32_102 : BitVec 32 := 5#32
  let v181 : BitVec 32 := Scalar.addi v180 c5_i32_102
  let c0_i32_823 : BitVec 32 := 0#32
  let v1040 : BitVec 32 := Scalar.maxsi v181 c0_i32_823
  let c512_i32_824 : BitVec 32 := 512#32
  let v1041 : BitVec 32 := Scalar.muli v1040 c512_i32_824
  v1041
def k0_mult49 : BitVec 32 :=
  let c32_i32_106 : BitVec 32 := 32#32
  let c0_i32_61 : BitVec 32 := 0#32
  let v186 : BitVec 32 := Scalar.muli c32_i32_106 c0_i32_61
  let c6_i32_107 : BitVec 32 := 6#32
  let v187 : BitVec 32 := Scalar.addi v186 c6_i32_107
  let c512_i32_831 : BitVec 32 := 512#32
  let v1052 : BitVec 32 := Scalar.muli v187 c512_i32_831
  v1052
def k0_mult50 : BitVec 32 :=
  let c32_i32_103 : BitVec 32 := 32#32
  let c0_i32_61 : BitVec 32 := 0#32
  let v182 : BitVec 32 := Scalar.muli c32_i32_103 c0_i32_61
  let c5_i32_104 : BitVec 32 := 5#32
  let v183 : BitVec 32 := Scalar.addi v182 c5_i32_104
  let c0_i32_846 : BitVec 32 := 0#32
  let v1068 : BitVec 32 := Scalar.maxsi v183 c0_i32_846
  let c512_i32_847 : BitVec 32 := 512#32
  let v1069 : BitVec 32 := Scalar.muli v1068 c512_i32_847
  v1069
def k0_mult51 : BitVec 32 :=
  let c32_i32_108 : BitVec 32 := 32#32
  let c0_i32_61 : BitVec 32 := 0#32
  let v188 : BitVec 32 := Scalar.muli c32_i32_108 c0_i32_61
  let c6_i32_109 : BitVec 32 := 6#32
  let v189 : BitVec 32 := Scalar.addi v188 c6_i32_109
  let c512_i32_854 : BitVec 32 := 512#32
  let v1080 : BitVec 32 := Scalar.muli v189 c512_i32_854
  v1080
def k0_mult52 : BitVec 32 :=
  let c32_i32_105 : BitVec 32 := 32#32
  let c0_i32_61 : BitVec 32 := 0#32
  let v184 : BitVec 32 := Scalar.muli c32_i32_105 c0_i32_61
  let c6_i32 : BitVec 32 := 6#32
  let v185 : BitVec 32 := Scalar.addi v184 c6_i32
  let c0_i32_869 : BitVec 32 := 0#32
  let v1096 : BitVec 32 := Scalar.maxsi v185 c0_i32_869
  let c512_i32_870 : BitVec 32 := 512#32
  let v1097 : BitVec 32 := Scalar.muli v1096 c512_i32_870
  v1097
def k0_mult53 : BitVec 32 :=
  let c32_i32_110 : BitVec 32 := 32#32
  let c0_i32_61 : BitVec 32 := 0#32
  let v190 : BitVec 32 := Scalar.muli c32_i32_110 c0_i32_61
  let c6_i32_111 : BitVec 32 := 6#32
  let v191 : BitVec 32 := Scalar.addi v190 c6_i32_111
  let c512_i32_877 : BitVec 32 := 512#32
  let v1108 : BitVec 32 := Scalar.muli v191 c512_i32_877
  v1108
def k0_mult54 : BitVec 32 :=
  let c32_i32_106 : BitVec 32 := 32#32
  let c0_i32_61 : BitVec 32 := 0#32
  let v186 : BitVec 32 := Scalar.muli c32_i32_106 c0_i32_61
  let c6_i32_107 : BitVec 32 := 6#32
  let v187 : BitVec 32 := Scalar.addi v186 c6_i32_107
  let c0_i32_892 : BitVec 32 := 0#32
  let v1124 : BitVec 32 := Scalar.maxsi v187 c0_i32_892
  let c512_i32_893 : BitVec 32 := 512#32
  let v1125 : BitVec 32 := Scalar.muli v1124 c512_i32_893
  v1125
def k0_mult55 : BitVec 32 :=
  let c32_i32_112 : BitVec 32 := 32#32
  let c0_i32_61 : BitVec 32 := 0#32
  let v192 : BitVec 32 := Scalar.muli c32_i32_112 c0_i32_61
  let c7_i32 : BitVec 32 := 7#32
  let v193 : BitVec 32 := Scalar.addi v192 c7_i32
  let c512_i32_900 : BitVec 32 := 512#32
  let v1136 : BitVec 32 := Scalar.muli v193 c512_i32_900
  v1136
def k0_mult56 : BitVec 32 :=
  let c32_i32_108 : BitVec 32 := 32#32
  let c0_i32_61 : BitVec 32 := 0#32
  let v188 : BitVec 32 := Scalar.muli c32_i32_108 c0_i32_61
  let c6_i32_109 : BitVec 32 := 6#32
  let v189 : BitVec 32 := Scalar.addi v188 c6_i32_109
  let c0_i32_915 : BitVec 32 := 0#32
  let v1152 : BitVec 32 := Scalar.maxsi v189 c0_i32_915
  let c512_i32_916 : BitVec 32 := 512#32
  let v1153 : BitVec 32 := Scalar.muli v1152 c512_i32_916
  v1153
def k0_mult57 : BitVec 32 :=
  let c32_i32_113 : BitVec 32 := 32#32
  let c0_i32_61 : BitVec 32 := 0#32
  let v194 : BitVec 32 := Scalar.muli c32_i32_113 c0_i32_61
  let c7_i32_114 : BitVec 32 := 7#32
  let v195 : BitVec 32 := Scalar.addi v194 c7_i32_114
  let c512_i32_923 : BitVec 32 := 512#32
  let v1164 : BitVec 32 := Scalar.muli v195 c512_i32_923
  v1164
def k0_mult58 : BitVec 32 :=
  let c32_i32_110 : BitVec 32 := 32#32
  let c0_i32_61 : BitVec 32 := 0#32
  let v190 : BitVec 32 := Scalar.muli c32_i32_110 c0_i32_61
  let c6_i32_111 : BitVec 32 := 6#32
  let v191 : BitVec 32 := Scalar.addi v190 c6_i32_111
  let c0_i32_938 : BitVec 32 := 0#32
  let v1180 : BitVec 32 := Scalar.maxsi v191 c0_i32_938
  let c512_i32_939 : BitVec 32 := 512#32
  let v1181 : BitVec 32 := Scalar.muli v1180 c512_i32_939
  v1181
def k0_mult59 : BitVec 32 :=
  let c32_i32_115 : BitVec 32 := 32#32
  let c0_i32_61 : BitVec 32 := 0#32
  let v196 : BitVec 32 := Scalar.muli c32_i32_115 c0_i32_61
  let c7_i32_116 : BitVec 32 := 7#32
  let v197 : BitVec 32 := Scalar.addi v196 c7_i32_116
  let c512_i32_946 : BitVec 32 := 512#32
  let v1192 : BitVec 32 := Scalar.muli v197 c512_i32_946
  v1192
def k0_mult60 : BitVec 32 :=
  let c32_i32_112 : BitVec 32 := 32#32
  let c0_i32_61 : BitVec 32 := 0#32
  let v192 : BitVec 32 := Scalar.muli c32_i32_112 c0_i32_61
  let c7_i32 : BitVec 32 := 7#32
  let v193 : BitVec 32 := Scalar.addi v192 c7_i32
  let c0_i32_961 : BitVec 32 := 0#32
  let v1208 : BitVec 32 := Scalar.maxsi v193 c0_i32_961
  let c512_i32_962 : BitVec 32 := 512#32
  let v1209 : BitVec 32 := Scalar.muli v1208 c512_i32_962
  v1209
def k0_mult61 : BitVec 32 :=
  let c32_i32_117 : BitVec 32 := 32#32
  let c0_i32_61 : BitVec 32 := 0#32
  let v198 : BitVec 32 := Scalar.muli c32_i32_117 c0_i32_61
  let c7_i32_118 : BitVec 32 := 7#32
  let v199 : BitVec 32 := Scalar.addi v198 c7_i32_118
  let c512_i32_969 : BitVec 32 := 512#32
  let v1220 : BitVec 32 := Scalar.muli v199 c512_i32_969
  v1220
def k0_mult62 : BitVec 32 :=
  let c32_i32_113 : BitVec 32 := 32#32
  let c0_i32_61 : BitVec 32 := 0#32
  let v194 : BitVec 32 := Scalar.muli c32_i32_113 c0_i32_61
  let c7_i32_114 : BitVec 32 := 7#32
  let v195 : BitVec 32 := Scalar.addi v194 c7_i32_114
  let c0_i32_984 : BitVec 32 := 0#32
  let v1236 : BitVec 32 := Scalar.maxsi v195 c0_i32_984
  let c512_i32_985 : BitVec 32 := 512#32
  let v1237 : BitVec 32 := Scalar.muli v1236 c512_i32_985
  v1237
def k0_mult63 : BitVec 32 :=
  let c32_i32_119 : BitVec 32 := 32#32
  let c0_i32_61 : BitVec 32 := 0#32
  let v200 : BitVec 32 := Scalar.muli c32_i32_119 c0_i32_61
  let c8_i32 : BitVec 32 := 8#32
  let v201 : BitVec 32 := Scalar.addi v200 c8_i32
  let c512_i32_992 : BitVec 32 := 512#32
  let v1248 : BitVec 32 := Scalar.muli v201 c512_i32_992
  v1248
def k0_mult64 : BitVec 32 :=
  let c32_i32_115 : BitVec 32 := 32#32
  let c0_i32_61 : BitVec 32 := 0#32
  let v196 : BitVec 32 := Scalar.muli c32_i32_115 c0_i32_61
  let c7_i32_116 : BitVec 32 := 7#32
  let v197 : BitVec 32 := Scalar.addi v196 c7_i32_116
  let c0_i32_1007 : BitVec 32 := 0#32
  let v1264 : BitVec 32 := Scalar.maxsi v197 c0_i32_1007
  let c512_i32_1008 : BitVec 32 := 512#32
  let v1265 : BitVec 32 := Scalar.muli v1264 c512_i32_1008
  v1265
def k0_mult65 : BitVec 32 :=
  let c32_i32_120 : BitVec 32 := 32#32
  let c0_i32_61 : BitVec 32 := 0#32
  let v202 : BitVec 32 := Scalar.muli c32_i32_120 c0_i32_61
  let c8_i32_121 : BitVec 32 := 8#32
  let v203 : BitVec 32 := Scalar.addi v202 c8_i32_121
  let c512_i32_1015 : BitVec 32 := 512#32
  let v1276 : BitVec 32 := Scalar.muli v203 c512_i32_1015
  v1276
def k0_mult66 : BitVec 32 :=
  let c32_i32_117 : BitVec 32 := 32#32
  let c0_i32_61 : BitVec 32 := 0#32
  let v198 : BitVec 32 := Scalar.muli c32_i32_117 c0_i32_61
  let c7_i32_118 : BitVec 32 := 7#32
  let v199 : BitVec 32 := Scalar.addi v198 c7_i32_118
  let c0_i32_1030 : BitVec 32 := 0#32
  let v1292 : BitVec 32 := Scalar.maxsi v199 c0_i32_1030
  let c512_i32_1031 : BitVec 32 := 512#32
  let v1293 : BitVec 32 := Scalar.muli v1292 c512_i32_1031
  v1293
def k0_mult67 : BitVec 32 :=
  let c32_i32_122 : BitVec 32 := 32#32
  let c0_i32_61 : BitVec 32 := 0#32
  let v204 : BitVec 32 := Scalar.muli c32_i32_122 c0_i32_61
  let c8_i32_123 : BitVec 32 := 8#32
  let v205 : BitVec 32 := Scalar.addi v204 c8_i32_123
  let c512_i32_1038 : BitVec 32 := 512#32
  let v1304 : BitVec 32 := Scalar.muli v205 c512_i32_1038
  v1304
def k0_mult68 : BitVec 32 :=
  let c32_i32_119 : BitVec 32 := 32#32
  let c0_i32_61 : BitVec 32 := 0#32
  let v200 : BitVec 32 := Scalar.muli c32_i32_119 c0_i32_61
  let c8_i32 : BitVec 32 := 8#32
  let v201 : BitVec 32 := Scalar.addi v200 c8_i32
  let c0_i32_1053 : BitVec 32 := 0#32
  let v1320 : BitVec 32 := Scalar.maxsi v201 c0_i32_1053
  let c512_i32_1054 : BitVec 32 := 512#32
  let v1321 : BitVec 32 := Scalar.muli v1320 c512_i32_1054
  v1321
def k0_mult69 : BitVec 32 :=
  let c32_i32_124 : BitVec 32 := 32#32
  let c0_i32_61 : BitVec 32 := 0#32
  let v206 : BitVec 32 := Scalar.muli c32_i32_124 c0_i32_61
  let c8_i32_125 : BitVec 32 := 8#32
  let v207 : BitVec 32 := Scalar.addi v206 c8_i32_125
  let c512_i32_1061 : BitVec 32 := 512#32
  let v1332 : BitVec 32 := Scalar.muli v207 c512_i32_1061
  v1332
def k0_mult70 : BitVec 32 :=
  let c32_i32_120 : BitVec 32 := 32#32
  let c0_i32_61 : BitVec 32 := 0#32
  let v202 : BitVec 32 := Scalar.muli c32_i32_120 c0_i32_61
  let c8_i32_121 : BitVec 32 := 8#32
  let v203 : BitVec 32 := Scalar.addi v202 c8_i32_121
  let c0_i32_1076 : BitVec 32 := 0#32
  let v1348 : BitVec 32 := Scalar.maxsi v203 c0_i32_1076
  let c512_i32_1077 : BitVec 32 := 512#32
  let v1349 : BitVec 32 := Scalar.muli v1348 c512_i32_1077
  v1349
def k0_mult71 : BitVec 32 :=
  let c32_i32_126 : BitVec 32 := 32#32
  let c0_i32_61 : BitVec 32 := 0#32
  let v208 : BitVec 32 := Scalar.muli c32_i32_126 c0_i32_61
  let c9_i32 : BitVec 32 := 9#32
  let v209 : BitVec 32 := Scalar.addi v208 c9_i32
  let c512_i32_1084 : BitVec 32 := 512#32
  let v1360 : BitVec 32 := Scalar.muli v209 c512_i32_1084
  v1360
def k0_mult72 : BitVec 32 :=
  let c32_i32_122 : BitVec 32 := 32#32
  let c0_i32_61 : BitVec 32 := 0#32
  let v204 : BitVec 32 := Scalar.muli c32_i32_122 c0_i32_61
  let c8_i32_123 : BitVec 32 := 8#32
  let v205 : BitVec 32 := Scalar.addi v204 c8_i32_123
  let c0_i32_1099 : BitVec 32 := 0#32
  let v1376 : BitVec 32 := Scalar.maxsi v205 c0_i32_1099
  let c512_i32_1100 : BitVec 32 := 512#32
  let v1377 : BitVec 32 := Scalar.muli v1376 c512_i32_1100
  v1377
def k0_mult73 : BitVec 32 :=
  let c32_i32_127 : BitVec 32 := 32#32
  let c0_i32_61 : BitVec 32 := 0#32
  let v210 : BitVec 32 := Scalar.muli c32_i32_127 c0_i32_61
  let c9_i32_128 : BitVec 32 := 9#32
  let v211 : BitVec 32 := Scalar.addi v210 c9_i32_128
  let c512_i32_1107 : BitVec 32 := 512#32
  let v1388 : BitVec 32 := Scalar.muli v211 c512_i32_1107
  v1388
def k0_mult74 : BitVec 32 :=
  let c32_i32_124 : BitVec 32 := 32#32
  let c0_i32_61 : BitVec 32 := 0#32
  let v206 : BitVec 32 := Scalar.muli c32_i32_124 c0_i32_61
  let c8_i32_125 : BitVec 32 := 8#32
  let v207 : BitVec 32 := Scalar.addi v206 c8_i32_125
  let c0_i32_1122 : BitVec 32 := 0#32
  let v1404 : BitVec 32 := Scalar.maxsi v207 c0_i32_1122
  let c512_i32_1123 : BitVec 32 := 512#32
  let v1405 : BitVec 32 := Scalar.muli v1404 c512_i32_1123
  v1405
def k0_mult75 : BitVec 32 :=
  let c32_i32_129 : BitVec 32 := 32#32
  let c0_i32_61 : BitVec 32 := 0#32
  let v212 : BitVec 32 := Scalar.muli c32_i32_129 c0_i32_61
  let c9_i32_130 : BitVec 32 := 9#32
  let v213 : BitVec 32 := Scalar.addi v212 c9_i32_130
  let c512_i32_1130 : BitVec 32 := 512#32
  let v1416 : BitVec 32 := Scalar.muli v213 c512_i32_1130
  v1416
def k0_mult76 : BitVec 32 :=
  let c32_i32_126 : BitVec 32 := 32#32
  let c0_i32_61 : BitVec 32 := 0#32
  let v208 : BitVec 32 := Scalar.muli c32_i32_126 c0_i32_61
  let c9_i32 : BitVec 32 := 9#32
  let v209 : BitVec 32 := Scalar.addi v208 c9_i32
  let c0_i32_1145 : BitVec 32 := 0#32
  let v1432 : BitVec 32 := Scalar.maxsi v209 c0_i32_1145
  let c512_i32_1146 : BitVec 32 := 512#32
  let v1433 : BitVec 32 := Scalar.muli v1432 c512_i32_1146
  v1433
def k0_mult77 : BitVec 32 :=
  let c32_i32_131 : BitVec 32 := 32#32
  let c0_i32_61 : BitVec 32 := 0#32
  let v214 : BitVec 32 := Scalar.muli c32_i32_131 c0_i32_61
  let c9_i32_132 : BitVec 32 := 9#32
  let v215 : BitVec 32 := Scalar.addi v214 c9_i32_132
  let c512_i32_1153 : BitVec 32 := 512#32
  let v1444 : BitVec 32 := Scalar.muli v215 c512_i32_1153
  v1444
def k0_mult78 : BitVec 32 :=
  let c32_i32_127 : BitVec 32 := 32#32
  let c0_i32_61 : BitVec 32 := 0#32
  let v210 : BitVec 32 := Scalar.muli c32_i32_127 c0_i32_61
  let c9_i32_128 : BitVec 32 := 9#32
  let v211 : BitVec 32 := Scalar.addi v210 c9_i32_128
  let c0_i32_1168 : BitVec 32 := 0#32
  let v1460 : BitVec 32 := Scalar.maxsi v211 c0_i32_1168
  let c512_i32_1169 : BitVec 32 := 512#32
  let v1461 : BitVec 32 := Scalar.muli v1460 c512_i32_1169
  v1461
def k0_mult79 : BitVec 32 :=
  let c32_i32_133 : BitVec 32 := 32#32
  let c0_i32_61 : BitVec 32 := 0#32
  let v216 : BitVec 32 := Scalar.muli c32_i32_133 c0_i32_61
  let c10_i32 : BitVec 32 := 10#32
  let v217 : BitVec 32 := Scalar.addi v216 c10_i32
  let c512_i32_1176 : BitVec 32 := 512#32
  let v1472 : BitVec 32 := Scalar.muli v217 c512_i32_1176
  v1472
def k0_mult80 : BitVec 32 :=
  let c32_i32_129 : BitVec 32 := 32#32
  let c0_i32_61 : BitVec 32 := 0#32
  let v212 : BitVec 32 := Scalar.muli c32_i32_129 c0_i32_61
  let c9_i32_130 : BitVec 32 := 9#32
  let v213 : BitVec 32 := Scalar.addi v212 c9_i32_130
  let c0_i32_1191 : BitVec 32 := 0#32
  let v1488 : BitVec 32 := Scalar.maxsi v213 c0_i32_1191
  let c512_i32_1192 : BitVec 32 := 512#32
  let v1489 : BitVec 32 := Scalar.muli v1488 c512_i32_1192
  v1489
def k0_mult81 : BitVec 32 :=
  let c32_i32_134 : BitVec 32 := 32#32
  let c0_i32_61 : BitVec 32 := 0#32
  let v218 : BitVec 32 := Scalar.muli c32_i32_134 c0_i32_61
  let c10_i32_135 : BitVec 32 := 10#32
  let v219 : BitVec 32 := Scalar.addi v218 c10_i32_135
  let c512_i32_1199 : BitVec 32 := 512#32
  let v1500 : BitVec 32 := Scalar.muli v219 c512_i32_1199
  v1500
def k0_mult82 : BitVec 32 :=
  let c32_i32_131 : BitVec 32 := 32#32
  let c0_i32_61 : BitVec 32 := 0#32
  let v214 : BitVec 32 := Scalar.muli c32_i32_131 c0_i32_61
  let c9_i32_132 : BitVec 32 := 9#32
  let v215 : BitVec 32 := Scalar.addi v214 c9_i32_132
  let c0_i32_1214 : BitVec 32 := 0#32
  let v1516 : BitVec 32 := Scalar.maxsi v215 c0_i32_1214
  let c512_i32_1215 : BitVec 32 := 512#32
  let v1517 : BitVec 32 := Scalar.muli v1516 c512_i32_1215
  v1517
def k0_mult83 : BitVec 32 :=
  let c32_i32_136 : BitVec 32 := 32#32
  let c0_i32_61 : BitVec 32 := 0#32
  let v220 : BitVec 32 := Scalar.muli c32_i32_136 c0_i32_61
  let c10_i32_137 : BitVec 32 := 10#32
  let v221 : BitVec 32 := Scalar.addi v220 c10_i32_137
  let c512_i32_1222 : BitVec 32 := 512#32
  let v1528 : BitVec 32 := Scalar.muli v221 c512_i32_1222
  v1528
def k0_mult84 : BitVec 32 :=
  let c32_i32_133 : BitVec 32 := 32#32
  let c0_i32_61 : BitVec 32 := 0#32
  let v216 : BitVec 32 := Scalar.muli c32_i32_133 c0_i32_61
  let c10_i32 : BitVec 32 := 10#32
  let v217 : BitVec 32 := Scalar.addi v216 c10_i32
  let c0_i32_1237 : BitVec 32 := 0#32
  let v1544 : BitVec 32 := Scalar.maxsi v217 c0_i32_1237
  let c512_i32_1238 : BitVec 32 := 512#32
  let v1545 : BitVec 32 := Scalar.muli v1544 c512_i32_1238
  v1545
def k0_mult85 : BitVec 32 :=
  let c32_i32_138 : BitVec 32 := 32#32
  let c0_i32_61 : BitVec 32 := 0#32
  let v222 : BitVec 32 := Scalar.muli c32_i32_138 c0_i32_61
  let c10_i32_139 : BitVec 32 := 10#32
  let v223 : BitVec 32 := Scalar.addi v222 c10_i32_139
  let c512_i32_1245 : BitVec 32 := 512#32
  let v1556 : BitVec 32 := Scalar.muli v223 c512_i32_1245
  v1556
def k0_mult86 : BitVec 32 :=
  let c32_i32_134 : BitVec 32 := 32#32
  let c0_i32_61 : BitVec 32 := 0#32
  let v218 : BitVec 32 := Scalar.muli c32_i32_134 c0_i32_61
  let c10_i32_135 : BitVec 32 := 10#32
  let v219 : BitVec 32 := Scalar.addi v218 c10_i32_135
  let c0_i32_1260 : BitVec 32 := 0#32
  let v1572 : BitVec 32 := Scalar.maxsi v219 c0_i32_1260
  let c512_i32_1261 : BitVec 32 := 512#32
  let v1573 : BitVec 32 := Scalar.muli v1572 c512_i32_1261
  v1573
def k0_mult87 : BitVec 32 :=
  let c32_i32_140 : BitVec 32 := 32#32
  let c0_i32_61 : BitVec 32 := 0#32
  let v224 : BitVec 32 := Scalar.muli c32_i32_140 c0_i32_61
  let c11_i32 : BitVec 32 := 11#32
  let v225 : BitVec 32 := Scalar.addi v224 c11_i32
  let c512_i32_1268 : BitVec 32 := 512#32
  let v1584 : BitVec 32 := Scalar.muli v225 c512_i32_1268
  v1584
def k0_mult88 : BitVec 32 :=
  let c32_i32_136 : BitVec 32 := 32#32
  let c0_i32_61 : BitVec 32 := 0#32
  let v220 : BitVec 32 := Scalar.muli c32_i32_136 c0_i32_61
  let c10_i32_137 : BitVec 32 := 10#32
  let v221 : BitVec 32 := Scalar.addi v220 c10_i32_137
  let c0_i32_1283 : BitVec 32 := 0#32
  let v1600 : BitVec 32 := Scalar.maxsi v221 c0_i32_1283
  let c512_i32_1284 : BitVec 32 := 512#32
  let v1601 : BitVec 32 := Scalar.muli v1600 c512_i32_1284
  v1601
def k0_mult89 : BitVec 32 :=
  let c32_i32_141 : BitVec 32 := 32#32
  let c0_i32_61 : BitVec 32 := 0#32
  let v226 : BitVec 32 := Scalar.muli c32_i32_141 c0_i32_61
  let c11_i32_142 : BitVec 32 := 11#32
  let v227 : BitVec 32 := Scalar.addi v226 c11_i32_142
  let c512_i32_1291 : BitVec 32 := 512#32
  let v1612 : BitVec 32 := Scalar.muli v227 c512_i32_1291
  v1612
def k0_mult90 : BitVec 32 :=
  let c32_i32_138 : BitVec 32 := 32#32
  let c0_i32_61 : BitVec 32 := 0#32
  let v222 : BitVec 32 := Scalar.muli c32_i32_138 c0_i32_61
  let c10_i32_139 : BitVec 32 := 10#32
  let v223 : BitVec 32 := Scalar.addi v222 c10_i32_139
  let c0_i32_1306 : BitVec 32 := 0#32
  let v1628 : BitVec 32 := Scalar.maxsi v223 c0_i32_1306
  let c512_i32_1307 : BitVec 32 := 512#32
  let v1629 : BitVec 32 := Scalar.muli v1628 c512_i32_1307
  v1629
def k0_mult91 : BitVec 32 :=
  let c32_i32_143 : BitVec 32 := 32#32
  let c0_i32_61 : BitVec 32 := 0#32
  let v228 : BitVec 32 := Scalar.muli c32_i32_143 c0_i32_61
  let c11_i32_144 : BitVec 32 := 11#32
  let v229 : BitVec 32 := Scalar.addi v228 c11_i32_144
  let c512_i32_1314 : BitVec 32 := 512#32
  let v1640 : BitVec 32 := Scalar.muli v229 c512_i32_1314
  v1640
def k0_mult92 : BitVec 32 :=
  let c32_i32_140 : BitVec 32 := 32#32
  let c0_i32_61 : BitVec 32 := 0#32
  let v224 : BitVec 32 := Scalar.muli c32_i32_140 c0_i32_61
  let c11_i32 : BitVec 32 := 11#32
  let v225 : BitVec 32 := Scalar.addi v224 c11_i32
  let c0_i32_1329 : BitVec 32 := 0#32
  let v1656 : BitVec 32 := Scalar.maxsi v225 c0_i32_1329
  let c512_i32_1330 : BitVec 32 := 512#32
  let v1657 : BitVec 32 := Scalar.muli v1656 c512_i32_1330
  v1657
def k0_mult93 : BitVec 32 :=
  let c32_i32_145 : BitVec 32 := 32#32
  let c0_i32_61 : BitVec 32 := 0#32
  let v230 : BitVec 32 := Scalar.muli c32_i32_145 c0_i32_61
  let c11_i32_146 : BitVec 32 := 11#32
  let v231 : BitVec 32 := Scalar.addi v230 c11_i32_146
  let c512_i32_1337 : BitVec 32 := 512#32
  let v1668 : BitVec 32 := Scalar.muli v231 c512_i32_1337
  v1668
def k0_mult94 : BitVec 32 :=
  let c32_i32_141 : BitVec 32 := 32#32
  let c0_i32_61 : BitVec 32 := 0#32
  let v226 : BitVec 32 := Scalar.muli c32_i32_141 c0_i32_61
  let c11_i32_142 : BitVec 32 := 11#32
  let v227 : BitVec 32 := Scalar.addi v226 c11_i32_142
  let c0_i32_1352 : BitVec 32 := 0#32
  let v1684 : BitVec 32 := Scalar.maxsi v227 c0_i32_1352
  let c512_i32_1353 : BitVec 32 := 512#32
  let v1685 : BitVec 32 := Scalar.muli v1684 c512_i32_1353
  v1685
def k0_mult95 : BitVec 32 :=
  let c32_i32_147 : BitVec 32 := 32#32
  let c0_i32_61 : BitVec 32 := 0#32
  let v232 : BitVec 32 := Scalar.muli c32_i32_147 c0_i32_61
  let c12_i32 : BitVec 32 := 12#32
  let v233 : BitVec 32 := Scalar.addi v232 c12_i32
  let c512_i32_1360 : BitVec 32 := 512#32
  let v1696 : BitVec 32 := Scalar.muli v233 c512_i32_1360
  v1696
def k0_mult96 : BitVec 32 :=
  let c32_i32_143 : BitVec 32 := 32#32
  let c0_i32_61 : BitVec 32 := 0#32
  let v228 : BitVec 32 := Scalar.muli c32_i32_143 c0_i32_61
  let c11_i32_144 : BitVec 32 := 11#32
  let v229 : BitVec 32 := Scalar.addi v228 c11_i32_144
  let c0_i32_1375 : BitVec 32 := 0#32
  let v1712 : BitVec 32 := Scalar.maxsi v229 c0_i32_1375
  let c512_i32_1376 : BitVec 32 := 512#32
  let v1713 : BitVec 32 := Scalar.muli v1712 c512_i32_1376
  v1713
def k0_mult97 : BitVec 32 :=
  let c32_i32_148 : BitVec 32 := 32#32
  let c0_i32_61 : BitVec 32 := 0#32
  let v234 : BitVec 32 := Scalar.muli c32_i32_148 c0_i32_61
  let c12_i32_149 : BitVec 32 := 12#32
  let v235 : BitVec 32 := Scalar.addi v234 c12_i32_149
  let c512_i32_1383 : BitVec 32 := 512#32
  let v1724 : BitVec 32 := Scalar.muli v235 c512_i32_1383
  v1724
def k0_mult98 : BitVec 32 :=
  let c32_i32_145 : BitVec 32 := 32#32
  let c0_i32_61 : BitVec 32 := 0#32
  let v230 : BitVec 32 := Scalar.muli c32_i32_145 c0_i32_61
  let c11_i32_146 : BitVec 32 := 11#32
  let v231 : BitVec 32 := Scalar.addi v230 c11_i32_146
  let c0_i32_1398 : BitVec 32 := 0#32
  let v1740 : BitVec 32 := Scalar.maxsi v231 c0_i32_1398
  let c512_i32_1399 : BitVec 32 := 512#32
  let v1741 : BitVec 32 := Scalar.muli v1740 c512_i32_1399
  v1741
def k0_mult99 : BitVec 32 :=
  let c32_i32_150 : BitVec 32 := 32#32
  let c0_i32_61 : BitVec 32 := 0#32
  let v236 : BitVec 32 := Scalar.muli c32_i32_150 c0_i32_61
  let c12_i32_151 : BitVec 32 := 12#32
  let v237 : BitVec 32 := Scalar.addi v236 c12_i32_151
  let c512_i32_1406 : BitVec 32 := 512#32
  let v1752 : BitVec 32 := Scalar.muli v237 c512_i32_1406
  v1752
def k0_mult100 : BitVec 32 :=
  let c32_i32_147 : BitVec 32 := 32#32
  let c0_i32_61 : BitVec 32 := 0#32
  let v232 : BitVec 32 := Scalar.muli c32_i32_147 c0_i32_61
  let c12_i32 : BitVec 32 := 12#32
  let v233 : BitVec 32 := Scalar.addi v232 c12_i32
  let c0_i32_1421 : BitVec 32 := 0#32
  let v1768 : BitVec 32 := Scalar.maxsi v233 c0_i32_1421
  let c512_i32_1422 : BitVec 32 := 512#32
  let v1769 : BitVec 32 := Scalar.muli v1768 c512_i32_1422
  v1769
def k0_mult101 : BitVec 32 :=
  let c32_i32_152 : BitVec 32 := 32#32
  let c0_i32_61 : BitVec 32 := 0#32
  let v238 : BitVec 32 := Scalar.muli c32_i32_152 c0_i32_61
  let c12_i32_153 : BitVec 32 := 12#32
  let v239 : BitVec 32 := Scalar.addi v238 c12_i32_153
  let c512_i32_1429 : BitVec 32 := 512#32
  let v1780 : BitVec 32 := Scalar.muli v239 c512_i32_1429
  v1780
def k0_mult102 : BitVec 32 :=
  let c32_i32_148 : BitVec 32 := 32#32
  let c0_i32_61 : BitVec 32 := 0#32
  let v234 : BitVec 32 := Scalar.muli c32_i32_148 c0_i32_61
  let c12_i32_149 : BitVec 32 := 12#32
  let v235 : BitVec 32 := Scalar.addi v234 c12_i32_149
  let c0_i32_1444 : BitVec 32 := 0#32
  let v1796 : BitVec 32 := Scalar.maxsi v235 c0_i32_1444
  let c512_i32_1445 : BitVec 32 := 512#32
  let v1797 : BitVec 32 := Scalar.muli v1796 c512_i32_1445
  v1797
def k0_mult103 : BitVec 32 :=
  let c32_i32_154 : BitVec 32 := 32#32
  let c0_i32_61 : BitVec 32 := 0#32
  let v240 : BitVec 32 := Scalar.muli c32_i32_154 c0_i32_61
  let c13_i32 : BitVec 32 := 13#32
  let v241 : BitVec 32 := Scalar.addi v240 c13_i32
  let c512_i32_1452 : BitVec 32 := 512#32
  let v1808 : BitVec 32 := Scalar.muli v241 c512_i32_1452
  v1808
def k0_mult104 : BitVec 32 :=
  let c32_i32_150 : BitVec 32 := 32#32
  let c0_i32_61 : BitVec 32 := 0#32
  let v236 : BitVec 32 := Scalar.muli c32_i32_150 c0_i32_61
  let c12_i32_151 : BitVec 32 := 12#32
  let v237 : BitVec 32 := Scalar.addi v236 c12_i32_151
  let c0_i32_1467 : BitVec 32 := 0#32
  let v1824 : BitVec 32 := Scalar.maxsi v237 c0_i32_1467
  let c512_i32_1468 : BitVec 32 := 512#32
  let v1825 : BitVec 32 := Scalar.muli v1824 c512_i32_1468
  v1825
def k0_mult105 : BitVec 32 :=
  let c32_i32_155 : BitVec 32 := 32#32
  let c0_i32_61 : BitVec 32 := 0#32
  let v242 : BitVec 32 := Scalar.muli c32_i32_155 c0_i32_61
  let c13_i32_156 : BitVec 32 := 13#32
  let v243 : BitVec 32 := Scalar.addi v242 c13_i32_156
  let c512_i32_1475 : BitVec 32 := 512#32
  let v1836 : BitVec 32 := Scalar.muli v243 c512_i32_1475
  v1836
def k0_mult106 : BitVec 32 :=
  let c32_i32_152 : BitVec 32 := 32#32
  let c0_i32_61 : BitVec 32 := 0#32
  let v238 : BitVec 32 := Scalar.muli c32_i32_152 c0_i32_61
  let c12_i32_153 : BitVec 32 := 12#32
  let v239 : BitVec 32 := Scalar.addi v238 c12_i32_153
  let c0_i32_1490 : BitVec 32 := 0#32
  let v1852 : BitVec 32 := Scalar.maxsi v239 c0_i32_1490
  let c512_i32_1491 : BitVec 32 := 512#32
  let v1853 : BitVec 32 := Scalar.muli v1852 c512_i32_1491
  v1853
def k0_mult107 : BitVec 32 :=
  let c32_i32_157 : BitVec 32 := 32#32
  let c0_i32_61 : BitVec 32 := 0#32
  let v244 : BitVec 32 := Scalar.muli c32_i32_157 c0_i32_61
  let c13_i32_158 : BitVec 32 := 13#32
  let v245 : BitVec 32 := Scalar.addi v244 c13_i32_158
  let c512_i32_1498 : BitVec 32 := 512#32
  let v1864 : BitVec 32 := Scalar.muli v245 c512_i32_1498
  v1864
def k0_mult108 : BitVec 32 :=
  let c32_i32_154 : BitVec 32 := 32#32
  let c0_i32_61 : BitVec 32 := 0#32
  let v240 : BitVec 32 := Scalar.muli c32_i32_154 c0_i32_61
  let c13_i32 : BitVec 32 := 13#32
  let v241 : BitVec 32 := Scalar.addi v240 c13_i32
  let c0_i32_1513 : BitVec 32 := 0#32
  let v1880 : BitVec 32 := Scalar.maxsi v241 c0_i32_1513
  let c512_i32_1514 : BitVec 32 := 512#32
  let v1881 : BitVec 32 := Scalar.muli v1880 c512_i32_1514
  v1881
def k0_mult109 : BitVec 32 :=
  let c32_i32_159 : BitVec 32 := 32#32
  let c0_i32_61 : BitVec 32 := 0#32
  let v246 : BitVec 32 := Scalar.muli c32_i32_159 c0_i32_61
  let c13_i32_160 : BitVec 32 := 13#32
  let v247 : BitVec 32 := Scalar.addi v246 c13_i32_160
  let c512_i32_1521 : BitVec 32 := 512#32
  let v1892 : BitVec 32 := Scalar.muli v247 c512_i32_1521
  v1892
def k0_mult110 : BitVec 32 :=
  let c32_i32_155 : BitVec 32 := 32#32
  let c0_i32_61 : BitVec 32 := 0#32
  let v242 : BitVec 32 := Scalar.muli c32_i32_155 c0_i32_61
  let c13_i32_156 : BitVec 32 := 13#32
  let v243 : BitVec 32 := Scalar.addi v242 c13_i32_156
  let c0_i32_1536 : BitVec 32 := 0#32
  let v1908 : BitVec 32 := Scalar.maxsi v243 c0_i32_1536
  let c512_i32_1537 : BitVec 32 := 512#32
  let v1909 : BitVec 32 := Scalar.muli v1908 c512_i32_1537
  v1909
def k0_mult111 : BitVec 32 :=
  let c32_i32_161 : BitVec 32 := 32#32
  let c0_i32_61 : BitVec 32 := 0#32
  let v248 : BitVec 32 := Scalar.muli c32_i32_161 c0_i32_61
  let c14_i32 : BitVec 32 := 14#32
  let v249 : BitVec 32 := Scalar.addi v248 c14_i32
  let c512_i32_1544 : BitVec 32 := 512#32
  let v1920 : BitVec 32 := Scalar.muli v249 c512_i32_1544
  v1920
def k0_mult112 : BitVec 32 :=
  let c32_i32_157 : BitVec 32 := 32#32
  let c0_i32_61 : BitVec 32 := 0#32
  let v244 : BitVec 32 := Scalar.muli c32_i32_157 c0_i32_61
  let c13_i32_158 : BitVec 32 := 13#32
  let v245 : BitVec 32 := Scalar.addi v244 c13_i32_158
  let c0_i32_1559 : BitVec 32 := 0#32
  let v1936 : BitVec 32 := Scalar.maxsi v245 c0_i32_1559
  let c512_i32_1560 : BitVec 32 := 512#32
  let v1937 : BitVec 32 := Scalar.muli v1936 c512_i32_1560
  v1937
def k0_mult113 : BitVec 32 :=
  let c32_i32_162 : BitVec 32 := 32#32
  let c0_i32_61 : BitVec 32 := 0#32
  let v250 : BitVec 32 := Scalar.muli c32_i32_162 c0_i32_61
  let c14_i32_163 : BitVec 32 := 14#32
  let v251 : BitVec 32 := Scalar.addi v250 c14_i32_163
  let c512_i32_1567 : BitVec 32 := 512#32
  let v1948 : BitVec 32 := Scalar.muli v251 c512_i32_1567
  v1948
def k0_mult114 : BitVec 32 :=
  let c32_i32_159 : BitVec 32 := 32#32
  let c0_i32_61 : BitVec 32 := 0#32
  let v246 : BitVec 32 := Scalar.muli c32_i32_159 c0_i32_61
  let c13_i32_160 : BitVec 32 := 13#32
  let v247 : BitVec 32 := Scalar.addi v246 c13_i32_160
  let c0_i32_1582 : BitVec 32 := 0#32
  let v1964 : BitVec 32 := Scalar.maxsi v247 c0_i32_1582
  let c512_i32_1583 : BitVec 32 := 512#32
  let v1965 : BitVec 32 := Scalar.muli v1964 c512_i32_1583
  v1965
def k0_mult115 : BitVec 32 :=
  let c32_i32_164 : BitVec 32 := 32#32
  let c0_i32_61 : BitVec 32 := 0#32
  let v252 : BitVec 32 := Scalar.muli c32_i32_164 c0_i32_61
  let c14_i32_165 : BitVec 32 := 14#32
  let v253 : BitVec 32 := Scalar.addi v252 c14_i32_165
  let c512_i32_1590 : BitVec 32 := 512#32
  let v1976 : BitVec 32 := Scalar.muli v253 c512_i32_1590
  v1976
def k0_mult116 : BitVec 32 :=
  let c32_i32_161 : BitVec 32 := 32#32
  let c0_i32_61 : BitVec 32 := 0#32
  let v248 : BitVec 32 := Scalar.muli c32_i32_161 c0_i32_61
  let c14_i32 : BitVec 32 := 14#32
  let v249 : BitVec 32 := Scalar.addi v248 c14_i32
  let c0_i32_1605 : BitVec 32 := 0#32
  let v1992 : BitVec 32 := Scalar.maxsi v249 c0_i32_1605
  let c512_i32_1606 : BitVec 32 := 512#32
  let v1993 : BitVec 32 := Scalar.muli v1992 c512_i32_1606
  v1993
def k0_mult117 : BitVec 32 :=
  let c32_i32_166 : BitVec 32 := 32#32
  let c0_i32_61 : BitVec 32 := 0#32
  let v254 : BitVec 32 := Scalar.muli c32_i32_166 c0_i32_61
  let c14_i32_167 : BitVec 32 := 14#32
  let v255 : BitVec 32 := Scalar.addi v254 c14_i32_167
  let c512_i32_1613 : BitVec 32 := 512#32
  let v2004 : BitVec 32 := Scalar.muli v255 c512_i32_1613
  v2004
def k0_mult118 : BitVec 32 :=
  let c32_i32_162 : BitVec 32 := 32#32
  let c0_i32_61 : BitVec 32 := 0#32
  let v250 : BitVec 32 := Scalar.muli c32_i32_162 c0_i32_61
  let c14_i32_163 : BitVec 32 := 14#32
  let v251 : BitVec 32 := Scalar.addi v250 c14_i32_163
  let c0_i32_1628 : BitVec 32 := 0#32
  let v2020 : BitVec 32 := Scalar.maxsi v251 c0_i32_1628
  let c512_i32_1629 : BitVec 32 := 512#32
  let v2021 : BitVec 32 := Scalar.muli v2020 c512_i32_1629
  v2021
def k0_mult119 : BitVec 32 :=
  let c32_i32_168 : BitVec 32 := 32#32
  let c0_i32_61 : BitVec 32 := 0#32
  let v256 : BitVec 32 := Scalar.muli c32_i32_168 c0_i32_61
  let c15_i32 : BitVec 32 := 15#32
  let v257 : BitVec 32 := Scalar.addi v256 c15_i32
  let c512_i32_1636 : BitVec 32 := 512#32
  let v2032 : BitVec 32 := Scalar.muli v257 c512_i32_1636
  v2032
def k0_mult120 : BitVec 32 :=
  let c32_i32_164 : BitVec 32 := 32#32
  let c0_i32_61 : BitVec 32 := 0#32
  let v252 : BitVec 32 := Scalar.muli c32_i32_164 c0_i32_61
  let c14_i32_165 : BitVec 32 := 14#32
  let v253 : BitVec 32 := Scalar.addi v252 c14_i32_165
  let c0_i32_1651 : BitVec 32 := 0#32
  let v2048 : BitVec 32 := Scalar.maxsi v253 c0_i32_1651
  let c512_i32_1652 : BitVec 32 := 512#32
  let v2049 : BitVec 32 := Scalar.muli v2048 c512_i32_1652
  v2049
def k0_mult121 : BitVec 32 :=
  let c32_i32_169 : BitVec 32 := 32#32
  let c0_i32_61 : BitVec 32 := 0#32
  let v258 : BitVec 32 := Scalar.muli c32_i32_169 c0_i32_61
  let c15_i32_170 : BitVec 32 := 15#32
  let v259 : BitVec 32 := Scalar.addi v258 c15_i32_170
  let c512_i32_1659 : BitVec 32 := 512#32
  let v2060 : BitVec 32 := Scalar.muli v259 c512_i32_1659
  v2060
def k0_mult122 : BitVec 32 :=
  let c32_i32_166 : BitVec 32 := 32#32
  let c0_i32_61 : BitVec 32 := 0#32
  let v254 : BitVec 32 := Scalar.muli c32_i32_166 c0_i32_61
  let c14_i32_167 : BitVec 32 := 14#32
  let v255 : BitVec 32 := Scalar.addi v254 c14_i32_167
  let c0_i32_1674 : BitVec 32 := 0#32
  let v2076 : BitVec 32 := Scalar.maxsi v255 c0_i32_1674
  let c512_i32_1675 : BitVec 32 := 512#32
  let v2077 : BitVec 32 := Scalar.muli v2076 c512_i32_1675
  v2077
def k0_mult123 : BitVec 32 :=
  let c32_i32_171 : BitVec 32 := 32#32
  let c0_i32_61 : BitVec 32 := 0#32
  let v260 : BitVec 32 := Scalar.muli c32_i32_171 c0_i32_61
  let c15_i32_172 : BitVec 32 := 15#32
  let v261 : BitVec 32 := Scalar.addi v260 c15_i32_172
  let c512_i32_1682 : BitVec 32 := 512#32
  let v2088 : BitVec 32 := Scalar.muli v261 c512_i32_1682
  v2088
def k0_mult124 : BitVec 32 :=
  let c32_i32_168 : BitVec 32 := 32#32
  let c0_i32_61 : BitVec 32 := 0#32
  let v256 : BitVec 32 := Scalar.muli c32_i32_168 c0_i32_61
  let c15_i32 : BitVec 32 := 15#32
  let v257 : BitVec 32 := Scalar.addi v256 c15_i32
  let c0_i32_1697 : BitVec 32 := 0#32
  let v2104 : BitVec 32 := Scalar.maxsi v257 c0_i32_1697
  let c512_i32_1698 : BitVec 32 := 512#32
  let v2105 : BitVec 32 := Scalar.muli v2104 c512_i32_1698
  v2105
def k0_mult125 : BitVec 32 :=
  let c32_i32_173 : BitVec 32 := 32#32
  let c0_i32_61 : BitVec 32 := 0#32
  let v262 : BitVec 32 := Scalar.muli c32_i32_173 c0_i32_61
  let c15_i32_174 : BitVec 32 := 15#32
  let v263 : BitVec 32 := Scalar.addi v262 c15_i32_174
  let c512_i32_1705 : BitVec 32 := 512#32
  let v2116 : BitVec 32 := Scalar.muli v263 c512_i32_1705
  v2116
def k0_mult126 : BitVec 32 :=
  let c32_i32_169 : BitVec 32 := 32#32
  let c0_i32_61 : BitVec 32 := 0#32
  let v258 : BitVec 32 := Scalar.muli c32_i32_169 c0_i32_61
  let c15_i32_170 : BitVec 32 := 15#32
  let v259 : BitVec 32 := Scalar.addi v258 c15_i32_170
  let c0_i32_1720 : BitVec 32 := 0#32
  let v2132 : BitVec 32 := Scalar.maxsi v259 c0_i32_1720
  let c512_i32_1721 : BitVec 32 := 512#32
  let v2133 : BitVec 32 := Scalar.muli v2132 c512_i32_1721
  v2133
def k0_mult127 : BitVec 32 :=
  let c32_i32_175 : BitVec 32 := 32#32
  let c0_i32_61 : BitVec 32 := 0#32
  let v264 : BitVec 32 := Scalar.muli c32_i32_175 c0_i32_61
  let c16_i32 : BitVec 32 := 16#32
  let v265 : BitVec 32 := Scalar.addi v264 c16_i32
  let c512_i32_1728 : BitVec 32 := 512#32
  let v2144 : BitVec 32 := Scalar.muli v265 c512_i32_1728
  v2144
def k0_mult128 : BitVec 32 :=
  let c32_i32_171 : BitVec 32 := 32#32
  let c0_i32_61 : BitVec 32 := 0#32
  let v260 : BitVec 32 := Scalar.muli c32_i32_171 c0_i32_61
  let c15_i32_172 : BitVec 32 := 15#32
  let v261 : BitVec 32 := Scalar.addi v260 c15_i32_172
  let c0_i32_1743 : BitVec 32 := 0#32
  let v2160 : BitVec 32 := Scalar.maxsi v261 c0_i32_1743
  let c512_i32_1744 : BitVec 32 := 512#32
  let v2161 : BitVec 32 := Scalar.muli v2160 c512_i32_1744
  v2161
def k0_mult129 : BitVec 32 :=
  let c32_i32_176 : BitVec 32 := 32#32
  let c0_i32_61 : BitVec 32 := 0#32
  let v266 : BitVec 32 := Scalar.muli c32_i32_176 c0_i32_61
  let c16_i32_177 : BitVec 32 := 16#32
  let v267 : BitVec 32 := Scalar.addi v266 c16_i32_177
  let c512_i32_1751 : BitVec 32 := 512#32
  let v2172 : BitVec 32 := Scalar.muli v267 c512_i32_1751
  v2172
def k0_mult130 : BitVec 32 :=
  let c32_i32_173 : BitVec 32 := 32#32
  let c0_i32_61 : BitVec 32 := 0#32
  let v262 : BitVec 32 := Scalar.muli c32_i32_173 c0_i32_61
  let c15_i32_174 : BitVec 32 := 15#32
  let v263 : BitVec 32 := Scalar.addi v262 c15_i32_174
  let c0_i32_1766 : BitVec 32 := 0#32
  let v2188 : BitVec 32 := Scalar.maxsi v263 c0_i32_1766
  let c512_i32_1767 : BitVec 32 := 512#32
  let v2189 : BitVec 32 := Scalar.muli v2188 c512_i32_1767
  v2189
def k0_mult131 : BitVec 32 :=
  let c32_i32_178 : BitVec 32 := 32#32
  let c0_i32_61 : BitVec 32 := 0#32
  let v268 : BitVec 32 := Scalar.muli c32_i32_178 c0_i32_61
  let c16_i32_179 : BitVec 32 := 16#32
  let v269 : BitVec 32 := Scalar.addi v268 c16_i32_179
  let c512_i32_1774 : BitVec 32 := 512#32
  let v2200 : BitVec 32 := Scalar.muli v269 c512_i32_1774
  v2200
def k0_mult132 : BitVec 32 :=
  let c32_i32_175 : BitVec 32 := 32#32
  let c0_i32_61 : BitVec 32 := 0#32
  let v264 : BitVec 32 := Scalar.muli c32_i32_175 c0_i32_61
  let c16_i32 : BitVec 32 := 16#32
  let v265 : BitVec 32 := Scalar.addi v264 c16_i32
  let c0_i32_1789 : BitVec 32 := 0#32
  let v2216 : BitVec 32 := Scalar.maxsi v265 c0_i32_1789
  let c512_i32_1790 : BitVec 32 := 512#32
  let v2217 : BitVec 32 := Scalar.muli v2216 c512_i32_1790
  v2217
def k0_mult133 : BitVec 32 :=
  let c32_i32_180 : BitVec 32 := 32#32
  let c0_i32_61 : BitVec 32 := 0#32
  let v270 : BitVec 32 := Scalar.muli c32_i32_180 c0_i32_61
  let c16_i32_181 : BitVec 32 := 16#32
  let v271 : BitVec 32 := Scalar.addi v270 c16_i32_181
  let c512_i32_1797 : BitVec 32 := 512#32
  let v2228 : BitVec 32 := Scalar.muli v271 c512_i32_1797
  v2228
def k0_mult134 : BitVec 32 :=
  let c32_i32_176 : BitVec 32 := 32#32
  let c0_i32_61 : BitVec 32 := 0#32
  let v266 : BitVec 32 := Scalar.muli c32_i32_176 c0_i32_61
  let c16_i32_177 : BitVec 32 := 16#32
  let v267 : BitVec 32 := Scalar.addi v266 c16_i32_177
  let c0_i32_1812 : BitVec 32 := 0#32
  let v2244 : BitVec 32 := Scalar.maxsi v267 c0_i32_1812
  let c512_i32_1813 : BitVec 32 := 512#32
  let v2245 : BitVec 32 := Scalar.muli v2244 c512_i32_1813
  v2245
def k0_mult135 : BitVec 32 :=
  let c32_i32_182 : BitVec 32 := 32#32
  let c0_i32_61 : BitVec 32 := 0#32
  let v272 : BitVec 32 := Scalar.muli c32_i32_182 c0_i32_61
  let c17_i32 : BitVec 32 := 17#32
  let v273 : BitVec 32 := Scalar.addi v272 c17_i32
  let c512_i32_1820 : BitVec 32 := 512#32
  let v2256 : BitVec 32 := Scalar.muli v273 c512_i32_1820
  v2256
def k0_mult136 : BitVec 32 :=
  let c32_i32_178 : BitVec 32 := 32#32
  let c0_i32_61 : BitVec 32 := 0#32
  let v268 : BitVec 32 := Scalar.muli c32_i32_178 c0_i32_61
  let c16_i32_179 : BitVec 32 := 16#32
  let v269 : BitVec 32 := Scalar.addi v268 c16_i32_179
  let c0_i32_1835 : BitVec 32 := 0#32
  let v2272 : BitVec 32 := Scalar.maxsi v269 c0_i32_1835
  let c512_i32_1836 : BitVec 32 := 512#32
  let v2273 : BitVec 32 := Scalar.muli v2272 c512_i32_1836
  v2273
def k0_mult137 : BitVec 32 :=
  let c32_i32_183 : BitVec 32 := 32#32
  let c0_i32_61 : BitVec 32 := 0#32
  let v274 : BitVec 32 := Scalar.muli c32_i32_183 c0_i32_61
  let c17_i32_184 : BitVec 32 := 17#32
  let v275 : BitVec 32 := Scalar.addi v274 c17_i32_184
  let c512_i32_1843 : BitVec 32 := 512#32
  let v2284 : BitVec 32 := Scalar.muli v275 c512_i32_1843
  v2284
def k0_mult138 : BitVec 32 :=
  let c32_i32_180 : BitVec 32 := 32#32
  let c0_i32_61 : BitVec 32 := 0#32
  let v270 : BitVec 32 := Scalar.muli c32_i32_180 c0_i32_61
  let c16_i32_181 : BitVec 32 := 16#32
  let v271 : BitVec 32 := Scalar.addi v270 c16_i32_181
  let c0_i32_1858 : BitVec 32 := 0#32
  let v2300 : BitVec 32 := Scalar.maxsi v271 c0_i32_1858
  let c512_i32_1859 : BitVec 32 := 512#32
  let v2301 : BitVec 32 := Scalar.muli v2300 c512_i32_1859
  v2301
def k0_mult139 : BitVec 32 :=
  let c32_i32_185 : BitVec 32 := 32#32
  let c0_i32_61 : BitVec 32 := 0#32
  let v276 : BitVec 32 := Scalar.muli c32_i32_185 c0_i32_61
  let c17_i32_186 : BitVec 32 := 17#32
  let v277 : BitVec 32 := Scalar.addi v276 c17_i32_186
  let c512_i32_1866 : BitVec 32 := 512#32
  let v2312 : BitVec 32 := Scalar.muli v277 c512_i32_1866
  v2312
def k0_mult140 : BitVec 32 :=
  let c32_i32_182 : BitVec 32 := 32#32
  let c0_i32_61 : BitVec 32 := 0#32
  let v272 : BitVec 32 := Scalar.muli c32_i32_182 c0_i32_61
  let c17_i32 : BitVec 32 := 17#32
  let v273 : BitVec 32 := Scalar.addi v272 c17_i32
  let c0_i32_1881 : BitVec 32 := 0#32
  let v2328 : BitVec 32 := Scalar.maxsi v273 c0_i32_1881
  let c512_i32_1882 : BitVec 32 := 512#32
  let v2329 : BitVec 32 := Scalar.muli v2328 c512_i32_1882
  v2329
def k0_mult141 : BitVec 32 :=
  let c32_i32_187 : BitVec 32 := 32#32
  let c0_i32_61 : BitVec 32 := 0#32
  let v278 : BitVec 32 := Scalar.muli c32_i32_187 c0_i32_61
  let c17_i32_188 : BitVec 32 := 17#32
  let v279 : BitVec 32 := Scalar.addi v278 c17_i32_188
  let c512_i32_1889 : BitVec 32 := 512#32
  let v2340 : BitVec 32 := Scalar.muli v279 c512_i32_1889
  v2340
def k0_mult142 : BitVec 32 :=
  let c32_i32_183 : BitVec 32 := 32#32
  let c0_i32_61 : BitVec 32 := 0#32
  let v274 : BitVec 32 := Scalar.muli c32_i32_183 c0_i32_61
  let c17_i32_184 : BitVec 32 := 17#32
  let v275 : BitVec 32 := Scalar.addi v274 c17_i32_184
  let c0_i32_1904 : BitVec 32 := 0#32
  let v2356 : BitVec 32 := Scalar.maxsi v275 c0_i32_1904
  let c512_i32_1905 : BitVec 32 := 512#32
  let v2357 : BitVec 32 := Scalar.muli v2356 c512_i32_1905
  v2357
def k0_mult143 : BitVec 32 :=
  let c32_i32_189 : BitVec 32 := 32#32
  let c0_i32_61 : BitVec 32 := 0#32
  let v280 : BitVec 32 := Scalar.muli c32_i32_189 c0_i32_61
  let c18_i32 : BitVec 32 := 18#32
  let v281 : BitVec 32 := Scalar.addi v280 c18_i32
  let c512_i32_1912 : BitVec 32 := 512#32
  let v2368 : BitVec 32 := Scalar.muli v281 c512_i32_1912
  v2368
def k0_mult144 : BitVec 32 :=
  let c32_i32_185 : BitVec 32 := 32#32
  let c0_i32_61 : BitVec 32 := 0#32
  let v276 : BitVec 32 := Scalar.muli c32_i32_185 c0_i32_61
  let c17_i32_186 : BitVec 32 := 17#32
  let v277 : BitVec 32 := Scalar.addi v276 c17_i32_186
  let c0_i32_1927 : BitVec 32 := 0#32
  let v2384 : BitVec 32 := Scalar.maxsi v277 c0_i32_1927
  let c512_i32_1928 : BitVec 32 := 512#32
  let v2385 : BitVec 32 := Scalar.muli v2384 c512_i32_1928
  v2385
def k0_mult145 : BitVec 32 :=
  let c32_i32_190 : BitVec 32 := 32#32
  let c0_i32_61 : BitVec 32 := 0#32
  let v282 : BitVec 32 := Scalar.muli c32_i32_190 c0_i32_61
  let c18_i32_191 : BitVec 32 := 18#32
  let v283 : BitVec 32 := Scalar.addi v282 c18_i32_191
  let c512_i32_1935 : BitVec 32 := 512#32
  let v2396 : BitVec 32 := Scalar.muli v283 c512_i32_1935
  v2396
def k0_mult146 : BitVec 32 :=
  let c32_i32_187 : BitVec 32 := 32#32
  let c0_i32_61 : BitVec 32 := 0#32
  let v278 : BitVec 32 := Scalar.muli c32_i32_187 c0_i32_61
  let c17_i32_188 : BitVec 32 := 17#32
  let v279 : BitVec 32 := Scalar.addi v278 c17_i32_188
  let c0_i32_1950 : BitVec 32 := 0#32
  let v2412 : BitVec 32 := Scalar.maxsi v279 c0_i32_1950
  let c512_i32_1951 : BitVec 32 := 512#32
  let v2413 : BitVec 32 := Scalar.muli v2412 c512_i32_1951
  v2413
def k0_mult147 : BitVec 32 :=
  let c32_i32_192 : BitVec 32 := 32#32
  let c0_i32_61 : BitVec 32 := 0#32
  let v284 : BitVec 32 := Scalar.muli c32_i32_192 c0_i32_61
  let c18_i32_193 : BitVec 32 := 18#32
  let v285 : BitVec 32 := Scalar.addi v284 c18_i32_193
  let c512_i32_1958 : BitVec 32 := 512#32
  let v2424 : BitVec 32 := Scalar.muli v285 c512_i32_1958
  v2424
def k0_mult148 : BitVec 32 :=
  let c32_i32_189 : BitVec 32 := 32#32
  let c0_i32_61 : BitVec 32 := 0#32
  let v280 : BitVec 32 := Scalar.muli c32_i32_189 c0_i32_61
  let c18_i32 : BitVec 32 := 18#32
  let v281 : BitVec 32 := Scalar.addi v280 c18_i32
  let c0_i32_1973 : BitVec 32 := 0#32
  let v2440 : BitVec 32 := Scalar.maxsi v281 c0_i32_1973
  let c512_i32_1974 : BitVec 32 := 512#32
  let v2441 : BitVec 32 := Scalar.muli v2440 c512_i32_1974
  v2441
def k0_mult149 : BitVec 32 :=
  let c32_i32_194 : BitVec 32 := 32#32
  let c0_i32_61 : BitVec 32 := 0#32
  let v286 : BitVec 32 := Scalar.muli c32_i32_194 c0_i32_61
  let c18_i32_195 : BitVec 32 := 18#32
  let v287 : BitVec 32 := Scalar.addi v286 c18_i32_195
  let c512_i32_1981 : BitVec 32 := 512#32
  let v2452 : BitVec 32 := Scalar.muli v287 c512_i32_1981
  v2452
def k0_mult150 : BitVec 32 :=
  let c32_i32_190 : BitVec 32 := 32#32
  let c0_i32_61 : BitVec 32 := 0#32
  let v282 : BitVec 32 := Scalar.muli c32_i32_190 c0_i32_61
  let c18_i32_191 : BitVec 32 := 18#32
  let v283 : BitVec 32 := Scalar.addi v282 c18_i32_191
  let c0_i32_1996 : BitVec 32 := 0#32
  let v2468 : BitVec 32 := Scalar.maxsi v283 c0_i32_1996
  let c512_i32_1997 : BitVec 32 := 512#32
  let v2469 : BitVec 32 := Scalar.muli v2468 c512_i32_1997
  v2469
def k0_mult151 : BitVec 32 :=
  let c32_i32_196 : BitVec 32 := 32#32
  let c0_i32_61 : BitVec 32 := 0#32
  let v288 : BitVec 32 := Scalar.muli c32_i32_196 c0_i32_61
  let c19_i32 : BitVec 32 := 19#32
  let v289 : BitVec 32 := Scalar.addi v288 c19_i32
  let c512_i32_2004 : BitVec 32 := 512#32
  let v2480 : BitVec 32 := Scalar.muli v289 c512_i32_2004
  v2480
def k0_mult152 : BitVec 32 :=
  let c32_i32_192 : BitVec 32 := 32#32
  let c0_i32_61 : BitVec 32 := 0#32
  let v284 : BitVec 32 := Scalar.muli c32_i32_192 c0_i32_61
  let c18_i32_193 : BitVec 32 := 18#32
  let v285 : BitVec 32 := Scalar.addi v284 c18_i32_193
  let c0_i32_2019 : BitVec 32 := 0#32
  let v2496 : BitVec 32 := Scalar.maxsi v285 c0_i32_2019
  let c512_i32_2020 : BitVec 32 := 512#32
  let v2497 : BitVec 32 := Scalar.muli v2496 c512_i32_2020
  v2497
def k0_mult153 : BitVec 32 :=
  let c32_i32_197 : BitVec 32 := 32#32
  let c0_i32_61 : BitVec 32 := 0#32
  let v290 : BitVec 32 := Scalar.muli c32_i32_197 c0_i32_61
  let c19_i32_198 : BitVec 32 := 19#32
  let v291 : BitVec 32 := Scalar.addi v290 c19_i32_198
  let c512_i32_2027 : BitVec 32 := 512#32
  let v2508 : BitVec 32 := Scalar.muli v291 c512_i32_2027
  v2508
def k0_mult154 : BitVec 32 :=
  let c32_i32_194 : BitVec 32 := 32#32
  let c0_i32_61 : BitVec 32 := 0#32
  let v286 : BitVec 32 := Scalar.muli c32_i32_194 c0_i32_61
  let c18_i32_195 : BitVec 32 := 18#32
  let v287 : BitVec 32 := Scalar.addi v286 c18_i32_195
  let c0_i32_2042 : BitVec 32 := 0#32
  let v2524 : BitVec 32 := Scalar.maxsi v287 c0_i32_2042
  let c512_i32_2043 : BitVec 32 := 512#32
  let v2525 : BitVec 32 := Scalar.muli v2524 c512_i32_2043
  v2525
def k0_mult155 : BitVec 32 :=
  let c32_i32_199 : BitVec 32 := 32#32
  let c0_i32_61 : BitVec 32 := 0#32
  let v292 : BitVec 32 := Scalar.muli c32_i32_199 c0_i32_61
  let c19_i32_200 : BitVec 32 := 19#32
  let v293 : BitVec 32 := Scalar.addi v292 c19_i32_200
  let c512_i32_2050 : BitVec 32 := 512#32
  let v2536 : BitVec 32 := Scalar.muli v293 c512_i32_2050
  v2536
def k0_mult156 : BitVec 32 :=
  let c32_i32_196 : BitVec 32 := 32#32
  let c0_i32_61 : BitVec 32 := 0#32
  let v288 : BitVec 32 := Scalar.muli c32_i32_196 c0_i32_61
  let c19_i32 : BitVec 32 := 19#32
  let v289 : BitVec 32 := Scalar.addi v288 c19_i32
  let c0_i32_2065 : BitVec 32 := 0#32
  let v2552 : BitVec 32 := Scalar.maxsi v289 c0_i32_2065
  let c512_i32_2066 : BitVec 32 := 512#32
  let v2553 : BitVec 32 := Scalar.muli v2552 c512_i32_2066
  v2553
def k0_mult157 : BitVec 32 :=
  let c32_i32_201 : BitVec 32 := 32#32
  let c0_i32_61 : BitVec 32 := 0#32
  let v294 : BitVec 32 := Scalar.muli c32_i32_201 c0_i32_61
  let c19_i32_202 : BitVec 32 := 19#32
  let v295 : BitVec 32 := Scalar.addi v294 c19_i32_202
  let c512_i32_2073 : BitVec 32 := 512#32
  let v2564 : BitVec 32 := Scalar.muli v295 c512_i32_2073
  v2564
def k0_mult158 : BitVec 32 :=
  let c32_i32_197 : BitVec 32 := 32#32
  let c0_i32_61 : BitVec 32 := 0#32
  let v290 : BitVec 32 := Scalar.muli c32_i32_197 c0_i32_61
  let c19_i32_198 : BitVec 32 := 19#32
  let v291 : BitVec 32 := Scalar.addi v290 c19_i32_198
  let c0_i32_2088 : BitVec 32 := 0#32
  let v2580 : BitVec 32 := Scalar.maxsi v291 c0_i32_2088
  let c512_i32_2089 : BitVec 32 := 512#32
  let v2581 : BitVec 32 := Scalar.muli v2580 c512_i32_2089
  v2581
def k0_mult159 : BitVec 32 :=
  let c32_i32_203 : BitVec 32 := 32#32
  let c0_i32_61 : BitVec 32 := 0#32
  let v296 : BitVec 32 := Scalar.muli c32_i32_203 c0_i32_61
  let c20_i32 : BitVec 32 := 20#32
  let v297 : BitVec 32 := Scalar.addi v296 c20_i32
  let c512_i32_2096 : BitVec 32 := 512#32
  let v2592 : BitVec 32 := Scalar.muli v297 c512_i32_2096
  v2592
def k0_mult160 : BitVec 32 :=
  let c32_i32_199 : BitVec 32 := 32#32
  let c0_i32_61 : BitVec 32 := 0#32
  let v292 : BitVec 32 := Scalar.muli c32_i32_199 c0_i32_61
  let c19_i32_200 : BitVec 32 := 19#32
  let v293 : BitVec 32 := Scalar.addi v292 c19_i32_200
  let c0_i32_2111 : BitVec 32 := 0#32
  let v2608 : BitVec 32 := Scalar.maxsi v293 c0_i32_2111
  let c512_i32_2112 : BitVec 32 := 512#32
  let v2609 : BitVec 32 := Scalar.muli v2608 c512_i32_2112
  v2609
def k0_mult161 : BitVec 32 :=
  let c32_i32_204 : BitVec 32 := 32#32
  let c0_i32_61 : BitVec 32 := 0#32
  let v298 : BitVec 32 := Scalar.muli c32_i32_204 c0_i32_61
  let c20_i32_205 : BitVec 32 := 20#32
  let v299 : BitVec 32 := Scalar.addi v298 c20_i32_205
  let c512_i32_2119 : BitVec 32 := 512#32
  let v2620 : BitVec 32 := Scalar.muli v299 c512_i32_2119
  v2620
def k0_mult162 : BitVec 32 :=
  let c32_i32_201 : BitVec 32 := 32#32
  let c0_i32_61 : BitVec 32 := 0#32
  let v294 : BitVec 32 := Scalar.muli c32_i32_201 c0_i32_61
  let c19_i32_202 : BitVec 32 := 19#32
  let v295 : BitVec 32 := Scalar.addi v294 c19_i32_202
  let c0_i32_2134 : BitVec 32 := 0#32
  let v2636 : BitVec 32 := Scalar.maxsi v295 c0_i32_2134
  let c512_i32_2135 : BitVec 32 := 512#32
  let v2637 : BitVec 32 := Scalar.muli v2636 c512_i32_2135
  v2637
def k0_mult163 : BitVec 32 :=
  let c32_i32_206 : BitVec 32 := 32#32
  let c0_i32_61 : BitVec 32 := 0#32
  let v300 : BitVec 32 := Scalar.muli c32_i32_206 c0_i32_61
  let c20_i32_207 : BitVec 32 := 20#32
  let v301 : BitVec 32 := Scalar.addi v300 c20_i32_207
  let c512_i32_2142 : BitVec 32 := 512#32
  let v2648 : BitVec 32 := Scalar.muli v301 c512_i32_2142
  v2648
def k0_mult164 : BitVec 32 :=
  let c32_i32_203 : BitVec 32 := 32#32
  let c0_i32_61 : BitVec 32 := 0#32
  let v296 : BitVec 32 := Scalar.muli c32_i32_203 c0_i32_61
  let c20_i32 : BitVec 32 := 20#32
  let v297 : BitVec 32 := Scalar.addi v296 c20_i32
  let c0_i32_2157 : BitVec 32 := 0#32
  let v2664 : BitVec 32 := Scalar.maxsi v297 c0_i32_2157
  let c512_i32_2158 : BitVec 32 := 512#32
  let v2665 : BitVec 32 := Scalar.muli v2664 c512_i32_2158
  v2665
def k0_mult165 : BitVec 32 :=
  let c32_i32_208 : BitVec 32 := 32#32
  let c0_i32_61 : BitVec 32 := 0#32
  let v302 : BitVec 32 := Scalar.muli c32_i32_208 c0_i32_61
  let c20_i32_209 : BitVec 32 := 20#32
  let v303 : BitVec 32 := Scalar.addi v302 c20_i32_209
  let c512_i32_2165 : BitVec 32 := 512#32
  let v2676 : BitVec 32 := Scalar.muli v303 c512_i32_2165
  v2676
def k0_mult166 : BitVec 32 :=
  let c32_i32_204 : BitVec 32 := 32#32
  let c0_i32_61 : BitVec 32 := 0#32
  let v298 : BitVec 32 := Scalar.muli c32_i32_204 c0_i32_61
  let c20_i32_205 : BitVec 32 := 20#32
  let v299 : BitVec 32 := Scalar.addi v298 c20_i32_205
  let c0_i32_2180 : BitVec 32 := 0#32
  let v2692 : BitVec 32 := Scalar.maxsi v299 c0_i32_2180
  let c512_i32_2181 : BitVec 32 := 512#32
  let v2693 : BitVec 32 := Scalar.muli v2692 c512_i32_2181
  v2693
def k0_mult167 : BitVec 32 :=
  let c32_i32_210 : BitVec 32 := 32#32
  let c0_i32_61 : BitVec 32 := 0#32
  let v304 : BitVec 32 := Scalar.muli c32_i32_210 c0_i32_61
  let c21_i32 : BitVec 32 := 21#32
  let v305 : BitVec 32 := Scalar.addi v304 c21_i32
  let c512_i32_2188 : BitVec 32 := 512#32
  let v2704 : BitVec 32 := Scalar.muli v305 c512_i32_2188
  v2704
def k0_mult168 : BitVec 32 :=
  let c32_i32_206 : BitVec 32 := 32#32
  let c0_i32_61 : BitVec 32 := 0#32
  let v300 : BitVec 32 := Scalar.muli c32_i32_206 c0_i32_61
  let c20_i32_207 : BitVec 32 := 20#32
  let v301 : BitVec 32 := Scalar.addi v300 c20_i32_207
  let c0_i32_2203 : BitVec 32 := 0#32
  let v2720 : BitVec 32 := Scalar.maxsi v301 c0_i32_2203
  let c512_i32_2204 : BitVec 32 := 512#32
  let v2721 : BitVec 32 := Scalar.muli v2720 c512_i32_2204
  v2721
def k0_mult169 : BitVec 32 :=
  let c32_i32_211 : BitVec 32 := 32#32
  let c0_i32_61 : BitVec 32 := 0#32
  let v306 : BitVec 32 := Scalar.muli c32_i32_211 c0_i32_61
  let c21_i32_212 : BitVec 32 := 21#32
  let v307 : BitVec 32 := Scalar.addi v306 c21_i32_212
  let c512_i32_2211 : BitVec 32 := 512#32
  let v2732 : BitVec 32 := Scalar.muli v307 c512_i32_2211
  v2732
def k0_mult170 : BitVec 32 :=
  let c32_i32_208 : BitVec 32 := 32#32
  let c0_i32_61 : BitVec 32 := 0#32
  let v302 : BitVec 32 := Scalar.muli c32_i32_208 c0_i32_61
  let c20_i32_209 : BitVec 32 := 20#32
  let v303 : BitVec 32 := Scalar.addi v302 c20_i32_209
  let c0_i32_2226 : BitVec 32 := 0#32
  let v2748 : BitVec 32 := Scalar.maxsi v303 c0_i32_2226
  let c512_i32_2227 : BitVec 32 := 512#32
  let v2749 : BitVec 32 := Scalar.muli v2748 c512_i32_2227
  v2749
def k0_mult171 : BitVec 32 :=
  let c32_i32_213 : BitVec 32 := 32#32
  let c0_i32_61 : BitVec 32 := 0#32
  let v308 : BitVec 32 := Scalar.muli c32_i32_213 c0_i32_61
  let c21_i32_214 : BitVec 32 := 21#32
  let v309 : BitVec 32 := Scalar.addi v308 c21_i32_214
  let c512_i32_2234 : BitVec 32 := 512#32
  let v2760 : BitVec 32 := Scalar.muli v309 c512_i32_2234
  v2760
def k0_mult172 : BitVec 32 :=
  let c32_i32_210 : BitVec 32 := 32#32
  let c0_i32_61 : BitVec 32 := 0#32
  let v304 : BitVec 32 := Scalar.muli c32_i32_210 c0_i32_61
  let c21_i32 : BitVec 32 := 21#32
  let v305 : BitVec 32 := Scalar.addi v304 c21_i32
  let c0_i32_2249 : BitVec 32 := 0#32
  let v2776 : BitVec 32 := Scalar.maxsi v305 c0_i32_2249
  let c512_i32_2250 : BitVec 32 := 512#32
  let v2777 : BitVec 32 := Scalar.muli v2776 c512_i32_2250
  v2777
def k0_mult173 : BitVec 32 :=
  let c32_i32_215 : BitVec 32 := 32#32
  let c0_i32_61 : BitVec 32 := 0#32
  let v310 : BitVec 32 := Scalar.muli c32_i32_215 c0_i32_61
  let c21_i32_216 : BitVec 32 := 21#32
  let v311 : BitVec 32 := Scalar.addi v310 c21_i32_216
  let c512_i32_2257 : BitVec 32 := 512#32
  let v2788 : BitVec 32 := Scalar.muli v311 c512_i32_2257
  v2788
def k0_mult174 : BitVec 32 :=
  let c32_i32_211 : BitVec 32 := 32#32
  let c0_i32_61 : BitVec 32 := 0#32
  let v306 : BitVec 32 := Scalar.muli c32_i32_211 c0_i32_61
  let c21_i32_212 : BitVec 32 := 21#32
  let v307 : BitVec 32 := Scalar.addi v306 c21_i32_212
  let c0_i32_2272 : BitVec 32 := 0#32
  let v2804 : BitVec 32 := Scalar.maxsi v307 c0_i32_2272
  let c512_i32_2273 : BitVec 32 := 512#32
  let v2805 : BitVec 32 := Scalar.muli v2804 c512_i32_2273
  v2805
def k0_mult175 : BitVec 32 :=
  let c32_i32_217 : BitVec 32 := 32#32
  let c0_i32_61 : BitVec 32 := 0#32
  let v312 : BitVec 32 := Scalar.muli c32_i32_217 c0_i32_61
  let c22_i32 : BitVec 32 := 22#32
  let v313 : BitVec 32 := Scalar.addi v312 c22_i32
  let c512_i32_2280 : BitVec 32 := 512#32
  let v2816 : BitVec 32 := Scalar.muli v313 c512_i32_2280
  v2816
def k0_mult176 : BitVec 32 :=
  let c32_i32_213 : BitVec 32 := 32#32
  let c0_i32_61 : BitVec 32 := 0#32
  let v308 : BitVec 32 := Scalar.muli c32_i32_213 c0_i32_61
  let c21_i32_214 : BitVec 32 := 21#32
  let v309 : BitVec 32 := Scalar.addi v308 c21_i32_214
  let c0_i32_2295 : BitVec 32 := 0#32
  let v2832 : BitVec 32 := Scalar.maxsi v309 c0_i32_2295
  let c512_i32_2296 : BitVec 32 := 512#32
  let v2833 : BitVec 32 := Scalar.muli v2832 c512_i32_2296
  v2833
def k0_mult177 : BitVec 32 :=
  let c32_i32_218 : BitVec 32 := 32#32
  let c0_i32_61 : BitVec 32 := 0#32
  let v314 : BitVec 32 := Scalar.muli c32_i32_218 c0_i32_61
  let c22_i32_219 : BitVec 32 := 22#32
  let v315 : BitVec 32 := Scalar.addi v314 c22_i32_219
  let c512_i32_2303 : BitVec 32 := 512#32
  let v2844 : BitVec 32 := Scalar.muli v315 c512_i32_2303
  v2844
def k0_mult178 : BitVec 32 :=
  let c32_i32_215 : BitVec 32 := 32#32
  let c0_i32_61 : BitVec 32 := 0#32
  let v310 : BitVec 32 := Scalar.muli c32_i32_215 c0_i32_61
  let c21_i32_216 : BitVec 32 := 21#32
  let v311 : BitVec 32 := Scalar.addi v310 c21_i32_216
  let c0_i32_2318 : BitVec 32 := 0#32
  let v2860 : BitVec 32 := Scalar.maxsi v311 c0_i32_2318
  let c512_i32_2319 : BitVec 32 := 512#32
  let v2861 : BitVec 32 := Scalar.muli v2860 c512_i32_2319
  v2861
def k0_mult179 : BitVec 32 :=
  let c32_i32_220 : BitVec 32 := 32#32
  let c0_i32_61 : BitVec 32 := 0#32
  let v316 : BitVec 32 := Scalar.muli c32_i32_220 c0_i32_61
  let c22_i32_221 : BitVec 32 := 22#32
  let v317 : BitVec 32 := Scalar.addi v316 c22_i32_221
  let c512_i32_2326 : BitVec 32 := 512#32
  let v2872 : BitVec 32 := Scalar.muli v317 c512_i32_2326
  v2872
def k0_mult180 : BitVec 32 :=
  let c32_i32_217 : BitVec 32 := 32#32
  let c0_i32_61 : BitVec 32 := 0#32
  let v312 : BitVec 32 := Scalar.muli c32_i32_217 c0_i32_61
  let c22_i32 : BitVec 32 := 22#32
  let v313 : BitVec 32 := Scalar.addi v312 c22_i32
  let c0_i32_2341 : BitVec 32 := 0#32
  let v2888 : BitVec 32 := Scalar.maxsi v313 c0_i32_2341
  let c512_i32_2342 : BitVec 32 := 512#32
  let v2889 : BitVec 32 := Scalar.muli v2888 c512_i32_2342
  v2889
def k0_mult181 : BitVec 32 :=
  let c32_i32_222 : BitVec 32 := 32#32
  let c0_i32_61 : BitVec 32 := 0#32
  let v318 : BitVec 32 := Scalar.muli c32_i32_222 c0_i32_61
  let c22_i32_223 : BitVec 32 := 22#32
  let v319 : BitVec 32 := Scalar.addi v318 c22_i32_223
  let c512_i32_2349 : BitVec 32 := 512#32
  let v2900 : BitVec 32 := Scalar.muli v319 c512_i32_2349
  v2900
def k0_mult182 : BitVec 32 :=
  let c32_i32_218 : BitVec 32 := 32#32
  let c0_i32_61 : BitVec 32 := 0#32
  let v314 : BitVec 32 := Scalar.muli c32_i32_218 c0_i32_61
  let c22_i32_219 : BitVec 32 := 22#32
  let v315 : BitVec 32 := Scalar.addi v314 c22_i32_219
  let c0_i32_2364 : BitVec 32 := 0#32
  let v2916 : BitVec 32 := Scalar.maxsi v315 c0_i32_2364
  let c512_i32_2365 : BitVec 32 := 512#32
  let v2917 : BitVec 32 := Scalar.muli v2916 c512_i32_2365
  v2917
def k0_mult183 : BitVec 32 :=
  let c32_i32_224 : BitVec 32 := 32#32
  let c0_i32_61 : BitVec 32 := 0#32
  let v320 : BitVec 32 := Scalar.muli c32_i32_224 c0_i32_61
  let c23_i32 : BitVec 32 := 23#32
  let v321 : BitVec 32 := Scalar.addi v320 c23_i32
  let c512_i32_2372 : BitVec 32 := 512#32
  let v2928 : BitVec 32 := Scalar.muli v321 c512_i32_2372
  v2928
def k0_mult184 : BitVec 32 :=
  let c32_i32_220 : BitVec 32 := 32#32
  let c0_i32_61 : BitVec 32 := 0#32
  let v316 : BitVec 32 := Scalar.muli c32_i32_220 c0_i32_61
  let c22_i32_221 : BitVec 32 := 22#32
  let v317 : BitVec 32 := Scalar.addi v316 c22_i32_221
  let c0_i32_2387 : BitVec 32 := 0#32
  let v2944 : BitVec 32 := Scalar.maxsi v317 c0_i32_2387
  let c512_i32_2388 : BitVec 32 := 512#32
  let v2945 : BitVec 32 := Scalar.muli v2944 c512_i32_2388
  v2945
def k0_mult185 : BitVec 32 :=
  let c32_i32_225 : BitVec 32 := 32#32
  let c0_i32_61 : BitVec 32 := 0#32
  let v322 : BitVec 32 := Scalar.muli c32_i32_225 c0_i32_61
  let c23_i32_226 : BitVec 32 := 23#32
  let v323 : BitVec 32 := Scalar.addi v322 c23_i32_226
  let c512_i32_2395 : BitVec 32 := 512#32
  let v2956 : BitVec 32 := Scalar.muli v323 c512_i32_2395
  v2956
def k0_mult186 : BitVec 32 :=
  let c32_i32_222 : BitVec 32 := 32#32
  let c0_i32_61 : BitVec 32 := 0#32
  let v318 : BitVec 32 := Scalar.muli c32_i32_222 c0_i32_61
  let c22_i32_223 : BitVec 32 := 22#32
  let v319 : BitVec 32 := Scalar.addi v318 c22_i32_223
  let c0_i32_2410 : BitVec 32 := 0#32
  let v2972 : BitVec 32 := Scalar.maxsi v319 c0_i32_2410
  let c512_i32_2411 : BitVec 32 := 512#32
  let v2973 : BitVec 32 := Scalar.muli v2972 c512_i32_2411
  v2973
def k0_mult187 : BitVec 32 :=
  let c32_i32_227 : BitVec 32 := 32#32
  let c0_i32_61 : BitVec 32 := 0#32
  let v324 : BitVec 32 := Scalar.muli c32_i32_227 c0_i32_61
  let c23_i32_228 : BitVec 32 := 23#32
  let v325 : BitVec 32 := Scalar.addi v324 c23_i32_228
  let c512_i32_2418 : BitVec 32 := 512#32
  let v2984 : BitVec 32 := Scalar.muli v325 c512_i32_2418
  v2984
def k0_mult188 : BitVec 32 :=
  let c32_i32_224 : BitVec 32 := 32#32
  let c0_i32_61 : BitVec 32 := 0#32
  let v320 : BitVec 32 := Scalar.muli c32_i32_224 c0_i32_61
  let c23_i32 : BitVec 32 := 23#32
  let v321 : BitVec 32 := Scalar.addi v320 c23_i32
  let c0_i32_2433 : BitVec 32 := 0#32
  let v3000 : BitVec 32 := Scalar.maxsi v321 c0_i32_2433
  let c512_i32_2434 : BitVec 32 := 512#32
  let v3001 : BitVec 32 := Scalar.muli v3000 c512_i32_2434
  v3001
def k0_mult189 : BitVec 32 :=
  let c32_i32_229 : BitVec 32 := 32#32
  let c0_i32_61 : BitVec 32 := 0#32
  let v326 : BitVec 32 := Scalar.muli c32_i32_229 c0_i32_61
  let c23_i32_230 : BitVec 32 := 23#32
  let v327 : BitVec 32 := Scalar.addi v326 c23_i32_230
  let c512_i32_2441 : BitVec 32 := 512#32
  let v3012 : BitVec 32 := Scalar.muli v327 c512_i32_2441
  v3012
def k0_mult190 : BitVec 32 :=
  let c32_i32_225 : BitVec 32 := 32#32
  let c0_i32_61 : BitVec 32 := 0#32
  let v322 : BitVec 32 := Scalar.muli c32_i32_225 c0_i32_61
  let c23_i32_226 : BitVec 32 := 23#32
  let v323 : BitVec 32 := Scalar.addi v322 c23_i32_226
  let c0_i32_2456 : BitVec 32 := 0#32
  let v3028 : BitVec 32 := Scalar.maxsi v323 c0_i32_2456
  let c512_i32_2457 : BitVec 32 := 512#32
  let v3029 : BitVec 32 := Scalar.muli v3028 c512_i32_2457
  v3029
def k0_mult191 : BitVec 32 :=
  let c32_i32_231 : BitVec 32 := 32#32
  let c0_i32_61 : BitVec 32 := 0#32
  let v328 : BitVec 32 := Scalar.muli c32_i32_231 c0_i32_61
  let c24_i32 : BitVec 32 := 24#32
  let v329 : BitVec 32 := Scalar.addi v328 c24_i32
  let c512_i32_2464 : BitVec 32 := 512#32
  let v3040 : BitVec 32 := Scalar.muli v329 c512_i32_2464
  v3040
def k0_mult192 : BitVec 32 :=
  let c32_i32_227 : BitVec 32 := 32#32
  let c0_i32_61 : BitVec 32 := 0#32
  let v324 : BitVec 32 := Scalar.muli c32_i32_227 c0_i32_61
  let c23_i32_228 : BitVec 32 := 23#32
  let v325 : BitVec 32 := Scalar.addi v324 c23_i32_228
  let c0_i32_2479 : BitVec 32 := 0#32
  let v3056 : BitVec 32 := Scalar.maxsi v325 c0_i32_2479
  let c512_i32_2480 : BitVec 32 := 512#32
  let v3057 : BitVec 32 := Scalar.muli v3056 c512_i32_2480
  v3057
def k0_mult193 : BitVec 32 :=
  let c32_i32_232 : BitVec 32 := 32#32
  let c0_i32_61 : BitVec 32 := 0#32
  let v330 : BitVec 32 := Scalar.muli c32_i32_232 c0_i32_61
  let c24_i32_233 : BitVec 32 := 24#32
  let v331 : BitVec 32 := Scalar.addi v330 c24_i32_233
  let c512_i32_2487 : BitVec 32 := 512#32
  let v3068 : BitVec 32 := Scalar.muli v331 c512_i32_2487
  v3068
def k0_mult194 : BitVec 32 :=
  let c32_i32_229 : BitVec 32 := 32#32
  let c0_i32_61 : BitVec 32 := 0#32
  let v326 : BitVec 32 := Scalar.muli c32_i32_229 c0_i32_61
  let c23_i32_230 : BitVec 32 := 23#32
  let v327 : BitVec 32 := Scalar.addi v326 c23_i32_230
  let c0_i32_2502 : BitVec 32 := 0#32
  let v3084 : BitVec 32 := Scalar.maxsi v327 c0_i32_2502
  let c512_i32_2503 : BitVec 32 := 512#32
  let v3085 : BitVec 32 := Scalar.muli v3084 c512_i32_2503
  v3085
def k0_mult195 : BitVec 32 :=
  let c32_i32_234 : BitVec 32 := 32#32
  let c0_i32_61 : BitVec 32 := 0#32
  let v332 : BitVec 32 := Scalar.muli c32_i32_234 c0_i32_61
  let c24_i32_235 : BitVec 32 := 24#32
  let v333 : BitVec 32 := Scalar.addi v332 c24_i32_235
  let c512_i32_2510 : BitVec 32 := 512#32
  let v3096 : BitVec 32 := Scalar.muli v333 c512_i32_2510
  v3096
def k0_mult196 : BitVec 32 :=
  let c32_i32_231 : BitVec 32 := 32#32
  let c0_i32_61 : BitVec 32 := 0#32
  let v328 : BitVec 32 := Scalar.muli c32_i32_231 c0_i32_61
  let c24_i32 : BitVec 32 := 24#32
  let v329 : BitVec 32 := Scalar.addi v328 c24_i32
  let c0_i32_2525 : BitVec 32 := 0#32
  let v3112 : BitVec 32 := Scalar.maxsi v329 c0_i32_2525
  let c512_i32_2526 : BitVec 32 := 512#32
  let v3113 : BitVec 32 := Scalar.muli v3112 c512_i32_2526
  v3113
def k0_mult197 : BitVec 32 :=
  let c32_i32_236 : BitVec 32 := 32#32
  let c0_i32_61 : BitVec 32 := 0#32
  let v334 : BitVec 32 := Scalar.muli c32_i32_236 c0_i32_61
  let c24_i32_237 : BitVec 32 := 24#32
  let v335 : BitVec 32 := Scalar.addi v334 c24_i32_237
  let c512_i32_2533 : BitVec 32 := 512#32
  let v3124 : BitVec 32 := Scalar.muli v335 c512_i32_2533
  v3124
def k0_mult198 : BitVec 32 :=
  let c32_i32_232 : BitVec 32 := 32#32
  let c0_i32_61 : BitVec 32 := 0#32
  let v330 : BitVec 32 := Scalar.muli c32_i32_232 c0_i32_61
  let c24_i32_233 : BitVec 32 := 24#32
  let v331 : BitVec 32 := Scalar.addi v330 c24_i32_233
  let c0_i32_2548 : BitVec 32 := 0#32
  let v3140 : BitVec 32 := Scalar.maxsi v331 c0_i32_2548
  let c512_i32_2549 : BitVec 32 := 512#32
  let v3141 : BitVec 32 := Scalar.muli v3140 c512_i32_2549
  v3141
def k0_mult199 : BitVec 32 :=
  let c32_i32_238 : BitVec 32 := 32#32
  let c0_i32_61 : BitVec 32 := 0#32
  let v336 : BitVec 32 := Scalar.muli c32_i32_238 c0_i32_61
  let c25_i32 : BitVec 32 := 25#32
  let v337 : BitVec 32 := Scalar.addi v336 c25_i32
  let c512_i32_2556 : BitVec 32 := 512#32
  let v3152 : BitVec 32 := Scalar.muli v337 c512_i32_2556
  v3152
def k0_mult200 : BitVec 32 :=
  let c32_i32_234 : BitVec 32 := 32#32
  let c0_i32_61 : BitVec 32 := 0#32
  let v332 : BitVec 32 := Scalar.muli c32_i32_234 c0_i32_61
  let c24_i32_235 : BitVec 32 := 24#32
  let v333 : BitVec 32 := Scalar.addi v332 c24_i32_235
  let c0_i32_2571 : BitVec 32 := 0#32
  let v3168 : BitVec 32 := Scalar.maxsi v333 c0_i32_2571
  let c512_i32_2572 : BitVec 32 := 512#32
  let v3169 : BitVec 32 := Scalar.muli v3168 c512_i32_2572
  v3169
def k0_mult201 : BitVec 32 :=
  let c32_i32_239 : BitVec 32 := 32#32
  let c0_i32_61 : BitVec 32 := 0#32
  let v338 : BitVec 32 := Scalar.muli c32_i32_239 c0_i32_61
  let c25_i32_240 : BitVec 32 := 25#32
  let v339 : BitVec 32 := Scalar.addi v338 c25_i32_240
  let c512_i32_2579 : BitVec 32 := 512#32
  let v3180 : BitVec 32 := Scalar.muli v339 c512_i32_2579
  v3180
def k0_mult202 : BitVec 32 :=
  let c32_i32_236 : BitVec 32 := 32#32
  let c0_i32_61 : BitVec 32 := 0#32
  let v334 : BitVec 32 := Scalar.muli c32_i32_236 c0_i32_61
  let c24_i32_237 : BitVec 32 := 24#32
  let v335 : BitVec 32 := Scalar.addi v334 c24_i32_237
  let c0_i32_2594 : BitVec 32 := 0#32
  let v3196 : BitVec 32 := Scalar.maxsi v335 c0_i32_2594
  let c512_i32_2595 : BitVec 32 := 512#32
  let v3197 : BitVec 32 := Scalar.muli v3196 c512_i32_2595
  v3197
def k0_mult203 : BitVec 32 :=
  let c32_i32_241 : BitVec 32 := 32#32
  let c0_i32_61 : BitVec 32 := 0#32
  let v340 : BitVec 32 := Scalar.muli c32_i32_241 c0_i32_61
  let c25_i32_242 : BitVec 32 := 25#32
  let v341 : BitVec 32 := Scalar.addi v340 c25_i32_242
  let c512_i32_2602 : BitVec 32 := 512#32
  let v3208 : BitVec 32 := Scalar.muli v341 c512_i32_2602
  v3208
def k0_mult204 : BitVec 32 :=
  let c32_i32_238 : BitVec 32 := 32#32
  let c0_i32_61 : BitVec 32 := 0#32
  let v336 : BitVec 32 := Scalar.muli c32_i32_238 c0_i32_61
  let c25_i32 : BitVec 32 := 25#32
  let v337 : BitVec 32 := Scalar.addi v336 c25_i32
  let c0_i32_2617 : BitVec 32 := 0#32
  let v3224 : BitVec 32 := Scalar.maxsi v337 c0_i32_2617
  let c512_i32_2618 : BitVec 32 := 512#32
  let v3225 : BitVec 32 := Scalar.muli v3224 c512_i32_2618
  v3225
def k0_mult205 : BitVec 32 :=
  let c32_i32_243 : BitVec 32 := 32#32
  let c0_i32_61 : BitVec 32 := 0#32
  let v342 : BitVec 32 := Scalar.muli c32_i32_243 c0_i32_61
  let c25_i32_244 : BitVec 32 := 25#32
  let v343 : BitVec 32 := Scalar.addi v342 c25_i32_244
  let c512_i32_2625 : BitVec 32 := 512#32
  let v3236 : BitVec 32 := Scalar.muli v343 c512_i32_2625
  v3236
def k0_mult206 : BitVec 32 :=
  let c32_i32_239 : BitVec 32 := 32#32
  let c0_i32_61 : BitVec 32 := 0#32
  let v338 : BitVec 32 := Scalar.muli c32_i32_239 c0_i32_61
  let c25_i32_240 : BitVec 32 := 25#32
  let v339 : BitVec 32 := Scalar.addi v338 c25_i32_240
  let c0_i32_2640 : BitVec 32 := 0#32
  let v3252 : BitVec 32 := Scalar.maxsi v339 c0_i32_2640
  let c512_i32_2641 : BitVec 32 := 512#32
  let v3253 : BitVec 32 := Scalar.muli v3252 c512_i32_2641
  v3253
def k0_mult207 : BitVec 32 :=
  let c32_i32_245 : BitVec 32 := 32#32
  let c0_i32_61 : BitVec 32 := 0#32
  let v344 : BitVec 32 := Scalar.muli c32_i32_245 c0_i32_61
  let c26_i32 : BitVec 32 := 26#32
  let v345 : BitVec 32 := Scalar.addi v344 c26_i32
  let c512_i32_2648 : BitVec 32 := 512#32
  let v3264 : BitVec 32 := Scalar.muli v345 c512_i32_2648
  v3264
def k0_mult208 : BitVec 32 :=
  let c32_i32_241 : BitVec 32 := 32#32
  let c0_i32_61 : BitVec 32 := 0#32
  let v340 : BitVec 32 := Scalar.muli c32_i32_241 c0_i32_61
  let c25_i32_242 : BitVec 32 := 25#32
  let v341 : BitVec 32 := Scalar.addi v340 c25_i32_242
  let c0_i32_2663 : BitVec 32 := 0#32
  let v3280 : BitVec 32 := Scalar.maxsi v341 c0_i32_2663
  let c512_i32_2664 : BitVec 32 := 512#32
  let v3281 : BitVec 32 := Scalar.muli v3280 c512_i32_2664
  v3281
def k0_mult209 : BitVec 32 :=
  let c32_i32_246 : BitVec 32 := 32#32
  let c0_i32_61 : BitVec 32 := 0#32
  let v346 : BitVec 32 := Scalar.muli c32_i32_246 c0_i32_61
  let c26_i32_247 : BitVec 32 := 26#32
  let v347 : BitVec 32 := Scalar.addi v346 c26_i32_247
  let c512_i32_2671 : BitVec 32 := 512#32
  let v3292 : BitVec 32 := Scalar.muli v347 c512_i32_2671
  v3292
def k0_mult210 : BitVec 32 :=
  let c32_i32_243 : BitVec 32 := 32#32
  let c0_i32_61 : BitVec 32 := 0#32
  let v342 : BitVec 32 := Scalar.muli c32_i32_243 c0_i32_61
  let c25_i32_244 : BitVec 32 := 25#32
  let v343 : BitVec 32 := Scalar.addi v342 c25_i32_244
  let c0_i32_2686 : BitVec 32 := 0#32
  let v3308 : BitVec 32 := Scalar.maxsi v343 c0_i32_2686
  let c512_i32_2687 : BitVec 32 := 512#32
  let v3309 : BitVec 32 := Scalar.muli v3308 c512_i32_2687
  v3309
def k0_mult211 : BitVec 32 :=
  let c32_i32_248 : BitVec 32 := 32#32
  let c0_i32_61 : BitVec 32 := 0#32
  let v348 : BitVec 32 := Scalar.muli c32_i32_248 c0_i32_61
  let c26_i32_249 : BitVec 32 := 26#32
  let v349 : BitVec 32 := Scalar.addi v348 c26_i32_249
  let c512_i32_2694 : BitVec 32 := 512#32
  let v3320 : BitVec 32 := Scalar.muli v349 c512_i32_2694
  v3320
def k0_mult212 : BitVec 32 :=
  let c32_i32_245 : BitVec 32 := 32#32
  let c0_i32_61 : BitVec 32 := 0#32
  let v344 : BitVec 32 := Scalar.muli c32_i32_245 c0_i32_61
  let c26_i32 : BitVec 32 := 26#32
  let v345 : BitVec 32 := Scalar.addi v344 c26_i32
  let c0_i32_2709 : BitVec 32 := 0#32
  let v3336 : BitVec 32 := Scalar.maxsi v345 c0_i32_2709
  let c512_i32_2710 : BitVec 32 := 512#32
  let v3337 : BitVec 32 := Scalar.muli v3336 c512_i32_2710
  v3337
def k0_mult213 : BitVec 32 :=
  let c32_i32_250 : BitVec 32 := 32#32
  let c0_i32_61 : BitVec 32 := 0#32
  let v350 : BitVec 32 := Scalar.muli c32_i32_250 c0_i32_61
  let c26_i32_251 : BitVec 32 := 26#32
  let v351 : BitVec 32 := Scalar.addi v350 c26_i32_251
  let c512_i32_2717 : BitVec 32 := 512#32
  let v3348 : BitVec 32 := Scalar.muli v351 c512_i32_2717
  v3348
def k0_mult214 : BitVec 32 :=
  let c32_i32_246 : BitVec 32 := 32#32
  let c0_i32_61 : BitVec 32 := 0#32
  let v346 : BitVec 32 := Scalar.muli c32_i32_246 c0_i32_61
  let c26_i32_247 : BitVec 32 := 26#32
  let v347 : BitVec 32 := Scalar.addi v346 c26_i32_247
  let c0_i32_2732 : BitVec 32 := 0#32
  let v3364 : BitVec 32 := Scalar.maxsi v347 c0_i32_2732
  let c512_i32_2733 : BitVec 32 := 512#32
  let v3365 : BitVec 32 := Scalar.muli v3364 c512_i32_2733
  v3365
def k0_mult215 : BitVec 32 :=
  let c32_i32_252 : BitVec 32 := 32#32
  let c0_i32_61 : BitVec 32 := 0#32
  let v352 : BitVec 32 := Scalar.muli c32_i32_252 c0_i32_61
  let c27_i32 : BitVec 32 := 27#32
  let v353 : BitVec 32 := Scalar.addi v352 c27_i32
  let c512_i32_2740 : BitVec 32 := 512#32
  let v3376 : BitVec 32 := Scalar.muli v353 c512_i32_2740
  v3376
def k0_mult216 : BitVec 32 :=
  let c32_i32_248 : BitVec 32 := 32#32
  let c0_i32_61 : BitVec 32 := 0#32
  let v348 : BitVec 32 := Scalar.muli c32_i32_248 c0_i32_61
  let c26_i32_249 : BitVec 32 := 26#32
  let v349 : BitVec 32 := Scalar.addi v348 c26_i32_249
  let c0_i32_2755 : BitVec 32 := 0#32
  let v3392 : BitVec 32 := Scalar.maxsi v349 c0_i32_2755
  let c512_i32_2756 : BitVec 32 := 512#32
  let v3393 : BitVec 32 := Scalar.muli v3392 c512_i32_2756
  v3393
def k0_mult217 : BitVec 32 :=
  let c32_i32_253 : BitVec 32 := 32#32
  let c0_i32_61 : BitVec 32 := 0#32
  let v354 : BitVec 32 := Scalar.muli c32_i32_253 c0_i32_61
  let c27_i32_254 : BitVec 32 := 27#32
  let v355 : BitVec 32 := Scalar.addi v354 c27_i32_254
  let c512_i32_2763 : BitVec 32 := 512#32
  let v3404 : BitVec 32 := Scalar.muli v355 c512_i32_2763
  v3404
def k0_mult218 : BitVec 32 :=
  let c32_i32_250 : BitVec 32 := 32#32
  let c0_i32_61 : BitVec 32 := 0#32
  let v350 : BitVec 32 := Scalar.muli c32_i32_250 c0_i32_61
  let c26_i32_251 : BitVec 32 := 26#32
  let v351 : BitVec 32 := Scalar.addi v350 c26_i32_251
  let c0_i32_2778 : BitVec 32 := 0#32
  let v3420 : BitVec 32 := Scalar.maxsi v351 c0_i32_2778
  let c512_i32_2779 : BitVec 32 := 512#32
  let v3421 : BitVec 32 := Scalar.muli v3420 c512_i32_2779
  v3421
def k0_mult219 : BitVec 32 :=
  let c32_i32_255 : BitVec 32 := 32#32
  let c0_i32_61 : BitVec 32 := 0#32
  let v356 : BitVec 32 := Scalar.muli c32_i32_255 c0_i32_61
  let c27_i32_256 : BitVec 32 := 27#32
  let v357 : BitVec 32 := Scalar.addi v356 c27_i32_256
  let c512_i32_2786 : BitVec 32 := 512#32
  let v3432 : BitVec 32 := Scalar.muli v357 c512_i32_2786
  v3432
def k0_mult220 : BitVec 32 :=
  let c32_i32_252 : BitVec 32 := 32#32
  let c0_i32_61 : BitVec 32 := 0#32
  let v352 : BitVec 32 := Scalar.muli c32_i32_252 c0_i32_61
  let c27_i32 : BitVec 32 := 27#32
  let v353 : BitVec 32 := Scalar.addi v352 c27_i32
  let c0_i32_2801 : BitVec 32 := 0#32
  let v3448 : BitVec 32 := Scalar.maxsi v353 c0_i32_2801
  let c512_i32_2802 : BitVec 32 := 512#32
  let v3449 : BitVec 32 := Scalar.muli v3448 c512_i32_2802
  v3449
def k0_mult221 : BitVec 32 :=
  let c32_i32_257 : BitVec 32 := 32#32
  let c0_i32_61 : BitVec 32 := 0#32
  let v358 : BitVec 32 := Scalar.muli c32_i32_257 c0_i32_61
  let c27_i32_258 : BitVec 32 := 27#32
  let v359 : BitVec 32 := Scalar.addi v358 c27_i32_258
  let c512_i32_2809 : BitVec 32 := 512#32
  let v3460 : BitVec 32 := Scalar.muli v359 c512_i32_2809
  v3460
def k0_mult222 : BitVec 32 :=
  let c32_i32_253 : BitVec 32 := 32#32
  let c0_i32_61 : BitVec 32 := 0#32
  let v354 : BitVec 32 := Scalar.muli c32_i32_253 c0_i32_61
  let c27_i32_254 : BitVec 32 := 27#32
  let v355 : BitVec 32 := Scalar.addi v354 c27_i32_254
  let c0_i32_2824 : BitVec 32 := 0#32
  let v3476 : BitVec 32 := Scalar.maxsi v355 c0_i32_2824
  let c512_i32_2825 : BitVec 32 := 512#32
  let v3477 : BitVec 32 := Scalar.muli v3476 c512_i32_2825
  v3477
def k0_mult223 : BitVec 32 :=
  let c32_i32_259 : BitVec 32 := 32#32
  let c0_i32_61 : BitVec 32 := 0#32
  let v360 : BitVec 32 := Scalar.muli c32_i32_259 c0_i32_61
  let c28_i32 : BitVec 32 := 28#32
  let v361 : BitVec 32 := Scalar.addi v360 c28_i32
  let c512_i32_2832 : BitVec 32 := 512#32
  let v3488 : BitVec 32 := Scalar.muli v361 c512_i32_2832
  v3488
def k0_mult224 : BitVec 32 :=
  let c32_i32_255 : BitVec 32 := 32#32
  let c0_i32_61 : BitVec 32 := 0#32
  let v356 : BitVec 32 := Scalar.muli c32_i32_255 c0_i32_61
  let c27_i32_256 : BitVec 32 := 27#32
  let v357 : BitVec 32 := Scalar.addi v356 c27_i32_256
  let c0_i32_2847 : BitVec 32 := 0#32
  let v3504 : BitVec 32 := Scalar.maxsi v357 c0_i32_2847
  let c512_i32_2848 : BitVec 32 := 512#32
  let v3505 : BitVec 32 := Scalar.muli v3504 c512_i32_2848
  v3505
def k0_mult225 : BitVec 32 :=
  let c32_i32_260 : BitVec 32 := 32#32
  let c0_i32_61 : BitVec 32 := 0#32
  let v362 : BitVec 32 := Scalar.muli c32_i32_260 c0_i32_61
  let c28_i32_261 : BitVec 32 := 28#32
  let v363 : BitVec 32 := Scalar.addi v362 c28_i32_261
  let c512_i32_2855 : BitVec 32 := 512#32
  let v3516 : BitVec 32 := Scalar.muli v363 c512_i32_2855
  v3516
def k0_mult226 : BitVec 32 :=
  let c32_i32_257 : BitVec 32 := 32#32
  let c0_i32_61 : BitVec 32 := 0#32
  let v358 : BitVec 32 := Scalar.muli c32_i32_257 c0_i32_61
  let c27_i32_258 : BitVec 32 := 27#32
  let v359 : BitVec 32 := Scalar.addi v358 c27_i32_258
  let c0_i32_2870 : BitVec 32 := 0#32
  let v3532 : BitVec 32 := Scalar.maxsi v359 c0_i32_2870
  let c512_i32_2871 : BitVec 32 := 512#32
  let v3533 : BitVec 32 := Scalar.muli v3532 c512_i32_2871
  v3533
def k0_mult227 : BitVec 32 :=
  let c32_i32_262 : BitVec 32 := 32#32
  let c0_i32_61 : BitVec 32 := 0#32
  let v364 : BitVec 32 := Scalar.muli c32_i32_262 c0_i32_61
  let c28_i32_263 : BitVec 32 := 28#32
  let v365 : BitVec 32 := Scalar.addi v364 c28_i32_263
  let c512_i32_2878 : BitVec 32 := 512#32
  let v3544 : BitVec 32 := Scalar.muli v365 c512_i32_2878
  v3544
def k0_mult228 : BitVec 32 :=
  let c32_i32_259 : BitVec 32 := 32#32
  let c0_i32_61 : BitVec 32 := 0#32
  let v360 : BitVec 32 := Scalar.muli c32_i32_259 c0_i32_61
  let c28_i32 : BitVec 32 := 28#32
  let v361 : BitVec 32 := Scalar.addi v360 c28_i32
  let c0_i32_2893 : BitVec 32 := 0#32
  let v3560 : BitVec 32 := Scalar.maxsi v361 c0_i32_2893
  let c512_i32_2894 : BitVec 32 := 512#32
  let v3561 : BitVec 32 := Scalar.muli v3560 c512_i32_2894
  v3561
def k0_mult229 : BitVec 32 :=
  let c32_i32_264 : BitVec 32 := 32#32
  let c0_i32_61 : BitVec 32 := 0#32
  let v366 : BitVec 32 := Scalar.muli c32_i32_264 c0_i32_61
  let c28_i32_265 : BitVec 32 := 28#32
  let v367 : BitVec 32 := Scalar.addi v366 c28_i32_265
  let c512_i32_2901 : BitVec 32 := 512#32
  let v3572 : BitVec 32 := Scalar.muli v367 c512_i32_2901
  v3572
def k0_mult230 : BitVec 32 :=
  let c32_i32_260 : BitVec 32 := 32#32
  let c0_i32_61 : BitVec 32 := 0#32
  let v362 : BitVec 32 := Scalar.muli c32_i32_260 c0_i32_61
  let c28_i32_261 : BitVec 32 := 28#32
  let v363 : BitVec 32 := Scalar.addi v362 c28_i32_261
  let c0_i32_2916 : BitVec 32 := 0#32
  let v3588 : BitVec 32 := Scalar.maxsi v363 c0_i32_2916
  let c512_i32_2917 : BitVec 32 := 512#32
  let v3589 : BitVec 32 := Scalar.muli v3588 c512_i32_2917
  v3589
def k0_mult231 : BitVec 32 :=
  let c32_i32_266 : BitVec 32 := 32#32
  let c0_i32_61 : BitVec 32 := 0#32
  let v368 : BitVec 32 := Scalar.muli c32_i32_266 c0_i32_61
  let c29_i32 : BitVec 32 := 29#32
  let v369 : BitVec 32 := Scalar.addi v368 c29_i32
  let c512_i32_2924 : BitVec 32 := 512#32
  let v3600 : BitVec 32 := Scalar.muli v369 c512_i32_2924
  v3600
def k0_mult232 : BitVec 32 :=
  let c32_i32_262 : BitVec 32 := 32#32
  let c0_i32_61 : BitVec 32 := 0#32
  let v364 : BitVec 32 := Scalar.muli c32_i32_262 c0_i32_61
  let c28_i32_263 : BitVec 32 := 28#32
  let v365 : BitVec 32 := Scalar.addi v364 c28_i32_263
  let c0_i32_2939 : BitVec 32 := 0#32
  let v3616 : BitVec 32 := Scalar.maxsi v365 c0_i32_2939
  let c512_i32_2940 : BitVec 32 := 512#32
  let v3617 : BitVec 32 := Scalar.muli v3616 c512_i32_2940
  v3617
def k0_mult233 : BitVec 32 :=
  let c32_i32_267 : BitVec 32 := 32#32
  let c0_i32_61 : BitVec 32 := 0#32
  let v370 : BitVec 32 := Scalar.muli c32_i32_267 c0_i32_61
  let c29_i32_268 : BitVec 32 := 29#32
  let v371 : BitVec 32 := Scalar.addi v370 c29_i32_268
  let c512_i32_2947 : BitVec 32 := 512#32
  let v3628 : BitVec 32 := Scalar.muli v371 c512_i32_2947
  v3628
def k0_mult234 : BitVec 32 :=
  let c32_i32_264 : BitVec 32 := 32#32
  let c0_i32_61 : BitVec 32 := 0#32
  let v366 : BitVec 32 := Scalar.muli c32_i32_264 c0_i32_61
  let c28_i32_265 : BitVec 32 := 28#32
  let v367 : BitVec 32 := Scalar.addi v366 c28_i32_265
  let c0_i32_2962 : BitVec 32 := 0#32
  let v3644 : BitVec 32 := Scalar.maxsi v367 c0_i32_2962
  let c512_i32_2963 : BitVec 32 := 512#32
  let v3645 : BitVec 32 := Scalar.muli v3644 c512_i32_2963
  v3645
def k0_mult235 : BitVec 32 :=
  let c32_i32_269 : BitVec 32 := 32#32
  let c0_i32_61 : BitVec 32 := 0#32
  let v372 : BitVec 32 := Scalar.muli c32_i32_269 c0_i32_61
  let c29_i32_270 : BitVec 32 := 29#32
  let v373 : BitVec 32 := Scalar.addi v372 c29_i32_270
  let c512_i32_2970 : BitVec 32 := 512#32
  let v3656 : BitVec 32 := Scalar.muli v373 c512_i32_2970
  v3656
def k0_mult236 : BitVec 32 :=
  let c32_i32_266 : BitVec 32 := 32#32
  let c0_i32_61 : BitVec 32 := 0#32
  let v368 : BitVec 32 := Scalar.muli c32_i32_266 c0_i32_61
  let c29_i32 : BitVec 32 := 29#32
  let v369 : BitVec 32 := Scalar.addi v368 c29_i32
  let c0_i32_2985 : BitVec 32 := 0#32
  let v3672 : BitVec 32 := Scalar.maxsi v369 c0_i32_2985
  let c512_i32_2986 : BitVec 32 := 512#32
  let v3673 : BitVec 32 := Scalar.muli v3672 c512_i32_2986
  v3673
def k0_mult237 : BitVec 32 :=
  let c32_i32_271 : BitVec 32 := 32#32
  let c0_i32_61 : BitVec 32 := 0#32
  let v374 : BitVec 32 := Scalar.muli c32_i32_271 c0_i32_61
  let c29_i32_272 : BitVec 32 := 29#32
  let v375 : BitVec 32 := Scalar.addi v374 c29_i32_272
  let c512_i32_2993 : BitVec 32 := 512#32
  let v3684 : BitVec 32 := Scalar.muli v375 c512_i32_2993
  v3684
def k0_mult238 : BitVec 32 :=
  let c32_i32_267 : BitVec 32 := 32#32
  let c0_i32_61 : BitVec 32 := 0#32
  let v370 : BitVec 32 := Scalar.muli c32_i32_267 c0_i32_61
  let c29_i32_268 : BitVec 32 := 29#32
  let v371 : BitVec 32 := Scalar.addi v370 c29_i32_268
  let c0_i32_3008 : BitVec 32 := 0#32
  let v3700 : BitVec 32 := Scalar.maxsi v371 c0_i32_3008
  let c512_i32_3009 : BitVec 32 := 512#32
  let v3701 : BitVec 32 := Scalar.muli v3700 c512_i32_3009
  v3701
def k0_mult239 : BitVec 32 :=
  let c32_i32_273 : BitVec 32 := 32#32
  let c0_i32_61 : BitVec 32 := 0#32
  let v376 : BitVec 32 := Scalar.muli c32_i32_273 c0_i32_61
  let c30_i32 : BitVec 32 := 30#32
  let v377 : BitVec 32 := Scalar.addi v376 c30_i32
  let c512_i32_3016 : BitVec 32 := 512#32
  let v3712 : BitVec 32 := Scalar.muli v377 c512_i32_3016
  v3712
def k0_mult240 : BitVec 32 :=
  let c32_i32_269 : BitVec 32 := 32#32
  let c0_i32_61 : BitVec 32 := 0#32
  let v372 : BitVec 32 := Scalar.muli c32_i32_269 c0_i32_61
  let c29_i32_270 : BitVec 32 := 29#32
  let v373 : BitVec 32 := Scalar.addi v372 c29_i32_270
  let c0_i32_3031 : BitVec 32 := 0#32
  let v3728 : BitVec 32 := Scalar.maxsi v373 c0_i32_3031
  let c512_i32_3032 : BitVec 32 := 512#32
  let v3729 : BitVec 32 := Scalar.muli v3728 c512_i32_3032
  v3729
def k0_mult241 : BitVec 32 :=
  let c32_i32_274 : BitVec 32 := 32#32
  let c0_i32_61 : BitVec 32 := 0#32
  let v378 : BitVec 32 := Scalar.muli c32_i32_274 c0_i32_61
  let c30_i32_275 : BitVec 32 := 30#32
  let v379 : BitVec 32 := Scalar.addi v378 c30_i32_275
  let c512_i32_3039 : BitVec 32 := 512#32
  let v3740 : BitVec 32 := Scalar.muli v379 c512_i32_3039
  v3740
def k0_mult242 : BitVec 32 :=
  let c32_i32_271 : BitVec 32 := 32#32
  let c0_i32_61 : BitVec 32 := 0#32
  let v374 : BitVec 32 := Scalar.muli c32_i32_271 c0_i32_61
  let c29_i32_272 : BitVec 32 := 29#32
  let v375 : BitVec 32 := Scalar.addi v374 c29_i32_272
  let c0_i32_3054 : BitVec 32 := 0#32
  let v3756 : BitVec 32 := Scalar.maxsi v375 c0_i32_3054
  let c512_i32_3055 : BitVec 32 := 512#32
  let v3757 : BitVec 32 := Scalar.muli v3756 c512_i32_3055
  v3757
def k0_mult243 : BitVec 32 :=
  let c32_i32_276 : BitVec 32 := 32#32
  let c0_i32_61 : BitVec 32 := 0#32
  let v380 : BitVec 32 := Scalar.muli c32_i32_276 c0_i32_61
  let c30_i32_277 : BitVec 32 := 30#32
  let v381 : BitVec 32 := Scalar.addi v380 c30_i32_277
  let c512_i32_3062 : BitVec 32 := 512#32
  let v3768 : BitVec 32 := Scalar.muli v381 c512_i32_3062
  v3768
def k0_mult244 : BitVec 32 :=
  let c32_i32_273 : BitVec 32 := 32#32
  let c0_i32_61 : BitVec 32 := 0#32
  let v376 : BitVec 32 := Scalar.muli c32_i32_273 c0_i32_61
  let c30_i32 : BitVec 32 := 30#32
  let v377 : BitVec 32 := Scalar.addi v376 c30_i32
  let c0_i32_3077 : BitVec 32 := 0#32
  let v3784 : BitVec 32 := Scalar.maxsi v377 c0_i32_3077
  let c512_i32_3078 : BitVec 32 := 512#32
  let v3785 : BitVec 32 := Scalar.muli v3784 c512_i32_3078
  v3785
def k0_mult245 : BitVec 32 :=
  let c32_i32_278 : BitVec 32 := 32#32
  let c0_i32_61 : BitVec 32 := 0#32
  let v382 : BitVec 32 := Scalar.muli c32_i32_278 c0_i32_61
  let c30_i32_279 : BitVec 32 := 30#32
  let v383 : BitVec 32 := Scalar.addi v382 c30_i32_279
  let c512_i32_3085 : BitVec 32 := 512#32
  let v3796 : BitVec 32 := Scalar.muli v383 c512_i32_3085
  v3796
def k0_mult246 : BitVec 32 :=
  let c32_i32_274 : BitVec 32 := 32#32
  let c0_i32_61 : BitVec 32 := 0#32
  let v378 : BitVec 32 := Scalar.muli c32_i32_274 c0_i32_61
  let c30_i32_275 : BitVec 32 := 30#32
  let v379 : BitVec 32 := Scalar.addi v378 c30_i32_275
  let c0_i32_3100 : BitVec 32 := 0#32
  let v3812 : BitVec 32 := Scalar.maxsi v379 c0_i32_3100
  let c512_i32_3101 : BitVec 32 := 512#32
  let v3813 : BitVec 32 := Scalar.muli v3812 c512_i32_3101
  v3813
def k0_mult247 : BitVec 32 :=
  let c32_i32_280 : BitVec 32 := 32#32
  let c0_i32_61 : BitVec 32 := 0#32
  let v384 : BitVec 32 := Scalar.muli c32_i32_280 c0_i32_61
  let c31_i32 : BitVec 32 := 31#32
  let v385 : BitVec 32 := Scalar.addi v384 c31_i32
  let c512_i32_3108 : BitVec 32 := 512#32
  let v3824 : BitVec 32 := Scalar.muli v385 c512_i32_3108
  v3824
def k0_mult248 : BitVec 32 :=
  let c32_i32_276 : BitVec 32 := 32#32
  let c0_i32_61 : BitVec 32 := 0#32
  let v380 : BitVec 32 := Scalar.muli c32_i32_276 c0_i32_61
  let c30_i32_277 : BitVec 32 := 30#32
  let v381 : BitVec 32 := Scalar.addi v380 c30_i32_277
  let c0_i32_3123 : BitVec 32 := 0#32
  let v3840 : BitVec 32 := Scalar.maxsi v381 c0_i32_3123
  let c512_i32_3124 : BitVec 32 := 512#32
  let v3841 : BitVec 32 := Scalar.muli v3840 c512_i32_3124
  v3841
def k0_mult249 : BitVec 32 :=
  let c32_i32_281 : BitVec 32 := 32#32
  let c0_i32_61 : BitVec 32 := 0#32
  let v386 : BitVec 32 := Scalar.muli c32_i32_281 c0_i32_61
  let c31_i32_282 : BitVec 32 := 31#32
  let v387 : BitVec 32 := Scalar.addi v386 c31_i32_282
  let c512_i32_3131 : BitVec 32 := 512#32
  let v3852 : BitVec 32 := Scalar.muli v387 c512_i32_3131
  v3852
def k0_mult250 : BitVec 32 :=
  let c32_i32_278 : BitVec 32 := 32#32
  let c0_i32_61 : BitVec 32 := 0#32
  let v382 : BitVec 32 := Scalar.muli c32_i32_278 c0_i32_61
  let c30_i32_279 : BitVec 32 := 30#32
  let v383 : BitVec 32 := Scalar.addi v382 c30_i32_279
  let c0_i32_3146 : BitVec 32 := 0#32
  let v3868 : BitVec 32 := Scalar.maxsi v383 c0_i32_3146
  let c512_i32_3147 : BitVec 32 := 512#32
  let v3869 : BitVec 32 := Scalar.muli v3868 c512_i32_3147
  v3869
def k0_mult251 : BitVec 32 :=
  let c32_i32_283 : BitVec 32 := 32#32
  let c0_i32_61 : BitVec 32 := 0#32
  let v388 : BitVec 32 := Scalar.muli c32_i32_283 c0_i32_61
  let c31_i32_284 : BitVec 32 := 31#32
  let v389 : BitVec 32 := Scalar.addi v388 c31_i32_284
  let c512_i32_3154 : BitVec 32 := 512#32
  let v3880 : BitVec 32 := Scalar.muli v389 c512_i32_3154
  v3880
def k0_mult252 : BitVec 32 :=
  let c32_i32_280 : BitVec 32 := 32#32
  let c0_i32_61 : BitVec 32 := 0#32
  let v384 : BitVec 32 := Scalar.muli c32_i32_280 c0_i32_61
  let c31_i32 : BitVec 32 := 31#32
  let v385 : BitVec 32 := Scalar.addi v384 c31_i32
  let c0_i32_3169 : BitVec 32 := 0#32
  let v3896 : BitVec 32 := Scalar.maxsi v385 c0_i32_3169
  let c512_i32_3170 : BitVec 32 := 512#32
  let v3897 : BitVec 32 := Scalar.muli v3896 c512_i32_3170
  v3897
def k0_mult253 : BitVec 32 :=
  let c32_i32_285 : BitVec 32 := 32#32
  let c0_i32_61 : BitVec 32 := 0#32
  let v390 : BitVec 32 := Scalar.muli c32_i32_285 c0_i32_61
  let c31_i32_286 : BitVec 32 := 31#32
  let v391 : BitVec 32 := Scalar.addi v390 c31_i32_286
  let c512_i32_3177 : BitVec 32 := 512#32
  let v3908 : BitVec 32 := Scalar.muli v391 c512_i32_3177
  v3908
def k0_mult254 : BitVec 32 :=
  let c32_i32_281 : BitVec 32 := 32#32
  let c0_i32_61 : BitVec 32 := 0#32
  let v386 : BitVec 32 := Scalar.muli c32_i32_281 c0_i32_61
  let c31_i32_282 : BitVec 32 := 31#32
  let v387 : BitVec 32 := Scalar.addi v386 c31_i32_282
  let c0_i32_3192 : BitVec 32 := 0#32
  let v3924 : BitVec 32 := Scalar.maxsi v387 c0_i32_3192
  let c512_i32_3193 : BitVec 32 := 512#32
  let v3925 : BitVec 32 := Scalar.muli v3924 c512_i32_3193
  v3925
def k0_mult255 : BitVec 32 :=
  let c32_i32_283 : BitVec 32 := 32#32
  let c0_i32_61 : BitVec 32 := 0#32
  let v388 : BitVec 32 := Scalar.muli c32_i32_283 c0_i32_61
  let c31_i32_284 : BitVec 32 := 31#32
  let v389 : BitVec 32 := Scalar.addi v388 c31_i32_284
  let c0_i32_3207 : BitVec 32 := 0#32
  let v3944 : BitVec 32 := Scalar.maxsi v389 c0_i32_3207
  let c512_i32_3208 : BitVec 32 := 512#32
  let v3945 : BitVec 32 := Scalar.muli v3944 c512_i32_3208
  v3945
def k0_mult256 : BitVec 32 :=
  let c32_i32_285 : BitVec 32 := 32#32
  let c0_i32_61 : BitVec 32 := 0#32
  let v390 : BitVec 32 := Scalar.muli c32_i32_285 c0_i32_61
  let c31_i32_286 : BitVec 32 := 31#32
  let v391 : BitVec 32 := Scalar.addi v390 c31_i32_286
  let c0_i32_3222 : BitVec 32 := 0#32
  let v3964 : BitVec 32 := Scalar.maxsi v391 c0_i32_3222
  let c512_i32_3223 : BitVec 32 := 512#32
  let v3965 : BitVec 32 := Scalar.muli v3964 c512_i32_3223
  v3965
@[reducible] def k0_t1_loop : Scf.Loop 32 :=
  let c0_i32_80 : BitVec 32 := 0#32
  let c8_i32 : BitVec 32 := 8#32
  let v152 : BitVec 32 := Scalar.addi c0_i32_80 c8_i32
  let c1_i32 : BitVec 32 := 1#32
  ⟨c0_i32_80, v152, c1_i32⟩
def k0_mult257 (k0_t1 : Fin k0_t1_loop.trips) : BitVec 32 :=
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let c0_i32_160 : BitVec 32 := 0#32
  let v233 : BitVec 32 := Scalar.addi v232 c0_i32_160
  let c512_i32 : BitVec 32 := 512#32
  let v234 : BitVec 32 := Scalar.muli v233 c512_i32
  v234
def k0_off4 (k0_t1 : Fin k0_t1_loop.trips) (c0_i32_160 : BitVec 32) : Fin 4 → Nat :=
  let c0_161 : Index := 0#32
  let c0_162 : Index := 0#32
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let v233 : BitVec 32 := Scalar.addi v232 c0_i32_160
  let c512_i32 : BitVec 32 := 512#32
  let v234 : BitVec 32 := Scalar.muli v233 c512_i32
  let v235 : BitVec 32 := v234
  let v236 : Index := Scalar.indexCast v235
  let c0_163 : Index := 0#32
  ![0, 0, v236.toNat, 0]
def k0_mult258 (k0_t1 : Fin k0_t1_loop.trips) : BitVec 32 :=
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let c0_i32_160 : BitVec 32 := 0#32
  let v233 : BitVec 32 := Scalar.addi v232 c0_i32_160
  let c512_i32_187 : BitVec 32 := 512#32
  let v261 : BitVec 32 := Scalar.muli v233 c512_i32_187
  v261
def k0_mult259 (k0_t1 : Fin k0_t1_loop.trips) : BitVec 32 :=
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let c0_i32_160 : BitVec 32 := 0#32
  let v233 : BitVec 32 := Scalar.addi v232 c0_i32_160
  let c512_i32_214 : BitVec 32 := 512#32
  let v288 : BitVec 32 := Scalar.muli v233 c512_i32_214
  v288
def k0_mult260 (k0_t1 : Fin k0_t1_loop.trips) : BitVec 32 :=
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let c0_i32_160 : BitVec 32 := 0#32
  let v233 : BitVec 32 := Scalar.addi v232 c0_i32_160
  let c512_i32_241 : BitVec 32 := 512#32
  let v315 : BitVec 32 := Scalar.muli v233 c512_i32_241
  v315
def k0_mult261 (k0_t1 : Fin k0_t1_loop.trips) : BitVec 32 :=
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let c0_i32_160 : BitVec 32 := 0#32
  let v233 : BitVec 32 := Scalar.addi v232 c0_i32_160
  let c1_i32_268 : BitVec 32 := 1#32
  let v342 : BitVec 32 := Scalar.subi v233 c1_i32_268
  let c0_i32_269 : BitVec 32 := 0#32
  let v343 : BitVec 32 := Scalar.maxsi v342 c0_i32_269
  let c512_i32_270 : BitVec 32 := 512#32
  let v344 : BitVec 32 := Scalar.muli v343 c512_i32_270
  v344
def k0_off5 (k0_t1 : Fin k0_t1_loop.trips) (c0_i32_160 : BitVec 32) : Fin 3 → Nat :=
  let c0_271 : Index := 0#32
  let c0_272 : Index := 0#32
  let c4_i32 : BitVec 32 := 4#32
  let c0_i32_80 : BitVec 32 := 0#32
  let c1_i32 : BitVec 32 := 1#32
  let arg13 : BitVec 32 := Scf.iv c0_i32_80 c1_i32 k0_t1
  let v232 : BitVec 32 := Scalar.muli c4_i32 arg13
  let v233 : BitVec 32 := Scalar.addi v232 c0_i32_160
  let c1_i32_268 : BitVec 32 := 1#32
  let v342 : BitVec 32 := Scalar.subi v233 c1_i32_268
  let c0_i32_269 : BitVec 32 := 0#32
  let v343 : BitVec 32 := Scalar.maxsi v342 c0_i32_269
  let c512_i32_270 : BitVec 32 := 512#32
  let v344 : BitVec 32 := Scalar.muli v343 c512_i32_270
  let v345 : BitVec 32 := v344
  let v346 : Index := Scalar.indexCast v345
  ![0, 0, v346.toNat]
def k0_mult262 (k0_t1 : Fin k0_t1_loop.trips) : BitVec 32 :=
  let c4_i32_349 : BitVec 32 := 4#32
  let c0_i32_80 : BitVec 32 := 0#32
  let c1_i32 : BitVec 32 := 1#32
  let arg13 : BitVec 32 := Scf.iv c0_i32_80 c1_i32 k0_t1
  let v426 : BitVec 32 := Scalar.muli c4_i32_349 arg13
  let c1_i32_350 : BitVec 32 := 1#32
  let v427 : BitVec 32 := Scalar.addi v426 c1_i32_350
  let c512_i32_351 : BitVec 32 := 512#32
  let v428 : BitVec 32 := Scalar.muli v427 c512_i32_351
  v428
def k0_mult263 (k0_t1 : Fin k0_t1_loop.trips) : BitVec 32 :=
  let c4_i32_349 : BitVec 32 := 4#32
  let c0_i32_80 : BitVec 32 := 0#32
  let c1_i32 : BitVec 32 := 1#32
  let arg13 : BitVec 32 := Scf.iv c0_i32_80 c1_i32 k0_t1
  let v426 : BitVec 32 := Scalar.muli c4_i32_349 arg13
  let c1_i32_350 : BitVec 32 := 1#32
  let v427 : BitVec 32 := Scalar.addi v426 c1_i32_350
  let c512_i32_378 : BitVec 32 := 512#32
  let v455 : BitVec 32 := Scalar.muli v427 c512_i32_378
  v455
def k0_mult264 (k0_t1 : Fin k0_t1_loop.trips) : BitVec 32 :=
  let c4_i32_349 : BitVec 32 := 4#32
  let c0_i32_80 : BitVec 32 := 0#32
  let c1_i32 : BitVec 32 := 1#32
  let arg13 : BitVec 32 := Scf.iv c0_i32_80 c1_i32 k0_t1
  let v426 : BitVec 32 := Scalar.muli c4_i32_349 arg13
  let c1_i32_350 : BitVec 32 := 1#32
  let v427 : BitVec 32 := Scalar.addi v426 c1_i32_350
  let c512_i32_405 : BitVec 32 := 512#32
  let v482 : BitVec 32 := Scalar.muli v427 c512_i32_405
  v482
def k0_mult265 (k0_t1 : Fin k0_t1_loop.trips) : BitVec 32 :=
  let c4_i32_349 : BitVec 32 := 4#32
  let c0_i32_80 : BitVec 32 := 0#32
  let c1_i32 : BitVec 32 := 1#32
  let arg13 : BitVec 32 := Scf.iv c0_i32_80 c1_i32 k0_t1
  let v426 : BitVec 32 := Scalar.muli c4_i32_349 arg13
  let c1_i32_350 : BitVec 32 := 1#32
  let v427 : BitVec 32 := Scalar.addi v426 c1_i32_350
  let c512_i32_432 : BitVec 32 := 512#32
  let v509 : BitVec 32 := Scalar.muli v427 c512_i32_432
  v509
def k0_mult266 (k0_t1 : Fin k0_t1_loop.trips) : BitVec 32 :=
  let c4_i32_349 : BitVec 32 := 4#32
  let c0_i32_80 : BitVec 32 := 0#32
  let c1_i32 : BitVec 32 := 1#32
  let arg13 : BitVec 32 := Scf.iv c0_i32_80 c1_i32 k0_t1
  let v426 : BitVec 32 := Scalar.muli c4_i32_349 arg13
  let c1_i32_350 : BitVec 32 := 1#32
  let v427 : BitVec 32 := Scalar.addi v426 c1_i32_350
  let c1_i32_459 : BitVec 32 := 1#32
  let v536 : BitVec 32 := Scalar.subi v427 c1_i32_459
  let c0_i32_460 : BitVec 32 := 0#32
  let v537 : BitVec 32 := Scalar.maxsi v536 c0_i32_460
  let c512_i32_461 : BitVec 32 := 512#32
  let v538 : BitVec 32 := Scalar.muli v537 c512_i32_461
  v538
def k0_mult267 (k0_t1 : Fin k0_t1_loop.trips) : BitVec 32 :=
  let c4_i32_540 : BitVec 32 := 4#32
  let c0_i32_80 : BitVec 32 := 0#32
  let c1_i32 : BitVec 32 := 1#32
  let arg13 : BitVec 32 := Scf.iv c0_i32_80 c1_i32 k0_t1
  let v620 : BitVec 32 := Scalar.muli c4_i32_540 arg13
  let c2_i32_541 : BitVec 32 := 2#32
  let v621 : BitVec 32 := Scalar.addi v620 c2_i32_541
  let c512_i32_542 : BitVec 32 := 512#32
  let v622 : BitVec 32 := Scalar.muli v621 c512_i32_542
  v622
def k0_mult268 (k0_t1 : Fin k0_t1_loop.trips) : BitVec 32 :=
  let c4_i32_540 : BitVec 32 := 4#32
  let c0_i32_80 : BitVec 32 := 0#32
  let c1_i32 : BitVec 32 := 1#32
  let arg13 : BitVec 32 := Scf.iv c0_i32_80 c1_i32 k0_t1
  let v620 : BitVec 32 := Scalar.muli c4_i32_540 arg13
  let c2_i32_541 : BitVec 32 := 2#32
  let v621 : BitVec 32 := Scalar.addi v620 c2_i32_541
  let c512_i32_569 : BitVec 32 := 512#32
  let v649 : BitVec 32 := Scalar.muli v621 c512_i32_569
  v649
def k0_mult269 (k0_t1 : Fin k0_t1_loop.trips) : BitVec 32 :=
  let c4_i32_540 : BitVec 32 := 4#32
  let c0_i32_80 : BitVec 32 := 0#32
  let c1_i32 : BitVec 32 := 1#32
  let arg13 : BitVec 32 := Scf.iv c0_i32_80 c1_i32 k0_t1
  let v620 : BitVec 32 := Scalar.muli c4_i32_540 arg13
  let c2_i32_541 : BitVec 32 := 2#32
  let v621 : BitVec 32 := Scalar.addi v620 c2_i32_541
  let c512_i32_596 : BitVec 32 := 512#32
  let v676 : BitVec 32 := Scalar.muli v621 c512_i32_596
  v676
def k0_mult270 (k0_t1 : Fin k0_t1_loop.trips) : BitVec 32 :=
  let c4_i32_540 : BitVec 32 := 4#32
  let c0_i32_80 : BitVec 32 := 0#32
  let c1_i32 : BitVec 32 := 1#32
  let arg13 : BitVec 32 := Scf.iv c0_i32_80 c1_i32 k0_t1
  let v620 : BitVec 32 := Scalar.muli c4_i32_540 arg13
  let c2_i32_541 : BitVec 32 := 2#32
  let v621 : BitVec 32 := Scalar.addi v620 c2_i32_541
  let c512_i32_623 : BitVec 32 := 512#32
  let v703 : BitVec 32 := Scalar.muli v621 c512_i32_623
  v703
def k0_mult271 (k0_t1 : Fin k0_t1_loop.trips) : BitVec 32 :=
  let c4_i32_540 : BitVec 32 := 4#32
  let c0_i32_80 : BitVec 32 := 0#32
  let c1_i32 : BitVec 32 := 1#32
  let arg13 : BitVec 32 := Scf.iv c0_i32_80 c1_i32 k0_t1
  let v620 : BitVec 32 := Scalar.muli c4_i32_540 arg13
  let c2_i32_541 : BitVec 32 := 2#32
  let v621 : BitVec 32 := Scalar.addi v620 c2_i32_541
  let c1_i32_650 : BitVec 32 := 1#32
  let v730 : BitVec 32 := Scalar.subi v621 c1_i32_650
  let c0_i32_651 : BitVec 32 := 0#32
  let v731 : BitVec 32 := Scalar.maxsi v730 c0_i32_651
  let c512_i32_652 : BitVec 32 := 512#32
  let v732 : BitVec 32 := Scalar.muli v731 c512_i32_652
  v732
def k0_mult272 (k0_t1 : Fin k0_t1_loop.trips) : BitVec 32 :=
  let c4_i32_731 : BitVec 32 := 4#32
  let c0_i32_80 : BitVec 32 := 0#32
  let c1_i32 : BitVec 32 := 1#32
  let arg13 : BitVec 32 := Scf.iv c0_i32_80 c1_i32 k0_t1
  let v814 : BitVec 32 := Scalar.muli c4_i32_731 arg13
  let c3_i32 : BitVec 32 := 3#32
  let v815 : BitVec 32 := Scalar.addi v814 c3_i32
  let c512_i32_732 : BitVec 32 := 512#32
  let v816 : BitVec 32 := Scalar.muli v815 c512_i32_732
  v816
def k0_mult273 (k0_t1 : Fin k0_t1_loop.trips) : BitVec 32 :=
  let c4_i32_731 : BitVec 32 := 4#32
  let c0_i32_80 : BitVec 32 := 0#32
  let c1_i32 : BitVec 32 := 1#32
  let arg13 : BitVec 32 := Scf.iv c0_i32_80 c1_i32 k0_t1
  let v814 : BitVec 32 := Scalar.muli c4_i32_731 arg13
  let c3_i32 : BitVec 32 := 3#32
  let v815 : BitVec 32 := Scalar.addi v814 c3_i32
  let c512_i32_759 : BitVec 32 := 512#32
  let v843 : BitVec 32 := Scalar.muli v815 c512_i32_759
  v843
def k0_mult274 (k0_t1 : Fin k0_t1_loop.trips) : BitVec 32 :=
  let c4_i32_731 : BitVec 32 := 4#32
  let c0_i32_80 : BitVec 32 := 0#32
  let c1_i32 : BitVec 32 := 1#32
  let arg13 : BitVec 32 := Scf.iv c0_i32_80 c1_i32 k0_t1
  let v814 : BitVec 32 := Scalar.muli c4_i32_731 arg13
  let c3_i32 : BitVec 32 := 3#32
  let v815 : BitVec 32 := Scalar.addi v814 c3_i32
  let c512_i32_786 : BitVec 32 := 512#32
  let v870 : BitVec 32 := Scalar.muli v815 c512_i32_786
  v870
def k0_mult275 (k0_t1 : Fin k0_t1_loop.trips) : BitVec 32 :=
  let c4_i32_731 : BitVec 32 := 4#32
  let c0_i32_80 : BitVec 32 := 0#32
  let c1_i32 : BitVec 32 := 1#32
  let arg13 : BitVec 32 := Scf.iv c0_i32_80 c1_i32 k0_t1
  let v814 : BitVec 32 := Scalar.muli c4_i32_731 arg13
  let c3_i32 : BitVec 32 := 3#32
  let v815 : BitVec 32 := Scalar.addi v814 c3_i32
  let c512_i32_813 : BitVec 32 := 512#32
  let v897 : BitVec 32 := Scalar.muli v815 c512_i32_813
  v897
def k0_mult276 (k0_t1 : Fin k0_t1_loop.trips) : BitVec 32 :=
  let c4_i32_731 : BitVec 32 := 4#32
  let c0_i32_80 : BitVec 32 := 0#32
  let c1_i32 : BitVec 32 := 1#32
  let arg13 : BitVec 32 := Scf.iv c0_i32_80 c1_i32 k0_t1
  let v814 : BitVec 32 := Scalar.muli c4_i32_731 arg13
  let c3_i32 : BitVec 32 := 3#32
  let v815 : BitVec 32 := Scalar.addi v814 c3_i32
  let c1_i32_840 : BitVec 32 := 1#32
  let v924 : BitVec 32 := Scalar.subi v815 c1_i32_840
  let c0_i32_841 : BitVec 32 := 0#32
  let v925 : BitVec 32 := Scalar.maxsi v924 c0_i32_841
  let c512_i32_842 : BitVec 32 := 512#32
  let v926 : BitVec 32 := Scalar.muli v925 c512_i32_842
  v926
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, v0.toNat, c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1x16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "huge" => some ⊤
  | "mask" => some ⊥
  | _ => none
-- ==== ReferenceIdeal.lean ====
abbrev S2x16384x8x64 : Shape := ⟨4, ![2, 16384, 8, 64]⟩
abbrev S2x16384x2x64 : Shape := ⟨4, ![2, 16384, 2, 64]⟩
abbrev S2x16384x2x4x64 : Shape := ⟨5, ![2, 16384, 2, 4, 64]⟩
abbrev S_ : Shape := ⟨0, ![]⟩
abbrev S2x2x16384x16384x4 : Shape := ⟨5, ![2, 2, 16384, 16384, 4]⟩
abbrev S2x2x4x16384x16384 : Shape := ⟨5, ![2, 2, 4, 16384, 16384]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x512 : Shape := ⟨3, ![2, 16384, 512]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x2x64, .f32⟩
  | .hbm, ⟨2, _⟩ => ⟨S2x16384x2x64, .f32⟩
  | .hbm, ⟨3, _⟩ => ⟨S2x16384x2x4x64, .f32⟩
  | .hbm, ⟨4, _⟩ => ⟨S_, .f32⟩
  | .hbm, ⟨5, _⟩ => ⟨S2x16384x2x4x64, .f32⟩
  | .hbm, ⟨6, _⟩ => ⟨S2x16384x2x4x64, .f32⟩
  | .hbm, ⟨7, _⟩ => ⟨S2x2x16384x16384x4, .f32⟩
  | .hbm, ⟨8, _⟩ => ⟨S2x2x4x16384x16384, .f32⟩
  | .hbm, ⟨9, _⟩ => ⟨S_, .f32⟩
  | .hbm, ⟨10, _⟩ => ⟨S2x2x4x16384, .f32⟩
  | .hbm, ⟨11, _⟩ => ⟨S_, .f32⟩
  | .hbm, ⟨12, _⟩ => ⟨S2x2x4x16384, .f32⟩
  | .hbm, ⟨13, _⟩ => ⟨S2x2x4x16384, .f32⟩
  | .hbm, ⟨14, _⟩ => ⟨S2x2x4x16384x1, .f32⟩
  | .hbm, ⟨15, _⟩ => ⟨S2x2x4x16384x16384, .f32⟩
  | .hbm, ⟨16, _⟩ => ⟨S2x2x4x16384x16384, .f32⟩
  | .hbm, ⟨17, _⟩ => ⟨S2x2x4x16384x16384, .f32⟩
  | .hbm, ⟨18, _⟩ => ⟨S_, .f32⟩
  | .hbm, ⟨19, _⟩ => ⟨S2x2x4x16384, .f32⟩
  | .hbm, ⟨20, _⟩ => ⟨S2x2x4x16384x1, .f32⟩
  | .hbm, ⟨21, _⟩ => ⟨S2x2x4x16384x16384, .f32⟩
  | .hbm, ⟨22, _⟩ => ⟨S2x2x4x16384x16384, .f32⟩
  | .hbm, ⟨23, _⟩ => ⟨S2x2x64x4x16384, .f32⟩
  | .hbm, ⟨24, _⟩ => ⟨S2x16384x2x4x64, .f32⟩
  | .hbm, ⟨25, _⟩ => ⟨S2x16384x512, .f32⟩
  | .hbm, ⟨26, _⟩ => ⟨S2x16384x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x5632, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S_, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x1024, .f32⟩
  | .hbm, ⟨35, _⟩ => ⟨S_, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x5632, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S2x16384x512 : Shape := ⟨3, ![2, 16384, 512]⟩
abbrev S1024x5632 : Shape := ⟨2, ![1024, 5632]⟩
abbrev S3x512x1024 : Shape := ⟨3, ![3, 512, 1024]⟩
abbrev S1024x1024 : Shape := ⟨2, ![1024, 1024]⟩
abbrev S1024x3072 : Shape := ⟨2, ![1024, 3072]⟩
abbrev S1024x3x1024 : Shape := ⟨3, ![1024, 3, 1024]⟩
abbrev S3x1024x1024 : Shape := ⟨3, ![3, 1024, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S1024x5632, .f32⟩
  | .hbm, ⟨6, _⟩ => ⟨S3x512x1024, .f32⟩
  | .hbm, ⟨7, _⟩ => ⟨S1024x1024, .f32⟩
  | .hbm, ⟨8, _⟩ => ⟨S1024x3072, .f32⟩
  | .hbm, ⟨9, _⟩ => ⟨S1024x3x1024, .f32⟩
  | .hbm, ⟨10, _⟩ => ⟨S3x1024x1024, .f32⟩
  | .hbm, ⟨11, _⟩ => ⟨S3x1024x1024, .bf16⟩
  | .hbm, ⟨12, _⟩ => ⟨S3x512x1024, .bf16⟩
  | .hbm, ⟨13, _⟩ => ⟨S1024x1024, .bf16⟩
  | .hbm, ⟨14, _⟩ => ⟨S1x1024, .f32⟩
  | .hbm, ⟨15, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S3x1024x1024, .bf16⟩
  | .local _ .vmem, ⟨10, _⟩ => ⟨S3x512x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x16384x1024 : Shape := ⟨3, ![2, 16384, 1024]⟩
abbrev S1024 : Shape := ⟨1, ![1024]⟩
abbrev S2x16384x512 : Shape := ⟨3, ![2, 16384, 512]⟩
abbrev S1024x5632 : Shape := ⟨2, ![1024, 5632]⟩
abbrev S3x512x1024 : Shape := ⟨3, ![3, 512, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x3072 : Shape := ⟨3, ![2, 16384, 3072]⟩
abbrev S2x16384x1x512 : Shape := ⟨4, ![2, 16384, 1, 512]⟩
abbrev S2x16384x3x512 : Shape := ⟨4, ![2, 16384, 3, 512]⟩
abbrev S3x1024x2x16384 : Shape := ⟨4, ![3, 1024, 2, 16384]⟩
abbrev S2x16384x3x1024 : Shape := ⟨4, ![2, 16384, 3, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x512, .bf16⟩
  | .hbm, ⟨3, _⟩ => ⟨S2x16384x512, .bf16⟩
  | .hbm, ⟨4, _⟩ => ⟨S2x16384x512, .bf16⟩
  | .hbm, ⟨5, _⟩ => ⟨S1024x5632, .f32⟩
  | .hbm, ⟨6, _⟩ => ⟨S3x512x1024, .f32⟩
  | .hbm, ⟨7, _⟩ => ⟨S1024x1024, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S2x16384x5632, .f32⟩
  | .hbm, ⟨25, _⟩ => ⟨S2x16384x3072, .f32⟩
  | .hbm, ⟨26, _⟩ => ⟨S2x16384x1x512, .bf16⟩
  | .hbm, ⟨27, _⟩ => ⟨S2x16384x1x512, .bf16⟩
  | .hbm, ⟨28, _⟩ => ⟨S2x16384x1x512, .bf16⟩
  | .hbm, ⟨29, _⟩ => ⟨S2x16384x3x512, .bf16⟩
  | .hbm, ⟨30, _⟩ => ⟨S2x16384x3x512, .f32⟩
  | .hbm, ⟨31, _⟩ => ⟨S3x1024x2x16384, .f32⟩
  | .hbm, ⟨32, _⟩ => ⟨S2x16384x3x1024, .f32⟩
  | .hbm, ⟨33, _⟩ => ⟨S2x16384x3x1024, .f32⟩
  | .hbm, ⟨34, _⟩ => ⟨S2x16384x3x1024, .f32⟩
  | .hbm, ⟨35, _⟩ => ⟨S2x16384x3x1024, .f32⟩
  | .hbm, ⟨36, _⟩ => ⟨S_, .f32⟩
  | .hbm, ⟨37, _⟩ => ⟨S2x16384x3x1024, .f32⟩
  | .hbm, ⟨38, _⟩ => ⟨S2x16384x3x1024, .f32⟩
  | .hbm, ⟨39, _⟩ => ⟨S_, .f32⟩
  | .hbm, ⟨40, _⟩ => ⟨S2x16384x3x1024, .f32⟩
  | .hbm, ⟨41, _⟩ => ⟨S2x16384x3x1024, .f32⟩
  | .hbm, ⟨42, _⟩ => ⟨S2x16384x3x1024, .f32⟩
  | .hbm, ⟨43, _⟩ => ⟨S_, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x5632 : Shape := ⟨2, ![1024, 5632]⟩
abbrev S64 : Shape := ⟨1, ![64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S64x16384 : Shape := ⟨2, ![64, 16384]⟩
abbrev S1024x2560 : Shape := ⟨2, ![1024, 2560]⟩
abbrev S2560x1024 : Shape := ⟨2, ![2560, 1024]⟩
abbrev S1x1024 : Shape := ⟨2, ![1, 1024]⟩
abbrev S64x1 : Shape := ⟨2, ![64, 1]⟩
abbrev S64x512 : Shape := ⟨2, ![64, 512]⟩
abbrev S2x2560x16384 : Shape := ⟨3, ![2, 2560, 16384]⟩
abbrev S1x512x1024 : Shape := ⟨3, ![1, 512, 1024]⟩
abbrev S1x2560x512 : Shape := ⟨3, ![1, 2560, 512]⟩
abbrev S512x1024 : Shape := ⟨2, ![512, 1024]⟩
abbrev S512 : Shape := ⟨1, ![512]⟩
abbrev S512x1 : Shape := ⟨2, ![512, 1]⟩
abbrev S2560x512 : Shape := ⟨2, ![2560, 512]⟩
abbrev S1x512 : Shape := ⟨2, ![1, 512]⟩
abbrev S16x512 : Shape := ⟨2, ![16, 512]⟩
abbrev S1x64x512 : Shape := ⟨3, ![1, 64, 512]⟩
abbrev S128x512 : Shape := ⟨2, ![128, 512]⟩
abbrev S1x128x512 : Shape := ⟨3, ![1, 128, 512]⟩
abbrev S512x512 : Shape := ⟨2, ![512, 512]⟩
abbrev S1x512x512 : Shape := ⟨3, ![1, 512, 512]⟩
abbrev S256x512 : Shape := ⟨2, ![256, 512]⟩
abbrev S1x256x512 : Shape := ⟨3, ![1, 256, 512]⟩

abbrev nBuf : Space → Nat
  | .hbm => 53
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S64, .f32⟩
  | .hbm, ⟨4, _⟩ => ⟨S64, .f32⟩
  | .hbm, ⟨5, _⟩ => ⟨S256, .i32⟩
  | .hbm, ⟨6, _⟩ => ⟨S256x64, .i32⟩
  | .hbm, ⟨7, _⟩ => ⟨S16384, .i32⟩
  | .hbm, ⟨8, _⟩ => ⟨S16384, .f32⟩
  | .hbm, ⟨9, _⟩ => ⟨S64, .i32⟩
  | .hbm, ⟨10, _⟩ => ⟨S1x64, .i32⟩
  | .hbm, ⟨11, _⟩ => ⟨S256x64, .i32⟩
  | .hbm, ⟨12, _⟩ => ⟨S16384, .i32⟩
  | .hbm, ⟨13, _⟩ => ⟨S16384, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16384x1, .f32⟩
  | .hbm, ⟨29, _⟩ => ⟨S1x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x1, .f32⟩
  | .hbm, ⟨34, _⟩ => ⟨S1x16, .f32⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x64, .f32⟩
  | .hbm, ⟨43, _⟩ => ⟨S64x16384, .f32⟩
  | .hbm, ⟨44, _⟩ => ⟨S1024x2560, .f32⟩
  | .hbm, ⟨45, _⟩ => ⟨S2560x1024, .f32⟩
  | .hbm, ⟨46, _⟩ => ⟨S2560x1024, .bf16⟩
  | .hbm, ⟨47, _⟩ => ⟨S1x1024, .f32⟩
  | .hbm, ⟨48, _⟩ => ⟨S64x1, .f32⟩
  | .hbm, ⟨49, _⟩ => ⟨S64x512, .f32⟩
  | .hbm, ⟨50, _⟩ => ⟨S64x1, .f32⟩
  | .hbm, ⟨51, _⟩ => ⟨S64x512, .f32⟩
  | .hbm, ⟨52, _⟩ => ⟨S2x2560x16384, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S2560x1024, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S1x2560x512, .bf16⟩
  | .local _ .vmem, ⟨9, _⟩ => ⟨S1x2560x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2560x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x16384x1024 : Shape := ⟨3, ![2, 16384, 1024]⟩
abbrev S1024 : Shape := ⟨1, ![1024]⟩
abbrev S1024x5632 : Shape := ⟨2, ![1024, 5632]⟩
abbrev S64 : Shape := ⟨1, ![64]⟩
abbrev S256 : Shape := ⟨1, ![256]⟩
abbrev S256x64 : Shape := ⟨2, ![256, 64]⟩
abbrev S16384 : Shape := ⟨1, ![16384]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x512 : Shape := ⟨3, ![2, 16384, 512]⟩
abbrev S2x16384x128 : Shape := ⟨3, ![2, 16384, 128]⟩
abbrev S2x16384x256 : Shape := ⟨3, ![2, 16384, 256]⟩
abbrev S2x16384x3072 : Shape := ⟨3, ![2, 16384, 3072]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x8x32 : Shape := ⟨4, ![2, 16384, 8, 32]⟩
abbrev S2x16384x8x16 : Shape := ⟨4, ![2, 16384, 8, 16]⟩
abbrev S1x16384x1x16 : Shape := ⟨4, ![1, 16384, 1, 16]⟩
abbrev S2x16384x2x64 : Shape := ⟨4, ![2, 16384, 2, 64]⟩
abbrev S2x16384x2 : Shape := ⟨3, ![2, 16384, 2]⟩
abbrev S2x16384x2x1 : Shape := ⟨4, ![2, 16384, 2, 1]⟩
abbrev S2x16384x2x32 : Shape := ⟨4, ![2, 16384, 2, 32]⟩
abbrev S2x16384x2x16 : Shape := ⟨4, ![2, 16384, 2, 16]⟩
abbrev S2x16384x2560 : Shape := ⟨3, ![2, 16384, 2560]⟩
abbrev S2x2560x16384 : Shape := ⟨3, ![2, 2560, 16384]⟩

abbrev nBuf : Space → Nat
  | .hbm => 183
  | .vmem => 0
  | .smem => 0
  | _ => 0

abbrev hbmTy0_0 (i : Nat) : BufTy := match i % 128 with
  | 0 => ⟨S2x16384x1024, .f32⟩
  | 1 => ⟨S1024, .f32⟩
  | 2 => ⟨S1024x5632, .f32⟩
  | 3 => ⟨S64, .f32⟩
  | 4 => ⟨S64, .f32⟩
  | 5 => ⟨S256, .i32⟩
  | 6 => ⟨S256x64, .i32⟩
  | 7 => ⟨S16384, .i32⟩
  | 8 => ⟨S16384, .f32⟩
  | 9 => ⟨S64, .i32⟩
  | 10 => ⟨S1x64, .i32⟩
  | 11 => ⟨S256x64, .i32⟩
  | 12 => ⟨S16384, .i32⟩
  | 13 => ⟨S16384, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16384x1, .f32⟩
  | 29 => ⟨S1x16, .f32⟩
  | 30 => ⟨S16384x16, .f32⟩
  | 31 => ⟨S16384x16, .f32⟩
  | 32 => ⟨S16384x16, .f32⟩
  | 33 => ⟨S16384x1, .f32⟩
  | 34 => ⟨S1x16, .f32⟩
  | 35 => ⟨S16384x16, .f32⟩
  | 36 => ⟨S16384x16, .f32⟩
  | 37 => ⟨S16384x16, .f32⟩
  | 38 => ⟨S16384x16, .f32⟩
  | 39 => ⟨S16384x16, .f32⟩
  | 40 => ⟨S16384x16, .f32⟩
  | 41 => ⟨S16384x16, .f32⟩
  | 42 => ⟨S2x16384x1024, .f32⟩
  | 43 => ⟨S_, .f32⟩
  | 44 => ⟨S2x16384, .f32⟩
  | 45 => ⟨S2x16384x1, .f32⟩
  | 46 => ⟨S_, .f32⟩
  | 47 => ⟨S2x16384x1, .f32⟩
  | 48 => ⟨S2x16384x1, .f32⟩
  | 49 => ⟨S_, .f32⟩
  | 50 => ⟨S2x16384x1, .f32⟩
  | 51 => ⟨S2x16384x1, .f32⟩
  | 52 => ⟨S2x16384x1, .f32⟩
  | 53 => ⟨S2x16384x1024, .f32⟩
  | 54 => ⟨S2x16384x1024, .f32⟩
  | 55 => ⟨S1x1x1024, .f32⟩
  | 56 => ⟨S2x16384x1024, .f32⟩
  | 57 => ⟨S2x16384x1024, .f32⟩
  | 58 => ⟨S2x16384x5632, .f32⟩
  | 59 => ⟨S2x16384x512, .f32⟩
  | 60 => ⟨S2x16384x128, .f32⟩
  | 61 => ⟨S2x16384x128, .f32⟩
  | 62 => ⟨S2x16384x512, .f32⟩
  | 63 => ⟨S2x16384x128, .f32⟩
  | 64 => ⟨S2x16384x128, .f32⟩
  | 65 => ⟨S2x16384x512, .f32⟩
  | 66 => ⟨S2x16384x256, .f32⟩
  | 67 => ⟨S2x16384x256, .f32⟩
  | 68 => ⟨S2x16384x3072, .f32⟩
  | 69 => ⟨S2x16384x8x64, .f32⟩
  | 70 => ⟨S2x16384x8x64, .f32⟩
  | 71 => ⟨S_, .f32⟩
  | 72 => ⟨S2x16384x8, .f32⟩
  | 73 => ⟨S2x16384x8x1, .f32⟩
  | 74 => ⟨S_, .f32⟩
  | 75 => ⟨S2x16384x8x1, .f32⟩
  | 76 => ⟨S2x16384x8x1, .f32⟩
  | 77 => ⟨S_, .f32⟩
  | 78 => ⟨S2x16384x8x1, .f32⟩
  | 79 => ⟨S2x16384x8x1, .f32⟩
  | 80 => ⟨S2x16384x8x1, .f32⟩
  | 81 => ⟨S2x16384x8x64, .f32⟩
  | 82 => ⟨S2x16384x8x64, .f32⟩
  | 83 => ⟨S1x1x1x64, .f32⟩
  | 84 => ⟨S2x16384x8x64, .f32⟩
  | 85 => ⟨S2x16384x8x64, .f32⟩
  | 86 => ⟨S2x16384x8x32, .f32⟩
  | 87 => ⟨S2x16384x8x16, .f32⟩
  | 88 => ⟨S2x16384x8x16, .f32⟩
  | 89 => ⟨S1x16384x1x16, .f32⟩
  | 90 => ⟨S1x16384x1x16, .f32⟩
  | 91 => ⟨S2x16384x8x16, .f32⟩
  | 92 => ⟨S2x16384x8x16, .f32⟩
  | 93 => ⟨S2x16384x8x16, .f32⟩
  | 94 => ⟨S2x16384x8x16, .f32⟩
  | 95 => ⟨S2x16384x8x16, .f32⟩
  | 96 => ⟨S2x16384x8x16, .f32⟩
  | 97 => ⟨S2x16384x8x16, .f32⟩
  | 98 => ⟨S2x16384x8x16, .f32⟩
  | 99 => ⟨S2x16384x8x16, .f32⟩
  | 100 => ⟨S2x16384x8x16, .f32⟩
  | 101 => ⟨S2x16384x8x32, .f32⟩
  | 102 => ⟨S2x16384x8x32, .f32⟩
  | 103 => ⟨S2x16384x8x16, .f32⟩
  | 104 => ⟨S2x16384x8x16, .f32⟩
  | 105 => ⟨S1x16384x1x16, .f32⟩
  | 106 => ⟨S1x16384x1x16, .f32⟩
  | 107 => ⟨S2x16384x8x16, .f32⟩
  | 108 => ⟨S2x16384x8x16, .f32⟩
  | 109 => ⟨S2x16384x8x16, .f32⟩
  | 110 => ⟨S2x16384x8x16, .f32⟩
  | 111 => ⟨S2x16384x8x16, .f32⟩
  | 112 => ⟨S2x16384x8x16, .f32⟩
  | 113 => ⟨S2x16384x8x16, .f32⟩
  | 114 => ⟨S2x16384x8x16, .f32⟩
  | 115 => ⟨S2x16384x8x16, .f32⟩
  | 116 => ⟨S2x16384x8x16, .f32⟩
  | 117 => ⟨S2x16384x8x32, .f32⟩
  | 118 => ⟨S2x16384x8x64, .f32⟩
  | 119 => ⟨S2x16384x512, .f32⟩
  | 120 => ⟨S2x16384x2x64, .f32⟩
  | 121 => ⟨S2x16384x2x64, .f32⟩
  | 122 => ⟨S_, .f32⟩
  | 123 => ⟨S2x16384x2, .f32⟩
  | 124 => ⟨S2x16384x2x1, .f32⟩
  | 125 => ⟨S_, .f32⟩
  | 126 => ⟨S2x16384x2x1, .f32⟩
  | 127 => ⟨S2x16384x2x1, .f32⟩
  | _ => ⟨S2x16384x1024, .f32⟩

abbrev hbmTy0_1 (i : Nat) : BufTy := match i % 128 with
  | 0 => ⟨S_, .f32⟩
  | 1 => ⟨S2x16384x2x1, .f32⟩
  | 2 => ⟨S2x16384x2x1, .f32⟩
  | 3 => ⟨S2x16384x2x1, .f32⟩
  | 4 => ⟨S2x16384x2x64, .f32⟩
  | 5 => ⟨S2x16384x2x64, .f32⟩
  | 6 => ⟨S1x1x1x64, .f32⟩
  | 7 => ⟨S2x16384x2x64, .f32⟩
  | 8 => ⟨S2x16384x2x64, .f32⟩
  | 9 => ⟨S2x16384x2x32, .f32⟩
  | 10 => ⟨S2x16384x2x16, .f32⟩
  | 11 => ⟨S2x16384x2x16, .f32⟩
  | 12 => ⟨S1x16384x1x16, .f32⟩
  | 13 => ⟨S1x16384x1x16, .f32⟩
  | 14 => ⟨S2x16384x2x16, .f32⟩
  | 15 => ⟨S2x16384x2x16, .f32⟩
  | 16 => ⟨S2x16384x2x16, .f32⟩
  | 17 => ⟨S2x16384x2x16, .f32⟩
  | 18 => ⟨S2x16384x2x16, .f32⟩
  | 19 => ⟨S2x16384x2x16, .f32⟩
  | 20 => ⟨S2x16384x2x16, .f32⟩
  | 21 => ⟨S2x16384x2x16, .f32⟩
  | 22 => ⟨S2x16384x2x16, .f32⟩
  | 23 => ⟨S2x16384x2x16, .f32⟩
  | 24 => ⟨S2x16384x2x32, .f32⟩
  | 25 => ⟨S2x16384x2x32, .f32⟩
  | 26 => ⟨S2x16384x2x16, .f32⟩
  | 27 => ⟨S2x16384x2x16, .f32⟩
  | 28 => ⟨S1x16384x1x16, .f32⟩
  | 29 => ⟨S1x16384x1x16, .f32⟩
  | 30 => ⟨S2x16384x2x16, .f32⟩
  | 31 => ⟨S2x16384x2x16, .f32⟩
  | 32 => ⟨S2x16384x2x16, .f32⟩
  | 33 => ⟨S2x16384x2x16, .f32⟩
  | 34 => ⟨S2x16384x2x16, .f32⟩
  | 35 => ⟨S2x16384x2x16, .f32⟩
  | 36 => ⟨S2x16384x2x16, .f32⟩
  | 37 => ⟨S2x16384x2x16, .f32⟩
  | 38 => ⟨S2x16384x2x16, .f32⟩
  | 39 => ⟨S2x16384x2x16, .f32⟩
  | 40 => ⟨S2x16384x2x32, .f32⟩
  | 41 => ⟨S2x16384x2x64, .f32⟩
  | 42 => ⟨S2x16384x128, .f32⟩
  | 43 => ⟨S_, .f32⟩
  | 44 => ⟨S2x16384x512, .f32⟩
  | 45 => ⟨S2x16384x512, .f32⟩
  | 46 => ⟨S_, .f32⟩
  | 47 => ⟨S2x16384x512, .f32⟩
  | 48 => ⟨S2x16384x512, .f32⟩
  | 49 => ⟨S_, .f32⟩
  | 50 => ⟨S2x16384x512, .f32⟩
  | 51 => ⟨S2x16384x512, .f32⟩
  | 52 => ⟨S2x16384x2560, .f32⟩
  | 53 => ⟨S2x2560x16384, .f32⟩
  | 54 => ⟨S2x2560x16384, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_9 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_cst_11 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_cst_12 : Ref sig .tc := ⟨.hbm, 171, rfl⟩
abbrev main_v153 : Ref sig .tc := ⟨.hbm, 172, rfl⟩
abbrev main_v154 : Ref sig .tc := ⟨.hbm, 173, rfl⟩
abbrev main_cst_13 : Ref sig .tc := ⟨.hbm, 174, rfl⟩
abbrev main_v155 : Ref sig .tc := ⟨.hbm, 175, rfl⟩
abbrev main_v156 : Ref sig .tc := ⟨.hbm, 176, rfl⟩
abbrev main_cst_14 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩

abbrev nD : Nat := 1
abbrev τ : Topo := Topo.v7x

variable {F : FTy → Type} [FloatOps F]
-- ==== Proof.Body.lean ====
/-
  The kernel body of the axial attention, written again with its repetitions named: the bound of each of the four
  heads, the straight-line pass over the key blocks, the pass with a running maximum, and the final quotient. The
  printed body is this one by unfolding (`body_eq`).
-/
module

public import proofs.«01_k».proof.Proof.Gen.KernelIdeal
public import Idealize.ShloMosaic.Lib.Pipeline.Kit
public import Idealize.ShloMosaic.Lib.Pipeline.Regions

@[expose] public section

noncomputable section

namespace Cert.KernelIdeal.Attn

open Cert.KernelIdeal Cert.KernelIdeal.Gen
open Idealize.ShloMosaic Idealize.SL.Sem

variable {F : FTy → Type} [FloatOps F] [Named F]

/-- The constant that the running maxima start at. -/
def maskC : F .f32 := Named.named κ "mask" 0xF149F2CA#32
/-- The constant that the offsets of the pass before the first start at. -/
def hugeC : F .f32 := Named.named κ "huge" 0x7149F2CA#32

abbrev PP (α : Type) := Prog (TpuEff nD τ sig (Elt F) Λ₀ .tc) α

/-- Row offsets of the four heads' channels, and the heads' places in the scratch buffers. -/
abbrev oQ (mp : Fin 4) : Fin 3 → ℕ := ![0, 64 * mp.val, 0]
abbrev o3 (mp : Fin 4) : Fin 3 → ℕ := ![mp.val, 0, 0]
abbrev o4 (par : Fin 2) (mp : Fin 4) : Fin 4 → ℕ := ![par.val, mp.val, 0, 0]

theorem oQ_inb (mp : Fin 4) : ∀ a, oQ mp a + S1x64x256.size a ≤ S1x256x256.size a := by
  revert mp; decide
theorem o3_inb (mp : Fin 4) : ∀ a, o3 mp a + S1x80x256.size a ≤ S4x80x256.size a := by
  revert mp; decide
theorem o3m_inb (mp : Fin 4) : ∀ a, o3 mp a + S1x1x256.size a ≤ S4x1x256.size a := by
  revert mp; decide
theorem o4_inb (par : Fin 2) (mp : Fin 4) : ∀ a, o4 par mp a + S1x1x1x256.size a ≤ S2x4x1x256.size a := by
  revert par mp; decide
theorem o4s_inb (par : Fin 2) (mp : Fin 4) : ∀ a, o4 par mp a + S1x1x512x256.size a ≤ S2x4x512x256.size a := by
  revert par mp; decide
theorem z4_inb : ∀ a, (![1, 0, 0, 0] : Fin 4 → ℕ) a + S1x4x1x256.size a ≤ S2x4x1x256.size a := by decide
theorem z4s_inb : ∀ a, (![1, 0, 0, 0] : Fin 4 → ℕ) a + S1x4x512x256.size a ≤ S2x4x512x256.size a := by decide
theorem z3_inb : ∀ a, (![0, 0, 0] : Fin 3 → ℕ) a + S4x80x256.size a ≤ S4x80x256.size a := by decide
theorem z3m_inb : ∀ a, (![0, 0, 0] : Fin 3 → ℕ) a + S4x1x256.size a ≤ S4x1x256.size a := by decide
theorem zO_inb : ∀ a, (![0, 0, 0] : Fin 3 → ℕ) a + S1x256x256.size a ≤ S1x256x256.size a := by decide
theorem vLast_inb : ∀ a, (![0, 0, 15872] : Fin 3 → ℕ) a + S1x64x512.size a ≤ S1x64x16384.size a := by decide

abbrev rQ (mp : Fin 4) := Rect.unit (s := S1x256x256) (oQ mp) S1x64x256.size (oQ_inb mp)
abbrev rA (mp : Fin 4) := Rect.unit (s := S4x80x256) (o3 mp) S1x80x256.size (o3_inb mp)
abbrev rM (mp : Fin 4) := Rect.unit (s := S4x1x256) (o3 mp) S1x1x256.size (o3m_inb mp)
abbrev rW (par : Fin 2) (mp : Fin 4) := Rect.unit (s := S2x4x1x256) (o4 par mp) S1x1x1x256.size (o4_inb par mp)
abbrev rS (par : Fin 2) (mp : Fin 4) := Rect.unit (s := S2x4x512x256) (o4 par mp) S1x1x512x256.size (o4s_inb par mp)

/-! ## The values -/

/-- The rows of ones under the values. -/
def ones : FVec F S16x512 .bf16 := broadcast S16x512 (Scalar.ofBits .bf16 0x3F80#16)

/-- The scores of a block of keys against a head's queries. -/
def scoreV (k : Vec F S1x1x512x64 .bf16) (q : Vec F S1x64x256 .bf16) : FVec F S512x256 .f32 :=
  matmul dot_S512x64_S64x256_S512x256_1_0_0_1_n_n none (shapeCast S512x64 k shapeCasts_S1x1x512x64_S512x64)
    (shapeCast S64x256 q shapeCasts_S1x64x256_S64x256) (constant S512x256 .f32 0x00000000#32)

/-- The values of a block, the rows of ones under them. -/
def vaug (v : Vec F S1x64x512 .bf16) : FVec F S80x512 .bf16 :=
  concatenate S80x512 0 [⟨S64x512, shapeCast S64x512 v shapeCasts_S1x64x512_S64x512⟩, ⟨S16x512, ones⟩]
    concatenates_S64x512_S16x512_S80x512_d0

/-- The weighted sum of a block's values, by the powers of two of the scores less the offsets. -/
def pvV (s : FVec F S512x256 .f32) (off : FVec F S1x256 .f32) (v : FVec F S80x512 .bf16) : FVec F S80x256 .f32 :=
  matmul dot_S80x512_S512x256_S80x256_1_0_0_1_n_n none v
    (truncf .bf16 (exp2 (subf s (broadcastTo S512x256 off broadcasts_S1x256_S512x256))) bitsLt_bf16_f32)
    (constant S80x256 .f32 0x00000000#32)

/-- An accumulator after a block of the pass without running maximum. -/
def accV (a : Vec F S1x80x256 .f32) (s : FVec F S512x256 .f32) (off : Vec F S1x1x1x256 .f32) (v : Vec F S1x64x512 .bf16) :
    FVec F S1x80x256 .f32 :=
  shapeCast S1x80x256 (addf (shapeCast S80x256 a shapeCasts_S1x80x256_S80x256)
    (pvV s (shapeCast S1x256 off shapeCasts_S1x1x1x256_S1x256) (vaug v))) shapeCasts_S80x256_S1x80x256

/-- An accumulator after a block of the pass with running maximum. -/
def accOV (al : Vec F S1x1x1x256 .f32) (a : Vec F S1x80x256 .f32) (s : FVec F S512x256 .f32) (off : Vec F S1x1x1x256 .f32)
    (v : FVec F S80x512 .bf16) : FVec F S1x80x256 .f32 :=
  shapeCast S1x80x256 (addf (mulf (broadcastTo S80x256 (shapeCast S1x256 al shapeCasts_S1x1x1x256_S1x256) broadcasts_S1x256_S80x256)
      (shapeCast S80x256 a shapeCasts_S1x80x256_S80x256))
    (pvV s (shapeCast S1x256 off shapeCasts_S1x1x1x256_S1x256) v))
    shapeCasts_S80x256_S1x80x256

/-- The running maximum after a block. -/
def maxV (mo : Vec F S1x1x256 .f32) (s : FVec F S512x256 .f32) : FVec F S1x256 .f32 :=
  maximumf (shapeCast S1x256 mo shapeCasts_S1x1x256_S1x256)
    (shapeCast S1x256 (multiReduction .maximumf [0] S256 s 0xFF800000#32 reduces_S512x256_S256 (.inl rfl) rfl) shapeCasts_S256_S1x256)

/-- The bound of a head's scores, by query. -/
def boundV (q : Vec F S1x64x256 .bf16) (kmax : F .f32) : FVec F S1x256 .f32 :=
  addf (mulf (sqrt (shapeCast S1x256 (multiReduction .add [0] S256
      (mulf (extf .f32 (shapeCast S64x256 q shapeCasts_S1x64x256_S64x256) bitsLt_bf16_f32)
        (extf .f32 (shapeCast S64x256 q shapeCasts_S1x64x256_S64x256) bitsLt_bf16_f32)) 0x00000000#32 reduces_S64x256_S256 (.inl rfl) rfl)
      shapeCasts_S256_S1x256)) (broadcast S1x256 (Scalar.mulf kmax (Scalar.ofBits .f32 0x3F802000#32))))
    (broadcast S1x256 (Scalar.ofBits .f32 0x3A800000#32))

/-- The greatest of a head's bounds. -/
def topV (b : FVec F S1x256 .f32) : F .f32 :=
  extractAt ![0, 0, 0] (shapeCast S1x1x1 (multiReduction .maximumf [1, 2] S1 (shapeCast S1x1x256 b shapeCasts_S1x256_S1x1x256)
    0xFF800000#32 reduces_S1x1x256_S1 (.inl rfl) rfl) shapeCasts_S1_S1x1x1) inpos_S1x1x1_p0_0_0

/-- The two parts of an accumulator: the weighted sums of the values, and the sums of the weights. -/
def numV (a : Vec F S1x80x256 .f32) : FVec F S64x256 .f32 :=
  extractStridedSlice S64x256 ![0, 0] (shapeCast S80x256 a shapeCasts_S1x80x256_S80x256) slices_S80x256_o0_0_S64x256
def denV (a : Vec F S1x80x256 .f32) : FVec F S1x256 .f32 :=
  extractStridedSlice S1x256 ![64, 0] (shapeCast S80x256 a shapeCasts_S1x80x256_S80x256) slices_S80x256_o64_0_S1x256

/-- A head's quotient. -/
def quotV (n : FVec F S64x256 .f32) (d : FVec F S1x256 .f32) : FVec F S64x256 .f32 :=
  divf n (broadcastTo S64x256 d broadcasts_S1x256_S64x256)

/-- What the body stores: the four heads' quotients, positions by channels. -/
def outV (n0 : FVec F S64x256 .f32) (d0 : FVec F S1x256 .f32) (a1 a2 a3 : Vec F S1x80x256 .f32) : FVec F S1x256x256 .bf16 :=
  shapeCast S1x256x256 (truncf .bf16 (transpose S256x256 [1, 0]
    (concatenate S256x256 0 [⟨S64x256, quotV n0 d0⟩, ⟨S64x256, quotV (numV a1) (denV a1)⟩, ⟨S64x256, quotV (numV a2) (denV a2)⟩, ⟨S64x256, quotV (numV a3) (denV a3)⟩]
      concatenates_S64x256_S64x256_S64x256_S64x256_S256x256_d0) transposes_S256x256_p1_0_S256x256) bitsLt_bf16_f32)
    shapeCasts_S256x256_S1x256x256

/-- Whether the pass without running maximum is taken. -/
def bddV (b : F .f32) : BitVec 1 := Scalar.cmpf .ole b (Scalar.ofBits .f32 0x42200000#32)

/-! ## The steps -/

section Steps

variable (i : grid0.Coords) (arg3 : Memref sig .tc .vmem S1x256x256 .bf16) (arg4 : Memref sig .tc .vmem S1x1x16384x64 .bf16)
  (arg5 : Memref sig .tc .vmem S1x64x16384 .bf16) (arg6 : Memref sig .tc .smem S4 .f32) (arg7 : Memref sig .tc .vmem S1x256x256 .bf16)
  (harg7 : arg7.IsWhole) (arg8 : Memref sig .tc .vmem S4x80x256 .f32) (arg9 : Memref sig .tc .vmem S4x1x256 .f32)
  (arg10 : Memref sig .tc .vmem S2x4x512x256 .f32) (arg11 arg12 : Memref sig .tc .vmem S2x4x1x256 .f32)

/-- A block of scores. -/
def scoreP (o : Fin 4 → ℕ) (ho : ∀ a, o a + S1x1x512x64.size a ≤ S1x1x16384x64.size a) (mp : Fin 4) : PP (F := F) (FVec F S512x256 .f32) := do
  let k : Vec F S1x1x512x64 .bf16 ← Prog.lift (.load arg4 (Rect.unit (s := S1x1x16384x64) o S1x1x512x64.size ho).toLoadRect (View.loadsAt_vmem h_S1x1x512x64))
  let q : Vec F S1x64x256 .bf16 ← Prog.lift (.load arg3 (rQ mp).toLoadRect (View.loadsAt_vmem h_S1x64x256))
  pure (scoreV k q)

/-- A block into an accumulator, without running maximum. -/
def accP (s : FVec F S512x256 .f32) (o : Fin 3 → ℕ) (ho : ∀ a, o a + S1x64x512.size a ≤ S1x64x16384.size a) (mp : Fin 4) : PP (F := F) PUnit := do
  let off : Vec F S1x1x1x256 .f32 ← Prog.lift (.load arg11 (rW 0 mp).toLoadRect (View.loadsAt_vmem h_S1x1x1x256))
  let a : Vec F S1x80x256 .f32 ← Prog.lift (.load arg8 (rA mp).toLoadRect (View.loadsAt_vmem h_S1x80x256))
  let v : Vec F S1x64x512 .bf16 ← Prog.lift (.load arg5 (Rect.unit (s := S1x64x16384) o S1x64x512.size ho).toLoadRect (View.loadsAt_vmem h_S1x64x512))
  let _a : Vec F S1x80x256 .f32 ← Prog.lift (.load arg8 (rA mp).toLoadRect (View.loadsAt_vmem h_S1x80x256))
  Prog.lift (.store arg8 (rA mp) (accV a s off v) Finset.univ (View.stores_vmem_bits_univ h_S1x80x256 rfl) (.inl rfl))

/-- Tile `t` is block `t / 4` of keys for head `t % 4`. -/
abbrev tj (t : ℕ) : Fin 32 := ⟨t / 4 % 32, Nat.mod_lt _ (by decide)⟩
abbrev tm (t : ℕ) : Fin 4 := ⟨t % 4, Nat.mod_lt _ (by decide)⟩

abbrev scoreT (t : ℕ) : PP (F := F) (FVec F S512x256 .f32) :=
  scoreP arg3 arg4 (k0_off2 (BitVec.ofNat 32 (tj t).val)) (k0_off2_inb (tj t)) (tm t)
abbrev accT (s : FVec F S512x256 .f32) (t : ℕ) : PP (F := F) PUnit :=
  accP arg5 arg8 arg11 s (k0_off3 (BitVec.ofNat 32 (tj t).val)) (k0_off3_inb (tj t)) (tm t)

/-- `n` tiles from tile `t`, two blocks of scores ahead. -/
def tilesP : ℕ → ℕ → FVec F S512x256 .f32 → FVec F S512x256 .f32 → PP (F := F) PUnit
  | 0, t, s0, s1 => do accT arg5 arg8 arg11 s0 t; accT arg5 arg8 arg11 s1 (t + 1)
  | n + 1, t, s0, s1 => do
    let s2 ← scoreT arg3 arg4 (t + 2)
    accT arg5 arg8 arg11 s0 t
    tilesP n (t + 1) s1 s2

def fastP : PP (F := F) PUnit := do
  let s0 ← scoreT arg3 arg4 0
  let s1 ← scoreT arg3 arg4 1
  tilesP arg3 arg4 arg5 arg8 arg11 126 0 s0 s1

/-- A head's scores of a block, its running maximum and what the block's accumulation reads. -/
def scoreO (o : Fin 4 → ℕ) (ho : ∀ a, o a + S1x1x512x64.size a ≤ S1x1x16384x64.size a) (par : Fin 2) (mp : Fin 4) : PP (F := F) PUnit := do
  let s ← scoreP arg3 arg4 o ho mp
  let mo : Vec F S1x1x256 .f32 ← Prog.lift (.load arg9 (rM mp).toLoadRect (View.loadsAt_vmem h_S1x1x256))
  let _x : Vec F S1x1x256 .f32 ← Prog.lift (.load arg9 (rM mp).toLoadRect (View.loadsAt_vmem h_S1x1x256))
  Prog.lift (.store arg9 (rM mp) (shapeCast S1x1x256 (maxV mo s) shapeCasts_S1x256_S1x1x256) Finset.univ (View.stores_vmem_bits_univ h_S1x1x256 rfl) (.inl rfl))
  let _x : Vec F S1x1x1x256 .f32 ← Prog.lift (.load arg12 (rW par mp).toLoadRect (View.loadsAt_vmem h_S1x1x1x256))
  Prog.lift (.store arg12 (rW par mp) (shapeCast S1x1x1x256 (exp2 (subf (shapeCast S1x256 mo shapeCasts_S1x1x256_S1x256) (maxV mo s))) shapeCasts_S1x256_S1x1x1x256) Finset.univ (View.stores_vmem_bits_univ h_S1x1x1x256 rfl) (.inl rfl))
  let _x : Vec F S1x1x1x256 .f32 ← Prog.lift (.load arg11 (rW par mp).toLoadRect (View.loadsAt_vmem h_S1x1x1x256))
  Prog.lift (.store arg11 (rW par mp) (shapeCast S1x1x1x256 (maxV mo s) shapeCasts_S1x256_S1x1x1x256) Finset.univ (View.stores_vmem_bits_univ h_S1x1x1x256 rfl) (.inl rfl))
  let _x : Vec F S1x1x512x256 .f32 ← Prog.lift (.load arg10 (rS par mp).toLoadRect (View.loadsAt_vmem h_S1x1x512x256))
  Prog.lift (.store arg10 (rS par mp) (shapeCast S1x1x512x256 s shapeCasts_S512x256_S1x1x512x256) Finset.univ (View.stores_vmem_bits_univ h_S1x1x512x256 rfl) (.inl rfl))

/-- A block into a head's accumulator, with running maximum, from the block's scores. -/
def accO' (v : FVec F S80x512 .bf16) (s : FVec F S512x256 .f32) (par : Fin 2) (mp : Fin 4) : PP (F := F) PUnit := do
  let off : Vec F S1x1x1x256 .f32 ← Prog.lift (.load arg11 (rW par mp).toLoadRect (View.loadsAt_vmem h_S1x1x1x256))
  let al : Vec F S1x1x1x256 .f32 ← Prog.lift (.load arg12 (rW par mp).toLoadRect (View.loadsAt_vmem h_S1x1x1x256))
  let a : Vec F S1x80x256 .f32 ← Prog.lift (.load arg8 (rA mp).toLoadRect (View.loadsAt_vmem h_S1x80x256))
  let _a : Vec F S1x80x256 .f32 ← Prog.lift (.load arg8 (rA mp).toLoadRect (View.loadsAt_vmem h_S1x80x256))
  Prog.lift (.store arg8 (rA mp) (accOV al a s off v) Finset.univ (View.stores_vmem_bits_univ h_S1x80x256 rfl) (.inl rfl))

/-- The same, the scores read. -/
def accO (v : FVec F S80x512 .bf16) (par : Fin 2) (mp : Fin 4) : PP (F := F) PUnit := do
  let s : Vec F S1x1x512x256 .f32 ← Prog.lift (.load arg10 (rS par mp).toLoadRect (View.loadsAt_vmem h_S1x1x512x256))
  accO' arg8 arg11 arg12 v (shapeCast S512x256 s shapeCasts_S1x1x512x256_S512x256) par mp

def scoresO (o : Fin 4 → ℕ) (ho : ∀ a, o a + S1x1x512x64.size a ≤ S1x1x16384x64.size a) (par : Fin 2) : PP (F := F) PUnit := do
  scoreO arg3 arg4 arg9 arg10 arg11 arg12 o ho par 0
  scoreO arg3 arg4 arg9 arg10 arg11 arg12 o ho par 1
  scoreO arg3 arg4 arg9 arg10 arg11 arg12 o ho par 2
  scoreO arg3 arg4 arg9 arg10 arg11 arg12 o ho par 3

def accsO (o : Fin 3 → ℕ) (ho : ∀ a, o a + S1x64x512.size a ≤ S1x64x16384.size a) (par : Fin 2) : PP (F := F) PUnit := do
  let v : Vec F S1x64x512 .bf16 ← Prog.lift (.load arg5 (Rect.unit (s := S1x64x16384) o S1x64x512.size ho).toLoadRect (View.loadsAt_vmem h_S1x64x512))
  accO arg8 arg10 arg11 arg12 (vaug v) par 0
  accO arg8 arg10 arg11 arg12 (vaug v) par 1
  accO arg8 arg10 arg11 arg12 (vaug v) par 2
  accO arg8 arg10 arg11 arg12 (vaug v) par 3

/-- A block's scores and the block before it into the accumulators. -/
def unitO (t : Fin k0_t1_loop.trips) (u : Fin 4) (par par' : Fin 2) : PP (F := F) PUnit := do
  scoresO arg3 arg4 arg9 arg10 arg11 arg12 (k0_off4 t (BitVec.ofNat 32 u.val)) (k0_off4_inb t u) par
  accsO arg5 arg8 arg10 arg11 arg12 (k0_off5 t (BitVec.ofNat 32 u.val)) (k0_off5_inb t u) par'

def tripO (t : Fin k0_t1_loop.trips) : PP (F := F) PUnit := do
  unitO arg3 arg4 arg5 arg8 arg9 arg10 arg11 arg12 t 0 0 1
  unitO arg3 arg4 arg5 arg8 arg9 arg10 arg11 arg12 t 1 1 0
  unitO arg3 arg4 arg5 arg8 arg9 arg10 arg11 arg12 t 2 0 1
  unitO arg3 arg4 arg5 arg8 arg9 arg10 arg11 arg12 t 3 1 0

/-- What the pass with running maximum starts from. -/
def initO : PP (F := F) PUnit := do
  let _x : Vec F S4x1x256 .f32 ← Prog.lift (.load arg9 (Rect.unit (s := S4x1x256) ![0, 0, 0] S4x1x256.size z3m_inb).toLoadRect (View.loadsAt_vmem h_S4x1x256))
  Prog.lift (.store arg9 (Rect.unit (s := S4x1x256) ![0, 0, 0] S4x1x256.size z3m_inb) (shapeCast S4x1x256 (broadcast S4x1x256 maskC) shapeCasts_S4x1x256_S4x1x256) Finset.univ (View.stores_vmem_bits_univ h_S4x1x256 rfl) (.inl rfl))
  let _x : Vec F S1x4x512x256 .f32 ← Prog.lift (.load arg10 (Rect.unit (s := S2x4x512x256) ![1, 0, 0, 0] S1x4x512x256.size z4s_inb).toLoadRect (View.loadsAt_vmem h_S1x4x512x256))
  Prog.lift (.store arg10 (Rect.unit (s := S2x4x512x256) ![1, 0, 0, 0] S1x4x512x256.size z4s_inb) (shapeCast S1x4x512x256 (broadcast S4x512x256 (Scalar.ofBits .f32 0x00000000#32)) shapeCasts_S4x512x256_S1x4x512x256) Finset.univ (View.stores_vmem_bits_univ h_S1x4x512x256 rfl) (.inl rfl))
  let _x : Vec F S1x4x1x256 .f32 ← Prog.lift (.load arg11 (Rect.unit (s := S2x4x1x256) ![1, 0, 0, 0] S1x4x1x256.size z4_inb).toLoadRect (View.loadsAt_vmem h_S1x4x1x256))
  Prog.lift (.store arg11 (Rect.unit (s := S2x4x1x256) ![1, 0, 0, 0] S1x4x1x256.size z4_inb) (shapeCast S1x4x1x256 (broadcast S4x1x256 hugeC) shapeCasts_S4x1x256_S1x4x1x256) Finset.univ (View.stores_vmem_bits_univ h_S1x4x1x256 rfl) (.inl rfl))
  let _x : Vec F S1x4x1x256 .f32 ← Prog.lift (.load arg12 (Rect.unit (s := S2x4x1x256) ![1, 0, 0, 0] S1x4x1x256.size z4_inb).toLoadRect (View.loadsAt_vmem h_S1x4x1x256))
  Prog.lift (.store arg12 (Rect.unit (s := S2x4x1x256) ![1, 0, 0, 0] S1x4x1x256.size z4_inb) (shapeCast S1x4x1x256 (broadcast S4x1x256 (Scalar.ofBits .f32 0x3F800000#32)) shapeCasts_S4x1x256_S1x4x1x256) Finset.univ (View.stores_vmem_bits_univ h_S1x4x1x256 rfl) (.inl rfl))

/-- The pass over the blocks, and the reads of the last block's values and first scores. -/
def loopO : PP (F := F) (Σ' (_ : FVec F S80x512 .bf16), FVec F S512x256 .f32) := do
  initO arg9 arg10 arg11 arg12
  Scf.Loop.for k0_t1_loop k0_t1_ok ⟨⟩ fun t _ => tripO arg3 arg4 arg5 arg8 arg9 arg10 arg11 arg12 t
  let v : Vec F S1x64x512 .bf16 ← Prog.lift (.load arg5 (Rect.unit (s := S1x64x16384) ![0, 0, 15872] S1x64x512.size vLast_inb).toLoadRect (View.loadsAt_vmem h_S1x64x512))
  let s : Vec F S1x1x512x256 .f32 ← Prog.lift (.load arg10 (rS 1 0).toLoadRect (View.loadsAt_vmem h_S1x1x512x256))
  pure ⟨vaug v, shapeCast S512x256 s shapeCasts_S1x1x512x256_S512x256⟩

/-- A head's bounds into the offsets of the pass without running maximum, and the greatest of them. -/
def boundP (mp : Fin 4) : PP (F := F) (F .f32) := do
  let q : Vec F S1x64x256 .bf16 ← Prog.lift (.load arg3 (rQ mp).toLoadRect (View.loadsAt_vmem h_S1x64x256))
  let kmax : Elt F .f32 ← smemLoad arg6 (Rect.unit (s := S4) (k0_off1 i) S1.size (k0_off1_inb i)) numel1_S1 rfl
  let _x : Vec F S1x1x1x256 .f32 ← Prog.lift (.load arg11 (rW 0 mp).toLoadRect (View.loadsAt_vmem h_S1x1x1x256))
  Prog.lift (.store arg11 (rW 0 mp) (shapeCast S1x1x1x256 (boundV q kmax) shapeCasts_S1x256_S1x1x1x256) Finset.univ (View.stores_vmem_bits_univ h_S1x1x1x256 rfl) (.inl rfl))
  pure (topV (boundV q kmax))

def zeroP : PP (F := F) PUnit := do
  let _x : Vec F S4x80x256 .f32 ← Prog.lift (.load arg8 (Rect.unit (s := S4x80x256) ![0, 0, 0] S4x80x256.size z3_inb).toLoadRect (View.loadsAt_vmem h_S4x80x256))
  Prog.lift (.store arg8 (Rect.unit (s := S4x80x256) ![0, 0, 0] S4x80x256.size z3_inb) (shapeCast S4x80x256 (broadcast S4x80x256 (Scalar.ofBits .f32 0x00000000#32)) shapeCasts_S4x80x256_S4x80x256) Finset.univ (View.stores_vmem_bits_univ h_S4x80x256 rfl) (.inl rfl))

abbrev ldA (mp : Fin 4) : PP (F := F) (Vec F S1x80x256 .f32) :=
  Prog.lift (.load arg8 (rA mp).toLoadRect (View.loadsAt_vmem h_S1x80x256))

/-- The two passes, each under its condition, then the first head's accumulator. -/
def midP (c : BitVec 1) : PP (F := F) (Σ' (_ : FVec F S64x256 .f32), FVec F S1x256 .f32) := do
  if Scalar.cmpi .ne (Scalar.extui c) (0#32) = 1#1 then fastP arg3 arg4 arg5 arg8 arg11 else pure ⟨⟩
  if Scalar.cmpi .ne (Scalar.extui (Scalar.xori c (1#1))) (0#32) = 1#1 then do
    let ⟨v, s⟩ ← loopO arg3 arg4 arg5 arg8 arg9 arg10 arg11 arg12
    accO' arg8 arg11 arg12 v s 1 0
    accO arg8 arg10 arg11 arg12 v 1 1
    accO arg8 arg10 arg11 arg12 v 1 2
    accO arg8 arg10 arg11 arg12 v 1 3
  else pure ⟨⟩
  let a0 ← ldA arg8 0
  pure ⟨numV a0, denV a0⟩

/-- The other heads' accumulators, and the store of the quotients. -/
def endP (n0 : FVec F S64x256 .f32) (d0 : FVec F S1x256 .f32) : PP (F := F) PUnit := do
  let a1 ← ldA arg8 1
  let a2 ← ldA arg8 2
  let a3 ← ldA arg8 3
  let _x : Vec F S1x256x256 .bf16 ← Prog.lift (.load arg7 (Rect.unit (s := S1x256x256) ![0, 0, 0] S1x256x256.size zO_inb).toLoadRect (View.loadsAt_vmem h_S1x256x256))
  Prog.lift (.store arg7 (Rect.unit (s := S1x256x256) ![0, 0, 0] S1x256x256.size zO_inb) (outV n0 d0 a1 a2 a3) Finset.univ (View.stores_vmem h_S1x256x256 (harg7.storeExact_slice rfl _ packedbf16_S1x256x256_S1x256x256_0_0_0) (fun _ => rfl)) (.inl rfl))

/-- The whole body. -/
def bodyP : PP (F := F) PUnit := do
  zeroP arg8
  let b0 ← boundP i arg3 arg6 arg11 0
  let b1 ← boundP i arg3 arg6 arg11 1
  let b2 ← boundP i arg3 arg6 arg11 2
  let b3 ← boundP i arg3 arg6 arg11 3
  let ⟨n0, d0⟩ ← midP arg3 arg4 arg5 arg8 arg9 arg10 arg11 arg12 (bddV (Scalar.maximumf (Scalar.maximumf (Scalar.maximumf b0 b1) b2) b3))
  endP arg7 harg7 arg8 n0 d0

theorem body_eq (harg3 : arg3.IsWhole) (harg4 : arg4.IsWhole) (harg5 : arg5.IsWhole) (harg6 : arg6.IsWhole) (harg8 : arg8.IsWhole)
    (harg9 : arg9.IsWhole) (harg10 : arg10.IsWhole) (harg11 : arg11.IsWhole) (harg12 : arg12.IsWhole) :
    cc0_attn_axial (F := F) i arg3 harg3 arg4 harg4 arg5 harg5 arg6 harg6 arg7 harg7 arg8 harg8 arg9 harg9 arg10 harg10 arg11 harg11 arg12 harg12
      = bodyP i arg3 arg4 arg5 arg6 arg7 harg7 arg8 arg9 arg10 arg11 arg12 := by
  chain_rfl

end Steps

end Cert.KernelIdeal.Attn

end
-- ==== Proof.Run.lean ====
/-
  The run of the kernel body of the axial attention: what each of its steps leaves in the buffers, as facts between
  the buffers' contents before and after (`Tri`), and from them what the body stores (`bodyP_run`).
-/
module

public import proofs.«01_k».proof.Proof.Body
public import proofs.«01_k».proof.Proof.Gen.KernelIdeal.Frame
public import Idealize.ShloMosaic.Lib.WritesUnit

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## Reads of a buffer after one store -/

section Views

variable {sg : RefSig} {κ' : Kind} {sp : Space} {s : Shape} {e : EltTy} {Val : EltTy → Type}

theorem readAt_store_self (v : View sg κ' sp s e) (f : v.ty.Contents Val) (r : Rect s) (w : r.shape.Idx → Val e) :
    v.readAt Val r.toLoadRect (v.writes Val f [⟨r, w⟩]) = w :=
  funext fun x => View.read_writes_cons_emb v f r w [] x

theorem readAt_store_off (v : View sg κ' sp s e) (f : v.ty.Contents Val) {off off' size size' : Fin s.rank → ℕ}
    (inb : ∀ a, off a + size a ≤ s.size a) (inb' : ∀ a, off' a + size' a ≤ s.size a)
    (w : (Rect.unit off size inb).shape.Idx → Val e) (a : Fin s.rank) (ha : off' a + size' a ≤ off a ∨ off a + size a ≤ off' a) :
    v.readAt Val (Rect.unit off' size' inb').toLoadRect (v.writes Val f [⟨Rect.unit off size inb, w⟩])
      = v.readAt Val (Rect.unit off' size' inb').toLoadRect f := by
  funext x
  refine View.read_writes_cons_unit_of_not_mem v f inb w [] _ rfl a ?_
  have hx : (((Rect.unit off' size' inb').toLoadRect.idx x) a).val = off' a + 1 * (x a).val := rfl
  have hl : (x a).val < size' a := (x a).isLt
  omega

/-- A read within a store of one value everywhere. -/
theorem readAt_store_const (v : View sg κ' sp s e) (f : v.ty.Contents Val) {off off' size size' : Fin s.rank → ℕ}
    (inb : ∀ a, off a + size a ≤ s.size a) (inb' : ∀ a, off' a + size' a ≤ s.size a)
    (w : (Rect.unit off size inb).shape.Idx → Val e) (k : Val e) (hw : ∀ x, w x = k)
    (ha : ∀ a, off a ≤ off' a ∧ off' a + size' a ≤ off a + size a) :
    v.readAt Val (Rect.unit off' size' inb').toLoadRect (v.writes Val f [⟨Rect.unit off size inb, w⟩]) = fun _ => k := by
  funext x
  have hlt : ∀ a, off' a - off a + (x a).val < size a := fun a => by
    have hl : (x a).val < size' a := (x a).isLt
    have := ha a
    omega
  refine (View.read_writes_cons_unit_of_mem v f inb w [] _ (fun a => ⟨off' a - off a + (x a).val, hlt a⟩) rfl fun a => ?_).trans (hw _)
  have hx : (((Rect.unit off' size' inb').toLoadRect.idx x) a).val = off' a + 1 * (x a).val := rfl
  have := ha a
  show (((Rect.unit off' size' inb').toLoadRect.idx x) a).val = off a + (off' a - off a + (x a).val)
  omega

end Views

theorem numel_S1_pos : 0 < S1.numel := by decide

section Steps

variable (c : Dev nD) (i : grid0.Coords) (arg3 : Memref sig .tc .vmem S1x256x256 .bf16) (arg4 : Memref sig .tc .vmem S1x1x16384x64 .bf16)
  (arg5 : Memref sig .tc .vmem S1x64x16384 .bf16) (arg6 : Memref sig .tc .smem S4 .f32) (arg7 : Memref sig .tc .vmem S1x256x256 .bf16)
  (harg7 : arg7.IsWhole) (arg8 : Memref sig .tc .vmem S4x80x256 .f32) (arg9 : Memref sig .tc .vmem S4x1x256 .f32)
  (arg10 : Memref sig .tc .vmem S2x4x512x256 .f32) (arg11 arg12 : Memref sig .tc .vmem S2x4x1x256 .f32)

/-- The contents of the buffers the body writes. -/
structure St where
  g7 : Bf (F := F) c arg7
  g8 : Bf (F := F) c arg8
  g9 : Bf (F := F) c arg9
  g10 : Bf (F := F) c arg10
  g11 : Bf (F := F) c arg11
  g12 : Bf (F := F) c arg12

variable (f3 : Bf (F := F) c arg3) (f4 : Bf (F := F) c arg4) (f5 : Bf (F := F) c arg5) (f6 : Bf (F := F) c arg6)
  (𝒱₀ : Variants) (E : Set ℕ)

local notation "Σₛ" => St (F := F) c arg7 arg8 arg9 arg10 arg11 arg12

/-- The buffers held, the inputs at their contents and the others at `σ`. -/
def Own (σ : Σₛ) : sProp 𝕄 :=
  iprop(pt c arg3 f3 ∗ pt c arg4 f4 ∗ pt c arg5 f5 ∗ pt c arg6 f6 ∗ pt c arg7 σ.g7 ∗ pt c arg8 σ.g8 ∗ pt c arg9 σ.g9 ∗ pt c arg10 σ.g10
    ∗ pt c arg11 σ.g11 ∗ pt c arg12 σ.g12)

/-- From contents `σ`, `p` ends with a result and contents that `R` relates. -/
def Tri {α : Type} (σ : Σₛ) (p : PP (F := F) α) (R : α → Σₛ → Prop) : Prop :=
  ∀ Q : α → sProp 𝕄, iprop(Own (F := F) c arg3 arg4 arg5 arg6 arg7 arg8 arg9 arg10 arg11 arg12 f3 f4 f5 f6 σ ∗ (∀ r σ', ⌜R r σ'⌝ -∗ Own (F := F) c arg3 arg4 arg5 arg6 arg7 arg8 arg9 arg10 arg11 arg12 f3 f4 f5 f6 σ' -∗ Q r)) ⊢ wp frame (wpE (defs₀ (F := F)) 𝒱₀ c none) E p Q

variable {c arg3 arg4 arg5 arg6 arg7 arg8 arg9 arg10 arg11 arg12 f3 f4 f5 f6 𝒱₀ E}

theorem Tri.pure {α : Type} {σ : Σₛ} {a : α} {R : α → Σₛ → Prop} (h : R a σ) : Tri (F := F) c arg3 arg4 arg5 arg6 arg7 arg8 arg9 arg10 arg11 arg12 f3 f4 f5 f6 𝒱₀ E σ (Prog.ret a) R := by
  intro Q
  iintro ⟨H, Hk⟩
  sl_step
  iapply Hk
  · ipureintro; exact h
  · iexact H

theorem Tri.bind {α β : Type} {σ : Σₛ} {p : PP (F := F) α} {k : α → PP (F := F) β} {R : α → Σₛ → Prop} {R' : β → Σₛ → Prop}
    (hp : Tri (F := F) c arg3 arg4 arg5 arg6 arg7 arg8 arg9 arg10 arg11 arg12 f3 f4 f5 f6 𝒱₀ E σ p R) (hk : ∀ r σ', R r σ' → Tri (F := F) c arg3 arg4 arg5 arg6 arg7 arg8 arg9 arg10 arg11 arg12 f3 f4 f5 f6 𝒱₀ E σ' (k r) R') : Tri (F := F) c arg3 arg4 arg5 arg6 arg7 arg8 arg9 arg10 arg11 arg12 f3 f4 f5 f6 𝒱₀ E σ (p >>= k) R' := by
  intro Q
  rw [wp_bind]
  iintro ⟨H, Hk⟩
  iapply (hp _)
  isplitl [H]; · iexact H
  iintro %r %σ' %hr H
  iapply (hk r σ' hr _)
  isplitl [H]; · iexact H
  iexact Hk

theorem Tri.mono {α : Type} {σ : Σₛ} {p : PP (F := F) α} {R R' : α → Σₛ → Prop} (hp : Tri (F := F) c arg3 arg4 arg5 arg6 arg7 arg8 arg9 arg10 arg11 arg12 f3 f4 f5 f6 𝒱₀ E σ p R) (h : ∀ r σ', R r σ' → R' r σ') :
    Tri (F := F) c arg3 arg4 arg5 arg6 arg7 arg8 arg9 arg10 arg11 arg12 f3 f4 f5 f6 𝒱₀ E σ p R' := by
  intro Q
  iintro ⟨H, Hk⟩
  iapply (hp _)
  isplitl [H]; · iexact H
  iintro %r %σ' %hr H
  iapply Hk
  · ipureintro; exact h r σ' hr
  · iexact H

theorem Tri.for {l : Scf.Loop 32} {hok : l.OK} {body : Fin l.trips → PUnit → PP (F := F) PUnit} {σ : Σₛ} (inv : ℕ → Σₛ → Prop)
    (h0 : inv 0 σ) (hs : ∀ k σ, inv k.val σ → Tri (F := F) c arg3 arg4 arg5 arg6 arg7 arg8 arg9 arg10 arg11 arg12 f3 f4 f5 f6 𝒱₀ E σ (body k ⟨⟩) (fun _ σ' => inv (k.val + 1) σ')) :
    Tri (F := F) c arg3 arg4 arg5 arg6 arg7 arg8 arg9 arg10 arg11 arg12 f3 f4 f5 f6 𝒱₀ E σ (Scf.Loop.for l hok ⟨⟩ body) (fun _ σ' => inv l.trips σ') := by
  intro Q
  iintro ⟨H, Hk⟩
  iapply (Scf.wp_for frame (wpE (defs₀ (F := F)) 𝒱₀ c none) E l.lb l.ub l.st hok ⟨⟩ body (fun n _ => iprop(∃ σ', ⌜inv n σ'⌝ ∗ Own (F := F) c arg3 arg4 arg5 arg6 arg7 arg8 arg9 arg10 arg11 arg12 f3 f4 f5 f6 σ'))
    (fun k acc => by
      iintro ⟨%σ', %hi, H⟩
      iapply (hs k σ' hi _)
      isplitl [H]; · iexact H
      iintro %r %σ'' %hr H
      iexists σ''
      isplitr; · ipureintro; exact hr
      iexact H))
  isplitl [H]
  · iexists σ
    isplitr; · ipureintro; exact h0
    iexact H
  iintro %acc ⟨%σ', %hi, H⟩
  iapply Hk
  · ipureintro; exact hi
  · iexact H

section Atoms

abbrev rd8 (f8 : Bf (F := F) c arg8) (mp : Fin 4) : Vec F S1x80x256 .f32 := View.readAt (Elt F) arg8.view (rA mp).toLoadRect f8
abbrev rd9 (f9 : Bf (F := F) c arg9) (mp : Fin 4) : Vec F S1x1x256 .f32 := View.readAt (Elt F) arg9.view (rM mp).toLoadRect f9
abbrev rd10 (f10 : Bf (F := F) c arg10) (par : Fin 2) (mp : Fin 4) : Vec F S1x1x512x256 .f32 := View.readAt (Elt F) arg10.view (rS par mp).toLoadRect f10
abbrev rdW {M : Memref sig .tc .vmem S2x4x1x256 .f32} (f : Bf (F := F) c M) (par : Fin 2) (mp : Fin 4) : Vec F S1x1x1x256 .f32 :=
  View.readAt (Elt F) M.view (rW par mp).toLoadRect f
abbrev ldQ (f3 : Bf (F := F) c arg3) (mp : Fin 4) : Vec F S1x64x256 .bf16 := View.readAt (Elt F) arg3.view (rQ mp).toLoadRect f3
abbrev ldK (f4 : Bf (F := F) c arg4) (o : Fin 4 → ℕ) (ho : ∀ a, o a + S1x1x512x64.size a ≤ S1x1x16384x64.size a) : Vec F S1x1x512x64 .bf16 :=
  View.readAt (Elt F) arg4.view (Rect.unit (s := S1x1x16384x64) o S1x1x512x64.size ho).toLoadRect f4
abbrev ldV (f5 : Bf (F := F) c arg5) (o : Fin 3 → ℕ) (ho : ∀ a, o a + S1x64x512.size a ≤ S1x64x16384.size a) : Vec F S1x64x512 .bf16 :=
  View.readAt (Elt F) arg5.view (Rect.unit (s := S1x64x16384) o S1x64x512.size ho).toLoadRect f5

variable (h3 : arg3.IsWhole) (h4 : arg4.IsWhole) (h5 : arg5.IsWhole) (h6 : arg6.IsWhole) (h7 : arg7.IsWhole) (h8 : arg8.IsWhole) (h9 : arg9.IsWhole) (h10 : arg10.IsWhole)
  (h11 : arg11.IsWhole) (h12 : arg12.IsWhole)
include h3 h4 h5 h6 h7 h8 h9 h10 h11 h12

/-- A step that ends with result `r` and contents `τ'`. -/
theorem Tri.det {α : Type} {σ : Σₛ} {p : PP (F := F) α} {r : α} {τ' : Σₛ}
    (h : ∀ Q : α → sProp 𝕄, iprop(Own (F := F) c arg3 arg4 arg5 arg6 arg7 arg8 arg9 arg10 arg11 arg12 f3 f4 f5 f6 σ ∗ (Own (F := F) c arg3 arg4 arg5 arg6 arg7 arg8 arg9 arg10 arg11 arg12 f3 f4 f5 f6 τ' -∗ Q r)) ⊢ wp frame (wpE (defs₀ (F := F)) 𝒱₀ c none) E p Q) :
    Tri (F := F) c arg3 arg4 arg5 arg6 arg7 arg8 arg9 arg10 arg11 arg12 f3 f4 f5 f6 𝒱₀ E σ p (fun r' σ' => r' = r ∧ σ' = τ') := by
  intro Q
  iintro ⟨H, Hk⟩
  iapply (h _)
  isplitl [H]; · iexact H
  iintro H
  iapply Hk
  · ipureintro; exact ⟨rfl, rfl⟩
  · iexact H

variable (σ : St (F := F) c arg7 arg8 arg9 arg10 arg11 arg12)

theorem tri_scoreP (o : Fin 4 → ℕ) (ho) (mp : Fin 4) :
    Tri (F := F) c arg3 arg4 arg5 arg6 arg7 arg8 arg9 arg10 arg11 arg12 f3 f4 f5 f6 𝒱₀ E σ (scoreP (F := F) arg3 arg4 o ho mp)
      (fun r σ' => r = scoreV (ldK (F := F) f4 o ho) (ldQ (F := F) f3 mp) ∧ σ' = σ) := by
  refine Tri.det (F := F) h3 h4 h5 h6 h7 h8 h9 h10 h11 h12 fun Q => ?_
  unfold scoreP Own
  iintro ⟨⟨H3, H4, H5, H6, H7, H8, H9, H10, H11, H12⟩, Hk⟩
  sl_exec!
  sl_unfold_run_names
  sl_step
  iapply Hk
  iframe

theorem tri_accP (s : FVec F S512x256 .f32) (o : Fin 3 → ℕ) (ho) (mp : Fin 4) :
    Tri (F := F) c arg3 arg4 arg5 arg6 arg7 arg8 arg9 arg10 arg11 arg12 f3 f4 f5 f6 𝒱₀ E σ (accP (F := F) arg5 arg8 arg11 s o ho mp)
      (fun r σ' => r = ⟨⟩ ∧ σ' = { σ with g8 := arg8.view.writes (Elt F) σ.g8 [⟨rA mp, accV (rd8 (F := F) σ.g8 mp) s (rdW (F := F) σ.g11 0 mp) (ldV (F := F) f5 o ho)⟩] }) := by
  refine Tri.det (F := F) h3 h4 h5 h6 h7 h8 h9 h10 h11 h12 fun Q => ?_
  unfold accP Own
  iintro ⟨⟨H3, H4, H5, H6, H7, H8, H9, H10, H11, H12⟩, Hk⟩
  sl_exec!
  sl_unfold_run_names
  sl_step
  iapply Hk
  iframe

theorem tri_accO' (v : FVec F S80x512 .bf16) (s : FVec F S512x256 .f32) (par : Fin 2) (mp : Fin 4) :
    Tri (F := F) c arg3 arg4 arg5 arg6 arg7 arg8 arg9 arg10 arg11 arg12 f3 f4 f5 f6 𝒱₀ E σ (accO' (F := F) arg8 arg11 arg12 v s par mp)
      (fun r σ' => r = ⟨⟩ ∧ σ' = { σ with g8 := arg8.view.writes (Elt F) σ.g8 [⟨rA mp, accOV (rdW (F := F) σ.g12 par mp) (rd8 (F := F) σ.g8 mp) s (rdW (F := F) σ.g11 par mp) v⟩] }) := by
  refine Tri.det (F := F) h3 h4 h5 h6 h7 h8 h9 h10 h11 h12 fun Q => ?_
  unfold accO' Own
  iintro ⟨⟨H3, H4, H5, H6, H7, H8, H9, H10, H11, H12⟩, Hk⟩
  sl_exec!
  sl_unfold_run_names
  sl_step
  iapply Hk
  iframe

theorem tri_accO (v : FVec F S80x512 .bf16) (par : Fin 2) (mp : Fin 4) :
    Tri (F := F) c arg3 arg4 arg5 arg6 arg7 arg8 arg9 arg10 arg11 arg12 f3 f4 f5 f6 𝒱₀ E σ (accO (F := F) arg8 arg10 arg11 arg12 v par mp)
      (fun r σ' => r = ⟨⟩ ∧ σ' = { σ with g8 := arg8.view.writes (Elt F) σ.g8 [⟨rA mp, accOV (rdW (F := F) σ.g12 par mp) (rd8 (F := F) σ.g8 mp) (shapeCast S512x256 (rd10 (F := F) σ.g10 par mp) shapeCasts_S1x1x512x256_S512x256) (rdW (F := F) σ.g11 par mp) v⟩] }) := by
  refine Tri.det (F := F) h3 h4 h5 h6 h7 h8 h9 h10 h11 h12 fun Q => ?_
  unfold accO accO' Own
  iintro ⟨⟨H3, H4, H5, H6, H7, H8, H9, H10, H11, H12⟩, Hk⟩
  sl_exec!
  sl_unfold_run_names
  sl_step
  iapply Hk
  iframe

/-- The contents after a head's scores of a block. -/
def scoreS (σ : Σₛ) (k : Vec F S1x1x512x64 .bf16) (q : Vec F S1x64x256 .bf16) (par : Fin 2) (mp : Fin 4) : Σₛ :=
  { σ with
    g9 := arg9.view.writes (Elt F) σ.g9 [⟨rM mp, shapeCast S1x1x256 (maxV (rd9 (F := F) σ.g9 mp) (scoreV k q)) shapeCasts_S1x256_S1x1x256⟩]
    g10 := arg10.view.writes (Elt F) σ.g10 [⟨rS par mp, shapeCast S1x1x512x256 (scoreV k q) shapeCasts_S512x256_S1x1x512x256⟩]
    g11 := arg11.view.writes (Elt F) σ.g11 [⟨rW par mp, shapeCast S1x1x1x256 (maxV (rd9 (F := F) σ.g9 mp) (scoreV k q)) shapeCasts_S1x256_S1x1x1x256⟩]
    g12 := arg12.view.writes (Elt F) σ.g12 [⟨rW par mp, shapeCast S1x1x1x256 (exp2 (subf (shapeCast S1x256 (rd9 (F := F) σ.g9 mp) shapeCasts_S1x1x256_S1x256)
      (maxV (rd9 (F := F) σ.g9 mp) (scoreV k q)))) shapeCasts_S1x256_S1x1x1x256⟩] }

theorem tri_scoreO (o : Fin 4 → ℕ) (ho) (par : Fin 2) (mp : Fin 4) :
    Tri (F := F) c arg3 arg4 arg5 arg6 arg7 arg8 arg9 arg10 arg11 arg12 f3 f4 f5 f6 𝒱₀ E σ (scoreO (F := F) arg3 arg4 arg9 arg10 arg11 arg12 o ho par mp)
      (fun r σ' => r = ⟨⟩ ∧ σ' = scoreS σ (ldK (F := F) f4 o ho) (ldQ (F := F) f3 mp) par mp) := by
  refine Tri.det (F := F) h3 h4 h5 h6 h7 h8 h9 h10 h11 h12 fun Q => ?_
  unfold scoreO scoreP scoreS Own
  iintro ⟨⟨H3, H4, H5, H6, H7, H8, H9, H10, H11, H12⟩, Hk⟩
  sl_exec!
  sl_unfold_run_names
  sl_step
  iapply Hk
  iframe

theorem tri_ldV (o : Fin 3 → ℕ) (ho) :
    Tri (F := F) c arg3 arg4 arg5 arg6 arg7 arg8 arg9 arg10 arg11 arg12 f3 f4 f5 f6 𝒱₀ E σ ((Prog.lift (.load arg5 (Rect.unit (s := S1x64x16384) o S1x64x512.size ho).toLoadRect (View.loadsAt_vmem h_S1x64x512)) : PP (F := F) (Vec F S1x64x512 .bf16)))
      (fun r σ' => r = ldV (F := F) f5 o ho ∧ σ' = σ) := by
  refine Tri.det (F := F) h3 h4 h5 h6 h7 h8 h9 h10 h11 h12 fun Q => ?_
  unfold Own
  iintro ⟨⟨H3, H4, H5, H6, H7, H8, H9, H10, H11, H12⟩, Hk⟩
  sl_exec!
  sl_unfold_run_names
  sl_step
  iapply Hk
  iframe

theorem tri_ldS (par : Fin 2) (mp : Fin 4) :
    Tri (F := F) c arg3 arg4 arg5 arg6 arg7 arg8 arg9 arg10 arg11 arg12 f3 f4 f5 f6 𝒱₀ E σ ((Prog.lift (.load arg10 (rS par mp).toLoadRect (View.loadsAt_vmem h_S1x1x512x256)) : PP (F := F) (Vec F S1x1x512x256 .f32)))
      (fun r σ' => r = rd10 (F := F) σ.g10 par mp ∧ σ' = σ) := by
  refine Tri.det (F := F) h3 h4 h5 h6 h7 h8 h9 h10 h11 h12 fun Q => ?_
  unfold Own
  iintro ⟨⟨H3, H4, H5, H6, H7, H8, H9, H10, H11, H12⟩, Hk⟩
  sl_exec!
  sl_unfold_run_names
  sl_step
  iapply Hk
  iframe

theorem tri_ldA (mp : Fin 4) :
    Tri (F := F) c arg3 arg4 arg5 arg6 arg7 arg8 arg9 arg10 arg11 arg12 f3 f4 f5 f6 𝒱₀ E σ (ldA (F := F) arg8 mp)
      (fun r σ' => r = rd8 (F := F) σ.g8 mp ∧ σ' = σ) := by
  refine Tri.det (F := F) h3 h4 h5 h6 h7 h8 h9 h10 h11 h12 fun Q => ?_
  unfold ldA Own
  iintro ⟨⟨H3, H4, H5, H6, H7, H8, H9, H10, H11, H12⟩, Hk⟩
  sl_exec!
  sl_unfold_run_names
  sl_step
  iapply Hk
  iframe

/-- The contents that the pass with running maximum starts from. -/
def initS (σ : Σₛ) : Σₛ :=
  { σ with
    g9 := arg9.view.writes (Elt F) arg9.view.junk [⟨Rect.unit (s := S4x1x256) ![0, 0, 0] S4x1x256.size z3m_inb, shapeCast S4x1x256 (broadcast S4x1x256 maskC) shapeCasts_S4x1x256_S4x1x256⟩]
    g10 := arg10.view.writes (Elt F) σ.g10 [⟨Rect.unit (s := S2x4x512x256) ![1, 0, 0, 0] S1x4x512x256.size z4s_inb, shapeCast S1x4x512x256 (broadcast S4x512x256 (Scalar.ofBits .f32 0x00000000#32)) shapeCasts_S4x512x256_S1x4x512x256⟩]
    g11 := arg11.view.writes (Elt F) σ.g11 [⟨Rect.unit (s := S2x4x1x256) ![1, 0, 0, 0] S1x4x1x256.size z4_inb, shapeCast S1x4x1x256 (broadcast S4x1x256 hugeC) shapeCasts_S4x1x256_S1x4x1x256⟩]
    g12 := arg12.view.writes (Elt F) σ.g12 [⟨Rect.unit (s := S2x4x1x256) ![1, 0, 0, 0] S1x4x1x256.size z4_inb, shapeCast S1x4x1x256 (broadcast S4x1x256 (Scalar.ofBits .f32 0x3F800000#32)) shapeCasts_S4x1x256_S1x4x1x256⟩] }

theorem tri_initO  :
    Tri (F := F) c arg3 arg4 arg5 arg6 arg7 arg8 arg9 arg10 arg11 arg12 f3 f4 f5 f6 𝒱₀ E σ (initO (F := F) arg9 arg10 arg11 arg12)
      (fun r σ' => r = ⟨⟩ ∧ σ' = initS σ) := by
  refine Tri.det (F := F) h3 h4 h5 h6 h7 h8 h9 h10 h11 h12 fun Q => ?_
  unfold initO initS Own
  iintro ⟨⟨H3, H4, H5, H6, H7, H8, H9, H10, H11, H12⟩, Hk⟩
  sl_exec!
  sl_unfold_run_names
  sl_step
  iapply Hk
  iframe

/-- The greatest key norm of the point's keys. -/
abbrev ldN (i : grid0.Coords) (f6 : Bf (F := F) c arg6) : F .f32 :=
  View.readAt (Elt F) arg6.view (Rect.unit (s := S4) (k0_off1 i) S1.size (k0_off1_inb i)).toLoadRect f6 (Shape.Idx.first numel_S1_pos)

theorem tri_boundP (mp : Fin 4) :
    Tri (F := F) c arg3 arg4 arg5 arg6 arg7 arg8 arg9 arg10 arg11 arg12 f3 f4 f5 f6 𝒱₀ E σ (boundP (F := F) i arg3 arg6 arg11 mp)
      (fun r σ' => r = topV (boundV (ldQ (F := F) f3 mp) (ldN (F := F) i f6)) ∧ σ' = { σ with g11 := arg11.view.writes (Elt F) σ.g11 [⟨rW 0 mp, shapeCast S1x1x1x256 (boundV (ldQ (F := F) f3 mp) (ldN (F := F) i f6)) shapeCasts_S1x256_S1x1x1x256⟩] }) := by
  refine Tri.det (F := F) h3 h4 h5 h6 h7 h8 h9 h10 h11 h12 fun Q => ?_
  unfold boundP Own
  iintro ⟨⟨H3, H4, H5, H6, H7, H8, H9, H10, H11, H12⟩, Hk⟩
  sl_exec!
  sl_unfold_run_names
  sl_step
  iapply Hk
  iframe

theorem tri_zeroP  :
    Tri (F := F) c arg3 arg4 arg5 arg6 arg7 arg8 arg9 arg10 arg11 arg12 f3 f4 f5 f6 𝒱₀ E σ (zeroP (F := F) arg8)
      (fun r σ' => r = ⟨⟩ ∧ σ' = { σ with g8 := arg8.view.writes (Elt F) arg8.view.junk [⟨Rect.unit (s := S4x80x256) ![0, 0, 0] S4x80x256.size z3_inb, shapeCast S4x80x256 (broadcast S4x80x256 (Scalar.ofBits .f32 0x00000000#32)) shapeCasts_S4x80x256_S4x80x256⟩] }) := by
  refine Tri.det (F := F) h3 h4 h5 h6 h7 h8 h9 h10 h11 h12 fun Q => ?_
  unfold zeroP Own
  iintro ⟨⟨H3, H4, H5, H6, H7, H8, H9, H10, H11, H12⟩, Hk⟩
  sl_exec!
  sl_unfold_run_names
  sl_step
  iapply Hk
  iframe

theorem tri_endP (n0 : FVec F S64x256 .f32) (d0 : FVec F S1x256 .f32) :
    Tri (F := F) c arg3 arg4 arg5 arg6 arg7 arg8 arg9 arg10 arg11 arg12 f3 f4 f5 f6 𝒱₀ E σ (endP (F := F) arg7 harg7 arg8 n0 d0)
      (fun r σ' => r = ⟨⟩ ∧ σ' = { σ with g7 := arg7.view.writes (Elt F) arg7.view.junk [⟨Rect.unit (s := S1x256x256) ![0, 0, 0] S1x256x256.size zO_inb, outV n0 d0 (rd8 (F := F) σ.g8 1) (rd8 (F := F) σ.g8 2) (rd8 (F := F) σ.g8 3)⟩] }) := by
  refine Tri.det (F := F) h3 h4 h5 h6 h7 h8 h9 h10 h11 h12 fun Q => ?_
  unfold endP ldA Own
  iintro ⟨⟨H3, H4, H5, H6, H7, H8, H9, H10, H11, H12⟩, Hk⟩
  sl_exec!
  sl_unfold_run_names
  sl_step
  iapply Hk
  iframe

end Atoms
end Steps
end Cert.KernelIdeal.Attn
end
-- ==== Proof.Run2.lean ====
/-
  The whole body of the axial attention: its passes over the blocks put together from the steps (`Run.lean`), and what
  it stores as a function of the blocks it reads.
-/
module

public import proofs.«01_k».proof.Proof.Run
public import Idealize.ShloMosaic.Lib.VecWindow

@[expose] public section

noncomputable section

namespace Cert.KernelIdeal.Attn

open Cert.KernelIdeal Cert.KernelIdeal.Gen
open Idealize.ShloMosaic Idealize.ShloMosaic.TcCoe Idealize.SL.Sem

variable {F : FTy → Type} [FloatOps F] [Named F]

/-! ## The passes as recurrences on a head's values -/

/-- The zero accumulator. -/
def zeroA : Vec F S1x80x256 .f32 := fun _ => Scalar.ofBits .f32 0x00000000#32

/-- A head's accumulator after `n` blocks of the pass without running maximum. -/
def fastA (K : Fin 32 → Vec F S1x1x512x64 .bf16) (V : Fin 32 → Vec F S1x64x512 .bf16) (q : Vec F S1x64x256 .bf16)
    (off : Vec F S1x1x1x256 .f32) : ℕ → Vec F S1x80x256 .f32
  | 0 => zeroA
  | n + 1 => accV (fastA K V q off n) (scoreV (K (Fin.ofNat 32 n)) q) off (V (Fin.ofNat 32 n))

/-- What the pass with running maximum carries for a head: the accumulator, the maximum, the scores of the last block,
    and the offset and factor of its accumulation. -/
structure Hd (F : FTy → Type) where
  a : Vec F S1x80x256 .f32
  m : Vec F S1x1x256 .f32
  s : Vec F S1x1x512x256 .f32
  off : Vec F S1x1x1x256 .f32
  al : Vec F S1x1x1x256 .f32

/-- What it starts from. -/
def onl0 : Hd F := ⟨zeroA, fun _ => maskC, fun _ => Scalar.ofBits .f32 0x00000000#32, fun _ => hugeC, fun _ => Scalar.ofBits .f32 0x3F800000#32⟩

/-- A carried block's accumulation. -/
def accHv (h : Hd F) (v : FVec F S80x512 .bf16) : Vec F S1x80x256 .f32 :=
  accOV h.al h.a (shapeCast S512x256 h.s shapeCasts_S1x1x512x256_S512x256) h.off v
abbrev accH (h : Hd F) (v : Vec F S1x64x512 .bf16) : Vec F S1x80x256 .f32 := accHv h (vaug v)

/-- A block's scores. -/
def scH (h : Hd F) (k : Vec F S1x1x512x64 .bf16) (q : Vec F S1x64x256 .bf16) : Hd F where
  a := h.a
  m := shapeCast S1x1x256 (maxV h.m (scoreV k q)) shapeCasts_S1x256_S1x1x256
  s := shapeCast S1x1x512x256 (scoreV k q) shapeCasts_S512x256_S1x1x512x256
  off := shapeCast S1x1x1x256 (maxV h.m (scoreV k q)) shapeCasts_S1x256_S1x1x1x256
  al := shapeCast S1x1x1x256 (exp2 (subf (shapeCast S1x256 h.m shapeCasts_S1x1x256_S1x256) (maxV h.m (scoreV k q)))) shapeCasts_S1x256_S1x1x1x256
/-- The maximum alone. -/
def mxH (h : Hd F) (k : Vec F S1x1x512x64 .bf16) (q : Vec F S1x64x256 .bf16) : Hd F :=
  { h with m := shapeCast S1x1x256 (maxV h.m (scoreV k q)) shapeCasts_S1x256_S1x1x256 }

/-- A block's scores, and the carried block's accumulation. -/
def stepH (h : Hd F) (k : Vec F S1x1x512x64 .bf16) (q : Vec F S1x64x256 .bf16) (v : Vec F S1x64x512 .bf16) : Hd F :=
  { scH h k q with a := accH h v }

/-- What it carries after `n` blocks' scores. -/
def onlH (K : Fin 32 → Vec F S1x1x512x64 .bf16) (V : Fin 32 → Vec F S1x64x512 .bf16) (q : Vec F S1x64x256 .bf16) : ℕ → Hd F
  | 0 => onl0
  | n + 1 => stepH (onlH K V q n) (K (Fin.ofNat 32 n)) q (V (Fin.ofNat 32 (n - 1)))

/-- The condition on the greatest bound of the four heads. -/
def condV (q : Fin 4 → Vec F S1x64x256 .bf16) (kmax : F .f32) : BitVec 1 :=
  bddV (Scalar.maximumf (Scalar.maximumf (Scalar.maximumf (topV (boundV (q 0) kmax)) (topV (boundV (q 1) kmax))) (topV (boundV (q 2) kmax))) (topV (boundV (q 3) kmax)))

/-- A head's accumulator at the end, by the condition. -/
def finA (K : Fin 32 → Vec F S1x1x512x64 .bf16) (V : Fin 32 → Vec F S1x64x512 .bf16) (q : Vec F S1x64x256 .bf16) (kmax : F .f32)
    (c : BitVec 1) : Vec F S1x80x256 .f32 :=
  if c = 1#1 then fastA K V q (shapeCast S1x1x1x256 (boundV q kmax) shapeCasts_S1x256_S1x1x1x256) 32
  else accH (onlH K V q 32) (V 31)

section Steps

variable {c : Dev nD} {i : grid0.Coords} {arg3 : Memref sig .tc .vmem S1x256x256 .bf16} {arg4 : Memref sig .tc .vmem S1x1x16384x64 .bf16}
  {arg5 : Memref sig .tc .vmem S1x64x16384 .bf16} {arg6 : Memref sig .tc .smem S4 .f32} {arg7 : Memref sig .tc .vmem S1x256x256 .bf16}
  {harg7 : arg7.IsWhole} {arg8 : Memref sig .tc .vmem S4x80x256 .f32} {arg9 : Memref sig .tc .vmem S4x1x256 .f32}
  {arg10 : Memref sig .tc .vmem S2x4x512x256 .f32} {arg11 arg12 : Memref sig .tc .vmem S2x4x1x256 .f32}
  {f3 : Bf (F := F) c arg3} {f4 : Bf (F := F) c arg4} {f5 : Bf (F := F) c arg5} {f6 : Bf (F := F) c arg6}
  {𝒱₀ : Variants} {E : Set ℕ}

local notation "Σₛ" => St (F := F) c arg7 arg8 arg9 arg10 arg11 arg12

theorem kB_inb (j : Fin 32) : ∀ a, (![0, 0, 512 * j.val, 0] : Fin 4 → ℕ) a + S1x1x512x64.size a ≤ S1x1x16384x64.size a := by
  revert j; decide +kernel
theorem vB_inb (j : Fin 32) : ∀ a, (![0, 0, 512 * j.val] : Fin 3 → ℕ) a + S1x64x512.size a ≤ S1x64x16384.size a := by
  revert j; decide +kernel

/-- The blocks of keys and of values. -/
abbrev kB (f4 : Bf (F := F) c arg4) (j : Fin 32) : Vec F S1x1x512x64 .bf16 := ldK (F := F) f4 ![0, 0, 512 * j.val, 0] (kB_inb j)
abbrev vB (f5 : Bf (F := F) c arg5) (j : Fin 32) : Vec F S1x64x512 .bf16 := ldV (F := F) f5 ![0, 0, 512 * j.val] (vB_inb j)

theorem ldK_eq (f4 : Bf (F := F) c arg4) (o) (ho) (j : Fin 32) (h : o = ![0, 0, 512 * j.val, 0]) : ldK (F := F) f4 o ho = kB f4 j := by
  subst h; rfl
theorem ldV_eq (f5 : Bf (F := F) c arg5) (o) (ho) (j : Fin 32) (h : o = ![0, 0, 512 * j.val]) : ldV (F := F) f5 o ho = vB f5 j := by
  subst h; rfl

/-! ### Reads after stores -/

theorem rd8_store (f : Bf (F := F) c arg8) (mp mp' : Fin 4) (x : Vec F S1x80x256 .f32) :
    rd8 (F := F) (c := c) (arg8.view.writes (Elt F) f [⟨rA mp, x⟩]) mp' = if mp' = mp then x else rd8 (F := F) f mp' := by
  split_ifs with h
  · subst h; exact readAt_store_self _ _ _ _
  · refine readAt_store_off _ _ _ _ _ 0 ?_
    have : mp'.val ≠ mp.val := fun h' => h (Fin.ext h')
    show mp'.val + 1 ≤ mp.val ∨ mp.val + 1 ≤ mp'.val
    omega
theorem rd9_store (f : Bf (F := F) c arg9) (mp mp' : Fin 4) (x : Vec F S1x1x256 .f32) :
    rd9 (F := F) (c := c) (arg9.view.writes (Elt F) f [⟨rM mp, x⟩]) mp' = if mp' = mp then x else rd9 (F := F) f mp' := by
  split_ifs with h
  · subst h; exact readAt_store_self _ _ _ _
  · refine readAt_store_off _ _ _ _ _ 0 ?_
    have : mp'.val ≠ mp.val := fun h' => h (Fin.ext h')
    show mp'.val + 1 ≤ mp.val ∨ mp.val + 1 ≤ mp'.val
    omega
theorem rd10_store (f : Bf (F := F) c arg10) (p p' : Fin 2) (mp mp' : Fin 4) (x : Vec F S1x1x512x256 .f32) :
    rd10 (F := F) (c := c) (arg10.view.writes (Elt F) f [⟨rS p mp, x⟩]) p' mp' = if p' = p ∧ mp' = mp then x else rd10 (F := F) f p' mp' := by
  split_ifs with h
  · obtain ⟨rfl, rfl⟩ := h; exact readAt_store_self _ _ _ _
  · by_cases hp : p' = p
    · have : mp'.val ≠ mp.val := fun h' => h ⟨hp, Fin.ext h'⟩
      refine readAt_store_off _ _ _ _ _ 1 ?_
      show mp'.val + 1 ≤ mp.val ∨ mp.val + 1 ≤ mp'.val
      omega
    · have : p'.val ≠ p.val := fun h' => hp (Fin.ext h')
      refine readAt_store_off _ _ _ _ _ 0 ?_
      show p'.val + 1 ≤ p.val ∨ p.val + 1 ≤ p'.val
      omega
theorem rdW_store {M : Memref sig .tc .vmem S2x4x1x256 .f32} (f : Bf (F := F) c M) (p p' : Fin 2) (mp mp' : Fin 4) (x : Vec F S1x1x1x256 .f32) :
    rdW (F := F) (c := c) (M.view.writes (Elt F) f [⟨rW p mp, x⟩]) p' mp' = if p' = p ∧ mp' = mp then x else rdW (F := F) f p' mp' := by
  split_ifs with h
  · obtain ⟨rfl, rfl⟩ := h; exact readAt_store_self _ _ _ _
  · by_cases hp : p' = p
    · have : mp'.val ≠ mp.val := fun h' => h ⟨hp, Fin.ext h'⟩
      refine readAt_store_off _ _ _ _ _ 1 ?_
      show mp'.val + 1 ≤ mp.val ∨ mp.val + 1 ≤ mp'.val
      omega
    · have : p'.val ≠ p.val := fun h' => hp (Fin.ext h')
      refine readAt_store_off _ _ _ _ _ 0 ?_
      show p'.val + 1 ≤ p.val ∨ p.val + 1 ≤ p'.val
      omega

/-- What the buffers hold for a head, at a parity. -/
def Rd (σ : Σₛ) (par : Fin 2) (mp : Fin 4) : Hd F :=
  ⟨rd8 (F := F) σ.g8 mp, rd9 (F := F) σ.g9 mp, rd10 (F := F) σ.g10 par mp, rdW (F := F) σ.g11 par mp, rdW (F := F) σ.g12 par mp⟩

/-- The contents after a block's accumulation for a head. -/
def accS (σ : Σₛ) (v : FVec F S80x512 .bf16) (par : Fin 2) (mp : Fin 4) : Σₛ :=
  { σ with g8 := arg8.view.writes (Elt F) σ.g8 [⟨rA mp, accOV (rdW (F := F) σ.g12 par mp) (rd8 (F := F) σ.g8 mp)
      (shapeCast S512x256 (rd10 (F := F) σ.g10 par mp) shapeCasts_S1x1x512x256_S512x256) (rdW (F := F) σ.g11 par mp) v⟩] }

theorem accS_rd (σ : Σₛ) (v : FVec F S80x512 .bf16) (par p' : Fin 2) (mp mp' : Fin 4) :
    Rd (accS σ v par mp) p' mp' = if mp' = mp then { Rd σ p' mp' with a := accHv (Rd σ par mp') v } else Rd σ p' mp' := by
  unfold Rd accS accHv
  dsimp only
  rw [rd8_store]
  split_ifs with h
  · subst h; rfl
  · rfl

theorem scoreS_g7 (σ : Σₛ) (k : Vec F S1x1x512x64 .bf16) (q : Vec F S1x64x256 .bf16) (par : Fin 2) (mp : Fin 4) :
    (scoreS σ k q par mp).g7 = σ.g7 := rfl

theorem scoreS_rd (σ : Σₛ) (k : Vec F S1x1x512x64 .bf16) (q : Vec F S1x64x256 .bf16) (par p' : Fin 2) (mp mp' : Fin 4) :
    Rd (scoreS σ k q par mp) p' mp' =
      if mp' = mp then if p' = par then scH (Rd σ p' mp') k q else mxH (Rd σ p' mp') k q else Rd σ p' mp' := by
  unfold Rd scoreS scH mxH
  dsimp only
  rw [rd9_store, rd10_store, rdW_store, rdW_store]
  by_cases hm : mp' = mp
  · subst hm
    by_cases hp : p' = par
    · simp only [hp, and_self, if_true]
    · simp only [hp, false_and, if_false, if_true]
  · simp only [hm, and_false, if_false]

theorem rd8_const (f : Bf (F := F) c arg8) (w : Vec F S4x80x256 .f32) (k : F .f32) (hw : ∀ x, w x = k) (mp : Fin 4) :
    rd8 (F := F) (c := c) (arg8.view.writes (Elt F) f [⟨Rect.unit (s := S4x80x256) ![0, 0, 0] S4x80x256.size z3_inb, w⟩]) mp = fun _ => k :=
  readAt_store_const arg8.view f z3_inb (o3_inb mp) w k hw (by revert mp; decide)
theorem rd9_const (f : Bf (F := F) c arg9) (w : Vec F S4x1x256 .f32) (k : F .f32) (hw : ∀ x, w x = k) (mp : Fin 4) :
    rd9 (F := F) (c := c) (arg9.view.writes (Elt F) f [⟨Rect.unit (s := S4x1x256) ![0, 0, 0] S4x1x256.size z3m_inb, w⟩]) mp = fun _ => k :=
  readAt_store_const arg9.view f z3m_inb (o3m_inb mp) w k hw (by revert mp; decide)
theorem rd10_const (f : Bf (F := F) c arg10) (w : Vec F S1x4x512x256 .f32) (k : F .f32) (hw : ∀ x, w x = k) (mp : Fin 4) :
    rd10 (F := F) (c := c) (arg10.view.writes (Elt F) f [⟨Rect.unit (s := S2x4x512x256) ![1, 0, 0, 0] S1x4x512x256.size z4s_inb, w⟩]) 1 mp = fun _ => k :=
  readAt_store_const arg10.view f z4s_inb (o4s_inb 1 mp) w k hw (by revert mp; decide)
theorem rdW_const {M : Memref sig .tc .vmem S2x4x1x256 .f32} (f : Bf (F := F) c M) (w : Vec F S1x4x1x256 .f32) (k : F .f32) (hw : ∀ x, w x = k) (mp : Fin 4) :
    rdW (F := F) (c := c) (M.view.writes (Elt F) f [⟨Rect.unit (s := S2x4x1x256) ![1, 0, 0, 0] S1x4x1x256.size z4_inb, w⟩]) 1 mp = fun _ => k :=
  readAt_store_const M.view f z4_inb (o4_inb 1 mp) w k hw (by revert mp; decide)

/-- One value everywhere, reshaped. -/
theorem cast_const {s s' : Shape} {α : Type} (k : α) (h : s.ShapeCasts s') (x : s'.Idx) :
    shapeCast s' (broadcast s k) h x = k := rfl

theorem initS_rd (σ : Σₛ) (ha : ∀ mp, rd8 (F := F) σ.g8 mp = zeroA) (mp : Fin 4) : Rd (initS σ) 1 mp = onl0 := by
  unfold Rd initS onl0
  dsimp only
  rw [ha, rd9_const _ _ maskC (cast_const _ _), rd10_const _ _ (Scalar.ofBits .f32 0x00000000#32) (cast_const _ _),
    rdW_const _ _ hugeC (cast_const _ _), rdW_const _ _ (Scalar.ofBits .f32 0x3F800000#32) (cast_const _ _)]

theorem trips_eq : k0_t1_loop.trips = 8 := by decide +kernel

theorem unit_off (t : Fin k0_t1_loop.trips) (u : Fin 4) : k0_off4 t (BitVec.ofNat 32 u.val) = ![0, 0, 512 * (Fin.ofNat 32 (4 * t.val + u.val)).val, 0]
    ∧ k0_off5 t (BitVec.ofNat 32 u.val) = ![0, 0, 512 * (Fin.ofNat 32 (4 * t.val + u.val - 1)).val] := by
  revert t u; decide +kernel

variable (h3 : arg3.IsWhole) (h4 : arg4.IsWhole) (h5 : arg5.IsWhole) (h6 : arg6.IsWhole) (h7 : arg7.IsWhole) (h8 : arg8.IsWhole) (h9 : arg9.IsWhole) (h10 : arg10.IsWhole)
  (h11 : arg11.IsWhole) (h12 : arg12.IsWhole)
include h3 h4 h5 h6 h7 h8 h9 h10 h11 h12

/-! ### The pass without running maximum -/

/-- How many of head `mp`'s blocks are among the first `t` tiles. -/
def cnt (t : ℕ) (mp : Fin 4) : ℕ := (t + 3 - mp.val) / 4

theorem tri_tilesP (off : Fin 4 → Vec F S1x1x1x256 .f32) (n : ℕ) : ∀ (t : ℕ) (ht : t + n + 2 ≤ 128) (σ : Σₛ)
    (ho : ∀ mp, rdW (F := F) σ.g11 0 mp = off mp)
    (ha : ∀ mp, rd8 (F := F) σ.g8 mp = fastA (kB f4) (vB f5) (ldQ (F := F) f3 mp) (off mp) (cnt t mp)),
    Tri (F := F) c arg3 arg4 arg5 arg6 arg7 arg8 arg9 arg10 arg11 arg12 f3 f4 f5 f6 𝒱₀ E σ (tilesP arg3 arg4 arg5 arg8 arg11 n t (scoreV (kB f4 (tj t)) (ldQ (F := F) f3 (tm t))) (scoreV (kB f4 (tj (t + 1))) (ldQ (F := F) f3 (tm (t + 1)))))
      (fun _ σ' => σ'.g7 = σ.g7 ∧ ∀ mp, rd8 (F := F) σ'.g8 mp = fastA (kB f4) (vB f5) (ldQ (F := F) f3 mp) (off mp) (cnt (t + n + 2) mp)) := by
  have hacc : ∀ (t : ℕ) (ht : t + 1 ≤ 128) (σ : Σₛ)
      (ho : ∀ mp, rdW (F := F) σ.g11 0 mp = off mp)
      (ha : ∀ mp, rd8 (F := F) σ.g8 mp = fastA (kB f4) (vB f5) (ldQ (F := F) f3 mp) (off mp) (cnt t mp)),
      Tri (F := F) c arg3 arg4 arg5 arg6 arg7 arg8 arg9 arg10 arg11 arg12 f3 f4 f5 f6 𝒱₀ E σ (accT arg5 arg8 arg11 (scoreV (kB f4 (tj t)) (ldQ (F := F) f3 (tm t))) t)
        (fun _ σ' => σ'.g7 = σ.g7 ∧ (∀ mp, rdW (F := F) σ'.g11 0 mp = off mp) ∧ ∀ mp, rd8 (F := F) σ'.g8 mp = fastA (kB f4) (vB f5) (ldQ (F := F) f3 mp) (off mp) (cnt (t + 1) mp)) := by
    intro t ht σ ho ha
    refine Tri.mono (tri_accP (F := F) h3 h4 h5 h6 h7 h8 h9 h10 h11 h12 σ _ _ _ (tm t)) ?_
    rintro _ σ' ⟨-, rfl⟩
    refine ⟨rfl, ho, fun mp => ?_⟩
    dsimp only
    rw [rd8_store, ho, ha]
    split_ifs with h
    · subst h
      have hc : cnt (t + 1) (tm t) = cnt t (tm t) + 1 := by unfold cnt; simp only; omega
      have hj : Fin.ofNat 32 (cnt t (tm t)) = tj t := Fin.ext (by unfold cnt; simp only [Fin.ofNat]; omega)
      rw [hc, fastA, hj, ldV_eq (F := F) f5 _ _ (tj t) (k0_off3_eq (tj t))]
    · rw [ha]
      congr 1
      have : mp.val ≠ t % 4 := fun h' => h (Fin.ext h')
      have := mp.isLt
      unfold cnt
      omega
  induction n with
  | zero =>
    intro t ht σ ho ha
    rw [tilesP]
    refine Tri.bind (hacc t (by omega) σ ho ha) ?_
    rintro _ σ' ⟨h7', ho', ha'⟩
    refine Tri.mono (hacc (t + 1) (by omega) σ' ho' ha') ?_
    rintro _ σ'' ⟨h7'', -, ha''⟩
    exact ⟨h7''.trans h7', ha''⟩
  | succ n ih =>
    intro t ht σ ho ha
    rw [tilesP]
    refine Tri.bind (tri_scoreP (F := F) h3 h4 h5 h6 h7 h8 h9 h10 h11 h12 σ _ _ _) ?_
    rintro _ _ ⟨rfl, rfl⟩
    refine Tri.bind (hacc t (by omega) _ ho ha) ?_
    rintro _ σ' ⟨h7', ho', ha'⟩
    rw [ldK_eq (F := F) f4 _ _ (tj (t + 2)) (k0_off2_eq (tj (t + 2)))]
    refine Tri.mono (ih (t + 1) (by omega) σ' ho' ha') ?_
    rintro _ σ'' ⟨h7'', ha''⟩
    refine ⟨h7''.trans h7', fun mp => ?_⟩
    rw [ha'', show t + 1 + n + 2 = t + (n + 1) + 2 by omega]

theorem tri_fastP (off : Fin 4 → Vec F S1x1x1x256 .f32) (σ : Σₛ) (ho : ∀ mp, rdW (F := F) σ.g11 0 mp = off mp)
    (ha : ∀ mp, rd8 (F := F) σ.g8 mp = zeroA) :
    Tri (F := F) c arg3 arg4 arg5 arg6 arg7 arg8 arg9 arg10 arg11 arg12 f3 f4 f5 f6 𝒱₀ E σ (fastP arg3 arg4 arg5 arg8 arg11)
      (fun _ σ' => σ'.g7 = σ.g7 ∧ ∀ mp, rd8 (F := F) σ'.g8 mp = fastA (kB f4) (vB f5) (ldQ (F := F) f3 mp) (off mp) 32) := by
  unfold fastP
  refine Tri.bind (tri_scoreP (F := F) h3 h4 h5 h6 h7 h8 h9 h10 h11 h12 _ _ _ _) ?_
  rintro _ _ ⟨rfl, rfl⟩
  refine Tri.bind (tri_scoreP (F := F) h3 h4 h5 h6 h7 h8 h9 h10 h11 h12 _ _ _ _) ?_
  rintro _ _ ⟨rfl, rfl⟩
  rw [ldK_eq (F := F) f4 _ _ (tj 0) (k0_off2_eq (tj 0))]
  refine Tri.mono (tri_tilesP h3 h4 h5 h6 h7 h8 h9 h10 h11 h12 off 126 0 (by omega) _ ho fun mp => ?_) ?_
  · rw [ha, show cnt 0 mp = 0 from by revert mp; decide, fastA]
  · rintro _ σ' ⟨h7', ha'⟩
    refine ⟨h7', fun mp => ?_⟩
    rw [ha', show cnt (0 + 126 + 2) mp = 32 from by revert mp; decide]

/-! ### The pass with running maximum -/

theorem tri_scoresO (o : Fin 4 → ℕ) (ho) (par : Fin 2) (σ : Σₛ) :
    Tri (F := F) c arg3 arg4 arg5 arg6 arg7 arg8 arg9 arg10 arg11 arg12 f3 f4 f5 f6 𝒱₀ E σ (scoresO arg3 arg4 arg9 arg10 arg11 arg12 o ho par)
      (fun _ σ' => σ'.g7 = σ.g7 ∧ ∀ mp p', Rd σ' p' mp = if p' = par then scH (Rd σ p' mp) (ldK (F := F) f4 o ho) (ldQ (F := F) f3 mp)
        else mxH (Rd σ p' mp) (ldK (F := F) f4 o ho) (ldQ (F := F) f3 mp)) := by
  have hs := fun (σ : Σₛ) (mp : Fin 4) => tri_scoreO (F := F) (f3 := f3) (f4 := f4) (f5 := f5) (f6 := f6) (𝒱₀ := 𝒱₀) (E := E) h3 h4 h5 h6 h7 h8 h9 h10 h11 h12 σ _ ho par mp
  unfold scoresO
  refine Tri.bind (hs _ 0) ?_
  rintro _ σ1 ⟨-, e1⟩
  refine Tri.bind (hs _ 1) ?_
  rintro _ σ2 ⟨-, e2⟩
  refine Tri.bind (hs _ 2) ?_
  rintro _ σ3 ⟨-, e3⟩
  refine Tri.mono (hs _ 3) ?_
  rintro _ σ4 ⟨-, e4⟩
  refine ⟨by rw [e4, scoreS_g7, e3, scoreS_g7, e2, scoreS_g7, e1, scoreS_g7], fun mp p' => ?_⟩
  rw [e4, scoreS_rd, e3, scoreS_rd, e2, scoreS_rd, e1, scoreS_rd]
  fin_cases mp <;> rfl

theorem tri_accsO (o : Fin 3 → ℕ) (ho) (par : Fin 2) (σ : Σₛ) :
    Tri (F := F) c arg3 arg4 arg5 arg6 arg7 arg8 arg9 arg10 arg11 arg12 f3 f4 f5 f6 𝒱₀ E σ (accsO arg5 arg8 arg10 arg11 arg12 o ho par)
      (fun _ σ' => σ'.g7 = σ.g7 ∧ ∀ mp p', Rd σ' p' mp = { Rd σ p' mp with a := accH (Rd σ par mp) (ldV (F := F) f5 o ho) }) := by
  have hx := fun (σ : Σₛ) (v) (mp : Fin 4) => tri_accO (F := F) (f3 := f3) (f4 := f4) (f5 := f5) (f6 := f6) (𝒱₀ := 𝒱₀) (E := E) h3 h4 h5 h6 h7 h8 h9 h10 h11 h12 σ v par mp
  unfold accsO
  refine Tri.bind (tri_ldV (F := F) h3 h4 h5 h6 h7 h8 h9 h10 h11 h12 _ _ _) ?_
  rintro _ _ ⟨rfl, rfl⟩
  refine Tri.bind (hx _ _ 0) ?_
  rintro _ σ1 ⟨-, e1⟩
  refine Tri.bind (hx _ _ 1) ?_
  rintro _ σ2 ⟨-, e2⟩
  refine Tri.bind (hx _ _ 2) ?_
  rintro _ σ3 ⟨-, e3⟩
  refine Tri.mono (hx _ _ 3) ?_
  rintro _ σ4 ⟨-, e4⟩
  refine ⟨by rw [e4, e3, e2, e1], fun mp p' => ?_⟩
  have e1' : σ1 = accS _ _ par 0 := e1
  have e2' : σ2 = accS _ _ par 1 := e2
  have e3' : σ3 = accS _ _ par 2 := e3
  have e4' : σ4 = accS _ _ par 3 := e4
  rw [e4', accS_rd, e3', accS_rd, accS_rd, e2', accS_rd, accS_rd, e1', accS_rd, accS_rd]
  fin_cases mp <;> rfl

theorem tri_unitO (t : Fin k0_t1_loop.trips) (u : Fin 4) (par par' : Fin 2) (hp : par' ≠ par) (σ : Σₛ) :
    Tri (F := F) c arg3 arg4 arg5 arg6 arg7 arg8 arg9 arg10 arg11 arg12 f3 f4 f5 f6 𝒱₀ E σ (unitO arg3 arg4 arg5 arg8 arg9 arg10 arg11 arg12 t u par par')
      (fun _ σ' => σ'.g7 = σ.g7 ∧ ∀ mp, Rd σ' par mp = stepH (Rd σ par' mp) (ldK (F := F) f4 _ (k0_off4_inb t u)) (ldQ (F := F) f3 mp) (ldV (F := F) f5 _ (k0_off5_inb t u))) := by
  unfold unitO
  refine Tri.bind (tri_scoresO h3 h4 h5 h6 h7 h8 h9 h10 h11 h12 _ _ par σ) ?_
  rintro _ σ1 ⟨e1, r1⟩
  refine Tri.mono (tri_accsO h3 h4 h5 h6 h7 h8 h9 h10 h11 h12 _ _ par' σ1) ?_
  rintro _ σ2 ⟨e2, r2⟩
  refine ⟨e2.trans e1, fun mp => ?_⟩
  rw [r2, r1, r1, if_pos rfl, if_neg hp]
  rfl

theorem tri_tripO (t : Fin k0_t1_loop.trips) (σ : Σₛ) (hi : ∀ mp, Rd σ 1 mp = onlH (kB f4) (vB f5) (ldQ (F := F) f3 mp) (4 * t.val)) :
    Tri (F := F) c arg3 arg4 arg5 arg6 arg7 arg8 arg9 arg10 arg11 arg12 f3 f4 f5 f6 𝒱₀ E σ (tripO arg3 arg4 arg5 arg8 arg9 arg10 arg11 arg12 t)
      (fun _ σ' => σ'.g7 = σ.g7 ∧ ∀ mp, Rd σ' 1 mp = onlH (kB f4) (vB f5) (ldQ (F := F) f3 mp) (4 * (t.val + 1))) := by
  have hu : ∀ (u : Fin 4) (par par' : Fin 2) (hp : par' ≠ par) (σ : Σₛ) (hi : ∀ mp, Rd σ par' mp = onlH (kB f4) (vB f5) (ldQ (F := F) f3 mp) (4 * t.val + u.val)),
      Tri (F := F) c arg3 arg4 arg5 arg6 arg7 arg8 arg9 arg10 arg11 arg12 f3 f4 f5 f6 𝒱₀ E σ (unitO arg3 arg4 arg5 arg8 arg9 arg10 arg11 arg12 t u par par')
        (fun _ σ' => σ'.g7 = σ.g7 ∧ ∀ mp, Rd σ' par mp = onlH (kB f4) (vB f5) (ldQ (F := F) f3 mp) (4 * t.val + u.val + 1)) := by
    intro u par par' hp σ hi
    refine Tri.mono (tri_unitO h3 h4 h5 h6 h7 h8 h9 h10 h11 h12 t u par par' hp σ) ?_
    rintro _ σ1 ⟨e1, r1⟩
    refine ⟨e1, fun mp => ?_⟩
    rw [r1, hi, ldK_eq (F := F) f4 _ _ _ (unit_off t u).1, ldV_eq (F := F) f5 _ _ _ (unit_off t u).2]
    rfl
  unfold tripO
  refine Tri.bind (hu 0 0 1 (by decide) σ hi) ?_
  rintro _ σ1 ⟨e1, r1⟩
  refine Tri.bind (hu 1 1 0 (by decide) σ1 r1) ?_
  rintro _ σ2 ⟨e2, r2⟩
  refine Tri.bind (hu 2 0 1 (by decide) σ2 r2) ?_
  rintro _ σ3 ⟨e3, r3⟩
  refine Tri.mono (hu 3 1 0 (by decide) σ3 r3) ?_
  rintro _ σ4 ⟨e4, r4⟩
  exact ⟨e4.trans (e3.trans (e2.trans e1)), r4⟩

theorem tri_loopO (σ : Σₛ) (ha : ∀ mp, rd8 (F := F) σ.g8 mp = zeroA) :
    Tri (F := F) c arg3 arg4 arg5 arg6 arg7 arg8 arg9 arg10 arg11 arg12 f3 f4 f5 f6 𝒱₀ E σ (loopO arg3 arg4 arg5 arg8 arg9 arg10 arg11 arg12)
      (fun r σ' => σ'.g7 = σ.g7 ∧ r = ⟨vaug (vB f5 31), shapeCast S512x256 (Rd σ' 1 0).s shapeCasts_S1x1x512x256_S512x256⟩
        ∧ ∀ mp, Rd σ' 1 mp = onlH (kB f4) (vB f5) (ldQ (F := F) f3 mp) 32) := by
  unfold loopO
  refine Tri.bind (tri_initO (F := F) h3 h4 h5 h6 h7 h8 h9 h10 h11 h12 σ) ?_
  rintro _ σ0 ⟨-, e0⟩
  refine Tri.bind (Tri.for (fun n (σ' : Σₛ) => σ'.g7 = σ.g7 ∧ ∀ mp, Rd σ' 1 mp = onlH (kB f4) (vB f5) (ldQ (F := F) f3 mp) (4 * n)) ?_ ?_) ?_
  · rw [e0]; exact ⟨rfl, fun mp => initS_rd σ ha mp⟩
  · rintro t σ' ⟨e, r⟩
    refine Tri.mono (tri_tripO h3 h4 h5 h6 h7 h8 h9 h10 h11 h12 t σ' r) ?_
    rintro _ σ'' ⟨e', r'⟩
    exact ⟨e'.trans e, r'⟩
  rintro _ σ1 ⟨e1, r1⟩
  rw [trips_eq] at r1
  refine Tri.bind (tri_ldV (F := F) h3 h4 h5 h6 h7 h8 h9 h10 h11 h12 _ _ _) ?_
  rintro _ _ ⟨rfl, rfl⟩
  refine Tri.bind (tri_ldS (F := F) h3 h4 h5 h6 h7 h8 h9 h10 h11 h12 _ _ _) ?_
  rintro _ _ ⟨rfl, rfl⟩
  exact Tri.pure ⟨e1, rfl, r1⟩

/-! ### The whole body -/

theorem tri_midP (q : BitVec 1) (off : Fin 4 → Vec F S1x1x1x256 .f32) (σ : Σₛ) (ho : ∀ mp, rdW (F := F) σ.g11 0 mp = off mp)
    (ha : ∀ mp, rd8 (F := F) σ.g8 mp = zeroA) :
    Tri (F := F) c arg3 arg4 arg5 arg6 arg7 arg8 arg9 arg10 arg11 arg12 f3 f4 f5 f6 𝒱₀ E σ (midP arg3 arg4 arg5 arg8 arg9 arg10 arg11 arg12 q)
      (fun r σ' => σ'.g7 = σ.g7 ∧ r = ⟨numV (rd8 (F := F) σ'.g8 0), denV (rd8 (F := F) σ'.g8 0)⟩ ∧ ∀ mp, rd8 (F := F) σ'.g8 mp =
        if q = 1#1 then fastA (kB f4) (vB f5) (ldQ (F := F) f3 mp) (off mp) 32 else accH (onlH (kB f4) (vB f5) (ldQ (F := F) f3 mp) 32) (vB f5 31)) := by
  have hq : q = 0#1 ∨ q = 1#1 := by revert q; decide
  have hend : ∀ (σ1 : Σₛ) (R : Fin 4 → Vec F S1x80x256 .f32) (e : σ1.g7 = σ.g7) (h : ∀ mp, rd8 (F := F) σ1.g8 mp = R mp),
      Tri (F := F) c arg3 arg4 arg5 arg6 arg7 arg8 arg9 arg10 arg11 arg12 f3 f4 f5 f6 𝒱₀ E σ1 (do let a0 ← ldA arg8 0; pure ⟨numV a0, denV a0⟩ : PP (F := F) (Σ' (_ : FVec F S64x256 .f32), FVec F S1x256 .f32))
        (fun r σ' => σ'.g7 = σ.g7 ∧ r = ⟨numV (rd8 (F := F) σ'.g8 0), denV (rd8 (F := F) σ'.g8 0)⟩ ∧ ∀ mp, rd8 (F := F) σ'.g8 mp = R mp) := by
    intro σ1 R e h
    refine Tri.bind (tri_ldA (F := F) h3 h4 h5 h6 h7 h8 h9 h10 h11 h12 _ _) ?_
    rintro _ _ ⟨rfl, rfl⟩
    exact Tri.pure ⟨e, rfl, h⟩
  unfold midP
  rcases hq with rfl | rfl
  · rw [if_neg (by decide), if_pos (by decide)]
    · refine Tri.bind (tri_loopO h3 h4 h5 h6 h7 h8 h9 h10 h11 h12 _ ha) ?_
      rintro _ σ0 ⟨e0, rfl, r0⟩
      have hx := fun (σ : Σₛ) (v) (mp : Fin 4) => tri_accO (F := F) (f3 := f3) (f4 := f4) (f5 := f5) (f6 := f6) (𝒱₀ := 𝒱₀) (E := E) h3 h4 h5 h6 h7 h8 h9 h10 h11 h12 σ v 1 mp
      refine Tri.bind (tri_accO' (F := F) h3 h4 h5 h6 h7 h8 h9 h10 h11 h12 _ _ _ 1 0) ?_
      rintro _ σ1 ⟨-, e1⟩
      refine Tri.bind (hx _ _ 1) ?_
      rintro _ σ2 ⟨-, e2⟩
      refine Tri.bind (hx _ _ 2) ?_
      rintro _ σ3 ⟨-, e3⟩
      refine Tri.bind (hx _ _ 3) ?_
      rintro _ σ4 ⟨-, e4⟩
      have e1' : σ1 = accS _ _ 1 0 := e1
      have e2' : σ2 = accS _ _ 1 1 := e2
      have e3' : σ3 = accS _ _ 1 2 := e3
      have e4' : σ4 = accS _ _ 1 3 := e4
      refine hend σ4 _ (by rw [e4, e3, e2, e1]; exact e0) fun mp => ?_
      have h : (Rd σ4 1 mp).a = accH (Rd σ0 1 mp) (vB f5 31) := by
        rw [e4', accS_rd, e3', accS_rd, e2', accS_rd, e1', accS_rd]
        fin_cases mp <;> rfl
      rw [if_neg (by decide), ← r0]
      exact h
  · rw [if_pos (by decide), if_neg (by decide)]
    refine Tri.bind (tri_fastP h3 h4 h5 h6 h7 h8 h9 h10 h11 h12 off σ ho ha) ?_
    rintro _ σ1 ⟨e, h⟩
    exact hend _ _ e fun mp => by rw [if_pos rfl]; exact h mp

/-- What the body stores, from the blocks it reads. -/
def bodyV (K : Fin 32 → Vec F S1x1x512x64 .bf16) (V : Fin 32 → Vec F S1x64x512 .bf16) (q : Fin 4 → Vec F S1x64x256 .bf16) (kmax : F .f32) :
    FVec F S1x256x256 .bf16 :=
  outV (numV (finA K V (q 0) kmax (condV q kmax))) (denV (finA K V (q 0) kmax (condV q kmax)))
    (finA K V (q 1) kmax (condV q kmax)) (finA K V (q 2) kmax (condV q kmax)) (finA K V (q 3) kmax (condV q kmax))

set_option maxHeartbeats 1600000 in
theorem tri_bodyP (σ : Σₛ) :
    Tri (F := F) c arg3 arg4 arg5 arg6 arg7 arg8 arg9 arg10 arg11 arg12 f3 f4 f5 f6 𝒱₀ E σ (bodyP i arg3 arg4 arg5 arg6 arg7 harg7 arg8 arg9 arg10 arg11 arg12)
      (fun _ σ' => View.read (Elt F) arg7.view σ'.g7 = bodyV (kB f4) (vB f5) (ldQ (F := F) f3) (ldN (F := F) i f6)) := by
  have hb := fun (σ : Σₛ) (mp : Fin 4) => tri_boundP (F := F) (i := i) (f3 := f3) (f4 := f4) (f5 := f5) (f6 := f6) (𝒱₀ := 𝒱₀) (E := E) h3 h4 h5 h6 h7 h8 h9 h10 h11 h12 σ mp
  unfold bodyP
  refine Tri.bind (tri_zeroP (F := F) h3 h4 h5 h6 h7 h8 h9 h10 h11 h12 σ) ?_
  rintro _ σ0 ⟨-, e0⟩
  refine Tri.bind (hb _ 0) ?_
  rintro b1 σ1 ⟨q1, e1⟩
  refine Tri.bind (hb _ 1) ?_
  rintro b2 σ2 ⟨q2, e2⟩
  refine Tri.bind (hb _ 2) ?_
  rintro b3 σ3 ⟨q3, e3⟩
  refine Tri.bind (hb _ 3) ?_
  rintro b4 σ4 ⟨q4, e4⟩
  refine Tri.bind (tri_midP h3 h4 h5 h6 h7 h8 h9 h10 h11 h12 _ (fun mp => shapeCast S1x1x1x256 (boundV (ldQ (F := F) f3 mp) (ldN (F := F) i f6)) shapeCasts_S1x256_S1x1x1x256) σ4 (fun mp => ?_) (fun mp => ?_)) ?_
  · rw [e4]; dsimp only; rw [rdW_store, e3]; dsimp only; rw [rdW_store, e2]; dsimp only; rw [rdW_store, e1]; dsimp only; rw [rdW_store]
    fin_cases mp <;> rfl
  · rw [e4]; dsimp only; rw [e3]; dsimp only; rw [e2]; dsimp only; rw [e1]; dsimp only; rw [e0]; dsimp only
    exact rd8_const _ _ (Scalar.ofBits .f32 0x00000000#32) (cast_const _ _) mp
  subst q1 q2 q3 q4
  rintro r5' σ5 ⟨e5, q5, r5⟩
  subst q5
  refine Tri.mono (tri_endP (F := F) (harg7 := harg7) h3 h4 h5 h6 h7 h8 h9 h10 h11 h12 σ5 _ _) ?_
  rintro _ σ6 ⟨-, e6⟩
  rw [e6]
  refine (View.read_writes_full arg7.view _ _ _ _).trans ?_
  rw [r5, r5, r5, r5]
  rfl

end Steps
end Cert.KernelIdeal.Attn
end
-- ==== Proof.Launch.lean ====
/-
  The launch of the axial attention: what the pipeline's staging buffers hold around each grid point, the body's
  obligation from its run (`Run2.lean`), and the frame run of the whole program.
-/
module

public import proofs.«01_k».proof.Proof.Run2
public import Idealize.ShloMosaic.Lib.Pipeline.KitQuiescent

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body reads, of its blocks' contents -/

/-- A head's queries in a block of queries. -/
def qOf (x : Vec F S1x256x256 .bf16) (mp : Fin 4) : Vec F S1x64x256 .bf16 := fun y => x ((rQ mp).toLoadRect.idx y)
/-- A block of keys. -/
def kOf (x : Vec F S1x1x16384x64 .bf16) (j : Fin 32) : Vec F S1x1x512x64 .bf16 :=
  fun y => x ((Rect.unit (s := S1x1x16384x64) ![0, 0, 512 * j.val, 0] S1x1x512x64.size (kB_inb j)).toLoadRect.idx y)
/-- A block of values. -/
def vOf (x : Vec F S1x64x16384 .bf16) (j : Fin 32) : Vec F S1x64x512 .bf16 :=
  fun y => x ((Rect.unit (s := S1x64x16384) ![0, 0, 512 * j.val] S1x64x512.size (vB_inb j)).toLoadRect.idx y)
/-- The bound on the keys' norms. -/
def nOf (i : grid0.Coords) (x : Vec F S4 .f32) : F .f32 :=
  x ((Rect.unit (s := S4) (k0_off1 i) S1.size (k0_off1_inb i)).toLoadRect.idx (Shape.Idx.first numel_S1_pos))

/-- What the body stores, of its blocks' contents. -/
def outOf (i : grid0.Coords) (x3 : Vec F S1x256x256 .bf16) (x4 : Vec F S1x1x16384x64 .bf16) (x5 : Vec F S1x64x16384 .bf16)
    (x6 : Vec F S4 .f32) : FVec F S1x256x256 .bf16 :=
  bodyV (kOf x4) (vOf x5) (qOf x3) (nOf i x6)

/-- A whole buffer owned at given contents. -/
theorem owns_isWhole (c : Dev nD) {sp : Space} {sh : Shape} {e : EltTy} {M : Memref sig .tc sp sh e} (hw : M.IsWhole)
    (X : sh.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := hw
  subst hsp hsh he
  cases h
  exact owns_whole_eq (c : Thread nD τ) b fullShare X

variable (m : (ℓ : Loc nD τ sig) → Buf (Elt F) ℓ) (ρ : Dev nD → PrngReg)

/-! ## The proof data -/

/-- The arrays as the region finds them; each input's buffer at its block, the result's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (grid0.coords t) (iblk m c 0 t) (iblk m c 1 t) (iblk m c 2 t) (iblk m c 3 t)
  Φ _ := Pipeline.ΦA spec0 c
  q w := Pipeline.shareOf spec0 w
  owed _ := 0

abbrev 𝒱₀ : Variants := Variants.none

set_option maxHeartbeats 2000000 in
theorem body_obligation (c : Dev nD) : BodyObligation (dats m 0 c) (defs₀ (F := F)) 𝒱₀ () Set.univ := fun t => by
  rw [bigSep_W0, bigSep_W0]
  have hb0 := before0_0_of m (dats m 0 c) rfl (fun _ => rfl) t
  have hb1 := before0_1_of m (dats m 0 c) rfl (fun _ => rfl) t
  have hb2 := before0_2_of m (dats m 0 c) rfl (fun _ => rfl) t
  have hb3 := before0_3_of m (dats m 0 c) rfl (fun _ => rfl) t
  have w0 : (st0_0 t).IsWhole := hstage0_0 ((cfg0.slots t 0).cast nbuf0_0)
  have w1 : (st0_1 t).IsWhole := hstage0_1 ((cfg0.slots t 1).cast nbuf0_1)
  have w2 : (st0_2 t).IsWhole := hstage0_2 ((cfg0.slots t 2).cast nbuf0_2)
  have w3 : (st0_3 t).IsWhole := hstage0_3 ((cfg0.slots t 3).cast nbuf0_3)
  have w4 : (st0_4 t).IsWhole := hstage0_4 ((cfg0.slots t 4).cast nbuf0_4)
  show iprop(Pipeline.ΦA spec0 c ∗ (dats m 0 c).owesAt () t.castSucc
      ∗ (∃ d, owns c (st0_0 t) fullShare ((dats m 0 c).before 0 t d)) ∗ (∃ d, owns c (st0_1 t) fullShare ((dats m 0 c).before 1 t d))
      ∗ (∃ d, owns c (st0_2 t) fullShare ((dats m 0 c).before 2 t d)) ∗ (∃ d, owns c (st0_3 t) fullShare ((dats m 0 c).before 3 t d))
      ∗ (∃ d, owns c (st0_4 t) fullShare ((dats m 0 c).before 4 t d)))
    ⊢ wp frame (wpE (defs₀ (F := F)) 𝒱₀ c none) Set.univ (bodyAt0 t) fun _ =>
      iprop(Pipeline.ΦA spec0 c ∗ (dats m 0 c).owesAt () t.castSucc
        ∗ owns c (st0_0 t) fullShare (iblk m c 0 t) ∗ owns c (st0_1 t) fullShare (iblk m c 1 t)
        ∗ owns c (st0_2 t) fullShare (iblk m c 2 t) ∗ owns c (st0_3 t) fullShare (iblk m c 3 t)
        ∗ owns c (st0_4 t) fullShare (outOf (grid0.coords t) (iblk m c 0 t) (iblk m c 1 t) (iblk m c 2 t) (iblk m c 3 t)))
  simp only [hb0, hb1, hb2, hb3]
  rw [show (bodyAt0 (F := F) t) = _ from body_eq _ _ _ _ _ _ _ _ _ _ _ _ w0 w1 w2 w3 (Memref.isWhole_whole _) (Memref.isWhole_whole _) (Memref.isWhole_whole _)
    (Memref.isWhole_whole _) (Memref.isWhole_whole _)]
  simp only [owns_isWhole c w0, owns_isWhole c w1, owns_isWhole c w2, owns_isWhole c w3, owns_isWhole c w4]
  unfold Pipeline.ΦA
  rw [scopedRest0_eq]
  iintro ⟨⟨⟨⟨%f8, H8⟩, ⟨%f9, H9⟩, ⟨%f10, H10⟩, ⟨%f11, H11⟩, ⟨%f12, H12⟩⟩, Hg⟩, Howes,
    ⟨%d0, %f3, %hf3, H3⟩, ⟨%d1, %f4, %hf4, H4⟩, ⟨%d2, %f5, %hf5, H5⟩, ⟨%d3, %f6, %hf6, H6⟩, ⟨%d4, %f7, -, H7⟩⟩
  iapply (tri_bodyP (F := F) (c := c) (i := grid0.coords t) (arg8 := Memref.whole cc0_scratch0) (arg9 := Memref.whole cc0_scratch1)
    (arg10 := Memref.whole cc0_scratch2) (arg11 := Memref.whole cc0_scratch3) (arg12 := Memref.whole cc0_scratch4)
    (f3 := f3) (f4 := f4) (f5 := f5) (f6 := f6) (𝒱₀ := 𝒱₀) (E := Set.univ) w0 w1 w2 w3 w4 (Memref.isWhole_whole _)
    (Memref.isWhole_whole _) (Memref.isWhole_whole _) (Memref.isWhole_whole _) (Memref.isWhole_whole _) ⟨f7, f8, f9, f10, f11, f12⟩ _)
  unfold Own
  isplitl [H3 H4 H5 H6 H7 H8 H9 H10 H11 H12]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %r %σ' %hr ⟨H3, H4, H5, H6, H7, H8, H9, H10, H11, H12⟩
  isplitl [H8 H9 H10 H11 H12 Hg]
  · isplitr [Hg]
    · isplitl [H8]; · iexists _; iexact H8
      isplitl [H9]; · iexists _; iexact H9
      isplitl [H10]; · iexists _; iexact H10
      isplitl [H11]; · iexists _; iexact H11
      iexists _; iexact H12
    · iexact Hg
  isplitl [Howes]; · iexact Howes
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro
  rw [hr, ← hf3, ← hf4, ← hf5, ← hf6]
  rfl

/-- Every run of the program ends, with the arrays at what the proof data say. -/
theorem run_main : θ_run defs (onTc (τ := τ) (main (F := F))) (s₀ m ρ) (fun r => Pipeline.FramePost cfgs (dats m) 0 (V m) r ∧ r.2.sem = fun _ => 0) :=
  Pipeline.θ_run_frame_shared cfgs (dats m) 0 launch₀0 defs₀ 𝒱₀ m ρ main (fun c => (body_obligation m c).loose)
    (fun _ _ _ => rfl) (fun _ _ => rfl) (V m) (hmain m 𝒱₀) (fun _ _ => rfl) (fun _ _ => rfl) (Q' := _)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (fun _ _ => rfl)) (run_main m ρ)

end Cert.KernelIdeal.Attn

end
-- ==== Proof.Math.lean ====
/-
  The arithmetic of a softmax average over the extended reals: powers of two of real scores less a real offset, their
  weighted sums of arbitrary values, and the quotient's independence of the offset and of the base.
-/
module

public import Idealize.ShloMosaic.PureOps.Ideal.Laws
public import Mathlib.Analysis.SpecialFunctions.Pow.Real
public import Mathlib.Algebra.BigOperators.Fin

@[expose] public section

noncomputable section

namespace Cert.Softmax

open Idealize.ShloMosaic
open scoped BigOperators

/-- A power of two of a real. -/
def pw (x : ℝ) : ℝ := Real.rpow 2 x

theorem pw_pos (x : ℝ) : 0 < pw x := Real.rpow_pos_of_pos (by norm_num) x
theorem pw_add (x y : ℝ) : pw (x + y) = pw x * pw y := Real.rpow_add (by norm_num) x y
theorem pw_exp (x : ℝ) : pw x = Real.exp (x * Real.log 2) := by
  rw [pw, Real.rpow_eq_pow, Real.rpow_def_of_pos (by norm_num), mul_comm]

theorem exp2_sub (s o : ℝ) : Ideal.exp2 ((s : EReal) - (o : EReal)) = ((pw (s - o) : ℝ) : EReal) := by
  rw [← EReal.coe_sub]; rfl

/-- A nonnegative real factor goes into a sum. -/
theorem coe_mul_sum {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem sum_mul_coe {ι : Type} (t : Finset ι) (c : ℝ) (hc : 0 ≤ c) (f : ι → EReal) :
    (∑ i ∈ t, f i) * (c : EReal) = ∑ i ∈ t, f i * (c : EReal) := by
  rw [mul_comm, coe_mul_sum t c hc]; exact Finset.sum_congr rfl fun i _ => mul_comm _ _

theorem div_pos (x : EReal) (c : ℝ) (hc : 0 < c) : Ideal.div x (c : EReal) = x * ((c⁻¹ : ℝ) : EReal) := by
  rw [Ideal.div_coe hc.ne', one_div]

/-- A weighted sum rescaled to another offset. -/
theorem rescale {ι : Type} (t : Finset ι) (v : ι → EReal) (s : ι → ℝ) (o o' : ℝ) :
    ((pw (o - o') : ℝ) : EReal) * ∑ i ∈ t, v i * ((pw (s i - o) : ℝ) : EReal) = ∑ i ∈ t, v i * ((pw (s i - o') : ℝ) : EReal) := by
  rw [coe_mul_sum t _ (pw_pos _).le]
  refine Finset.sum_congr rfl fun i _ => ?_
  rw [mul_left_comm, ← EReal.coe_mul, ← pw_add]
  congr 3; ring

/-- The average by powers of two less an offset is the softmax average. -/
theorem average {ι : Type} [Fintype ι] [Nonempty ι] (v : ι → EReal) (s S : ι → ℝ) (hS : ∀ i, S i = s i * Real.log 2) (o M : ℝ) :
    Ideal.div (∑ i, v i * ((pw (s i - o) : ℝ) : EReal)) (∑ i, ((pw (s i - o) : ℝ) : EReal))
      = ∑ i, v i * Ideal.div ((Real.exp (S i - M) : ℝ) : EReal) (∑ i, ((Real.exp (S i - M) : ℝ) : EReal)) := by
  rw [← coe_sum, ← coe_sum]
  have h1 : 0 < ∑ i, pw (s i - o) := Finset.sum_pos (fun i _ => pw_pos _) Finset.univ_nonempty
  have h2 : 0 < ∑ i, Real.exp (S i - M) := Finset.sum_pos (fun i _ => Real.exp_pos _) Finset.univ_nonempty
  have hk : ∀ i, pw (s i - o) = Real.exp (M - o * Real.log 2) * Real.exp (S i - M) := fun i => by
    rw [pw_exp, ← Real.exp_add, hS i]; congr 1; ring
  rw [div_pos _ _ h1, sum_mul_coe _ _ (inv_pos.mpr h1).le]
  refine Finset.sum_congr rfl fun i _ => ?_
  rw [div_pos _ _ h2, mul_assoc, ← EReal.coe_mul, ← EReal.coe_mul]
  congr 2
  have hs : ∑ i, pw (s i - o) = Real.exp (M - o * Real.log 2) * ∑ i, Real.exp (S i - M) := by
    rw [Finset.mul_sum]; exact Finset.sum_congr rfl fun i _ => hk i
  rw [hs, hk i]
  have := (Real.exp_pos (M - o * Real.log 2)).ne'
  field_simp

/-- A sum over `32 · 512` positions is the sum over the blocks. -/
theorem sum_blocks {M : Type} [AddCommMonoid M] (f : Fin 16384 → M) :
    ∑ j, f j = ∑ x : Fin 32 × Fin 512, f ⟨512 * x.1.val + x.2.val, by omega⟩ := by
  symm
  refine Fintype.sum_equiv (finProdFinEquiv (m := 32) (n := 512)) _ f fun x => ?_
  congr 1
  apply Fin.ext
  show 512 * x.1.val + x.2.val = x.2.val + 512 * x.1.val
  omega

/-- A maximum of finitely many reals, over a start that is real or below all, is real. -/
theorem fold_max_real {ι : Type} (t : Finset ι) (f : ι → ℝ) (hf : t.Nonempty) (b : EReal) (hb : b = ⊥ ∨ ∃ r : ℝ, b = r) :
    ∃ r : ℝ, t.fold max b (fun i => (f i : EReal)) = r := by
  classical
  have h : ∀ t : Finset ι, (t.fold max b (fun i => (f i : EReal)) = ⊥ ∧ t = ∅) ∨ ∃ r : ℝ, t.fold max b (fun i => (f i : EReal)) = r := by
    intro t
    induction t using Finset.induction_on with
    | empty => rcases hb with h | h
               · left; exact ⟨by simpa using h, rfl⟩
               · right; simpa using h
    | insert a t ha ih =>
      right
      rw [Finset.fold_insert ha]
      rcases ih with ⟨h, _⟩ | ⟨r, h⟩
      · exact ⟨f a, by rw [h]; exact max_bot_right _⟩
      · exact ⟨max (f a) r, by rw [h]; exact (EReal.coe_strictMono.monotone.map_max).symm⟩
  rcases h t with ⟨_, h⟩ | h
  · exact absurd h hf.ne_empty
  · exact h

theorem coe_real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul _ _).symm⟩
theorem coe_real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add _ _).symm⟩

/-- The root of a nonnegative real is real. -/
theorem sqrt_real {x : EReal} (hx : ∃ r : ℝ, 0 ≤ r ∧ x = r) : ∃ r : ℝ, Ideal.sqrt x = r := by
  obtain ⟨a, h, rfl⟩ := hx
  exact ⟨Real.sqrt a, by rw [Ideal.sqrt_coe, if_neg (not_lt.mpr h)]⟩

/-- A sum of squares of reals is a nonnegative real. -/
theorem sum_sq_real {ι : Type} [Fintype ι] (f : ι → EReal) (hf : ∀ i, ∃ r : ℝ, f i = r) :
    ∃ r : ℝ, 0 ≤ r ∧ ∑ i, f i * f i = r := by
  choose a ha using hf
  exact ⟨∑ i, a i * a i, Finset.sum_nonneg fun i _ => mul_self_nonneg _,
    by rw [coe_sum]; exact Finset.sum_congr rfl fun i _ => by rw [ha, EReal.coe_mul]⟩

/-- A maximum of finitely many nonnegative reals is a nonnegative real. -/
theorem fold_max_nonneg {ι : Type} (t : Finset ι) (f : ι → EReal) (hf : ∀ i, ∃ r : ℝ, 0 ≤ r ∧ f i = r) (ht : t.Nonempty) :
    ∃ r : ℝ, 0 ≤ r ∧ t.fold max ⊥ f = r := by
  choose a h0 ha using hf
  obtain ⟨r, hr⟩ := fold_max_real t a ht ⊥ (.inl rfl)
  have hfa : f = fun i => (a i : EReal) := funext ha
  refine ⟨r, ?_, hfa ▸ hr⟩
  obtain ⟨i, hi⟩ := ht
  have h1 : ((0 : ℝ) : EReal) ≤ r := by
    rw [← hr]
    exact le_trans (by exact_mod_cast h0 i) ((Finset.le_fold_max _).mpr (.inr ⟨i, hi, le_rfl⟩))
  exact_mod_cast h1

/-! ## The constants -/

theorem k_two : Ideal.ofBits .f32 0x40000000#32 = ((2 : ℝ) : EReal) := by
  simp [Ideal.ofBits, Ideal.ieee, -EReal.coe_mul]; norm_num
theorem k_eighth : Ideal.ofBits .f32 0x3E000000#32 = ((1 / 8 : ℝ) : EReal) := by
  simp [Ideal.ofBits, Ideal.ieee, -EReal.coe_mul]; norm_num
theorem k_bot : Ideal.ofBits .f32 0xFF800000#32 = ⊥ := by simp [Ideal.ofBits, Ideal.ieee]
theorem k_top : Ideal.ofBits .f32 0x7F800000#32 = ⊤ := by simp [Ideal.ofBits, Ideal.ieee]
theorem k_one : Ideal.ofBits .f32 0x3F800000#32 = 1 := by
  simp [Ideal.ofBits, Ideal.ieee, -EReal.coe_mul]; norm_num
theorem k_one_bf16 : Ideal.ofBits .bf16 0x3F80#16 = 1 := by
  simp [Ideal.ofBits, Ideal.ieee, -EReal.coe_mul]; norm_num
theorem k_slack : ∃ r : ℝ, Ideal.ofBits .f32 0x3F802000#32 = r :=
  ⟨_, by simp [Ideal.ofBits, Ideal.ieee, -EReal.coe_mul]; rfl⟩
theorem k_extra : ∃ r : ℝ, Ideal.ofBits .f32 0x3A800000#32 = r :=
  ⟨_, by simp [Ideal.ofBits, Ideal.ieee, -EReal.coe_mul]; rfl⟩

/-- A sum of products of reals is real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  exact ⟨∑ i, a i * b i, by rw [coe_sum]; exact Finset.sum_congr rfl fun i _ => by rw [ha, hb, EReal.coe_mul]⟩

theorem real_of_abs_lt {x : EReal} (h : max x (-x) < ⊤) : ∃ r : ℝ, x = r := by
  induction x with
  | bot => simp at h
  | top => simp at h
  | coe r => exact ⟨r, rfl⟩

end Cert.Softmax

end
-- ==== Proof.Host.lean ====
/-
  The arrays that the call reads, at an index: the packed array of scaled queries, keys and values, the keys position by
  position, and the greatest norms of the keys.
-/
module

public import proofs.«01_k».proof.Proof.Math
public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Attn

open Cert.KernelIdeal Cert.KernelIdeal.Gen
open Idealize.ShloMosaic Idealize.ShloMosaic.TcCoe
open Cert.Softmax
open scoped BigOperators

/-- The packed array. -/
def packed (q : FVec Ideal S2x16384x8x64 .f32) (k v : FVec Ideal S2x16384x2x64 .f32) : FVec Ideal S2x2560x16384 .bf16 :=
  truncf .bf16 (transpose S2x2560x16384 [0, 2, 1]
    (pad S2x16384x2560 ![0, 0, 0] ![0, 0, 1792] ![0, 0, 0]
      (concatenate S2x16384x768 2 [⟨S2x16384x512, shapeCast S2x16384x512 (mulf q (broadcastInDim S2x16384x8x64 ![] bcast_S_S2x16384x8x64
            (Host.divf (constant S_ .f32 0x3E000000#32) (Host.log (constant S_ .f32 0x40000000#32))))) shapeCasts_S2x16384x8x64_S2x16384x512⟩,
          ⟨S2x16384x128, shapeCast S2x16384x128 k shapeCasts_S2x16384x2x64_S2x16384x128⟩,
          ⟨S2x16384x128, shapeCast S2x16384x128 v shapeCasts_S2x16384x2x64_S2x16384x128⟩]
        concatenates_S2x16384x512_S2x16384x128_S2x16384x128_S2x16384x768_d2)
      (sitofp .f32 (constantI S_ 32 0#32) : FVec Ideal S_ .f32) pads_S2x16384x768_S2x16384x2560_000_000_017920 h_S_)
    transposes_S2x16384x2560_S2x2560x16384_0_2_1) bitsLt_bf16_f32

/-- The keys, position by position. -/
def keys (x : FVec Ideal S2x2560x16384 .bf16) : FVec Ideal S2x2x16384x64 .bf16 :=
  transpose S2x2x16384x64 [0, 1, 3, 2] (shapeCast S2x2x64x16384
    (extractStridedSlice S2x128x16384 ![0, 512, 0] x slices_S2x2560x16384_S2x128x16384_0_512_0)
    shapeCasts_S2x128x16384_S2x2x64x16384) transposes_S2x2x64x16384_S2x2x16384x64_0_1_3_2

/-- The greatest norm of the keys of each head. -/
def norms (x : FVec Ideal S2x2x16384x64 .bf16) : FVec Ideal S4 .f32 :=
  shapeCast S4 (Host.sqrt (Host.reduce FloatOps.maximumf
    (Host.reduceAdd (mulf (extf .f32 x bitsLt_bf16_f32) (extf .f32 x bitsLt_bf16_f32)) (constant S_ .f32 0x00000000#32)
      reducesTo_S2x2x16384x64_S2x2x16384_d3 h_S_)
    (constant S_ .f32 0xFF800000#32) reducesTo_S2x2x16384_S2x2_d2 h_S_)) shapeCasts_S2x2_S4

section

variable (m : (ℓ : Loc nD τ sig) → Buf (Elt Ideal) ℓ) (c : Dev nD)

/-- The three arguments. -/
abbrev aq : FVec Ideal S2x16384x8x64 .f32 := m ((c.tc : Thread nD τ).loc main_arg0)
abbrev ak : FVec Ideal S2x16384x2x64 .f32 := m ((c.tc : Thread nD τ).loc main_arg1)
abbrev av : FVec Ideal S2x16384x2x64 .f32 := m ((c.tc : Thread nD τ).loc main_arg2)

set_option maxHeartbeats 2000000 in
theorem V_packed : V (F := Ideal) m c main_v10 = packed (aq m c) (ak m c) (av m c) := by
  unfold V
  simp only [hostOps0, hostOps0_1, hostOps0_2, List.flatten_cons, List.flatten_nil, List.append_nil, List.cons_append, List.nil_append]
  after_results <;> rfl

set_option maxHeartbeats 2000000 in
theorem V_keys : V (F := Ideal) m c main_v13 = keys (packed (aq m c) (ak m c) (av m c)) := by
  unfold V
  simp only [hostOps0, hostOps0_1, hostOps0_2, List.flatten_cons, List.flatten_nil, List.append_nil, List.cons_append, List.nil_append]
  after_results <;> rfl

set_option maxHeartbeats 2000000 in
theorem V_norms : V (F := Ideal) m c main_v19 = norms (keys (packed (aq m c) (ak m c) (av m c))) := by
  unfold V
  simp only [hostOps0, hostOps0_1, hostOps0_2, List.flatten_cons, List.flatten_nil, List.append_nil, List.cons_append, List.nil_append]
  after_results <;> rfl

end

/-! ## At an index -/

variable (q : FVec Ideal S2x16384x8x64 .f32) (k v : FVec Ideal S2x16384x2x64 .f32)

theorem scale_eq : Ideal.div (Ideal.ofBits .f32 0x3E000000#32) (Ideal.log (Ideal.ofBits .f32 0x40000000#32)) = ((1 / 8 / Real.log 2 : ℝ) : EReal) := by
  have h2 : (0 : ℝ) < Real.log 2 := Real.log_pos (by norm_num)
  rw [k_eighth, k_two, Ideal.log_coe, if_neg (by norm_num), div_pos _ _ h2, ← EReal.coe_mul]
  rfl

theorem packed_query (b : Fin 2) (h : Fin 8) (d : Fin 64) (p : Fin 16384) :
    packed q k v (ix3 b ⟨64 * h.val + d.val, by omega⟩ p) = q (ix4 b p h d) * ((1 / 8 / Real.log 2 : ℝ) : EReal) := by
  rw [← scale_eq]
  pointwise [packed]
  rw [dif_pos (by omega), dif_pos (by omega)]

theorem packed_key (b : Fin 2) (h : Fin 2) (d : Fin 64) (p : Fin 16384) :
    packed q k v (ix3 b ⟨512 + 64 * h.val + d.val, by omega⟩ p) = k (ix4 b p h d) := by
  pointwise [packed]
  rw [dif_pos (by omega), dif_neg (by omega), dif_pos (by omega)]
  exact congrArg k (congrArg₂ (ix4 b p) (Fin.ext (by dsimp only; omega)) (Fin.ext (by dsimp only; omega)))

theorem packed_value (b : Fin 2) (h : Fin 2) (d : Fin 64) (p : Fin 16384) :
    packed q k v (ix3 b ⟨640 + 64 * h.val + d.val, by omega⟩ p) = v (ix4 b p h d) := by
  pointwise [packed]
  rw [dif_pos (by omega), dif_neg (by omega), dif_neg (by omega)]
  exact congrArg v (congrArg₂ (ix4 b p) (Fin.ext (by dsimp only; omega)) (Fin.ext (by dsimp only; omega)))

theorem keys_at (x : FVec Ideal S2x2560x16384 .bf16) (b g : Fin 2) (p : Fin 16384) (d : Fin 64) :
    keys x (ix4 b g p d) = x (ix3 b ⟨512 + 64 * g.val + d.val, by omega⟩ p) := by
  pointwise [keys]
  exact congrArg x (congrArg (fun r => ix3 b r p) (Fin.ext (by dsimp only; omega)))

theorem norms_at (x : FVec Ideal S2x2x16384x64 .bf16) (n : Fin 4) :
    norms x (ix1 n) = Ideal.sqrt ((Finset.univ : Finset (Fin 16384)).fold max ⊥ fun p =>
      ∑ d : Fin 64, x (ix4 ⟨n.val / 2, by omega⟩ ⟨n.val % 2, by omega⟩ p d) * x (ix4 ⟨n.val / 2, by omega⟩ ⟨n.val % 2, by omega⟩ p d)) := by
  rw [← k_bot]
  pointwise [norms]

end Cert.KernelIdeal.Attn

end
-- ==== Proof.Read.lean ====
/-
  What a grid point reads, at an index: a head's queries, a block of keys, a block of values and the greatest norm of the keys,
  each as an entry of the array the window lies on.
-/
module

public import proofs.«01_k».proof.Proof.Launch
public import proofs.«01_k».proof.Proof.Host
public import Idealize.ShloMosaic.Lib.Pipeline.ValueKit.Point

@[expose] public section

set_option maxRecDepth 16384

noncomputable section

namespace Cert.KernelIdeal.Attn

open Cert.KernelIdeal Cert.KernelIdeal.Gen
open Idealize.ShloMosaic Idealize.ShloMosaic.TcCoe
open Cert.Softmax
open scoped BigOperators

variable (m : (ℓ : Loc nD τ sig) → Buf (Elt Ideal) ℓ) (c : Dev nD)

/-- The batch entry of a point. -/
def ib (t : Fin cfg0.N) : Fin 2 := grid0.coords t 0
/-- The head of keys of a point. -/
def ig (t : Fin cfg0.N) : Fin 2 := grid0.coords t 1
/-- The block of queries of a point. -/
def iq (t : Fin cfg0.N) : Fin 64 := grid0.coords t 2

theorem idx : ∀ t : Fin cfg0.N, win0_0.index t = ![(ib t).val, (ig t).val, (iq t).val]
    ∧ win0_1.index t = ![(ib t).val, (ig t).val, 0, 0] ∧ win0_2.index t = ![(ib t).val, 10 + (ig t).val, 0]
    ∧ win0_3.index t = ![0] ∧ win0_4.index t = ![(ib t).val, (iq t).val, (ig t).val] := by
  decide +kernel

theorem off (t : Fin cfg0.N) : k0_off1 (grid0.coords t) 0 = 2 * (ib t).val + (ig t).val := by
  have h : ∀ t : Fin cfg0.N, k0_off1 (grid0.coords t) 0 = 2 * (ib t).val + (ig t).val := by decide +kernel
  exact h t

theorem iblk0_at (t : Fin cfg0.N) (r : Fin 256) (p : Fin 256) :
    (iblk (F := Ideal) m c 0 t : FVec Ideal S1x256x256 .bf16) (ix3 0 r p)
      = (V (F := Ideal) m c main_v10 : FVec Ideal S2x2560x16384 .bf16)
          (ix3 (ib t) ⟨256 * (ig t).val + r.val, by omega⟩ ⟨256 * (iq t).val + p.val, by omega⟩) := by
  blk_simp [iblk]
  have := (idx t).1
  refine congrArg (V (F := Ideal) m c main_v10) (funext fun a => Fin.ext ?_)
  fin_cases a
  · blk_simp [this]
    rfl
  · blk_simp [this]
    exact congrArg (· + r.val) (Nat.mul_comm _ _)
  · blk_simp [this]
    exact congrArg (· + p.val) (Nat.mul_comm _ _)

theorem iblk1_at (t : Fin cfg0.N) (j : Fin 16384) (d : Fin 64) :
    (iblk (F := Ideal) m c 1 t : FVec Ideal S1x1x16384x64 .bf16) (ix4 0 0 j d)
      = (V (F := Ideal) m c main_v13 : FVec Ideal S2x2x16384x64 .bf16) (ix4 (ib t) (ig t) j d) := by
  unfold iblk
  rw [View.read_apply]
  have := (idx t).2.1
  refine (cast_eq _ _).trans (congrArg (V (F := Ideal) m c main_v13) (funext fun a => Fin.ext ?_))
  match a with
  | ⟨0, h⟩ =>
    refine (Pipeline.Window.rect_emb_val win0_1 t _ ⟨0, h⟩).trans ?_
    rw [this]
    exact Nat.mul_one _
  | ⟨1, h⟩ =>
    refine (Pipeline.Window.rect_emb_val win0_1 t _ ⟨1, h⟩).trans ?_
    rw [this]
    exact Nat.mul_one _
  | ⟨2, h⟩ => exact (Pipeline.Window.rect_emb_val_of_index_zero win0_1 t ⟨2, h⟩ (by rw [this]; rfl) _).trans rfl
  | ⟨3, h⟩ => exact (Pipeline.Window.rect_emb_val_of_index_zero win0_1 t ⟨3, h⟩ (by rw [this]; rfl) _).trans rfl

theorem iblk2_at (t : Fin cfg0.N) (d : Fin 64) (j : Fin 16384) :
    (iblk (F := Ideal) m c 2 t : FVec Ideal S1x64x16384 .bf16) (ix3 0 d j)
      = (V (F := Ideal) m c main_v10 : FVec Ideal S2x2560x16384 .bf16)
          (ix3 (ib t) ⟨640 + 64 * (ig t).val + d.val, by omega⟩ j) := by
  blk_simp [iblk]
  have := (idx t).2.2.1
  have h : (10 + (ig t).val) * 64 = 640 + 64 * (ig t).val := by omega
  refine congrArg (V (F := Ideal) m c main_v10) (funext fun a => Fin.ext ?_)
  fin_cases a
  · blk_simp [this]
    rfl
  · blk_simp [this]
    exact congrArg (· + d.val) h
  · blk_simp [this]
    rfl

theorem iblk3_at (t : Fin cfg0.N) (n : Fin 4) :
    (iblk (F := Ideal) m c 3 t : FVec Ideal S4 .f32) (ix1 n) = (V (F := Ideal) m c main_v19 : FVec Ideal S4 .f32) (ix1 n) := by
  blk_simp [iblk]
  have := (idx t).2.2.2.1
  refine congrArg (V (F := Ideal) m c main_v19) (funext fun a => Fin.ext ?_)
  fin_cases a
  blk_simp [this]

theorem qOf_at (x : FVec Ideal S1x256x256 .bf16) (mp : Fin 4) (d : Fin 64) (p : Fin 256) :
    qOf (F := Ideal) x mp (ix3 0 d p) = x (ix3 0 ⟨64 * mp.val + d.val, by omega⟩ p) := by
  fin_cases mp <;> (pointwise [qOf, rQ]; try trace_state)

theorem kOf_at (x : FVec Ideal S1x1x16384x64 .bf16) (j : Fin 32) (a : Fin 512) (d : Fin 64) :
    kOf (F := Ideal) x j (ix4 0 0 a d) = x (ix4 0 0 ⟨512 * j.val + a.val, by omega⟩ d) := by
  pointwise [kOf]

theorem vOf_at (x : FVec Ideal S1x64x16384 .bf16) (j : Fin 32) (a : Fin 512) (d : Fin 64) :
    vOf (F := Ideal) x j (ix3 0 d a) = x (ix3 0 d ⟨512 * j.val + a.val, by omega⟩) := by
  pointwise [vOf]

theorem nOf_at (t : Fin cfg0.N) (x : FVec Ideal S4 .f32) :
    nOf (F := Ideal) (grid0.coords t) x = x (ix1 ⟨2 * (ib t).val + (ig t).val, by omega⟩) := by
  pointwise [nOf]
  exact congrArg (fun n => x (ix1 n)) (Fin.ext (off t))

end Cert.KernelIdeal.Attn

end
-- ==== Proof.BodyValue.lean ====
/-
  What the body stores, at the extended reals: at a query and a channel of a head, the average of the channel's values
  by the powers of two of the scores less a real offset — whichever of the two passes was taken.
-/
module

public import proofs.«01_k».proof.Proof.Launch
public import proofs.«01_k».proof.Proof.Math
public import Idealize.ShloMosaic.Lib.Pointwise
public import Idealize.ShloMosaic.PureOps.IdealRules

@[expose] public section

set_option maxRecDepth 16384

noncomputable section

namespace Cert.KernelIdeal.Attn

open Cert.KernelIdeal Cert.KernelIdeal.Gen
open Idealize.ShloMosaic
open Cert.Softmax
open scoped BigOperators

/-! ## The pieces at an index -/

theorem scoreV_at (k : Vec Ideal S1x1x512x64 .bf16) (q : Vec Ideal S1x64x256 .bf16) (a : Fin 512) (p : Fin 256) :
    scoreV (F := Ideal) k q (ix2 a p) = ∑ d : Fin 64, k (ix4 0 0 a d) * q (ix3 0 d p) := by
  pointwise [scoreV]

theorem accV_at (a : Vec Ideal S1x80x256 .f32) (s : FVec Ideal S512x256 .f32) (off : Vec Ideal S1x1x1x256 .f32)
    (v : Vec Ideal S1x64x512 .bf16) (r : Fin 80) (p : Fin 256) :
    accV (F := Ideal) a s off v (ix3 0 r p)
      = a (ix3 0 r p) + ∑ k : Fin 512, vaug (F := Ideal) v (ix2 r k) * Ideal.exp2 (s (ix2 k p) - off (ix4 0 0 0 p)) := by
  pointwise [accV, pvV]; rfl

theorem accOV_at (al : Vec Ideal S1x1x1x256 .f32) (a : Vec Ideal S1x80x256 .f32) (s : FVec Ideal S512x256 .f32)
    (off : Vec Ideal S1x1x1x256 .f32) (v : FVec Ideal S80x512 .bf16) (r : Fin 80) (p : Fin 256) :
    accOV (F := Ideal) al a s off v (ix3 0 r p)
      = al (ix4 0 0 0 p) * a (ix3 0 r p) + ∑ k : Fin 512, v (ix2 r k) * Ideal.exp2 (s (ix2 k p) - off (ix4 0 0 0 p)) := by
  pointwise [accOV, pvV]; rfl

theorem vaug_at (v : Vec Ideal S1x64x512 .bf16) (r : Fin 80) (k : Fin 512) :
    vaug (F := Ideal) v (ix2 r k) = if h : r.val < 64 then v (ix3 0 ⟨r.val, h⟩ k) else 1 := by
  rw [← k_one_bf16]; pointwise [vaug, ones]

theorem maxV_at (mo : Vec Ideal S1x1x256 .f32) (s : FVec Ideal S512x256 .f32) (p : Fin 256) :
    maxV (F := Ideal) mo s (ix2 0 p)
      = max (mo (ix3 0 0 p)) ((Finset.univ : Finset (Fin 512)).fold max ⊥ fun k => s (ix2 k p)) := by
  rw [← k_bot]; pointwise [maxV]

theorem boundV_at (q : Vec Ideal S1x64x256 .bf16) (kmax : Ideal .f32) (p : Fin 256) :
    boundV (F := Ideal) q kmax (ix2 0 p)
      = Ideal.sqrt (∑ d : Fin 64, q (ix3 0 d p) * q (ix3 0 d p)) * (kmax * Ideal.ofBits .f32 0x3F802000#32)
        + Ideal.ofBits .f32 0x3A800000#32 := by
  pointwise [boundV]

theorem outV_at (a0 a1 a2 a3 : Vec Ideal S1x80x256 .f32) (p ch : Fin 256) :
    outV (F := Ideal) (numV a0) (denV a0) a1 a2 a3 (ix3 0 p ch)
      = Ideal.div ((![a0, a1, a2, a3] : Fin 4 → Vec Ideal S1x80x256 .f32) ⟨ch.val / 64, by omega⟩ (ix3 0 ⟨ch.val % 64, by omega⟩ p))
          ((![a0, a1, a2, a3] : Fin 4 → Vec Ideal S1x80x256 .f32) ⟨ch.val / 64, by omega⟩ (ix3 0 64 p)) := by
  pointwise [outV, quotV, numV, denV]
  have hc := ch.isLt
  have hq : ch.val / 64 = 0 ∨ ch.val / 64 = 1 ∨ ch.val / 64 = 2 ∨ ch.val / 64 = 3 := by omega
  rcases hq with h | h | h | h
  · rw [dif_pos (by omega)]
    have e : (⟨ch.val / 64, by omega⟩ : Fin 4) = 0 := Fin.ext h
    have e' : ch.val % 64 = ch.val := by omega
    simp only [e, e']; rfl
  · rw [dif_neg (by omega), dif_pos (by omega)]
    have e : (⟨ch.val / 64, by omega⟩ : Fin 4) = 1 := Fin.ext h
    have e' : ch.val % 64 = ch.val - 64 := by omega
    simp only [e, e']; rfl
  · rw [dif_neg (by omega), dif_neg (by omega), dif_pos (by omega)]
    have e : (⟨ch.val / 64, by omega⟩ : Fin 4) = 2 := Fin.ext h
    have e' : ch.val % 64 = ch.val - 64 - 64 := by omega
    simp only [e, e']; rfl
  · rw [dif_neg (by omega), dif_neg (by omega), dif_neg (by omega)]
    have e : (⟨ch.val / 64, by omega⟩ : Fin 4) = 3 := Fin.ext h
    have e' : ch.val % 64 = ch.val - 64 - 64 - 64 := by omega
    simp only [e, e']; rfl

theorem mask_bot : maskC (F := Ideal) = (⊥ : EReal) := IdealRules.named_const.ideal_named_scalar κ "mask" _ _ rfl
theorem huge_top : hugeC (F := Ideal) = (⊤ : EReal) := IdealRules.named_const.ideal_named_scalar κ "huge" _ _ rfl

/-! ## The passes -/

section Pass

variable (K : Fin 32 → Vec Ideal S1x1x512x64 .bf16) (V : Fin 32 → Vec Ideal S1x64x512 .bf16) (q : Vec Ideal S1x64x256 .bf16)
  (s : Fin 32 → Fin 512 → ℝ) (p : Fin 256)

/-- The weighted sum over the first `n` blocks of a row of the values, with the weights at offset `o`. -/
def wsum (r : Fin 80) (o : ℝ) (n : ℕ) : EReal :=
  ∑ x ∈ Finset.range n ×ˢ (Finset.univ : Finset (Fin 512)),
    vaug (F := Ideal) (V (Fin.ofNat 32 x.1)) (ix2 r x.2) * ((pw (s (Fin.ofNat 32 x.1) x.2 - o) : ℝ) : EReal)

theorem wsum_zero (r : Fin 80) (o : ℝ) : wsum V s r o 0 = 0 := by simp [wsum]

theorem wsum_succ (r : Fin 80) (o : ℝ) (n : ℕ) :
    wsum V s r o (n + 1) = wsum V s r o n
      + ∑ k : Fin 512, vaug (F := Ideal) (V (Fin.ofNat 32 n)) (ix2 r k) * ((pw (s (Fin.ofNat 32 n) k - o) : ℝ) : EReal) := by
  unfold wsum
  rw [Finset.sum_product, Finset.sum_product, Finset.sum_range_succ]

theorem wsum_rescale (r : Fin 80) (o o' : ℝ) (n : ℕ) :
    ((pw (o - o') : ℝ) : EReal) * wsum V s r o n = wsum V s r o' n :=
  rescale _ (fun x : ℕ × Fin 512 => vaug (F := Ideal) (V (Fin.ofNat 32 x.1)) (ix2 r x.2)) (fun x => s (Fin.ofNat 32 x.1) x.2) o o'

theorem wsum_all (r : Fin 80) (o : ℝ) :
    wsum V s r o 32 = ∑ x : Fin 32 × Fin 512, vaug (F := Ideal) (V x.1) (ix2 r x.2) * ((pw (s x.1 x.2 - o) : ℝ) : EReal) := by
  unfold wsum
  rw [Finset.sum_product, Finset.sum_range, Fintype.sum_prod_type]
  refine Finset.sum_congr rfl fun i _ => ?_
  simp only [show Fin.ofNat 32 i.val = i from Fin.ext (Nat.mod_eq_of_lt i.isLt)]

variable (hs : ∀ i k, scoreV (F := Ideal) (K i) q (ix2 k p) = ((s i k : ℝ) : EReal))

include hs

theorem fastA_at (off : Vec Ideal S1x1x1x256 .f32) (o : ℝ) (ho : off (ix4 0 0 0 p) = (o : EReal)) (r : Fin 80) (n : ℕ) :
    fastA (F := Ideal) K V q off n (ix3 0 r p) = wsum V s r o n := by
  induction n with
  | zero => rw [wsum_zero]; exact Ideal.ofBits_zero_f32
  | succ n ih =>
    rw [fastA, accV_at, ih, wsum_succ]
    congr 1
    refine Finset.sum_congr rfl fun k _ => ?_
    rw [hs, ho, exp2_sub]

omit hs in
theorem accH_at (h : Hd Ideal) (v : Vec Ideal S1x64x512 .bf16) (r : Fin 80) :
    accH (F := Ideal) h v (ix3 0 r p) = h.al (ix4 0 0 0 p) * h.a (ix3 0 r p)
      + ∑ k : Fin 512, vaug (F := Ideal) v (ix2 r k) * Ideal.exp2 (h.s (ix4 0 0 k p) - h.off (ix4 0 0 0 p)) := by
  unfold accH accHv
  rw [accOV_at]
  pointwise

omit hs in
/-- The accumulation before the first block adds nothing. -/
theorem accH_zero (v : Vec Ideal S1x64x512 .bf16) (r : Fin 80) : accH (F := Ideal) onl0 v (ix3 0 r p) = 0 := by
  rw [accH_at]
  have h1 : (onl0 (F := Ideal)).a (ix3 0 r p) = 0 := Ideal.ofBits_zero_f32
  rw [h1, mul_zero, zero_add]
  refine Finset.sum_eq_zero fun k _ => ?_
  have h2 : (onl0 (F := Ideal)).off (ix4 0 0 0 p) = ⊤ := huge_top
  have h3 : (onl0 (F := Ideal)).s (ix4 0 0 k p) = ((0 : ℝ) : EReal) := Ideal.ofBits_zero_f32
  rw [h2, h3, sub_eq_add_neg, EReal.neg_top, EReal.add_bot]
  exact mul_zero _

/-- After the scores of `n + 1` blocks: the maximum is a real, the offset that maximum, and the accumulator with its
    factor is the sum over the first `n` blocks at that offset. -/
theorem onlH_at (n : ℕ) : ∃ o : ℝ, (onlH (F := Ideal) K V q (n + 1)).m (ix3 0 0 p) = o
    ∧ (onlH (F := Ideal) K V q (n + 1)).off (ix4 0 0 0 p) = o
    ∧ (∀ k, (onlH (F := Ideal) K V q (n + 1)).s (ix4 0 0 k p) = ((s (Fin.ofNat 32 n) k : ℝ) : EReal))
    ∧ ∀ r, (onlH (F := Ideal) K V q (n + 1)).al (ix4 0 0 0 p) * (onlH (F := Ideal) K V q (n + 1)).a (ix3 0 r p) = wsum V s r o n := by
  have key : ∀ (h : Hd Ideal) (i : Fin 32), (h.m (ix3 0 0 p) = ⊥ ∨ ∃ o : ℝ, h.m (ix3 0 0 p) = o) →
      ∃ o : ℝ, maxV (F := Ideal) h.m (scoreV (K i) q) (ix2 0 p) = o := by
    intro h i hm
    rw [maxV_at]
    simp only [hs]
    obtain ⟨o', ho'⟩ := fold_max_real (Finset.univ : Finset (Fin 512)) (s i) ⟨0, Finset.mem_univ _⟩ ⊥ (.inl rfl)
    rw [ho']
    rcases hm with hm | ⟨o, hm⟩
    · exact ⟨o', by rw [hm, max_bot_left]⟩
    · exact ⟨max o o', by rw [hm]; exact (EReal.coe_strictMono.monotone.map_max).symm⟩
  have rd : ∀ (h : Hd Ideal) (i : Fin 32) (v : Vec Ideal S1x64x512 .bf16) (o : ℝ), maxV (F := Ideal) h.m (scoreV (K i) q) (ix2 0 p) = o →
      (stepH h (K i) q v).m (ix3 0 0 p) = o ∧ (stepH h (K i) q v).off (ix4 0 0 0 p) = o
      ∧ (∀ k, (stepH h (K i) q v).s (ix4 0 0 k p) = ((s i k : ℝ) : EReal))
      ∧ (stepH h (K i) q v).al (ix4 0 0 0 p) = Ideal.exp2 (h.m (ix3 0 0 p) - (o : EReal)) := by
    intro h i v o ho
    refine ⟨?_, ?_, fun k => ?_, ?_⟩
    · rw [← ho]; pointwise [stepH, scH]
    · rw [← ho]; pointwise [stepH, scH]
    · rw [← hs]; pointwise [stepH, scH]
    · rw [← ho]; pointwise [stepH, scH]; rfl
  induction n with
  | zero =>
    have hm : (onl0 (F := Ideal)).m (ix3 0 0 p) = ⊥ := mask_bot
    obtain ⟨o, ho⟩ := key onl0 (Fin.ofNat 32 0) (.inl hm)
    obtain ⟨h1, h2, h3, _⟩ := rd onl0 (Fin.ofNat 32 0) (V (Fin.ofNat 32 (0 - 1))) o ho
    refine ⟨o, h1, h2, h3, fun r => ?_⟩
    rw [wsum_zero]
    have : (onlH (F := Ideal) K V q (0 + 1)).a (ix3 0 r p) = 0 := accH_zero p _ r
    rw [this, mul_zero]
  | succ n ih =>
    obtain ⟨o, h1, h2, h3, h4⟩ := ih
    obtain ⟨o', ho'⟩ := key (onlH K V q (n + 1)) (Fin.ofNat 32 (n + 1)) (.inr ⟨o, h1⟩)
    obtain ⟨g1, g2, g3, g4⟩ := rd (onlH K V q (n + 1)) (Fin.ofNat 32 (n + 1)) (V (Fin.ofNat 32 (n + 1 - 1))) o' ho'
    refine ⟨o', g1, g2, g3, fun r => ?_⟩
    have ha : (onlH (F := Ideal) K V q (n + 1 + 1)).a (ix3 0 r p) = wsum V s r o (n + 1) := by
      show accH (F := Ideal) (onlH K V q (n + 1)) (V (Fin.ofNat 32 (n + 1 - 1))) (ix3 0 r p) = _
      rw [accH_at, h4, wsum_succ]
      congr 1
      refine Finset.sum_congr rfl fun k _ => ?_
      rw [h2, h3, exp2_sub]; rfl
    rw [ha]
    have hal : (onlH (F := Ideal) K V q (n + 1 + 1)).al (ix4 0 0 0 p) = ((pw (o - o') : ℝ) : EReal) := by
      refine g4.trans ?_
      rw [h1, exp2_sub]
    rw [hal, wsum_rescale]

/-- The accumulator at the end, by either pass. -/
theorem finA_at (kmax : Ideal .f32) (hq : ∃ o : ℝ, boundV (F := Ideal) q kmax (ix2 0 p) = o) (c : BitVec 1) :
    ∃ o : ℝ, ∀ r, finA (F := Ideal) K V q kmax c (ix3 0 r p)
      = ∑ x : Fin 32 × Fin 512, vaug (F := Ideal) (V x.1) (ix2 r x.2) * ((pw (s x.1 x.2 - o) : ℝ) : EReal) := by
  unfold finA
  split_ifs with h
  · obtain ⟨o, ho⟩ := hq
    refine ⟨o, fun r => ?_⟩
    rw [fastA_at K V q s p hs _ o (by rw [← ho]; pointwise) r 32, wsum_all]
  · obtain ⟨o, h1, h2, h3, h4⟩ := onlH_at K V q s p hs 31
    refine ⟨o, fun r => ?_⟩
    rw [accH_at, h4, ← wsum_all]
    refine Eq.trans ?_ (wsum_succ V s r o 31).symm
    refine congrArg (wsum V s r o 31 + ·) (Finset.sum_congr rfl fun k _ => ?_)
    rw [h2, h3, exp2_sub]; rfl

end Pass

/-- A head's quotient, from the accumulator at the end. -/
theorem quot_at (K : Fin 32 → Vec Ideal S1x1x512x64 .bf16) (V : Fin 32 → Vec Ideal S1x64x512 .bf16) (q : Vec Ideal S1x64x256 .bf16)
    (s : Fin 32 → Fin 512 → ℝ) (p : Fin 256) (hs : ∀ i k, scoreV (F := Ideal) (K i) q (ix2 k p) = ((s i k : ℝ) : EReal))
    (kmax : Ideal .f32) (hq : ∃ o : ℝ, boundV (F := Ideal) q kmax (ix2 0 p) = o) (c : BitVec 1) (d : Fin 64)
    (S : Fin 32 × Fin 512 → ℝ) (hS : ∀ x, S x = s x.1 x.2 * Real.log 2) (M : ℝ) :
    Ideal.div (finA (F := Ideal) K V q kmax c (ix3 0 ⟨d.val, by omega⟩ p)) (finA (F := Ideal) K V q kmax c (ix3 0 64 p))
      = ∑ x : Fin 32 × Fin 512, V x.1 (ix3 0 d x.2)
          * Ideal.div ((Real.exp (S x - M) : ℝ) : EReal) (∑ x, ((Real.exp (S x - M) : ℝ) : EReal)) := by
  obtain ⟨o, ho⟩ := finA_at K V q s p hs kmax hq c
  rw [ho, ho, ← average (fun x : Fin 32 × Fin 512 => V x.1 (ix3 0 d x.2)) (fun x => s x.1 x.2) S hS o M]
  refine congrArg₂ Ideal.div (Finset.sum_congr rfl fun x _ => ?_) (Finset.sum_congr rfl fun x _ => ?_)
  · rw [vaug_at, dif_pos d.isLt]
  · rw [vaug_at, dif_neg (by decide), one_mul]

end Cert.KernelIdeal.Attn

end
-- ==== Proof.Reference.lean ====
/-
  The reference at an index: a softmax's average of the values, over the keys of the query's head.
-/
module

public import proofs.«01_k».proof.Proof.Math
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe
open Cert.Softmax
open scoped BigOperators

variable (q : FVec Ideal S2x16384x8x64 .f32) (k v : FVec Ideal S2x16384x2x64 .f32)

/-- The scaled products of queries and keys. -/
def scores : FVec Ideal S2x2x4x16384x16384 .f32 :=
  transpose S2x2x4x16384x16384 [0, 1, 4, 3, 2]
    (Host.dotGeneral (F := Ideal) (φ₁ := .f32) (φ₂ := .f32) dot_S2x16384x2x64_S2x16384x2x4x64_S2x2x16384x16384x4_3_4_1_13_02_02 none k
      (mulf (shapeCast S2x16384x2x4x64 q shapeCasts_S2x16384x8x64_S2x16384x2x4x64)
        (broadcastInDim S2x16384x2x4x64 ![] bcast_S_S2x16384x2x4x64 (constant S_ .f32 0x3E000000#32))))
    transposes_S2x2x16384x16384x4_S2x2x4x16384x16384_0_1_4_3_2

/-- Each row's greatest score. -/
def rowMax (s : FVec Ideal S2x2x4x16384x16384 .f32) : FVec Ideal S2x2x4x16384 .f32 :=
  Host.reduce FloatOps.maximumf s (constant S_ .f32 0xFF800000#32) reducesTo_S2x2x4x16384x16384_S2x2x4x16384_d4 h_S_

/-- The exponentials, a row's number taken off. -/
def expsOf (s : FVec Ideal S2x2x4x16384x16384 .f32) (x : FVec Ideal S2x2x4x16384 .f32) : FVec Ideal S2x2x4x16384x16384 .f32 :=
  Host.exp (subf s
    (broadcastInDim S2x2x4x16384x16384 ![0, 1, 2, 3, 4] bcast_S2x2x4x16384x1_S2x2x4x16384x16384_0_1_2_3_4
      (broadcastInDim S2x2x4x16384x1 ![0, 1, 2, 3] bcast_S2x2x4x16384_S2x2x4x16384x1_0_1_2_3
        (maximumf (broadcastInDim S2x2x4x16384 ![] bcast_S_S2x2x4x16384 (constant S_ .f32 0xFF800000#32)) x))))

/-- The exponentials, each row's greatest score taken off. -/
def exps (s : FVec Ideal S2x2x4x16384x16384 .f32) : FVec Ideal S2x2x4x16384x16384 .f32 := expsOf s (rowMax s)

/-- The softmax. -/
def soft (e : FVec Ideal S2x2x4x16384x16384 .f32) : FVec Ideal S2x2x4x16384x16384 .f32 :=
  Host.divf e
    (broadcastInDim S2x2x4x16384x16384 ![0, 1, 2, 3, 4] bcast_S2x2x4x16384x1_S2x2x4x16384x16384_0_1_2_3_4
      (broadcastInDim S2x2x4x16384x1 ![0, 1, 2, 3] bcast_S2x2x4x16384_S2x2x4x16384x1_0_1_2_3
        (Host.reduceAdd e (constant S_ .f32 0x00000000#32) reducesTo_S2x2x4x16384x16384_S2x2x4x16384_d4 h_S_)))

/-- The averages, as the result lays them out. -/
def averages (w : FVec Ideal S2x2x4x16384x16384 .f32) : FVec Ideal S2x16384x512 .bf16 :=
  truncf .bf16 (shapeCast S2x16384x512 (transpose S2x16384x2x4x64 [0, 4, 1, 3, 2]
    (Host.dotGeneral (F := Ideal) (φ₁ := .f32) (φ₂ := .f32) dot_S2x16384x2x64_S2x2x4x16384x16384_S2x2x64x4x16384_1_4_3_23_02_01 none v w)
    transposes_S2x2x64x4x16384_S2x16384x2x4x64_0_4_1_3_2) shapeCasts_S2x16384x2x4x64_S2x16384x512) bitsLt_bf16_f32

/-- The reference's result. -/
def refOut : FVec Ideal S2x16384x512 .bf16 := averages v (soft (exps (scores q k)))

theorem scores_at (b g : Fin 2) (r : Fin 4) (p j : Fin 16384) :
    scores q k (ix5 b g r p j)
      = ∑ d : Fin 64, k (ix4 b j g d) * (q (ix4 b p ⟨4 * g.val + r.val, by omega⟩ d) * ((1 / 8 : ℝ) : EReal)) := by
  rw [← k_eighth]
  pointwise [scores]
  refine Finset.sum_congr rfl fun d _ => ?_
  exact congrArg (fun h => k (ix4 b j g d) * (q (ix4 b p h d) * _)) (Fin.ext (by dsimp only; omega))

theorem rowMax_at (s : FVec Ideal S2x2x4x16384x16384 .f32) (b g : Fin 2) (r : Fin 4) (p : Fin 16384) :
    rowMax s (ix4 b g r p)
      = (Finset.univ : Finset (Fin 16384)).fold max (Ideal.ofBits .f32 0xFF800000#32) fun j => s (ix5 b g r p j) := by
  pointwise [rowMax]

theorem expsOf_at (s : FVec Ideal S2x2x4x16384x16384 .f32) (x : FVec Ideal S2x2x4x16384 .f32) (b g : Fin 2) (r : Fin 4)
    (p j : Fin 16384) :
    expsOf s x (ix5 b g r p j) = Ideal.exp (s (ix5 b g r p j) - max (Ideal.ofBits .f32 0xFF800000#32) (x (ix4 b g r p))) := by
  pointwise [expsOf]

theorem soft_at (e : FVec Ideal S2x2x4x16384x16384 .f32) (b g : Fin 2) (r : Fin 4) (p j : Fin 16384) :
    soft e (ix5 b g r p j) = Ideal.div (e (ix5 b g r p j)) (∑ j, e (ix5 b g r p j)) := by
  pointwise [soft]

theorem averages_at (w : FVec Ideal S2x2x4x16384x16384 .f32) (b : Fin 2) (p : Fin 16384) (ch : Fin 512) :
    averages v w (ix3 b p ch)
      = ∑ j : Fin 16384, v (ix4 b j ⟨ch.val / 256, by omega⟩ ⟨ch.val % 64, by omega⟩)
          * w (ix5 b ⟨ch.val / 256, by omega⟩ ⟨ch.val % 256 / 64, by omega⟩ p j) := by
  pointwise [averages]
  have e : ch.val / 64 % 4 = ch.val % 256 / 64 := by omega
  refine Finset.sum_congr rfl fun j _ => ?_
  exact congrArg (fun r => v (ix4 b j _ _) * w (ix5 b _ r p j)) (Fin.ext e)

/-- Where the scores of a query are real, its result is their softmax's average of the values; `M` is the greatest score. -/
theorem refOut_at (b : Fin 2) (p : Fin 16384) (ch : Fin 512) (S : Fin 16384 → ℝ)
    (hS : ∀ j, scores q k (ix5 b ⟨ch.val / 256, by omega⟩ ⟨ch.val % 256 / 64, by omega⟩ p j) = ((S j : ℝ) : EReal)) :
    ∃ M : ℝ, refOut q k v (ix3 b p ch)
      = ∑ j : Fin 16384, v (ix4 b j ⟨ch.val / 256, by omega⟩ ⟨ch.val % 64, by omega⟩)
          * Ideal.div ((Real.exp (S j - M) : ℝ) : EReal) (∑ j, ((Real.exp (S j - M) : ℝ) : EReal)) := by
  obtain ⟨M, hM⟩ := fold_max_real (Finset.univ : Finset (Fin 16384)) S ⟨0, Finset.mem_univ _⟩ ⊥ (.inl rfl)
  have he : ∀ j, exps (scores q k) (ix5 b ⟨ch.val / 256, by omega⟩ ⟨ch.val % 256 / 64, by omega⟩ p j)
      = ((Real.exp (S j - M) : ℝ) : EReal) := fun j => by
    rw [exps, expsOf_at, rowMax_at, hS]
    simp only [hS]
    rw [k_bot, hM, max_eq_right bot_le, ← EReal.coe_sub, Ideal.exp_coe]
  refine ⟨M, ?_⟩
  rw [refOut, averages_at]
  refine Finset.sum_congr rfl fun j _ => ?_
  rw [soft_at]
  simp only [he]

end Cert.ReferenceIdeal.Attn

end
-- ==== Proof.Value.lean ====
/-
  The result's array after the run: entry by entry the reference's.
-/
module

public import proofs.«01_k».proof.Proof.Read
public import proofs.«01_k».proof.Proof.BodyValue
public import proofs.«01_k».proof.Proof.Reference

@[expose] public section

set_option maxRecDepth 16384

noncomputable section

namespace Cert.KernelIdeal.Attn

open Cert.KernelIdeal Cert.KernelIdeal.Gen
open Idealize.ShloMosaic Idealize.ShloMosaic.TcCoe
open Cert.Softmax
open scoped BigOperators

variable (m : (ℓ : Loc nD τ sig) → Buf (Elt Ideal) ℓ) (c : Dev nD)

/-! ## A point's blocks, in the arguments -/

theorem kblk_at (t : Fin cfg0.N) (i : Fin 32) (a : Fin 512) (d : Fin 64) :
    kOf (F := Ideal) (iblk (F := Ideal) m c 1 t) i (ix4 0 0 a d)
      = ak m c (ix4 (ib t) ⟨512 * i.val + a.val, by omega⟩ (ig t) d) :=
  (kOf_at _ i a d).trans ((iblk1_at m c t _ d).trans (by rw [V_keys, keys_at, packed_key]))

theorem qblk_at (t : Fin cfg0.N) (mp : Fin 4) (d : Fin 64) (p : Fin 256) :
    qOf (F := Ideal) (iblk (F := Ideal) m c 0 t) mp (ix3 0 d p)
      = aq m c (ix4 (ib t) ⟨256 * (iq t).val + p.val, by omega⟩ ⟨4 * (ig t).val + mp.val, by omega⟩ d)
          * ((1 / 8 / Real.log 2 : ℝ) : EReal) := by
  refine (qOf_at _ mp d p).trans ((iblk0_at m c t _ p).trans ?_)
  rw [V_packed, ← packed_query (aq m c) (ak m c) (av m c)]
  exact congrArg (fun r => packed (aq m c) (ak m c) (av m c) (ix3 (ib t) r ⟨256 * (iq t).val + p.val, by omega⟩))
    (Fin.ext (by dsimp only; omega))

theorem vblk_at (t : Fin cfg0.N) (i : Fin 32) (a : Fin 512) (d : Fin 64) :
    vOf (F := Ideal) (iblk (F := Ideal) m c 2 t) i (ix3 0 d a)
      = av m c (ix4 (ib t) ⟨512 * i.val + a.val, by omega⟩ (ig t) d) :=
  (vOf_at _ i a d).trans ((iblk2_at m c t d _).trans (by rw [V_packed, packed_value]))

theorem nblk_real (hk : ∀ i, ∃ r : ℝ, ak m c i = ((r : ℝ) : EReal)) (t : Fin cfg0.N) :
    ∃ r : ℝ, nOf (F := Ideal) (grid0.coords t) (iblk (F := Ideal) m c 3 t) = ((r : ℝ) : EReal) := by
  have e : nOf (F := Ideal) (grid0.coords t) (iblk (F := Ideal) m c 3 t) = _ :=
    (nOf_at t _).trans ((iblk3_at m c t _).trans (by rw [V_norms, norms_at]))
  rw [e]
  refine sqrt_real (fold_max_nonneg _ _ (fun p => ?_) ⟨0, Finset.mem_univ _⟩)
  refine sum_sq_real (fun d : Fin 64 => keys (packed (aq m c) (ak m c) (av m c)) (ix4 _ _ p d)) fun d => ?_
  rw [keys_at, packed_key]
  exact hk _

/-! ## What a point stores -/

theorem pick {α : Type} (f : Fin 4 → α) (mp : Fin 4) : (![f 0, f 1, f 2, f 3] : Fin 4 → α) mp = f mp := by
  fin_cases mp <;> rfl

theorem stored_at (hq : ∀ i, ∃ r : ℝ, aq m c i = ((r : ℝ) : EReal)) (hk : ∀ i, ∃ r : ℝ, ak m c i = ((r : ℝ) : EReal))
    (t : Fin cfg0.N) (p ch : Fin 256) :
    outOf (F := Ideal) (grid0.coords t) (iblk (F := Ideal) m c 0 t) (iblk (F := Ideal) m c 1 t) (iblk (F := Ideal) m c 2 t)
        (iblk (F := Ideal) m c 3 t) (ix3 0 p ch)
      = Cert.ReferenceIdeal.Attn.refOut (aq m c) (ak m c) (av m c)
          (ix3 (ib t) ⟨256 * (iq t).val + p.val, by omega⟩ ⟨256 * (ig t).val + ch.val, by omega⟩) := by
  choose qr hqr using hq
  obtain ⟨n, hn⟩ := nblk_real m c hk t
  choose kr hkr using hk
  have e1 : (⟨(256 * (ig t).val + ch.val) / 256, by omega⟩ : Fin 2) = ig t := Fin.ext (by dsimp only; omega)
  have e0 : (256 * (ig t).val + ch.val) / 256 = (ig t).val := by omega
  have e2 : (256 * (ig t).val + ch.val) % 256 / 64 = ch.val / 64 := by omega
  have e3 : (256 * (ig t).val + ch.val) % 64 = ch.val % 64 := by omega
  obtain ⟨M, hM⟩ := Cert.ReferenceIdeal.Attn.refOut_at (aq m c) (ak m c) (av m c) (ib t) ⟨256 * (iq t).val + p.val, by omega⟩
    ⟨256 * (ig t).val + ch.val, by omega⟩
    (fun j => ∑ d : Fin 64, kr (ix4 (ib t) j (ig t) d)
      * (qr (ix4 (ib t) ⟨256 * (iq t).val + p.val, by omega⟩ ⟨4 * (ig t).val + ch.val / 64, by omega⟩ d) * (1 / 8)))
    (fun j => by
      rw [Cert.ReferenceIdeal.Attn.scores_at, coe_sum]
      refine Finset.sum_congr rfl fun d _ => ?_
      rw [hqr, hkr, EReal.coe_mul, EReal.coe_mul]
      simp only [e1, e0, e2])
  rw [hM, sum_blocks, sum_blocks]
  simp only [e1, e3]
  rw [outOf, bodyV, outV_at, pick (fun mp => finA (F := Ideal) (kOf (iblk (F := Ideal) m c 1 t)) (vOf (iblk (F := Ideal) m c 2 t))
    (qOf (iblk (F := Ideal) m c 0 t) mp) _ _)]
  refine (quot_at _ _ _ (fun i a => ∑ d : Fin 64, kr (ix4 (ib t) ⟨512 * i.val + a.val, by omega⟩ (ig t) d)
      * (qr (ix4 (ib t) ⟨256 * (iq t).val + p.val, by omega⟩ ⟨4 * (ig t).val + ch.val / 64, by omega⟩ d) * (1 / 8 / Real.log 2)))
    p (fun i a => ?_) _ ?_ _ ⟨ch.val % 64, by omega⟩
    (fun x => ∑ d : Fin 64, kr (ix4 (ib t) ⟨512 * x.1.val + x.2.val, by omega⟩ (ig t) d)
        * (qr (ix4 (ib t) ⟨256 * (iq t).val + p.val, by omega⟩ ⟨4 * (ig t).val + ch.val / 64, by omega⟩ d) * (1 / 8)))
    (fun x => ?_) M).trans ?_
  · rw [scoreV_at, coe_sum]
    refine Finset.sum_congr rfl fun d _ => ?_
    rw [kblk_at, qblk_at, hqr, hkr, EReal.coe_mul, EReal.coe_mul]
  · rw [boundV_at, hn]
    refine coe_real_add (coe_real_mul (sqrt_real (sum_sq_real _ fun d => ?_)) (coe_real_mul ⟨_, rfl⟩ k_slack)) k_extra
    rw [qblk_at, hqr]
    exact coe_real_mul ⟨_, rfl⟩ ⟨_, rfl⟩
  · have h2 : Real.log 2 ≠ 0 := (Real.log_pos (by norm_num)).ne'
    rw [Finset.sum_mul]
    refine Finset.sum_congr rfl fun d _ => ?_
    field_simp
  · refine Finset.sum_congr rfl fun x _ => ?_
    rw [vblk_at]

/-! ## The array -/

theorem covers : (cfg0.win 4).Covers := by decide +kernel

theorem result_eq (hq : ∀ i, ∃ r : ℝ, aq m c i = ((r : ℝ) : EReal)) (hk : ∀ i, ∃ r : ℝ, ak m c i = ((r : ℝ) : EReal)) :
    (dats (F := Ideal) m 0 c).arrAt 4 cfg0.N = Cert.ReferenceIdeal.Attn.refOut (aq m c) (ak m c) (av m c) := by
  refine (dats (F := Ideal) m 0 c).arrAt_eq_of_covers 4 _ covers fun t hf y => ?_
  refine (cast_eq _ _).trans ?_
  obtain ⟨z, p, ch, rfl⟩ : ∃ (z : Fin 1) (p ch : Fin 256), y = ix3 z p ch := ⟨y 0, y 1, y 2, eq_ix3 y⟩
  have hz : z = 0 := Subsingleton.elim _ _
  subst hz
  refine (stored_at m c hq hk t p ch).trans ?_
  have := (idx t).2.2.2.2
  refine congrArg (Cert.ReferenceIdeal.Attn.refOut (aq m c) (ak m c) (av m c)) (funext fun a => Fin.ext ?_)
  symm
  match a with
  | ⟨0, h⟩ =>
    refine (Pipeline.Window.rect_emb_val win0_4 t _ ⟨0, h⟩).trans ?_
    rw [this]
    exact Nat.mul_one _
  | ⟨1, h⟩ =>
    refine (Pipeline.Window.rect_emb_val win0_4 t _ ⟨1, h⟩).trans ?_
    rw [this]
    exact congrArg (· + p.val) (Nat.mul_comm _ _)
  | ⟨2, h⟩ =>
    refine (Pipeline.Window.rect_emb_val win0_4 t _ ⟨2, h⟩).trans ?_
    rw [this]
    exact congrArg (· + ch.val) (Nat.mul_comm _ _)

end Cert.KernelIdeal.Attn

end
-- ==== Proof.Pre.lean ====
/-
  What the precondition says: every entry of the queries and of the keys is a real number.
-/
module

public import proofs.«01_k».proof.Proof.Math
public import proofs.«01_k».proof.Pre_finite
public import Idealize.ShloMosaic.Lib.Pointwise
public import Idealize.ShloMosaic.Lib.ReduceAll
public import Idealize.ShloMosaic.Lib.WordArith

@[expose] public section

set_option maxRecDepth 16384

noncomputable section

namespace Cert.Pre_finite

open Idealize.ShloMosaic
open Cert.Softmax

instance facts : Facts where
  bcast_S_S2x16384x8x64 := by decide
  reducesTo_S2x16384x8x64_S_d0_1_2_3 := by decide
  h_S_ := by decide
  bcast_S_S2x16384x2x64 := by decide
  reducesTo_S2x16384x2x64_S_d0_1_2_3 := by decide

theorem real_of_word {x y : EReal} (hy : y = ⊤) (h : FloatOps.cmpf (F := Ideal) (φ := .f32) .olt (max x (-x) : EReal) y = 1#1) :
    ∃ r : ℝ, x = ((r : ℝ) : EReal) := by
  subst hy
  refine real_of_abs_lt ?_
  have h' : BitVec.ofBool (decide ((max x (-x) : EReal) < ⊤)) = 1#1 := h
  exact of_decide_eq_true ((WordArith.ofBool_eq_one_iff _).1 h')

theorem and_one (a b : BitVec 1) (h : IntOp.andi a b = 1#1) : a = 1#1 ∧ b = 1#1 := by
  revert a b; decide

theorem reals (q : FVec Ideal S2x16384x8x64 .f32) (k v : FVec Ideal S2x16384x2x64 .f32)
    (h : fn (F := Ideal) q k v = fun _ => 1#1) :
    (∀ i, ∃ r : ℝ, q i = ((r : ℝ) : EReal)) ∧ ∀ i, ∃ r : ℝ, k i = ((r : ℝ) : EReal) := by
  have h0 := congrFun h (fun a => a.elim0)
  dsimp only [fn] at h0
  have : Subsingleton S_.Idx := ⟨fun a b => funext fun a => a.elim0⟩
  obtain ⟨h1, h2⟩ := and_one _ _ h0
  refine ⟨fun i => ?_, fun i => ?_⟩
  · exact real_of_word k_top (Host.reduce_andi_all _ _ _ _ _ h1 i)
  · exact real_of_word k_top (Host.reduce_andi_all _ _ _ _ _ h2 i)

end Cert.Pre_finite

end
-- ==== Proof.Ffn.Math.lean ====
/-
  The feed-forward half-step on one row, over the extended reals: the norm, the gated units, and the row with half of
  their weighted sums added.
-/
module

public import Idealize.ShloMosaic.Lib.Pointwise

@[expose] public section

noncomputable section

namespace Cert.Ffn

open Idealize.ShloMosaic
open scoped BigOperators

/-- A row over the root of its mean square, times the gains. -/
def rmsRow (x g : Fin 1024 → EReal) (i : Fin 1024) : EReal :=
  x i * Ideal.rsqrt (Ideal.div (∑ j, x j * x j) (Ideal.ofBits .f32 0x44800000#32) + Ideal.ofBits .f32 0x358637BD#32) * g i

/-- A number times its logistic. -/
def silu (a : EReal) : EReal :=
  a * Ideal.div (Ideal.ofBits .f32 0x3F800000#32) (Ideal.ofBits .f32 0x3F800000#32 + Ideal.exp (-a))

/-- A unit: the gate's number times the other half's. -/
def unit (h wg wu : Fin 1024 → EReal) : EReal := silu (∑ i, h i * wg i) * ∑ i, h i * wu i

/-- The row with half of the units' weighted sums added. -/
def step (x : EReal) (u wo : Fin 2816 → EReal) : EReal := x + Ideal.ofBits .f32 0x3F000000#32 * ∑ f, u f * wo f

/-- The half-step on a row. -/
def stepRow (x g : Fin 1024 → EReal) (w : Fin 1024 → Fin 5632 → EReal) (wo : Fin 2816 → Fin 1024 → EReal) (d : Fin 1024) : EReal :=
  step (x d) (fun f => unit (rmsRow x g) (fun i => w i ⟨f.val, by omega⟩) (fun i => w i ⟨2816 + f.val, by omega⟩)) (fun f => wo f d)

/-- A sum over the units is one over the first half and one over the second. -/
theorem sum_halves (f : Fin 2816 → EReal) :
    ∑ i, f i = ∑ i : Fin 1408, f ⟨i.val, by omega⟩ + ∑ i : Fin 1408, f ⟨1408 + i.val, by omega⟩ :=
  Fin.sum_univ_add (a := 1408) (b := 1408) f

end Cert.Ffn

end
-- ==== Proof.Ffn.Body.lean ====
/-
  What the feed-forward's body stores, at an index.
-/
module

public import proofs.«01_k».proof.Proof.Ffn.Math
public import proofs.«01_k».proof.Proof.Gen.Kernel2Ideal.Frame

@[expose] public section

set_option maxRecDepth 16384

noncomputable section

namespace Cert.Kernel2Ideal.Ffn

open Cert.Kernel2Ideal Cert.Kernel2Ideal.Gen
open Idealize.ShloMosaic
open Cert.Ffn
open scoped BigOperators

theorem pay1_at (x : FVec Ideal S1x512x1024 .f32) (p : Fin 512) (i : Fin 1024) :
    k0_pay1 (F := Ideal) x (ix2 p i) = x (ix3 0 p i) := by
  pointwise [k0_pay1]

theorem pay2_at (x : FVec Ideal S1x512x1024 .f32) (g : FVec Ideal S1x1024 .f32) (p : Fin 512) (i : Fin 1024) :
    k0_pay2 (F := Ideal) x g (ix2 p i) = rmsRow (fun i => x (ix3 0 p i)) (fun i => g (ix2 0 i)) i := by
  pointwise [k0_pay2, k0_pay1, rmsRow]

theorem pay3_at (x : FVec Ideal S1x512x1024 .f32) (g : FVec Ideal S1x1024 .f32) (wg wu : FVec Ideal S1024x1408 .bf16)
    (wo : FVec Ideal S1408x1024 .bf16) (p : Fin 512) (d : Fin 1024) :
    k0_pay3 (F := Ideal) x g wg wu wo (ix2 p d)
      = ∑ f : Fin 1408, unit (fun i => k0_pay2 (F := Ideal) x g (ix2 p i)) (fun i => wg (ix2 i f)) (fun i => wu (ix2 i f)) * wo (ix2 f d) := by
  pointwise [k0_pay3, unit, silu]
  simp only [zero_sub]

/-- The row before the last norm. -/
def row (x : FVec Ideal S512x1024 .f32) (h : FVec Ideal S512x1024 .bf16) (y : FVec Ideal S512x1024 .f32)
    (wg wu : FVec Ideal S1024x1408 .bf16) (wo : FVec Ideal S1408x1024 .bf16) (p : Fin 512) (d : Fin 1024) : EReal :=
  x (ix2 p d) + Ideal.ofBits .f32 0x3F000000#32 * (y (ix2 p d)
    + ∑ f : Fin 1408, unit (fun i => h (ix2 p i)) (fun i => wg (ix2 i f)) (fun i => wu (ix2 i f)) * wo (ix2 f d))

theorem pay4_at (x : FVec Ideal S512x1024 .f32) (h : FVec Ideal S512x1024 .bf16) (y : FVec Ideal S512x1024 .f32)
    (wg wu : FVec Ideal S1024x1408 .bf16) (wo : FVec Ideal S1408x1024 .bf16) (g : FVec Ideal S1x1024 .f32) (p : Fin 512) (d : Fin 1024) :
    k0_pay4 (F := Ideal) x h y wg wu wo g (ix3 0 p d) = rmsRow (row x h y wg wu wo p) (fun i => g (ix2 0 i)) d := by
  pointwise [k0_pay4, row, unit, silu, rmsRow]
  simp only [zero_sub]

end Cert.Kernel2Ideal.Ffn

end
-- ==== Proof.Ffn.Reference.lean ====
/-
  The feed-forward's reference at an index: the half-step on the entry's row, then the last norm.
-/
module

public import proofs.«01_k».proof.Proof.Ffn.Math
public import proofs.«01_k».proof.Proof.Gen.Reference2Ideal.Run

@[expose] public section

set_option maxRecDepth 16384

noncomputable section

namespace Cert.Reference2Ideal.Ffn

open Cert.Reference2Ideal Cert.Reference2Ideal.Gen
open Idealize.ShloMosaic Idealize.ShloMosaic.TcCoe
open Cert.Ffn
open scoped BigOperators

/-- The rows' norm. -/
def normed (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The gates' and the other half's numbers. -/
def halves (h : FVec Ideal S2x16384x1024 .f32) (w : FVec Ideal S1024x5632 .f32) : FVec Ideal S2x16384x5632 .f32 :=
  Host.dotGeneral (F := Ideal) (φ₁ := .f32) (φ₂ := .f32) dot_S2x16384x1024_S1024x5632_S2x16384x5632_2_0_01_1_n_n none h w

/-- The units. -/
def units (a : FVec Ideal S2x16384x5632 .f32) : FVec Ideal S2x16384x2816 .f32 :=
  mulf (mulf (extractStridedSlice S2x16384x2816 ![0, 0, 0] a slices_S2x16384x5632_S2x16384x2816_0_0_0)
      (Host.divf (broadcastInDim S2x16384x2816 ![] bcast_S_S2x16384x2816 (constant S_ .f32 0x3F800000#32))
        (addf (broadcastInDim S2x16384x2816 ![] bcast_S_S2x16384x2816 (constant S_ .f32 0x3F800000#32))
          (Host.exp (Host.negf (extractStridedSlice S2x16384x2816 ![0, 0, 0] a slices_S2x16384x5632_S2x16384x2816_0_0_0))))))
    (extractStridedSlice S2x16384x2816 ![0, 0, 2816] a slices_S2x16384x5632_S2x16384x2816_0_0_2816)

/-- The rows with half of the units' weighted sums added. -/
def stepped (x : FVec Ideal S2x16384x1024 .f32) (u : FVec Ideal S2x16384x2816 .f32) (wo : FVec Ideal S2816x1024 .f32) :
    FVec Ideal S2x16384x1024 .f32 :=
  addf x (mulf (broadcastInDim S2x16384x1024 ![] bcast_S_S2x16384x1024 (constant S_ .f32 0x3F000000#32))
    (Host.dotGeneral (F := Ideal) (φ₁ := .f32) (φ₂ := .f32) dot_S2x16384x2816_S2816x1024_S2x16384x1024_2_0_01_1_n_n none u wo))

/-- The reference's result. -/
def refOut (x : FVec Ideal S2x16384x1024 .f32) (g : FVec Ideal S1024 .f32) (w : FVec Ideal S1024x5632 .f32)
    (wo : FVec Ideal S2816x1024 .f32) (gf : FVec Ideal S1024 .f32) : FVec Ideal S2x16384x1024 .f32 :=
  normed (stepped x (units (halves (normed x g) w)) wo) gf

theorem res_eq (m : (ℓ : Loc nD τ sig) → Buf (Elt Ideal) ℓ) (c : Dev nD) :
    Value.res_main_v34 (F := Ideal) m c
      = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Value.res_main_v34 refOut stepped units halves normed
  rfl

theorem normed_at (x : FVec Ideal S2x16384x1024 .f32) (g : FVec Ideal S1024 .f32) (b : Fin 2) (p : Fin 16384) (i : Fin 1024) :
    normed x g (ix3 b p i) = rmsRow (fun i => x (ix3 b p i)) (fun i => g (ix1 i)) i := by
  pointwise [normed, rmsRow]

theorem halves_at (h : FVec Ideal S2x16384x1024 .f32) (w : FVec Ideal S1024x5632 .f32) (b : Fin 2) (p : Fin 16384) (f : Fin 5632) :
    halves h w (ix3 b p f) = ∑ i : Fin 1024, h (ix3 b p i) * w (ix2 i f) := by
  pointwise [halves]

theorem units_at (a : FVec Ideal S2x16384x5632 .f32) (b : Fin 2) (p : Fin 16384) (f : Fin 2816) :
    units a (ix3 b p f) = silu (a (ix3 b p ⟨f.val, by omega⟩)) * a (ix3 b p ⟨2816 + f.val, by omega⟩) := by
  pointwise [units, silu]

theorem stepped_at (x : FVec Ideal S2x16384x1024 .f32) (u : FVec Ideal S2x16384x2816 .f32) (wo : FVec Ideal S2816x1024 .f32)
    (b : Fin 2) (p : Fin 16384) (d : Fin 1024) :
    stepped x u wo (ix3 b p d) = step (x (ix3 b p d)) (fun f => u (ix3 b p f)) (fun f => wo (ix2 f d)) := by
  pointwise [stepped, step]

theorem refOut_at (x : FVec Ideal S2x16384x1024 .f32) (g : FVec Ideal S1024 .f32) (w : FVec Ideal S1024x5632 .f32)
    (wo : FVec Ideal S2816x1024 .f32) (gf : FVec Ideal S1024 .f32) (b : Fin 2) (p : Fin 16384) (d : Fin 1024) :
    refOut x g w wo gf (ix3 b p d)
      = rmsRow (stepRow (fun i => x (ix3 b p i)) (fun i => g (ix1 i)) (fun i f => w (ix2 i f)) (fun f d => wo (ix2 f d)))
          (fun i => gf (ix1 i)) d := by
  rw [refOut, normed_at]
  simp only [stepped_at, units_at, halves_at, normed_at]
  rfl

end Cert.Reference2Ideal.Ffn

end
-- ==== Proof.Ffn.Value.lean ====
/-
  The feed-forward's array after the run: entry by entry the reference's.
-/
module

public import proofs.«01_k».proof.Proof.Ffn.Body
public import proofs.«01_k».proof.Proof.Ffn.Reference
public import Idealize.ShloMosaic.Lib.Pipeline.ValueKit
public import Idealize.ShloMosaic.Lib.Pipeline.ValueKit.Point

@[expose] public section

set_option maxRecDepth 16384

noncomputable section

namespace Cert.Kernel2Ideal.Ffn

open Cert.Kernel2Ideal Cert.Kernel2Ideal.Gen
open Idealize.ShloMosaic Idealize.ShloMosaic.TcCoe
open Cert.Ffn
open scoped BigOperators

variable (m : (ℓ : Loc nD τ sig) → Buf (Elt Ideal) ℓ) (c : Dev nD)

/-- The arguments. -/
abbrev ax : FVec Ideal S2x16384x1024 .f32 := m ((c.tc : Thread nD τ).loc main_arg0)
abbrev ag : FVec Ideal S1024 .f32 := m ((c.tc : Thread nD τ).loc main_arg1)
abbrev aw : FVec Ideal S1024x5632 .f32 := m ((c.tc : Thread nD τ).loc main_arg2)
abbrev ao : FVec Ideal S2816x1024 .f32 := m ((c.tc : Thread nD τ).loc main_arg3)
abbrev af : FVec Ideal S1024 .f32 := m ((c.tc : Thread nD τ).loc main_arg4)

/-! ## What the host leaves -/

theorem V_gate : V (F := Ideal) m c main_v1
    = truncf .bf16 (extractStridedSlice S1024x2816 ![0, 0] (aw m c) slices_S1024x5632_S1024x2816_0_0) bitsLt_bf16_f32 := by
  unfold V
  simp only [hostOps0, List.flatten_cons, List.flatten_nil, List.append_nil, List.cons_append, List.nil_append]
  after_results <;> rfl
theorem V_other : V (F := Ideal) m c main_v3
    = truncf .bf16 (extractStridedSlice S1024x2816 ![0, 2816] (aw m c) slices_S1024x5632_S1024x2816_0_2816) bitsLt_bf16_f32 := by
  unfold V
  simp only [hostOps0, List.flatten_cons, List.flatten_nil, List.append_nil, List.cons_append, List.nil_append]
  after_results <;> rfl
theorem V_out : V (F := Ideal) m c main_v4 = truncf .bf16 (ao m c) bitsLt_bf16_f32 := by
  unfold V
  simp only [hostOps0, List.flatten_cons, List.flatten_nil, List.append_nil, List.cons_append, List.nil_append]
  after_results <;> rfl
theorem V_last : V (F := Ideal) m c main_v5 = shapeCast S1x1024 (af m c) shapeCasts_S1024_S1x1024 := by
  unfold V
  simp only [hostOps0, List.flatten_cons, List.flatten_nil, List.append_nil, List.cons_append, List.nil_append]
  after_results <;> rfl
theorem V_gain : V (F := Ideal) m c main_v6 = shapeCast S1x1024 (ag m c) shapeCasts_S1024_S1x1024 := by
  unfold V
  simp only [hostOps0, List.flatten_cons, List.flatten_nil, List.append_nil, List.cons_append, List.nil_append]
  after_results <;> rfl

/-! ## A point's blocks -/

/-- The batch entry of a point. -/
def ib (t : Fin cfg0.N) : Fin 2 := grid0.coords t 0
/-- The block of rows of a point. -/
def ir (t : Fin cfg0.N) : Fin 32 := grid0.coords t 1

theorem idx : ∀ t : Fin cfg0.N, win0_0.index t = ![(ib t).val, (ir t).val, 0] ∧ win0_1.index t = ![0, 0]
    ∧ win0_2.index t = ![0, 0] ∧ win0_3.index t = ![0, 0] ∧ win0_4.index t = ![0, 0] ∧ win0_5.index t = ![0, 0]
    ∧ win0_6.index t = ![(ib t).val, (ir t).val, 0] := by
  decide +kernel

theorem xblk_at (t : Fin cfg0.N) (p : Fin 512) (i : Fin 1024) :
    (iblk (F := Ideal) m c 0 t : FVec Ideal S1x512x1024 .f32) (ix3 0 p i)
      = ax m c (ix3 (ib t) ⟨512 * (ir t).val + p.val, by omega⟩ i) := by
  rw [show ax m c = V (F := Ideal) m c main_arg0 from (V_main_arg0 m c).symm]
  unfold iblk
  rw [View.read_apply]
  have := (idx t).1
  refine (cast_eq _ _).trans (congrArg (V (F := Ideal) m c main_arg0) (funext fun a => Fin.ext ?_))
  match a with
  | ⟨0, h⟩ =>
    refine (Pipeline.Window.rect_emb_val win0_0 t _ ⟨0, h⟩).trans ?_
    rw [this]
    exact Nat.mul_one _
  | ⟨1, h⟩ =>
    refine (Pipeline.Window.rect_emb_val win0_0 t _ ⟨1, h⟩).trans ?_
    rw [this]
    exact congrArg (· + p.val) (Nat.mul_comm _ _)
  | ⟨2, h⟩ => exact (Pipeline.Window.rect_emb_val_of_index_zero win0_0 t ⟨2, h⟩ (by rw [this]; rfl) _).trans rfl

/-- A window that is its whole array at every point. -/
theorem whole1 (t : Fin cfg0.N) : (iblk (F := Ideal) m c 1 t : FVec Ideal S1x1024 .f32) = V (F := Ideal) m c main_v6 := by
  funext y
  unfold iblk
  rw [View.read_apply]
  have := (idx t).2.1
  refine (cast_eq _ _).trans (congrArg (V (F := Ideal) m c main_v6) (funext fun a => Fin.ext ?_))
  match a with
  | ⟨0, h⟩ => exact (Pipeline.Window.rect_emb_val_of_index_zero win0_1 t ⟨0, h⟩ (by rw [this]; rfl) _).trans rfl
  | ⟨1, h⟩ => exact (Pipeline.Window.rect_emb_val_of_index_zero win0_1 t ⟨1, h⟩ (by rw [this]; rfl) _).trans rfl
theorem whole2 (t : Fin cfg0.N) : (iblk (F := Ideal) m c 2 t : FVec Ideal S1024x2816 .bf16) = V (F := Ideal) m c main_v1 := by
  funext y
  unfold iblk
  rw [View.read_apply]
  have := (idx t).2.2.1
  refine (cast_eq _ _).trans (congrArg (V (F := Ideal) m c main_v1) (funext fun a => Fin.ext ?_))
  match a with
  | ⟨0, h⟩ => exact (Pipeline.Window.rect_emb_val_of_index_zero win0_2 t ⟨0, h⟩ (by rw [this]; rfl) _).trans rfl
  | ⟨1, h⟩ => exact (Pipeline.Window.rect_emb_val_of_index_zero win0_2 t ⟨1, h⟩ (by rw [this]; rfl) _).trans rfl
theorem whole3 (t : Fin cfg0.N) : (iblk (F := Ideal) m c 3 t : FVec Ideal S1024x2816 .bf16) = V (F := Ideal) m c main_v3 := by
  funext y
  unfold iblk
  rw [View.read_apply]
  have := (idx t).2.2.2.1
  refine (cast_eq _ _).trans (congrArg (V (F := Ideal) m c main_v3) (funext fun a => Fin.ext ?_))
  match a with
  | ⟨0, h⟩ => exact (Pipeline.Window.rect_emb_val_of_index_zero win0_3 t ⟨0, h⟩ (by rw [this]; rfl) _).trans rfl
  | ⟨1, h⟩ => exact (Pipeline.Window.rect_emb_val_of_index_zero win0_3 t ⟨1, h⟩ (by rw [this]; rfl) _).trans rfl
theorem whole4 (t : Fin cfg0.N) : (iblk (F := Ideal) m c 4 t : FVec Ideal S2816x1024 .bf16) = V (F := Ideal) m c main_v4 := by
  funext y
  unfold iblk
  rw [View.read_apply]
  have := (idx t).2.2.2.2.1
  refine (cast_eq _ _).trans (congrArg (V (F := Ideal) m c main_v4) (funext fun a => Fin.ext ?_))
  match a with
  | ⟨0, h⟩ => exact (Pipeline.Window.rect_emb_val_of_index_zero win0_4 t ⟨0, h⟩ (by rw [this]; rfl) _).trans rfl
  | ⟨1, h⟩ => exact (Pipeline.Window.rect_emb_val_of_index_zero win0_4 t ⟨1, h⟩ (by rw [this]; rfl) _).trans rfl
theorem whole5 (t : Fin cfg0.N) : (iblk (F := Ideal) m c 5 t : FVec Ideal S1x1024 .f32) = V (F := Ideal) m c main_v5 := by
  funext y
  unfold iblk
  rw [View.read_apply]
  have := (idx t).2.2.2.2.2.1
  refine (cast_eq _ _).trans (congrArg (V (F := Ideal) m c main_v5) (funext fun a => Fin.ext ?_))
  match a with
  | ⟨0, h⟩ => exact (Pipeline.Window.rect_emb_val_of_index_zero win0_5 t ⟨0, h⟩ (by rw [this]; rfl) _).trans rfl
  | ⟨1, h⟩ => exact (Pipeline.Window.rect_emb_val_of_index_zero win0_5 t ⟨1, h⟩ (by rw [this]; rfl) _).trans rfl

theorem gain_at (t : Fin cfg0.N) (i : Fin 1024) :
    (iblk (F := Ideal) m c 1 t : FVec Ideal S1x1024 .f32) (ix2 0 i) = ag m c (ix1 i) := by
  rw [whole1, V_gain]
  pointwise
theorem last_at (t : Fin cfg0.N) (i : Fin 1024) :
    (iblk (F := Ideal) m c 5 t : FVec Ideal S1x1024 .f32) (ix2 0 i) = af m c (ix1 i) := by
  rw [whole5, V_last]
  pointwise
theorem gate_at (t : Fin cfg0.N) (i : Fin 1024) (f : Fin 2816) :
    (iblk (F := Ideal) m c 2 t : FVec Ideal S1024x2816 .bf16) (ix2 i f) = aw m c (ix2 i ⟨f.val, by omega⟩) := by
  rw [whole2, V_gate]
  pointwise
theorem other_at (t : Fin cfg0.N) (i : Fin 1024) (f : Fin 2816) :
    (iblk (F := Ideal) m c 3 t : FVec Ideal S1024x2816 .bf16) (ix2 i f) = aw m c (ix2 i ⟨2816 + f.val, by omega⟩) := by
  rw [whole3, V_other]
  pointwise
theorem out_at (t : Fin cfg0.N) (f : Fin 2816) (d : Fin 1024) :
    (iblk (F := Ideal) m c 4 t : FVec Ideal S2816x1024 .bf16) (ix2 f d) = ao m c (ix2 f d) := by
  rw [whole4, V_out]
  pointwise

/-! ## What the body loads of a block -/

theorem ld2_at (x : FVec Ideal S1024x2816 .bf16) (i : Fin 1024) (f : Fin 1408) :
    (View.ld (Val := Elt Ideal) (e' := .bf16) x r0_2 : FVec Ideal S1024x1408 .bf16) (ix2 i f) = x (ix2 i ⟨f.val, by omega⟩) := by
  refine View.ld_unit_apply_of (Val := Elt Ideal) (e := .bf16) x _ _ _ _ _ fun a => ?_
  match a with
  | ⟨0, _⟩ => exact (Nat.zero_add _).symm
  | ⟨1, _⟩ => exact (Nat.zero_add _).symm
theorem ld4_at (x : FVec Ideal S1024x2816 .bf16) (i : Fin 1024) (f : Fin 1408) :
    (View.ld (Val := Elt Ideal) (e' := .bf16) x r0_4 : FVec Ideal S1024x1408 .bf16) (ix2 i f) = x (ix2 i ⟨1408 + f.val, by omega⟩) := by
  refine View.ld_unit_apply_of (Val := Elt Ideal) (e := .bf16) x _ _ _ _ _ fun a => ?_
  match a with
  | ⟨0, _⟩ => exact (Nat.zero_add _).symm
  | ⟨1, _⟩ => rfl
theorem ld3_at (x : FVec Ideal S2816x1024 .bf16) (f : Fin 1408) (d : Fin 1024) :
    (View.ld (Val := Elt Ideal) (e' := .bf16) x r0_3 : FVec Ideal S1408x1024 .bf16) (ix2 f d) = x (ix2 ⟨f.val, by omega⟩ d) := by
  refine View.ld_unit_apply_of (Val := Elt Ideal) (e := .bf16) x _ _ _ _ _ fun a => ?_
  match a with
  | ⟨0, _⟩ => exact (Nat.zero_add _).symm
  | ⟨1, _⟩ => exact (Nat.zero_add _).symm
theorem ld5_at (x : FVec Ideal S2816x1024 .bf16) (f : Fin 1408) (d : Fin 1024) :
    (View.ld (Val := Elt Ideal) (e' := .bf16) x r0_5 : FVec Ideal S1408x1024 .bf16) (ix2 f d) = x (ix2 ⟨1408 + f.val, by omega⟩ d) := by
  refine View.ld_unit_apply_of (Val := Elt Ideal) (e := .bf16) x _ _ _ _ _ fun a => ?_
  match a with
  | ⟨0, _⟩ => rfl
  | ⟨1, _⟩ => exact (Nat.zero_add _).symm

/-! ## What a point stores -/

theorem out0_6_at (x : FVec Ideal S1x512x1024 .f32) (g : FVec Ideal S1x1024 .f32) (wg wu : FVec Ideal S1024x2816 .bf16)
    (wo : FVec Ideal S2816x1024 .bf16) (gf : FVec Ideal S1x1024 .f32) (p : Fin 512) (d : Fin 1024) :
    out0_6 (F := Ideal) x g wg wu wo gf (ix3 0 p d)
      = rmsRow (fun d => step (x (ix3 0 p d)) (fun f => unit (rmsRow (fun i => x (ix3 0 p i)) (fun i => g (ix2 0 i)))
          (fun i => wg (ix2 i f)) (fun i => wu (ix2 i f))) (fun f => wo (ix2 f d))) (fun i => gf (ix2 0 i)) d := by
  unfold out0_6 r0_0 r0_1
  rw [View.canon_cons_unit_lit _ _ _ (by decide), View.ld_unit_lit _ _ (by decide), View.ld_unit_lit _ _ (by decide),
    View.ld_unit_lit _ _ (by decide), pay4_at]
  refine congrArg (fun r => rmsRow r _ d) (funext fun d => ?_)
  unfold row step
  simp only [pay1_at, pay3_at, pay2_at, sum_halves]
  exact congrArg (fun s => x (ix3 0 p d) + Ideal.ofBits .f32 0x3F000000#32 * s) (congrArg₂ (· + ·)
    (Finset.sum_congr rfl fun f _ => congrArg₂ (· * ·)
      (congrArg₂ (unit _) (funext fun i => ld2_at wg i f) (funext fun i => ld2_at wu i f)) (ld3_at wo f d))
    (Finset.sum_congr rfl fun f _ => congrArg₂ (· * ·)
      (congrArg₂ (unit _) (funext fun i => ld4_at wg i f) (funext fun i => ld4_at wu i f)) (ld5_at wo f d)))

theorem stored_at (t : Fin cfg0.N) (p : Fin 512) (d : Fin 1024) :
    out0_6 (F := Ideal) (iblk (F := Ideal) m c 0 t) (iblk (F := Ideal) m c 1 t) (iblk (F := Ideal) m c 2 t)
        (iblk (F := Ideal) m c 3 t) (iblk (F := Ideal) m c 4 t) (iblk (F := Ideal) m c 5 t) (ix3 0 p d)
      = Cert.Reference2Ideal.Ffn.refOut (ax m c) (ag m c) (aw m c) (ao m c) (af m c)
          (ix3 (ib t) ⟨512 * (ir t).val + p.val, by omega⟩ d) := by
  rw [Cert.Reference2Ideal.Ffn.refOut_at]
  refine (out0_6_at _ _ _ _ _ _ p d).trans ?_
  simp only [xblk_at, gain_at, last_at, gate_at, other_at, out_at]
  rfl

/-! ## The array -/

theorem covers : (cfg0.win 6).Covers := by decide +kernel

theorem result_eq : (dats (F := Ideal) m 0 c).arrAt 6 cfg0.N
    = Cert.Reference2Ideal.Ffn.refOut (ax m c) (ag m c) (aw m c) (ao m c) (af m c) := by
  refine (dats (F := Ideal) m 0 c).arrAt_eq_of_covers 6 _ covers fun t hf y => ?_
  rw [after0_6]
  refine (cast_eq _ _).trans ?_
  obtain ⟨z, p, d, rfl⟩ : ∃ (z : Fin 1) (p : Fin 512) (d : Fin 1024), y = ix3 z p d := ⟨y 0, y 1, y 2, eq_ix3 y⟩
  have hz : z = 0 := Subsingleton.elim _ _
  subst hz
  have hx : (cfg0.win 6).xinj (cfg0.grid.coords t) (ix3 0 p d) = ix3 0 p d := rfl
  rw [hx]
  have he : ((cfg0.win 6).blk t).view.emb (ix3 0 p d) = ix3 (ib t) ⟨512 * (ir t).val + p.val, by omega⟩ d := by
    have := (idx t).2.2.2.2.2.2
    refine funext fun a => Fin.ext ?_
    match a with
    | ⟨0, h⟩ =>
      refine (Pipeline.Window.rect_emb_val win0_6 t _ ⟨0, h⟩).trans ?_
      rw [this]
      exact Nat.mul_one _
    | ⟨1, h⟩ =>
      refine (Pipeline.Window.rect_emb_val win0_6 t _ ⟨1, h⟩).trans ?_
      rw [this]
      exact congrArg (· + p.val) (Nat.mul_comm _ _)
    | ⟨2, h⟩ =>
      refine (Pipeline.Window.rect_emb_val win0_6 t _ ⟨2, h⟩).trans ?_
      rw [this]
      exact (congrArg (· + d.val) (Nat.zero_mul _)).trans (Nat.zero_add _)
  rw [he]
  exact stored_at m c t p d

end Cert.Kernel2Ideal.Ffn

end
-- ==== Proof.Ffn3.Body.lean ====
/-
  What the body of a feed-forward without the final norm stores, at an index.
-/
module

public import proofs.«01_k».proof.Proof.Ffn.Math
public import proofs.«01_k».proof.Proof.Gen.Kernel3Ideal.Frame

@[expose] public section

set_option maxRecDepth 16384

noncomputable section

namespace Cert.Kernel3Ideal.Ffn

open Cert.Kernel3Ideal Cert.Kernel3Ideal.Gen
open Idealize.ShloMosaic
open Cert.Ffn
open scoped BigOperators

theorem pay2_at (x : FVec Ideal S1x512x1024 .f32) (p : Fin 512) (i : Fin 1024) :
    k0_pay2 (F := Ideal) x (ix2 p i) = x (ix3 0 p i) := by
  pointwise [k0_pay2]

theorem pay3_at (x : FVec Ideal S1x512x1024 .f32) (g : FVec Ideal S1x1024 .f32) (p : Fin 512) (i : Fin 1024) :
    k0_pay3 (F := Ideal) x g (ix2 p i) = rmsRow (fun i => x (ix3 0 p i)) (fun i => g (ix2 0 i)) i := by
  pointwise [k0_pay3, k0_pay2, rmsRow]

theorem pay4_at (x : FVec Ideal S1x512x1024 .f32) (g : FVec Ideal S1x1024 .f32) (wg wu : FVec Ideal S1024x1408 .bf16)
    (wo : FVec Ideal S1408x1024 .bf16) (p : Fin 512) (d : Fin 1024) :
    k0_pay4 (F := Ideal) x g wg wu wo (ix2 p d)
      = ∑ f : Fin 1408, unit (fun i => k0_pay3 (F := Ideal) x g (ix2 p i)) (fun i => wg (ix2 i f)) (fun i => wu (ix2 i f)) * wo (ix2 f d) := by
  pointwise [k0_pay4, unit, silu]
  simp only [zero_sub]

/-- The row stored. -/
def row (x : FVec Ideal S512x1024 .f32) (h : FVec Ideal S512x1024 .bf16) (y : FVec Ideal S512x1024 .f32)
    (wg wu : FVec Ideal S1024x1408 .bf16) (wo : FVec Ideal S1408x1024 .bf16) (p : Fin 512) (d : Fin 1024) : EReal :=
  x (ix2 p d) + Ideal.ofBits .f32 0x3F000000#32 * (y (ix2 p d)
    + ∑ f : Fin 1408, unit (fun i => h (ix2 p i)) (fun i => wg (ix2 i f)) (fun i => wu (ix2 i f)) * wo (ix2 f d))

theorem pay1_at (x : FVec Ideal S512x1024 .f32) (h : FVec Ideal S512x1024 .bf16) (y : FVec Ideal S512x1024 .f32)
    (wg wu : FVec Ideal S1024x1408 .bf16) (wo : FVec Ideal S1408x1024 .bf16) (p : Fin 512) (d : Fin 1024) :
    k0_pay1 (F := Ideal) x h y wg wu wo (ix3 0 p d) = row x h y wg wu wo p d := by
  pointwise [k0_pay1, row, unit, silu]
  simp only [zero_sub]

end Cert.Kernel3Ideal.Ffn

end
-- ==== Proof.Ffn3.Reference.lean ====
/-
  The reference of a feed-forward without the final norm, at an index: the half-step on the entry's row.
-/
module

public import proofs.«01_k».proof.Proof.Ffn.Math
public import proofs.«01_k».proof.Proof.Gen.Reference3Ideal.Run

@[expose] public section

set_option maxRecDepth 16384

noncomputable section

namespace Cert.Reference3Ideal.Ffn

open Cert.Reference3Ideal Cert.Reference3Ideal.Gen
open Idealize.ShloMosaic Idealize.ShloMosaic.TcCoe
open Cert.Ffn
open scoped BigOperators

/-- The rows' norm. -/
def normed (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The gates' and the other half's numbers. -/
def halves (h : FVec Ideal S2x16384x1024 .f32) (w : FVec Ideal S1024x5632 .f32) : FVec Ideal S2x16384x5632 .f32 :=
  Host.dotGeneral (F := Ideal) (φ₁ := .f32) (φ₂ := .f32) dot_S2x16384x1024_S1024x5632_S2x16384x5632_2_0_01_1_n_n none h w

/-- The units. -/
def units (a : FVec Ideal S2x16384x5632 .f32) : FVec Ideal S2x16384x2816 .f32 :=
  mulf (mulf (extractStridedSlice S2x16384x2816 ![0, 0, 0] a slices_S2x16384x5632_S2x16384x2816_0_0_0)
      (Host.divf (broadcastInDim S2x16384x2816 ![] bcast_S_S2x16384x2816 (constant S_ .f32 0x3F800000#32))
        (addf (broadcastInDim S2x16384x2816 ![] bcast_S_S2x16384x2816 (constant S_ .f32 0x3F800000#32))
          (Host.exp (Host.negf (extractStridedSlice S2x16384x2816 ![0, 0, 0] a slices_S2x16384x5632_S2x16384x2816_0_0_0))))))
    (extractStridedSlice S2x16384x2816 ![0, 0, 2816] a slices_S2x16384x5632_S2x16384x2816_0_0_2816)

/-- The rows with half of the units' weighted sums added. -/
def stepped (x : FVec Ideal S2x16384x1024 .f32) (u : FVec Ideal S2x16384x2816 .f32) (wo : FVec Ideal S2816x1024 .f32) :
    FVec Ideal S2x16384x1024 .f32 :=
  addf x (mulf (broadcastInDim S2x16384x1024 ![] bcast_S_S2x16384x1024 (constant S_ .f32 0x3F000000#32))
    (Host.dotGeneral (F := Ideal) (φ₁ := .f32) (φ₂ := .f32) dot_S2x16384x2816_S2816x1024_S2x16384x1024_2_0_01_1_n_n none u wo))

/-- The reference's result. -/
def refOut (x : FVec Ideal S2x16384x1024 .f32) (g : FVec Ideal S1024 .f32) (w : FVec Ideal S1024x5632 .f32)
    (wo : FVec Ideal S2816x1024 .f32) : FVec Ideal S2x16384x1024 .f32 :=
  stepped x (units (halves (normed x g) w)) wo

theorem normed_at (x : FVec Ideal S2x16384x1024 .f32) (g : FVec Ideal S1024 .f32) (b : Fin 2) (p : Fin 16384) (i : Fin 1024) :
    normed x g (ix3 b p i) = rmsRow (fun i => x (ix3 b p i)) (fun i => g (ix1 i)) i := by
  pointwise [normed, rmsRow]

theorem halves_at (h : FVec Ideal S2x16384x1024 .f32) (w : FVec Ideal S1024x5632 .f32) (b : Fin 2) (p : Fin 16384) (f : Fin 5632) :
    halves h w (ix3 b p f) = ∑ i : Fin 1024, h (ix3 b p i) * w (ix2 i f) := by
  pointwise [halves]

theorem units_at (a : FVec Ideal S2x16384x5632 .f32) (b : Fin 2) (p : Fin 16384) (f : Fin 2816) :
    units a (ix3 b p f) = silu (a (ix3 b p ⟨f.val, by omega⟩)) * a (ix3 b p ⟨2816 + f.val, by omega⟩) := by
  pointwise [units, silu]

theorem stepped_at (x : FVec Ideal S2x16384x1024 .f32) (u : FVec Ideal S2x16384x2816 .f32) (wo : FVec Ideal S2816x1024 .f32)
    (b : Fin 2) (p : Fin 16384) (d : Fin 1024) :
    stepped x u wo (ix3 b p d) = step (x (ix3 b p d)) (fun f => u (ix3 b p f)) (fun f => wo (ix2 f d)) := by
  pointwise [stepped, step]

theorem refOut_at (x : FVec Ideal S2x16384x1024 .f32) (g : FVec Ideal S1024 .f32) (w : FVec Ideal S1024x5632 .f32)
    (wo : FVec Ideal S2816x1024 .f32) (b : Fin 2) (p : Fin 16384) (d : Fin 1024) :
    refOut x g w wo (ix3 b p d)
      = stepRow (fun i => x (ix3 b p i)) (fun i => g (ix1 i)) (fun i f => w (ix2 i f)) (fun f d => wo (ix2 f d)) d := by
  rw [refOut, stepped_at]
  simp only [units_at, halves_at, normed_at]
  rfl

end Cert.Reference3Ideal.Ffn

end
-- ==== Proof.Ffn3.Value.lean ====
/-
  The array of a feed-forward without the final norm, after the run: entry by entry the reference's.
-/
module

public import proofs.«01_k».proof.Proof.Ffn3.Body
public import proofs.«01_k».proof.Proof.Ffn3.Reference
public import Idealize.ShloMosaic.Lib.Pipeline.ValueKit
public import Idealize.ShloMosaic.Lib.Pipeline.ValueKit.Point

@[expose] public section

set_option maxRecDepth 16384

noncomputable section

namespace Cert.Kernel3Ideal.Ffn

open Cert.Kernel3Ideal Cert.Kernel3Ideal.Gen
open Idealize.ShloMosaic Idealize.ShloMosaic.TcCoe
open Cert.Ffn
open scoped BigOperators

variable (m : (ℓ : Loc nD τ sig) → Buf (Elt Ideal) ℓ) (c : Dev nD)

/-- The arguments. -/
abbrev ax : FVec Ideal S2x16384x1024 .f32 := m ((c.tc : Thread nD τ).loc main_arg0)
abbrev ag : FVec Ideal S1024 .f32 := m ((c.tc : Thread nD τ).loc main_arg1)
abbrev aw : FVec Ideal S1024x5632 .f32 := m ((c.tc : Thread nD τ).loc main_arg2)
abbrev ao : FVec Ideal S2816x1024 .f32 := m ((c.tc : Thread nD τ).loc main_arg3)

/-! ## What the host leaves -/

theorem V_gate : V (F := Ideal) m c main_v1
    = truncf .bf16 (extractStridedSlice S1024x2816 ![0, 0] (aw m c) slices_S1024x5632_S1024x2816_0_0) bitsLt_bf16_f32 := by
  unfold V
  simp only [hostOps0, List.flatten_cons, List.flatten_nil, List.append_nil, List.cons_append, List.nil_append]
  after_results <;> rfl
theorem V_other : V (F := Ideal) m c main_v3
    = truncf .bf16 (extractStridedSlice S1024x2816 ![0, 2816] (aw m c) slices_S1024x5632_S1024x2816_0_2816) bitsLt_bf16_f32 := by
  unfold V
  simp only [hostOps0, List.flatten_cons, List.flatten_nil, List.append_nil, List.cons_append, List.nil_append]
  after_results <;> rfl
theorem V_out : V (F := Ideal) m c main_v4 = truncf .bf16 (ao m c) bitsLt_bf16_f32 := by
  unfold V
  simp only [hostOps0, List.flatten_cons, List.flatten_nil, List.append_nil, List.cons_append, List.nil_append]
  after_results <;> rfl
theorem V_gain : V (F := Ideal) m c main_v6 = shapeCast S1x1024 (ag m c) shapeCasts_S1024_S1x1024 := by
  unfold V
  simp only [hostOps0, List.flatten_cons, List.flatten_nil, List.append_nil, List.cons_append, List.nil_append]
  after_results <;> rfl

/-! ## A point's blocks -/

/-- The batch entry of a point. -/
def ib (t : Fin cfg0.N) : Fin 2 := grid0.coords t 0
/-- The block of rows of a point. -/
def ir (t : Fin cfg0.N) : Fin 32 := grid0.coords t 1

theorem idx : ∀ t : Fin cfg0.N, win0_0.index t = ![(ib t).val, (ir t).val, 0] ∧ win0_1.index t = ![0, 0]
    ∧ win0_2.index t = ![0, 0] ∧ win0_3.index t = ![0, 0] ∧ win0_4.index t = ![0, 0] ∧ win0_5.index t = ![0, 0]
    ∧ win0_6.index t = ![(ib t).val, (ir t).val, 0] := by
  decide +kernel

theorem xblk_at (t : Fin cfg0.N) (p : Fin 512) (i : Fin 1024) :
    (iblk (F := Ideal) m c 0 t : FVec Ideal S1x512x1024 .f32) (ix3 0 p i)
      = ax m c (ix3 (ib t) ⟨512 * (ir t).val + p.val, by omega⟩ i) := by
  rw [show ax m c = V (F := Ideal) m c main_arg0 from (V_main_arg0 m c).symm]
  unfold iblk
  rw [View.read_apply]
  have := (idx t).1
  refine (cast_eq _ _).trans (congrArg (V (F := Ideal) m c main_arg0) (funext fun a => Fin.ext ?_))
  match a with
  | ⟨0, h⟩ =>
    refine (Pipeline.Window.rect_emb_val win0_0 t _ ⟨0, h⟩).trans ?_
    rw [this]
    exact Nat.mul_one _
  | ⟨1, h⟩ =>
    refine (Pipeline.Window.rect_emb_val win0_0 t _ ⟨1, h⟩).trans ?_
    rw [this]
    exact congrArg (· + p.val) (Nat.mul_comm _ _)
  | ⟨2, h⟩ => exact (Pipeline.Window.rect_emb_val_of_index_zero win0_0 t ⟨2, h⟩ (by rw [this]; rfl) _).trans rfl

/-- A window that is its whole array at every point. -/
theorem whole1 (t : Fin cfg0.N) : (iblk (F := Ideal) m c 1 t : FVec Ideal S1x1024 .f32) = V (F := Ideal) m c main_v6 := by
  funext y
  unfold iblk
  rw [View.read_apply]
  have := (idx t).2.1
  refine (cast_eq _ _).trans (congrArg (V (F := Ideal) m c main_v6) (funext fun a => Fin.ext ?_))
  match a with
  | ⟨0, h⟩ => exact (Pipeline.Window.rect_emb_val_of_index_zero win0_1 t ⟨0, h⟩ (by rw [this]; rfl) _).trans rfl
  | ⟨1, h⟩ => exact (Pipeline.Window.rect_emb_val_of_index_zero win0_1 t ⟨1, h⟩ (by rw [this]; rfl) _).trans rfl
theorem whole2 (t : Fin cfg0.N) : (iblk (F := Ideal) m c 2 t : FVec Ideal S1024x2816 .bf16) = V (F := Ideal) m c main_v1 := by
  funext y
  unfold iblk
  rw [View.read_apply]
  have := (idx t).2.2.1
  refine (cast_eq _ _).trans (congrArg (V (F := Ideal) m c main_v1) (funext fun a => Fin.ext ?_))
  match a with
  | ⟨0, h⟩ => exact (Pipeline.Window.rect_emb_val_of_index_zero win0_2 t ⟨0, h⟩ (by rw [this]; rfl) _).trans rfl
  | ⟨1, h⟩ => exact (Pipeline.Window.rect_emb_val_of_index_zero win0_2 t ⟨1, h⟩ (by rw [this]; rfl) _).trans rfl
theorem whole3 (t : Fin cfg0.N) : (iblk (F := Ideal) m c 3 t : FVec Ideal S1024x2816 .bf16) = V (F := Ideal) m c main_v3 := by
  funext y
  unfold iblk
  rw [View.read_apply]
  have := (idx t).2.2.2.1
  refine (cast_eq _ _).trans (congrArg (V (F := Ideal) m c main_v3) (funext fun a => Fin.ext ?_))
  match a with
  | ⟨0, h⟩ => exact (Pipeline.Window.rect_emb_val_of_index_zero win0_3 t ⟨0, h⟩ (by rw [this]; rfl) _).trans rfl
  | ⟨1, h⟩ => exact (Pipeline.Window.rect_emb_val_of_index_zero win0_3 t ⟨1, h⟩ (by rw [this]; rfl) _).trans rfl
theorem whole4 (t : Fin cfg0.N) : (iblk (F := Ideal) m c 4 t : FVec Ideal S2816x1024 .bf16) = V (F := Ideal) m c main_v4 := by
  funext y
  unfold iblk
  rw [View.read_apply]
  have := (idx t).2.2.2.2.1
  refine (cast_eq _ _).trans (congrArg (V (F := Ideal) m c main_v4) (funext fun a => Fin.ext ?_))
  match a with
  | ⟨0, h⟩ => exact (Pipeline.Window.rect_emb_val_of_index_zero win0_4 t ⟨0, h⟩ (by rw [this]; rfl) _).trans rfl
  | ⟨1, h⟩ => exact (Pipeline.Window.rect_emb_val_of_index_zero win0_4 t ⟨1, h⟩ (by rw [this]; rfl) _).trans rfl

theorem gain_at (t : Fin cfg0.N) (i : Fin 1024) :
    (iblk (F := Ideal) m c 1 t : FVec Ideal S1x1024 .f32) (ix2 0 i) = ag m c (ix1 i) := by
  rw [whole1, V_gain]
  pointwise
theorem gate_at (t : Fin cfg0.N) (i : Fin 1024) (f : Fin 2816) :
    (iblk (F := Ideal) m c 2 t : FVec Ideal S1024x2816 .bf16) (ix2 i f) = aw m c (ix2 i ⟨f.val, by omega⟩) := by
  rw [whole2, V_gate]
  pointwise
theorem other_at (t : Fin cfg0.N) (i : Fin 1024) (f : Fin 2816) :
    (iblk (F := Ideal) m c 3 t : FVec Ideal S1024x2816 .bf16) (ix2 i f) = aw m c (ix2 i ⟨2816 + f.val, by omega⟩) := by
  rw [whole3, V_other]
  pointwise
theorem out_at (t : Fin cfg0.N) (f : Fin 2816) (d : Fin 1024) :
    (iblk (F := Ideal) m c 4 t : FVec Ideal S2816x1024 .bf16) (ix2 f d) = ao m c (ix2 f d) := by
  rw [whole4, V_out]
  pointwise

/-! ## What the body loads of a block -/

theorem ld2_at (x : FVec Ideal S1024x2816 .bf16) (i : Fin 1024) (f : Fin 1408) :
    (View.ld (Val := Elt Ideal) (e' := .bf16) x r0_2 : FVec Ideal S1024x1408 .bf16) (ix2 i f) = x (ix2 i ⟨f.val, by omega⟩) := by
  refine View.ld_unit_apply_of (Val := Elt Ideal) (e := .bf16) x _ _ _ _ _ fun a => ?_
  match a with
  | ⟨0, _⟩ => exact (Nat.zero_add _).symm
  | ⟨1, _⟩ => exact (Nat.zero_add _).symm
theorem ld4_at (x : FVec Ideal S1024x2816 .bf16) (i : Fin 1024) (f : Fin 1408) :
    (View.ld (Val := Elt Ideal) (e' := .bf16) x r0_4 : FVec Ideal S1024x1408 .bf16) (ix2 i f) = x (ix2 i ⟨1408 + f.val, by omega⟩) := by
  refine View.ld_unit_apply_of (Val := Elt Ideal) (e := .bf16) x _ _ _ _ _ fun a => ?_
  match a with
  | ⟨0, _⟩ => exact (Nat.zero_add _).symm
  | ⟨1, _⟩ => rfl
theorem ld3_at (x : FVec Ideal S2816x1024 .bf16) (f : Fin 1408) (d : Fin 1024) :
    (View.ld (Val := Elt Ideal) (e' := .bf16) x r0_3 : FVec Ideal S1408x1024 .bf16) (ix2 f d) = x (ix2 ⟨f.val, by omega⟩ d) := by
  refine View.ld_unit_apply_of (Val := Elt Ideal) (e := .bf16) x _ _ _ _ _ fun a => ?_
  match a with
  | ⟨0, _⟩ => exact (Nat.zero_add _).symm
  | ⟨1, _⟩ => exact (Nat.zero_add _).symm
theorem ld5_at (x : FVec Ideal S2816x1024 .bf16) (f : Fin 1408) (d : Fin 1024) :
    (View.ld (Val := Elt Ideal) (e' := .bf16) x r0_5 : FVec Ideal S1408x1024 .bf16) (ix2 f d) = x (ix2 ⟨1408 + f.val, by omega⟩ d) := by
  refine View.ld_unit_apply_of (Val := Elt Ideal) (e := .bf16) x _ _ _ _ _ fun a => ?_
  match a with
  | ⟨0, _⟩ => rfl
  | ⟨1, _⟩ => exact (Nat.zero_add _).symm

/-! ## What a point stores -/

theorem out0_6_at (x : FVec Ideal S1x512x1024 .f32) (g : FVec Ideal S1x1024 .f32) (wg wu : FVec Ideal S1024x2816 .bf16)
    (wo : FVec Ideal S2816x1024 .bf16) (gf : FVec Ideal S1x1024 .f32) (p : Fin 512) (d : Fin 1024) :
    out0_6 (F := Ideal) x g wg wu wo gf (ix3 0 p d)
      = step (x (ix3 0 p d)) (fun f => unit (rmsRow (fun i => x (ix3 0 p i)) (fun i => g (ix2 0 i)))
          (fun i => wg (ix2 i f)) (fun i => wu (ix2 i f))) (fun f => wo (ix2 f d)) := by
  unfold out0_6 r0_0 r0_1
  rw [View.canon_cons_unit_lit _ _ _ (by decide), View.ld_unit_lit _ _ (by decide), View.ld_unit_lit _ _ (by decide), pay1_at]
  unfold row step
  simp only [pay2_at, pay4_at, pay3_at, sum_halves]
  exact congrArg (fun s => x (ix3 0 p d) + Ideal.ofBits .f32 0x3F000000#32 * s) (congrArg₂ (· + ·)
    (Finset.sum_congr rfl fun f _ => congrArg₂ (· * ·)
      (congrArg₂ (unit _) (funext fun i => ld2_at wg i f) (funext fun i => ld2_at wu i f)) (ld3_at wo f d))
    (Finset.sum_congr rfl fun f _ => congrArg₂ (· * ·)
      (congrArg₂ (unit _) (funext fun i => ld4_at wg i f) (funext fun i => ld4_at wu i f)) (ld5_at wo f d)))

theorem stored_at (t : Fin cfg0.N) (p : Fin 512) (d : Fin 1024) :
    out0_6 (F := Ideal) (iblk (F := Ideal) m c 0 t) (iblk (F := Ideal) m c 1 t) (iblk (F := Ideal) m c 2 t)
        (iblk (F := Ideal) m c 3 t) (iblk (F := Ideal) m c 4 t) (iblk (F := Ideal) m c 5 t) (ix3 0 p d)
      = Cert.Reference3Ideal.Ffn.refOut (ax m c) (ag m c) (aw m c) (ao m c)
          (ix3 (ib t) ⟨512 * (ir t).val + p.val, by omega⟩ d) := by
  rw [Cert.Reference3Ideal.Ffn.refOut_at]
  refine (out0_6_at _ _ _ _ _ _ p d).trans ?_
  simp only [xblk_at, gain_at, gate_at, other_at, out_at]
  rfl

/-! ## The array -/

theorem covers : (cfg0.win 6).Covers := by decide +kernel

theorem result_eq : (dats (F := Ideal) m 0 c).arrAt 6 cfg0.N
    = Cert.Reference3Ideal.Ffn.refOut (ax m c) (ag m c) (aw m c) (ao m c) := by
  refine (dats (F := Ideal) m 0 c).arrAt_eq_of_covers 6 _ covers fun t hf y => ?_
  rw [after0_6]
  refine (cast_eq _ _).trans ?_
  obtain ⟨z, p, d, rfl⟩ : ∃ (z : Fin 1) (p : Fin 512) (d : Fin 1024), y = ix3 z p d := ⟨y 0, y 1, y 2, eq_ix3 y⟩
  have hz : z = 0 := Subsingleton.elim _ _
  subst hz
  have hx : (cfg0.win 6).xinj (cfg0.grid.coords t) (ix3 0 p d) = ix3 0 p d := rfl
  rw [hx]
  have he : ((cfg0.win 6).blk t).view.emb (ix3 0 p d) = ix3 (ib t) ⟨512 * (ir t).val + p.val, by omega⟩ d := by
    have := (idx t).2.2.2.2.2.2
    refine funext fun a => Fin.ext ?_
    match a with
    | ⟨0, h⟩ =>
      refine (Pipeline.Window.rect_emb_val win0_6 t _ ⟨0, h⟩).trans ?_
      rw [this]
      exact Nat.mul_one _
    | ⟨1, h⟩ =>
      refine (Pipeline.Window.rect_emb_val win0_6 t _ ⟨1, h⟩).trans ?_
      rw [this]
      exact congrArg (· + p.val) (Nat.mul_comm _ _)
    | ⟨2, h⟩ =>
      refine (Pipeline.Window.rect_emb_val win0_6 t _ ⟨2, h⟩).trans ?_
      rw [this]
      exact (congrArg (· + d.val) (Nat.zero_mul _)).trans (Nat.zero_add _)
  rw [he]
  exact stored_at m c t p d

end Cert.Kernel3Ideal.Ffn

end
-- ==== Proof.Merge.Math.lean ====
/-
  The merge on a row: the gated sum of the branches' projections, projected and added.
-/
module

public import proofs.«01_k».proof.Proof.Ffn.Math

@[expose] public section

noncomputable section

namespace Cert.Merge

open Idealize.ShloMosaic
open Cert.Ffn
open scoped BigOperators

/-- The logistic function. -/
def sigm (a : EReal) : EReal :=
  Ideal.div (Ideal.ofBits .f32 0x3F800000#32) (Ideal.ofBits .f32 0x3F800000#32 + Ideal.exp (-a))

/-- A branch's channel with its gate: from the normalised row and the branch's row. -/
def gated (h wg : Fin 1024 → EReal) (y wb : Fin 512 → EReal) : EReal :=
  sigm (∑ i, h i * wg i) * ∑ k, y k * wb k

/-- The merge on a row. -/
def mergeRow (x g : Fin 1024 → EReal) (y : Fin 3 → Fin 512 → EReal) (wg : Fin 3 → Fin 1024 → Fin 1024 → EReal)
    (wb : Fin 3 → Fin 512 → Fin 1024 → EReal) (wo : Fin 1024 → Fin 1024 → EReal) (d : Fin 1024) : EReal :=
  x d + ∑ e, (∑ n, gated (rmsRow x g) (fun i => wg n i e) (y n) (fun k => wb n k e)) * wo e d

end Cert.Merge

end
-- ==== Proof.Merge.Body.lean ====
/-
  What the merge's body stores, at an index.
-/
module

public import proofs.«01_k».proof.Proof.Merge.Math
public import proofs.«01_k».proof.Proof.Gen.Kernel4Ideal.Frame

@[expose] public section

set_option maxRecDepth 16384

noncomputable section

namespace Cert.Kernel4Ideal.Merge

open Cert.Kernel4Ideal Cert.Kernel4Ideal.Gen
open Idealize.ShloMosaic
open Cert.Ffn Cert.Merge
open scoped BigOperators

theorem pay2_at (x : FVec Ideal S1x512x1024 .f32) (p : Fin 512) (i : Fin 1024) :
    k0_pay2 (F := Ideal) x (ix2 p i) = x (ix3 0 p i) := by
  pointwise [k0_pay2]

theorem pay3_at (x : FVec Ideal S1x512x1024 .f32) (g : FVec Ideal S1x1024 .f32) (p : Fin 512) (i : Fin 1024) :
    k0_pay3 (F := Ideal) x g (ix2 p i) = rmsRow (fun i => x (ix3 0 p i)) (fun i => g (ix2 0 i)) i := by
  pointwise [k0_pay3, k0_pay2, rmsRow]

theorem pay4_at (x : FVec Ideal S1x512x1024 .f32) (g : FVec Ideal S1x1024 .f32) (wg : FVec Ideal S1x1024x1024 .bf16)
    (y : FVec Ideal S1x512x512 .bf16) (wb : FVec Ideal S1x512x1024 .bf16) (p : Fin 512) (e : Fin 1024) :
    k0_pay4 (F := Ideal) x g wg y wb (ix2 p e)
      = gated (fun i => k0_pay3 (F := Ideal) x g (ix2 p i)) (fun i => wg (ix3 0 i e)) (fun k => y (ix3 0 p k)) (fun k => wb (ix3 0 k e)) := by
  pointwise [k0_pay4, gated, sigm]
  simp only [zero_sub]

theorem pay5_at (h : FVec Ideal S512x1024 .bf16) (s : FVec Ideal S512x1024 .f32) (wg : FVec Ideal S1x1024x1024 .bf16)
    (y : FVec Ideal S1x512x512 .bf16) (wb : FVec Ideal S1x512x1024 .bf16) (wg' : FVec Ideal S1x1024x1024 .bf16)
    (y' : FVec Ideal S1x512x512 .bf16) (wb' : FVec Ideal S1x512x1024 .bf16) (p : Fin 512) (e : Fin 1024) :
    k0_pay5 (F := Ideal) h s wg y wb wg' y' wb' (ix2 p e)
      = s (ix2 p e) + gated (fun i => h (ix2 p i)) (fun i => wg (ix3 0 i e)) (fun k => y (ix3 0 p k)) (fun k => wb (ix3 0 k e))
        + gated (fun i => h (ix2 p i)) (fun i => wg' (ix3 0 i e)) (fun k => y' (ix3 0 p k)) (fun k => wb' (ix3 0 k e)) := by
  pointwise [k0_pay5, gated, sigm]
  simp only [zero_sub]

theorem pay1_at (x : FVec Ideal S512x1024 .f32) (s : FVec Ideal S512x1024 .bf16) (wo : FVec Ideal S1024x1024 .bf16)
    (p : Fin 512) (d : Fin 1024) :
    k0_pay1 (F := Ideal) x s wo (ix3 0 p d) = x (ix2 p d) + ∑ e : Fin 1024, s (ix2 p e) * wo (ix2 e d) := by
  pointwise [k0_pay1]

end Cert.Kernel4Ideal.Merge

end
-- ==== Proof.Merge.Reference.lean ====
/-
  The merge's reference at an index: the merge on the entry's row.
-/
module

public import proofs.«01_k».proof.Proof.Merge.Math
public import proofs.«01_k».proof.Proof.Gen.Reference4Ideal.Run

@[expose] public section

set_option maxRecDepth 16384

noncomputable section

namespace Cert.Reference4Ideal.Merge

open Cert.Reference4Ideal Cert.Reference4Ideal.Gen
open Idealize.ShloMosaic Idealize.ShloMosaic.TcCoe
open Cert.Ffn Cert.Merge
open scoped BigOperators

/-- The rows' norm. -/
def normed (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The gates' logits. -/
def logits (h : FVec Ideal S2x16384x1024 .f32) (w : FVec Ideal S1024x5632 .f32) : FVec Ideal S2x16384x3x1024 .f32 :=
  shapeCast _ (extractStridedSlice S2x16384x3072 ![0, 0, 2560]
    (Host.dotGeneral (F := Ideal) (φ₁ := .f32) (φ₂ := .f32) dot_S2x16384x1024_S1024x5632_S2x16384x5632_2_0_01_1_n_n none h w : FVec Ideal S2x16384x5632 .f32)
    slices_S2x16384x5632_S2x16384x3072_0_0_2560) shapeCasts_S2x16384x3072_S2x16384x3x1024

/-- The gates. -/
def gates (a : FVec Ideal S2x16384x3x1024 .f32) : FVec Ideal S2x16384x3x1024 .f32 :=
  Host.divf (broadcastInDim S2x16384x3x1024 ![] bcast_S_S2x16384x3x1024 (constant S_ .f32 0x3F800000#32))
    (addf (broadcastInDim S2x16384x3x1024 ![] bcast_S_S2x16384x3x1024 (constant S_ .f32 0x3F800000#32)) (Host.exp (Host.negf a)))

/-- The branches, stacked. -/
def stacked (ya yb yc : FVec Ideal S2x16384x512 .bf16) : FVec Ideal S2x16384x3x512 .f32 :=
  extf .f32 ((concatenate S2x16384x3x512 2
    [⟨S2x16384x1x512, ((broadcastInDim S2x16384x1x512 ![0, 1, 3] bcast_S2x16384x512_S2x16384x1x512_0_1_3 ya) : (⟨S2x16384x1x512, .bf16⟩ : BufTy).Contents (Elt Ideal))⟩,
      ⟨S2x16384x1x512, ((broadcastInDim S2x16384x1x512 ![0, 1, 3] bcast_S2x16384x512_S2x16384x1x512_0_1_3 yb) : (⟨S2x16384x1x512, .bf16⟩ : BufTy).Contents (Elt Ideal))⟩,
      ⟨S2x16384x1x512, ((broadcastInDim S2x16384x1x512 ![0, 1, 3] bcast_S2x16384x512_S2x16384x1x512_0_1_3 yc) : (⟨S2x16384x1x512, .bf16⟩ : BufTy).Contents (Elt Ideal))⟩]
    concatenates_S2x16384x1x512_S2x16384x1x512_S2x16384x1x512_S2x16384x3x512_d2 : (⟨S2x16384x3x512, .bf16⟩ : BufTy).Contents (Elt Ideal))) bitsLt_bf16_f32

/-- The branches' projections. -/
def branches (ys : FVec Ideal S2x16384x3x512 .f32) (wb : FVec Ideal S3x512x1024 .f32) : FVec Ideal S2x16384x3x1024 .f32 :=
  transpose S2x16384x3x1024 [2, 3, 0, 1]
    (Host.dotGeneral (F := Ideal) (φ₁ := .f32) (φ₂ := .f32) dot_S3x512x1024_S2x16384x3x512_S3x1024x2x16384_1_3_2_01_0_2 none wb ys : FVec Ideal S3x1024x2x16384 .f32)
    transposes_S3x1024x2x16384_S2x16384x3x1024_2_3_0_1

/-- The gated sum. -/
def merged (g b : FVec Ideal S2x16384x3x1024 .f32) : FVec Ideal S2x16384x1024 .f32 :=
  Host.reduceAdd (mulf g b) (constant S_ .f32 0x00000000#32) reducesTo_S2x16384x3x1024_S2x16384x1024_d2 h_S_

/-- The reference's result. -/
def refOut (x : FVec Ideal S2x16384x1024 .f32) (g : FVec Ideal S1024 .f32) (ya yb yc : FVec Ideal S2x16384x512 .bf16)
    (w : FVec Ideal S1024x5632 .f32) (wb : FVec Ideal S3x512x1024 .f32) (wo : FVec Ideal S1024x1024 .f32) : FVec Ideal S2x16384x1024 .f32 :=
  addf x (Host.dotGeneral (F := Ideal) (φ₁ := .f32) (φ₂ := .f32) dot_S2x16384x1024_S1024x1024_S2x16384x1024_2_0_01_1_n_n none
    (merged (gates (logits (normed x g) w)) (branches (stacked ya yb yc) wb)) wo)

theorem normed_at (x : FVec Ideal S2x16384x1024 .f32) (g : FVec Ideal S1024 .f32) (b : Fin 2) (p : Fin 16384) (i : Fin 1024) :
    normed x g (ix3 b p i) = rmsRow (fun i => x (ix3 b p i)) (fun i => g (ix1 i)) i := by
  pointwise [normed, rmsRow]

theorem logits_at (h : FVec Ideal S2x16384x1024 .f32) (w : FVec Ideal S1024x5632 .f32) (b : Fin 2) (p : Fin 16384) (n : Fin 3) (e : Fin 1024) :
    logits h w (ix4 b p n e) = ∑ i : Fin 1024, h (ix3 b p i) * w (ix2 i ⟨2560 + (n.val * 1024 + e.val), by omega⟩) := by
  pointwise [logits]

theorem gates_at (a : FVec Ideal S2x16384x3x1024 .f32) (b : Fin 2) (p : Fin 16384) (n : Fin 3) (e : Fin 1024) :
    gates a (ix4 b p n e) = sigm (a (ix4 b p n e)) := by
  pointwise [gates, sigm]

theorem stacked_at (ya yb yc : FVec Ideal S2x16384x512 .bf16) (b : Fin 2) (p : Fin 16384) (n : Fin 3) (k : Fin 512) :
    stacked ya yb yc (ix4 b p n k) = (![ya, yb, yc] n) (ix3 b p k) := by
  fin_cases n <;> pointwise [stacked]

theorem branches_at (ys : FVec Ideal S2x16384x3x512 .f32) (wb : FVec Ideal S3x512x1024 .f32) (b : Fin 2) (p : Fin 16384) (n : Fin 3) (e : Fin 1024) :
    branches ys wb (ix4 b p n e) = ∑ k : Fin 512, ys (ix4 b p n k) * wb (ix3 n k e) := by
  have h : branches ys wb (ix4 b p n e) = ∑ k : Fin 512, wb (ix3 n k e) * ys (ix4 b p n k) := by
    pointwise [branches]
  rw [h]
  exact Finset.sum_congr rfl fun k _ => mul_comm _ _

theorem merged_at (g a : FVec Ideal S2x16384x3x1024 .f32) (b : Fin 2) (p : Fin 16384) (e : Fin 1024) :
    merged g a (ix3 b p e) = ∑ n : Fin 3, g (ix4 b p n e) * a (ix4 b p n e) := by
  pointwise [merged]

theorem refOut_at (x : FVec Ideal S2x16384x1024 .f32) (g : FVec Ideal S1024 .f32) (ya yb yc : FVec Ideal S2x16384x512 .bf16)
    (w : FVec Ideal S1024x5632 .f32) (wb : FVec Ideal S3x512x1024 .f32) (wo : FVec Ideal S1024x1024 .f32)
    (b : Fin 2) (p : Fin 16384) (d : Fin 1024) :
    refOut x g ya yb yc w wb wo (ix3 b p d)
      = mergeRow (fun i => x (ix3 b p i)) (fun i => g (ix1 i)) (fun n k => (![ya, yb, yc] n) (ix3 b p k))
          (fun n i e => w (ix2 i ⟨2560 + (n.val * 1024 + e.val), by omega⟩)) (fun n k e => wb (ix3 n k e)) (fun e d => wo (ix2 e d)) d := by
  have h : ∀ s : FVec Ideal S2x16384x1024 .f32, addf x (Host.dotGeneral (F := Ideal) (φ₁ := .f32) (φ₂ := .f32)
      dot_S2x16384x1024_S1024x1024_S2x16384x1024_2_0_01_1_n_n none s wo) (ix3 b p d)
      = x (ix3 b p d) + ∑ e : Fin 1024, s (ix3 b p e) * wo (ix2 e d) := by
    intro s
    pointwise
  rw [refOut, h]
  simp only [merged_at, gates_at, logits_at, branches_at, stacked_at, normed_at]
  rfl

end Cert.Reference4Ideal.Merge

end
-- ==== Proof.Merge.Value.lean ====
/-
  The merge's array after the run: entry by entry the reference's.
-/
module

public import proofs.«01_k».proof.Proof.Merge.Body
public import proofs.«01_k».proof.Proof.Merge.Reference
public import Idealize.ShloMosaic.Lib.Pipeline.ValueKit
public import Idealize.ShloMosaic.Lib.Pipeline.ValueKit.Point

@[expose] public section

set_option maxRecDepth 16384

noncomputable section

namespace Cert.Kernel4Ideal.Merge

open Cert.Kernel4Ideal Cert.Kernel4Ideal.Gen
open Idealize.ShloMosaic Idealize.ShloMosaic.TcCoe
open Cert.Ffn Cert.Merge
open scoped BigOperators

variable (m : (ℓ : Loc nD τ sig) → Buf (Elt Ideal) ℓ) (c : Dev nD)

/-- The arguments. -/
abbrev ax : FVec Ideal S2x16384x1024 .f32 := m ((c.tc : Thread nD τ).loc main_arg0)
abbrev ag : FVec Ideal S1024 .f32 := m ((c.tc : Thread nD τ).loc main_arg1)
abbrev ya : FVec Ideal S2x16384x512 .bf16 := m ((c.tc : Thread nD τ).loc main_arg2)
abbrev yb : FVec Ideal S2x16384x512 .bf16 := m ((c.tc : Thread nD τ).loc main_arg3)
abbrev yc : FVec Ideal S2x16384x512 .bf16 := m ((c.tc : Thread nD τ).loc main_arg4)
abbrev aw : FVec Ideal S1024x5632 .f32 := m ((c.tc : Thread nD τ).loc main_arg5)
abbrev ab : FVec Ideal S3x512x1024 .f32 := m ((c.tc : Thread nD τ).loc main_arg6)
abbrev ao : FVec Ideal S1024x1024 .f32 := m ((c.tc : Thread nD τ).loc main_arg7)

/-! ## What the host leaves -/

theorem V_gate : V (F := Ideal) m c main_v3
    = truncf .bf16 (transpose S3x1024x1024 [1, 0, 2] (shapeCast S1024x3x1024
        (extractStridedSlice S1024x3072 ![0, 2560] (aw m c) slices_S1024x5632_S1024x3072_0_2560) shapeCasts_S1024x3072_S1024x3x1024)
        transposes_S1024x3x1024_S3x1024x1024_1_0_2) bitsLt_bf16_f32 := by
  unfold V
  simp only [hostOps0, List.flatten_cons, List.flatten_nil, List.append_nil, List.cons_append, List.nil_append]
  after_results <;> rfl
theorem V_branch : V (F := Ideal) m c main_v4
    = truncf .bf16 (ab m c) bitsLt_bf16_f32 := by
  unfold V
  simp only [hostOps0, List.flatten_cons, List.flatten_nil, List.append_nil, List.cons_append, List.nil_append]
  after_results <;> rfl
theorem V_out : V (F := Ideal) m c main_v5
    = truncf .bf16 (ao m c) bitsLt_bf16_f32 := by
  unfold V
  simp only [hostOps0, List.flatten_cons, List.flatten_nil, List.append_nil, List.cons_append, List.nil_append]
  after_results <;> rfl
theorem V_gain : V (F := Ideal) m c main_v6
    = shapeCast S1x1024 (ag m c) shapeCasts_S1024_S1x1024 := by
  unfold V
  simp only [hostOps0, List.flatten_cons, List.flatten_nil, List.append_nil, List.cons_append, List.nil_append]
  after_results <;> rfl

/-! ## A point's blocks -/

/-- The batch entry of a point. -/
def ib (t : Fin cfg0.N) : Fin 2 := grid0.coords t 0
/-- The block of rows of a point. -/
def ir (t : Fin cfg0.N) : Fin 32 := grid0.coords t 1

theorem idx : ∀ t : Fin cfg0.N, win0_0.index t = ![(ib t).val, (ir t).val, 0] ∧ win0_1.index t = ![0, 0]
    ∧ win0_2.index t = ![(ib t).val, (ir t).val, 0] ∧ win0_3.index t = ![(ib t).val, (ir t).val, 0] ∧ win0_4.index t = ![(ib t).val, (ir t).val, 0]
    ∧ win0_5.index t = ![0, 0, 0] ∧ win0_6.index t = ![0, 0, 0] ∧ win0_7.index t = ![0, 0] ∧ win0_8.index t = ![(ib t).val, (ir t).val, 0] := by
  decide +kernel

theorem xblk_at (t : Fin cfg0.N) (p : Fin 512) (i : Fin 1024) :
    (iblk (F := Ideal) m c 0 t : FVec Ideal S1x512x1024 .f32) (ix3 0 p i)
      = ax m c (ix3 (ib t) ⟨512 * (ir t).val + p.val, by omega⟩ i) := by
  rw [show ax m c = V (F := Ideal) m c main_arg0 from (V_main_arg0 m c).symm]
  unfold iblk
  rw [View.read_apply]
  have := (idx t).1
  refine (cast_eq _ _).trans (congrArg (V (F := Ideal) m c main_arg0) (funext fun a => Fin.ext ?_))
  match a with
  | ⟨0, h⟩ =>
    refine (Pipeline.Window.rect_emb_val win0_0 t _ ⟨0, h⟩).trans ?_
    rw [this]
    exact Nat.mul_one _
  | ⟨1, h⟩ =>
    refine (Pipeline.Window.rect_emb_val win0_0 t _ ⟨1, h⟩).trans ?_
    rw [this]
    exact congrArg (· + p.val) (Nat.mul_comm _ _)
  | ⟨2, h⟩ => exact (Pipeline.Window.rect_emb_val_of_index_zero win0_0 t ⟨2, h⟩ (by rw [this]; rfl) _).trans rfl
theorem ablk_at (t : Fin cfg0.N) (p : Fin 512) (i : Fin 512) :
    (iblk (F := Ideal) m c 2 t : FVec Ideal S1x512x512 .bf16) (ix3 0 p i)
      = ya m c (ix3 (ib t) ⟨512 * (ir t).val + p.val, by omega⟩ i) := by
  rw [show ya m c = V (F := Ideal) m c main_arg2 from (V_main_arg2 m c).symm]
  unfold iblk
  rw [View.read_apply]
  have := (idx t).2.2.1
  refine (cast_eq _ _).trans (congrArg (V (F := Ideal) m c main_arg2) (funext fun a => Fin.ext ?_))
  match a with
  | ⟨0, h⟩ =>
    refine (Pipeline.Window.rect_emb_val win0_2 t _ ⟨0, h⟩).trans ?_
    rw [this]
    exact Nat.mul_one _
  | ⟨1, h⟩ =>
    refine (Pipeline.Window.rect_emb_val win0_2 t _ ⟨1, h⟩).trans ?_
    rw [this]
    exact congrArg (· + p.val) (Nat.mul_comm _ _)
  | ⟨2, h⟩ => exact (Pipeline.Window.rect_emb_val_of_index_zero win0_2 t ⟨2, h⟩ (by rw [this]; rfl) _).trans rfl
theorem bblk_at (t : Fin cfg0.N) (p : Fin 512) (i : Fin 512) :
    (iblk (F := Ideal) m c 3 t : FVec Ideal S1x512x512 .bf16) (ix3 0 p i)
      = yb m c (ix3 (ib t) ⟨512 * (ir t).val + p.val, by omega⟩ i) := by
  rw [show yb m c = V (F := Ideal) m c main_arg3 from (V_main_arg3 m c).symm]
  unfold iblk
  rw [View.read_apply]
  have := (idx t).2.2.2.1
  refine (cast_eq _ _).trans (congrArg (V (F := Ideal) m c main_arg3) (funext fun a => Fin.ext ?_))
  match a with
  | ⟨0, h⟩ =>
    refine (Pipeline.Window.rect_emb_val win0_3 t _ ⟨0, h⟩).trans ?_
    rw [this]
    exact Nat.mul_one _
  | ⟨1, h⟩ =>
    refine (Pipeline.Window.rect_emb_val win0_3 t _ ⟨1, h⟩).trans ?_
    rw [this]
    exact congrArg (· + p.val) (Nat.mul_comm _ _)
  | ⟨2, h⟩ => exact (Pipeline.Window.rect_emb_val_of_index_zero win0_3 t ⟨2, h⟩ (by rw [this]; rfl) _).trans rfl
theorem cblk_at (t : Fin cfg0.N) (p : Fin 512) (i : Fin 512) :
    (iblk (F := Ideal) m c 4 t : FVec Ideal S1x512x512 .bf16) (ix3 0 p i)
      = yc m c (ix3 (ib t) ⟨512 * (ir t).val + p.val, by omega⟩ i) := by
  rw [show yc m c = V (F := Ideal) m c main_arg4 from (V_main_arg4 m c).symm]
  unfold iblk
  rw [View.read_apply]
  have := (idx t).2.2.2.2.1
  refine (cast_eq _ _).trans (congrArg (V (F := Ideal) m c main_arg4) (funext fun a => Fin.ext ?_))
  match a with
  | ⟨0, h⟩ =>
    refine (Pipeline.Window.rect_emb_val win0_4 t _ ⟨0, h⟩).trans ?_
    rw [this]
    exact Nat.mul_one _
  | ⟨1, h⟩ =>
    refine (Pipeline.Window.rect_emb_val win0_4 t _ ⟨1, h⟩).trans ?_
    rw [this]
    exact congrArg (· + p.val) (Nat.mul_comm _ _)
  | ⟨2, h⟩ => exact (Pipeline.Window.rect_emb_val_of_index_zero win0_4 t ⟨2, h⟩ (by rw [this]; rfl) _).trans rfl

/-! A window that is its whole array at every point. -/

theorem whole1 (t : Fin cfg0.N) : (iblk (F := Ideal) m c 1 t : FVec Ideal S1x1024 .f32) = V (F := Ideal) m c main_v6 := by
  funext y
  unfold iblk
  rw [View.read_apply]
  have := (idx t).2.1
  refine (cast_eq _ _).trans (congrArg (V (F := Ideal) m c main_v6) (funext fun a => Fin.ext ?_))
  match a with
  | ⟨0, h⟩ => exact (Pipeline.Window.rect_emb_val_of_index_zero win0_1 t ⟨0, h⟩ (by rw [this]; rfl) _).trans rfl
  | ⟨1, h⟩ => exact (Pipeline.Window.rect_emb_val_of_index_zero win0_1 t ⟨1, h⟩ (by rw [this]; rfl) _).trans rfl
theorem whole5 (t : Fin cfg0.N) : (iblk (F := Ideal) m c 5 t : FVec Ideal S3x1024x1024 .bf16) = V (F := Ideal) m c main_v3 := by
  funext y
  unfold iblk
  rw [View.read_apply]
  have := (idx t).2.2.2.2.2.1
  refine (cast_eq _ _).trans (congrArg (V (F := Ideal) m c main_v3) (funext fun a => Fin.ext ?_))
  match a with
  | ⟨0, h⟩ => exact (Pipeline.Window.rect_emb_val_of_index_zero win0_5 t ⟨0, h⟩ (by rw [this]; rfl) _).trans rfl
  | ⟨1, h⟩ => exact (Pipeline.Window.rect_emb_val_of_index_zero win0_5 t ⟨1, h⟩ (by rw [this]; rfl) _).trans rfl
  | ⟨2, h⟩ => exact (Pipeline.Window.rect_emb_val_of_index_zero win0_5 t ⟨2, h⟩ (by rw [this]; rfl) _).trans rfl
theorem whole6 (t : Fin cfg0.N) : (iblk (F := Ideal) m c 6 t : FVec Ideal S3x512x1024 .bf16) = V (F := Ideal) m c main_v4 := by
  funext y
  unfold iblk
  rw [View.read_apply]
  have := (idx t).2.2.2.2.2.2.1
  refine (cast_eq _ _).trans (congrArg (V (F := Ideal) m c main_v4) (funext fun a => Fin.ext ?_))
  match a with
  | ⟨0, h⟩ => exact (Pipeline.Window.rect_emb_val_of_index_zero win0_6 t ⟨0, h⟩ (by rw [this]; rfl) _).trans rfl
  | ⟨1, h⟩ => exact (Pipeline.Window.rect_emb_val_of_index_zero win0_6 t ⟨1, h⟩ (by rw [this]; rfl) _).trans rfl
  | ⟨2, h⟩ => exact (Pipeline.Window.rect_emb_val_of_index_zero win0_6 t ⟨2, h⟩ (by rw [this]; rfl) _).trans rfl
theorem whole7 (t : Fin cfg0.N) : (iblk (F := Ideal) m c 7 t : FVec Ideal S1024x1024 .bf16) = V (F := Ideal) m c main_v5 := by
  funext y
  unfold iblk
  rw [View.read_apply]
  have := (idx t).2.2.2.2.2.2.2.1
  refine (cast_eq _ _).trans (congrArg (V (F := Ideal) m c main_v5) (funext fun a => Fin.ext ?_))
  match a with
  | ⟨0, h⟩ => exact (Pipeline.Window.rect_emb_val_of_index_zero win0_7 t ⟨0, h⟩ (by rw [this]; rfl) _).trans rfl
  | ⟨1, h⟩ => exact (Pipeline.Window.rect_emb_val_of_index_zero win0_7 t ⟨1, h⟩ (by rw [this]; rfl) _).trans rfl

theorem gain_at (t : Fin cfg0.N) (i : Fin 1024) :
    (iblk (F := Ideal) m c 1 t : FVec Ideal S1x1024 .f32) (ix2 0 i) = ag m c (ix1 i) := by
  rw [whole1, V_gain]
  pointwise
theorem gate_at (t : Fin cfg0.N) (n : Fin 3) (i e : Fin 1024) :
    (iblk (F := Ideal) m c 5 t : FVec Ideal S3x1024x1024 .bf16) (ix3 n i e) = aw m c (ix2 i ⟨2560 + (n.val * 1024 + e.val), by omega⟩) := by
  rw [whole5, V_gate]
  pointwise
theorem branch_at (t : Fin cfg0.N) (n : Fin 3) (k : Fin 512) (e : Fin 1024) :
    (iblk (F := Ideal) m c 6 t : FVec Ideal S3x512x1024 .bf16) (ix3 n k e) = ab m c (ix3 n k e) := by
  rw [whole6, V_branch]
  pointwise
theorem out_at (t : Fin cfg0.N) (e d : Fin 1024) :
    (iblk (F := Ideal) m c 7 t : FVec Ideal S1024x1024 .bf16) (ix2 e d) = ao m c (ix2 e d) := by
  rw [whole7, V_out]
  pointwise

/-! ## What the body loads of a block -/

theorem ldg0_at (x : FVec Ideal S3x1024x1024 .bf16) (i : Fin 1024) (e : Fin 1024) :
    (View.ld (Val := Elt Ideal) (e' := .bf16) x r0_2 : FVec Ideal S1x1024x1024 .bf16) (ix3 0 i e) = x (ix3 0 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm
theorem ldb0_at (x : FVec Ideal S3x512x1024 .bf16) (i : Fin 512) (e : Fin 1024) :
    (View.ld (Val := Elt Ideal) (e' := .bf16) x r0_4 : FVec Ideal S1x512x1024 .bf16) (ix3 0 i e) = x (ix3 0 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm
theorem ldg1_at (x : FVec Ideal S3x1024x1024 .bf16) (i : Fin 1024) (e : Fin 1024) :
    (View.ld (Val := Elt Ideal) (e' := .bf16) x r0_5 : FVec Ideal S1x1024x1024 .bf16) (ix3 0 i e) = x (ix3 1 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm
theorem ldb1_at (x : FVec Ideal S3x512x1024 .bf16) (i : Fin 512) (e : Fin 1024) :
    (View.ld (Val := Elt Ideal) (e' := .bf16) x r0_6 : FVec Ideal S1x512x1024 .bf16) (ix3 0 i e) = x (ix3 1 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm
theorem ldg2_at (x : FVec Ideal S3x1024x1024 .bf16) (i : Fin 1024) (e : Fin 1024) :
    (View.ld (Val := Elt Ideal) (e' := .bf16) x r0_7 : FVec Ideal S1x1024x1024 .bf16) (ix3 0 i e) = x (ix3 2 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm
theorem ldb2_at (x : FVec Ideal S3x512x1024 .bf16) (i : Fin 512) (e : Fin 1024) :
    (View.ld (Val := Elt Ideal) (e' := .bf16) x r0_8 : FVec Ideal S1x512x1024 .bf16) (ix3 0 i e) = x (ix3 2 i e) := by
  refine View.ld_unit_apply_of (Val := Elt Ideal) (e := .bf16) x _ _ _ _ _ fun a => ?_
  match a with
  | ⟨0, _⟩ => rfl
  | ⟨1, _⟩ => exact (Nat.zero_add _).symm
  | ⟨2, _⟩ => exact (Nat.zero_add _).symm

/-! ## What a point stores -/

theorem out0_8_at (x : FVec Ideal S1x512x1024 .f32) (g : FVec Ideal S1x1024 .f32) (a b c : FVec Ideal S1x512x512 .bf16)
    (wg : FVec Ideal S3x1024x1024 .bf16) (wb : FVec Ideal S3x512x1024 .bf16) (wo : FVec Ideal S1024x1024 .bf16)
    (p : Fin 512) (d : Fin 1024) :
    out0_8 (F := Ideal) x g a b c wg wb wo (ix3 0 p d)
      = mergeRow (fun i => x (ix3 0 p i)) (fun i => g (ix2 0 i)) (fun n k => (![a, b, c] n) (ix3 0 p k))
          (fun n i e => wg (ix3 n i e)) (fun n k e => wb (ix3 n k e)) (fun e d => wo (ix2 e d)) d := by
  unfold out0_8 r0_0 r0_1 r0_3 r0_9
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide),
    View.ld_unit_lit _ _ (by decide), pay1_at]
  unfold mergeRow
  simp only [Fin.sum_univ_three, pay5_at, pay4_at, pay3_at, pay2_at]
  exact congrArg (x (ix3 0 p d) + ·) (Finset.sum_congr rfl fun e _ => congrArg (· * wo (ix2 e d)) (congrArg₂ (· + ·) (congrArg₂ (· + ·)
    (congrArg₂ (fun v w => gated _ v (fun k => a (ix3 0 p k)) w) (funext fun i => ldg0_at wg i e) (funext fun k => ldb0_at wb k e))
    (congrArg₂ (fun v w => gated _ v (fun k => b (ix3 0 p k)) w) (funext fun i => ldg1_at wg i e) (funext fun k => ldb1_at wb k e)))
    (congrArg₂ (fun v w => gated _ v (fun k => c (ix3 0 p k)) w) (funext fun i => ldg2_at wg i e) (funext fun k => ldb2_at wb k e))))

theorem stored_at (t : Fin cfg0.N) (p : Fin 512) (d : Fin 1024) :
    out0_8 (F := Ideal) (iblk (F := Ideal) m c 0 t) (iblk (F := Ideal) m c 1 t) (iblk (F := Ideal) m c 2 t)
        (iblk (F := Ideal) m c 3 t) (iblk (F := Ideal) m c 4 t) (iblk (F := Ideal) m c 5 t) (iblk (F := Ideal) m c 6 t)
        (iblk (F := Ideal) m c 7 t) (ix3 0 p d)
      = Cert.Reference4Ideal.Merge.refOut (ax m c) (ag m c) (ya m c) (yb m c) (yc m c) (aw m c) (ab m c) (ao m c)
          (ix3 (ib t) ⟨512 * (ir t).val + p.val, by omega⟩ d) := by
  rw [Cert.Reference4Ideal.Merge.refOut_at]
  refine (out0_8_at _ _ _ _ _ _ _ _ p d).trans ?_
  unfold mergeRow
  simp only [Fin.sum_univ_three, xblk_at, gain_at, gate_at, branch_at, out_at]
  refine congrArg _ (Finset.sum_congr rfl fun e _ => congrArg (· * _) (congrArg₂ (· + ·) (congrArg₂ (· + ·) ?_ ?_) ?_))
  · exact congrArg (fun y => gated _ _ y _) (funext fun k => ablk_at m c t p k)
  · exact congrArg (fun y => gated _ _ y _) (funext fun k => bblk_at m c t p k)
  · exact congrArg (fun y => gated _ _ y _) (funext fun k => cblk_at m c t p k)

/-! ## The array -/

theorem covers : (cfg0.win 8).Covers := by decide +kernel

theorem result_eq : (dats (F := Ideal) m 0 c).arrAt 8 cfg0.N
    = Cert.Reference4Ideal.Merge.refOut (ax m c) (ag m c) (ya m c) (yb m c) (yc m c) (aw m c) (ab m c) (ao m c) := by
  refine (dats (F := Ideal) m 0 c).arrAt_eq_of_covers 8 _ covers fun t hf y => ?_
  rw [after0_8]
  refine (cast_eq _ _).trans ?_
  obtain ⟨z, p, d, rfl⟩ : ∃ (z : Fin 1) (p : Fin 512) (d : Fin 1024), y = ix3 z p d := ⟨y 0, y 1, y 2, eq_ix3 y⟩
  have hz : z = 0 := Subsingleton.elim _ _
  subst hz
  have hx : (cfg0.win 8).xinj (cfg0.grid.coords t) (ix3 0 p d) = ix3 0 p d := rfl
  rw [hx]
  have he : ((cfg0.win 8).blk t).view.emb (ix3 0 p d) = ix3 (ib t) ⟨512 * (ir t).val + p.val, by omega⟩ d := by
    have := (idx t).2.2.2.2.2.2.2.2
    refine funext fun a => Fin.ext ?_
    match a with
    | ⟨0, h⟩ =>
      refine (Pipeline.Window.rect_emb_val win0_8 t _ ⟨0, h⟩).trans ?_
      rw [this]
      exact Nat.mul_one _
    | ⟨1, h⟩ =>
      refine (Pipeline.Window.rect_emb_val win0_8 t _ ⟨1, h⟩).trans ?_
      rw [this]
      exact congrArg (· + p.val) (Nat.mul_comm _ _)
    | ⟨2, h⟩ =>
      refine (Pipeline.Window.rect_emb_val win0_8 t _ ⟨2, h⟩).trans ?_
      rw [this]
      exact (congrArg (· + d.val) (Nat.zero_mul _)).trans (Nat.zero_add _)
  rw [he]
  exact stored_at m c t p d

end Cert.Kernel4Ideal.Merge

end
-- ==== Proof.Inproj.Math.lean ====
/-
  The input projection on a row: a head's norm and its turn.
-/
module

public import proofs.«01_k».proof.Proof.Ffn.Math

@[expose] public section

noncomputable section

namespace Cert.Inproj

open Idealize.ShloMosaic
open Cert.Ffn
open scoped BigOperators

/-- A head's norm. -/
def headNorm (z g : Fin 64 → EReal) (d : Fin 64) : EReal :=
  z d * Ideal.rsqrt (Ideal.div (∑ j, z j * z j) (Ideal.ofBits .f32 0x42800000#32) + Ideal.ofBits .f32 0x358637BD#32) * g d

/-- The turn of a head: its four quarters, the first two by the row's angles, the others by the column's. -/
def turn (n : Fin 64 → EReal) (cr sr cc sc : Fin 16 → EReal) (d : Fin 64) : EReal :=
  if h : d.val < 16 then n d * cr ⟨d.val, h⟩ - n ⟨d.val + 16, by omega⟩ * sr ⟨d.val, h⟩
  else if h : d.val < 32 then n ⟨d.val - 16, by omega⟩ * sr ⟨d.val - 16, by omega⟩ + n d * cr ⟨d.val - 16, by omega⟩
  else if h : d.val < 48 then n d * cc ⟨d.val - 32, by omega⟩ - n ⟨d.val + 16, by omega⟩ * sc ⟨d.val - 32, by omega⟩
  else n ⟨d.val - 16, by omega⟩ * sc ⟨d.val - 48, by omega⟩ + n d * cc ⟨d.val - 48, by omega⟩

theorem turn_q0 (n : Fin 64 → EReal) (cr sr cc sc : Fin 16 → EReal) (f : Fin 16) :
    turn n cr sr cc sc ⟨f.val, by omega⟩ = n ⟨f.val, by omega⟩ * cr f - n ⟨16 + f.val, by omega⟩ * sr f := by
  have h := f.isLt
  simp only [turn, h, dite_true, Nat.add_comm]
theorem turn_q1 (n : Fin 64 → EReal) (cr sr cc sc : Fin 16 → EReal) (f : Fin 16) :
    turn n cr sr cc sc ⟨16 + f.val, by omega⟩ = n ⟨f.val, by omega⟩ * sr f + n ⟨16 + f.val, by omega⟩ * cr f := by
  have h1 : ¬ 16 + f.val < 16 := by omega
  have h2 : 16 + f.val < 32 := by omega
  have h3 : 16 + f.val - 16 = f.val := by omega
  simp only [turn, h1, h2, h3, dite_true, dite_false]
theorem turn_q2 (n : Fin 64 → EReal) (cr sr cc sc : Fin 16 → EReal) (f : Fin 16) :
    turn n cr sr cc sc ⟨32 + f.val, by omega⟩ = n ⟨32 + f.val, by omega⟩ * cc f - n ⟨48 + f.val, by omega⟩ * sc f := by
  have h1 : ¬ 32 + f.val < 16 := by omega
  have h2 : ¬ 32 + f.val < 32 := by omega
  have h3 : 32 + f.val < 48 := by omega
  have h4 : 32 + f.val - 32 = f.val := by omega
  have h5 : 32 + f.val + 16 = 48 + f.val := by omega
  simp only [turn, h1, h2, h3, h4, h5, dite_true, dite_false]
theorem turn_q3 (n : Fin 64 → EReal) (cr sr cc sc : Fin 16 → EReal) (f : Fin 16) :
    turn n cr sr cc sc ⟨48 + f.val, by omega⟩ = n ⟨32 + f.val, by omega⟩ * sc f + n ⟨48 + f.val, by omega⟩ * cc f := by
  have h1 : ¬ 48 + f.val < 16 := by omega
  have h2 : ¬ 48 + f.val < 32 := by omega
  have h3 : ¬ 48 + f.val < 48 := by omega
  have h4 : 48 + f.val - 48 = f.val := by omega
  have h5 : 48 + f.val - 16 = 32 + f.val := by omega
  simp only [turn, h1, h2, h3, h4, h5, dite_true, dite_false]

/-- A channel of a head is in one of its quarters. -/
theorem quarters (P : Fin 64 → Prop) (h0 : ∀ f : Fin 16, P ⟨f.val, by omega⟩) (h1 : ∀ f : Fin 16, P ⟨16 + f.val, by omega⟩)
    (h2 : ∀ f : Fin 16, P ⟨32 + f.val, by omega⟩) (h3 : ∀ f : Fin 16, P ⟨48 + f.val, by omega⟩) (d : Fin 64) : P d := by
  obtain ⟨d, hd⟩ := d
  by_cases a : d < 16
  · exact h0 ⟨d, a⟩
  by_cases b : d < 32
  · obtain ⟨f, rfl⟩ : ∃ f, d = 16 + f := ⟨d - 16, by omega⟩
    exact h1 ⟨f, by omega⟩
  by_cases c : d < 48
  · obtain ⟨f, rfl⟩ : ∃ f, d = 32 + f := ⟨d - 32, by omega⟩
    exact h2 ⟨f, by omega⟩
  · obtain ⟨f, rfl⟩ : ∃ f, d = 48 + f := ⟨d - 48, by omega⟩
    exact h3 ⟨f, by omega⟩

end Cert.Inproj

end
-- ==== Proof.Inproj.Body.lean ====
/-
  What the input projection's body stores, at an index.
-/
module

public import proofs.«01_k».proof.Proof.Inproj.Math
public import proofs.«01_k».proof.Proof.Gen.Kernel5Ideal.Frame

@[expose] public section

set_option maxRecDepth 16384

noncomputable section

namespace Cert.Kernel5Ideal.Inproj

open Cert.Kernel5Ideal Cert.Kernel5Ideal.Gen
open Idealize.ShloMosaic
open Cert.Ffn Cert.Inproj
open scoped BigOperators

/-- A head's rows, normed. -/
def normRows (z g : FVec Ideal S64x512 .f32) : FVec Ideal S64x512 .f32 :=
  mulf (mulf z (broadcastTo S64x512 (rsqrt (addf (divf (shapeCast S1x512
    (multiReduction .add [0] S512 (mulf z z) 0x00000000#32 reduces_S64x512_S512 (.inl rfl) rfl) shapeCasts_S512_S1x512)
    (broadcast S1x512 (Scalar.ofBits .f32 0x42800000#32))) (broadcast S1x512 (Scalar.ofBits .f32 0x358637BD#32)))) broadcasts_S1x512_S64x512))
    (shapeCast S64x512 g shapeCasts_S64x512_S64x512)

/-- The four quarters of rows. -/
def q0 (z : FVec Ideal S64x512 .f32) : FVec Ideal S16x512 .f32 := extractStridedSlice S16x512 ![0, 0] z slices_S64x512_o0_0_S16x512
def q1 (z : FVec Ideal S64x512 .f32) : FVec Ideal S16x512 .f32 := extractStridedSlice S16x512 ![16, 0] z slices_S64x512_o16_0_S16x512
def q2 (z : FVec Ideal S64x512 .f32) : FVec Ideal S16x512 .f32 := extractStridedSlice S16x512 ![32, 0] z slices_S64x512_o32_0_S16x512
def q3 (z : FVec Ideal S64x512 .f32) : FVec Ideal S16x512 .f32 := extractStridedSlice S16x512 ![48, 0] z slices_S64x512_o48_0_S16x512

/-- A head's rows, turned by the table. -/
def turnRows (n t : FVec Ideal S64x512 .f32) : FVec Ideal S64x512 .f32 :=
  concatenate S64x512 0 [⟨S16x512, subf (mulf (q0 n) (q0 t)) (mulf (q1 n) (q1 t))⟩, ⟨S16x512, addf (mulf (q0 n) (q1 t)) (mulf (q1 n) (q0 t))⟩,
    ⟨S16x512, subf (mulf (q2 n) (q2 t)) (mulf (q3 n) (q3 t))⟩, ⟨S16x512, addf (mulf (q2 n) (q3 t)) (mulf (q3 n) (q2 t))⟩]
    concatenates_S16x512_S16x512_S16x512_S16x512_S64x512_d0

/-- A query head's rows as stored. -/
def storedQ (z g t : FVec Ideal S64x512 .f32) : FVec Ideal S1x64x512 .bf16 :=
  shapeCast S1x64x512 (truncf .bf16 (mulf (turnRows (normRows z g) t) (broadcast S64x512 (Scalar.ofBits .f32 0x3E38AA3B#32))) bitsLt_bf16_f32)
    shapeCasts_S64x512_S1x64x512
/-- A key head's rows as stored. -/
def storedK (z g t : FVec Ideal S64x512 .f32) : FVec Ideal S1x64x512 .bf16 :=
  shapeCast S1x64x512 (truncf .bf16 (turnRows (normRows z g) t) bitsLt_bf16_f32) shapeCasts_S64x512_S1x64x512

theorem normRows_at (z g : FVec Ideal S64x512 .f32) (d : Fin 64) (p : Fin 512) :
    normRows z g (ix2 d p) = headNorm (fun d => z (ix2 d p)) (fun d => g (ix2 d p)) d := by
  pointwise [normRows, headNorm]

theorem q0_at (z : FVec Ideal S64x512 .f32) (f : Fin 16) (p : Fin 512) : q0 z (ix2 f p) = z (ix2 ⟨f.val, by omega⟩ p) := by
  pointwise [q0]
theorem q1_at (z : FVec Ideal S64x512 .f32) (f : Fin 16) (p : Fin 512) : q1 z (ix2 f p) = z (ix2 ⟨16 + f.val, by omega⟩ p) := by
  pointwise [q1]
theorem q2_at (z : FVec Ideal S64x512 .f32) (f : Fin 16) (p : Fin 512) : q2 z (ix2 f p) = z (ix2 ⟨32 + f.val, by omega⟩ p) := by
  pointwise [q2]
theorem q3_at (z : FVec Ideal S64x512 .f32) (f : Fin 16) (p : Fin 512) : q3 z (ix2 f p) = z (ix2 ⟨48 + f.val, by omega⟩ p) := by
  pointwise [q3]

theorem off_axis (f : Fin 16) (p : Fin 512) (r : Fin 64) (a : Fin S16x512.rank)
    (ha : a.cast (rfl : S16x512.rank = S64x512.rank) ≠ (0 : Fin S64x512.rank)) :
    ((ix2 f p : S16x512.Idx) a).val = ((ix2 r p : S64x512.Idx) (a.cast rfl)).val :=
  match a, ha with
  | ⟨0, _⟩, ha => absurd rfl ha
  | ⟨1, _⟩, _ => rfl

theorem turnRows_at (n t : FVec Ideal S64x512 .f32) (d : Fin 64) (p : Fin 512) :
    turnRows n t (ix2 d p)
      = turn (fun d => n (ix2 d p)) (fun f => t (ix2 ⟨f.val, by omega⟩ p)) (fun f => t (ix2 ⟨16 + f.val, by omega⟩ p))
          (fun f => t (ix2 ⟨32 + f.val, by omega⟩ p)) (fun f => t (ix2 ⟨48 + f.val, by omega⟩ p)) d := by
  refine quarters (fun d => turnRows n t (ix2 d p)
      = turn (fun d => n (ix2 d p)) (fun f => t (ix2 ⟨f.val, by omega⟩ p)) (fun f => t (ix2 ⟨16 + f.val, by omega⟩ p))
          (fun f => t (ix2 ⟨32 + f.val, by omega⟩ p)) (fun f => t (ix2 ⟨48 + f.val, by omega⟩ p)) d)
    (fun f => ?_) (fun f => ?_) (fun f => ?_) (fun f => ?_) d
  · rw [turn_q0, turnRows]
    refine (concatenate_apply_piece (t := S64x512) 0 _ _ (ix2 ⟨f.val, by omega⟩ p) 0 (by show 0 < 4; omega)
      S16x512 _ rfl rfl 0 rfl (ix2 f p) (off_axis f p _) (Nat.zero_add _)).trans ?_
    show q0 n (ix2 f p) * q0 t (ix2 f p) - q1 n (ix2 f p) * q1 t (ix2 f p) = _
    rw [q0_at, q0_at, q1_at, q1_at]
  · rw [turn_q1, turnRows]
    refine (concatenate_apply_piece (t := S64x512) 0 _ _ (ix2 ⟨16 + f.val, by omega⟩ p) 1 (by show 1 < 4; omega)
      S16x512 _ rfl rfl 16 rfl (ix2 f p) (off_axis f p _) rfl).trans ?_
    show q0 n (ix2 f p) * q1 t (ix2 f p) + q1 n (ix2 f p) * q0 t (ix2 f p) = _
    rw [q0_at, q0_at, q1_at, q1_at]
  · rw [turn_q2, turnRows]
    refine (concatenate_apply_piece (t := S64x512) 0 _ _ (ix2 ⟨32 + f.val, by omega⟩ p) 2 (by show 2 < 4; omega)
      S16x512 _ rfl rfl 32 rfl (ix2 f p) (off_axis f p _) rfl).trans ?_
    show q2 n (ix2 f p) * q2 t (ix2 f p) - q3 n (ix2 f p) * q3 t (ix2 f p) = _
    rw [q2_at, q2_at, q3_at, q3_at]
  · rw [turn_q3, turnRows]
    refine (concatenate_apply_piece (t := S64x512) 0 _ _ (ix2 ⟨48 + f.val, by omega⟩ p) 3 (by show 3 < 4; omega)
      S16x512 _ rfl rfl 48 rfl (ix2 f p) (off_axis f p _) rfl).trans ?_
    show q2 n (ix2 f p) * q3 t (ix2 f p) + q3 n (ix2 f p) * q2 t (ix2 f p) = _
    rw [q2_at, q2_at, q3_at, q3_at]

theorem storedK_at (z g t : FVec Ideal S64x512 .f32) (d : Fin 64) (p : Fin 512) :
    storedK z g t (ix3 0 d p)
      = turn (headNorm (fun d => z (ix2 d p)) (fun d => g (ix2 d p))) (fun f => t (ix2 ⟨f.val, by omega⟩ p))
          (fun f => t (ix2 ⟨16 + f.val, by omega⟩ p)) (fun f => t (ix2 ⟨32 + f.val, by omega⟩ p)) (fun f => t (ix2 ⟨48 + f.val, by omega⟩ p)) d := by
  have h : storedK z g t (ix3 0 d p) = turnRows (normRows z g) t (ix2 d p) := by pointwise [storedK]
  rw [h, turnRows_at]
  exact congrArg (fun n => turn n _ _ _ _ d) (funext fun d => normRows_at z g d p)

theorem storedQ_at (z g t : FVec Ideal S64x512 .f32) (d : Fin 64) (p : Fin 512) :
    storedQ z g t (ix3 0 d p)
      = turn (headNorm (fun d => z (ix2 d p)) (fun d => g (ix2 d p))) (fun f => t (ix2 ⟨f.val, by omega⟩ p))
          (fun f => t (ix2 ⟨16 + f.val, by omega⟩ p)) (fun f => t (ix2 ⟨32 + f.val, by omega⟩ p)) (fun f => t (ix2 ⟨48 + f.val, by omega⟩ p)) d
        * Ideal.ofBits .f32 0x3E38AA3B#32 := by
  have h : storedQ z g t (ix3 0 d p) = turnRows (normRows z g) t (ix2 d p) * Ideal.ofBits .f32 0x3E38AA3B#32 := by pointwise [storedQ]
  rw [h, turnRows_at]
  exact congrArg (fun n => turn n _ _ _ _ d * _) (funext fun d => normRows_at z g d p)

theorem pay1_at (x : FVec Ideal S1x512x1024 .f32) (g : FVec Ideal S1x1024 .f32) (w : FVec Ideal S2560x1024 .bf16) (r : Fin 2560) (p : Fin 512) :
    k0_pay1 (F := Ideal) x g w (ix2 r p)
      = ∑ i : Fin 1024, w (ix2 r i) * rmsRow (fun i => x (ix3 0 p i)) (fun i => g (ix2 0 i)) i := by
  pointwise [k0_pay1, rmsRow]

theorem pay2_eq (t : FVec Ideal S64x512 .f32) : k0_pay2 (F := Ideal) t = shapeCast S64x512 t shapeCasts_S64x512_S64x512 := rfl
theorem pay2_at (t : FVec Ideal S64x512 .f32) (d : Fin 64) (p : Fin 512) : k0_pay2 (F := Ideal) t (ix2 d p) = t (ix2 d p) := by
  pointwise [k0_pay2]

theorem pay58_at (y : FVec Ideal S2560x512 .f32) (j : Fin 128) (p : Fin 512) :
    k0_pay58 (F := Ideal) y (ix3 0 j p) = y (ix2 ⟨640 + j.val, by omega⟩ p) := by
  pointwise [k0_pay58]
theorem pay59_at (y : FVec Ideal S2560x512 .f32) (j : Fin 512) (p : Fin 512) :
    k0_pay59 (F := Ideal) y (ix3 0 j p) = y (ix2 ⟨768 + j.val, by omega⟩ p) * Ideal.ofBits .f32 0x3E38AA3B#32 := by
  pointwise [k0_pay59]
theorem pay60_at (y : FVec Ideal S2560x512 .f32) (j : Fin 256) (p : Fin 512) :
    k0_pay60 (F := Ideal) y (ix3 0 j p) = y (ix2 ⟨1280 + j.val, by omega⟩ p) := by
  pointwise [k0_pay60]
theorem pay61_at (y : FVec Ideal S2560x512 .f32) (j : Fin 512) (p : Fin 512) :
    k0_pay61 (F := Ideal) y (ix3 0 j p) = y (ix2 ⟨1536 + j.val, by omega⟩ p) * Ideal.ofBits .f32 0x3E38AA3B#32 := by
  pointwise [k0_pay61]
theorem pay62_at (y : FVec Ideal S2560x512 .f32) (j : Fin 512) (p : Fin 512) :
    k0_pay62 (F := Ideal) y (ix3 0 j p) = y (ix2 ⟨2048 + j.val, by omega⟩ p) := by
  pointwise [k0_pay62]

/-- A head's rows of the projection. -/
def head (o : Nat) (h : S2560x512.Slices ![o, 0] S64x512) (y : FVec Ideal S2560x512 .f32) : FVec Ideal S64x512 .f32 := extractStridedSlice S64x512 ![o, 0] y h

end Cert.Kernel5Ideal.Inproj

end
-- ==== Proof.Inproj.Reference.lean ====
/-
  The input projection's reference at an index: the row's projection, with the first mixer's heads normed and turned.
-/
module

public import proofs.«01_k».proof.Proof.Inproj.Math
public import proofs.«01_k».proof.Proof.Gen.Reference5Ideal.Run

@[expose] public section

set_option maxRecDepth 16384

noncomputable section

namespace Cert.Reference5Ideal.Inproj

open Cert.Reference5Ideal Cert.Reference5Ideal.Gen
open Idealize.ShloMosaic Idealize.ShloMosaic.TcCoe
open Cert.Ffn Cert.Inproj
open scoped BigOperators

/-- A position's row of the grid. -/
def rowIds : FVec Ideal S16384 .f32 :=
  sitofp .f32 (shapeCast S16384 (broadcastInDim S256x64 ![0] bcast_S256_S256x64_0 (iotaInDim S256 32 0)) shapeCasts_S256x64_S16384)
/-- A position's column. -/
def colIds : FVec Ideal S16384 .f32 :=
  sitofp .f32 (shapeCast S16384 (broadcastInDim S256x64 ![0, 1] bcast_S1x64_S256x64_0_1
    (shapeCast S1x64 (iotaInDim S64 32 0) shapeCasts_S64_S1x64)) shapeCasts_S256x64_S16384)
/-- The frequencies. -/
def freqs : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))
/-- The angles. -/
def angles (ids : FVec Ideal S16384 .f32) : FVec Ideal S16384x16 .f32 :=
  mulf (broadcastInDim S16384x16 ![0, 1] bcast_S16384x1_S16384x16_0_1 (broadcastInDim S16384x1 ![0] bcast_S16384_S16384x1_0 ids))
    (broadcastInDim S16384x16 ![0, 1] bcast_S1x16_S16384x16_0_1 (broadcastInDim S1x16 ![1] bcast_S16_S1x16_1 freqs))

/-- The rows' norm. -/
def normed (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2
      (broadcastInDim S1x1x1024 ![2] bcast_S1024_S1x1x1024_2 g))

/-- The projection. -/
def proj (h : FVec Ideal S2x16384x1024 .f32) (w : FVec Ideal S1024x5632 .f32) : FVec Ideal S2x16384x5632 .f32 :=
  Host.dotGeneral (F := Ideal) (φ₁ := .f32) (φ₂ := .f32) dot_S2x16384x1024_S1024x5632_S2x16384x5632_2_0_01_1_n_n none h w

/-- A head's norm, of 8 heads. -/
def norm8 (y : FVec Ideal S2x16384x8x64 .f32) (g : FVec Ideal S64 .f32) : FVec Ideal S2x16384x8x64 .f32 :=
  mulf (mulf y (broadcastInDim S2x16384x8x64 ![0, 1, 2, 3] bcast_S2x16384x8x1_S2x16384x8x64_0_1_2_3 (Host.rsqrt (addf
      (Host.divf (broadcastInDim S2x16384x8x1 ![0, 1, 2] bcast_S2x16384x8_S2x16384x8x1_0_1_2
          (Host.reduceAdd (mulf y y) (constant S_ .f32 0x00000000#32) reducesTo_S2x16384x8x64_S2x16384x8_d3 h_S_))
        (broadcastInDim S2x16384x8x1 ![] bcast_S_S2x16384x8x1 (constant S_ .f32 0x42800000#32)))
      (broadcastInDim S2x16384x8x1 ![] bcast_S_S2x16384x8x1 (constant S_ .f32 0x358637BD#32))))))
    (broadcastInDim S2x16384x8x64 ![0, 1, 2, 3] bcast_S1x1x1x64_S2x16384x8x64_0_1_2_3 (broadcastInDim S1x1x1x64 ![3] bcast_S64_S1x1x1x64_3 g))

/-- The turn of a half by its angles' cosines and sines: the first half, of 8 heads. -/
def lo8 (z : FVec Ideal S2x16384x8x64 .f32) (c s : FVec Ideal S16384x16 .f32) : FVec Ideal S2x16384x8x32 .f32 :=
  concatenate S2x16384x8x32 3
    [⟨S2x16384x8x16, subf (mulf (extractStridedSlice S2x16384x8x16 ![0, 0, 0, 0] (extractStridedSlice S2x16384x8x32 ![0, 0, 0, 0] z slices_S2x16384x8x64_S2x16384x8x32_0_0_0_0) slices_S2x16384x8x32_S2x16384x8x16_0_0_0_0) (broadcastInDim S2x16384x8x16 ![0, 1, 2, 3] bcast_S1x16384x1x16_S2x16384x8x16_0_1_2_3 (broadcastInDim S1x16384x1x16 ![1, 3] bcast_S16384x16_S1x16384x1x16_1_3 c)))
        (mulf (extractStridedSlice S2x16384x8x16 ![0, 0, 0, 16] (extractStridedSlice S2x16384x8x32 ![0, 0, 0, 0] z slices_S2x16384x8x64_S2x16384x8x32_0_0_0_0) slices_S2x16384x8x32_S2x16384x8x16_0_0_0_16) (broadcastInDim S2x16384x8x16 ![0, 1, 2, 3] bcast_S1x16384x1x16_S2x16384x8x16_0_1_2_3 (broadcastInDim S1x16384x1x16 ![1, 3] bcast_S16384x16_S1x16384x1x16_1_3 s)))⟩,
      ⟨S2x16384x8x16, addf (mulf (extractStridedSlice S2x16384x8x16 ![0, 0, 0, 0] (extractStridedSlice S2x16384x8x32 ![0, 0, 0, 0] z slices_S2x16384x8x64_S2x16384x8x32_0_0_0_0) slices_S2x16384x8x32_S2x16384x8x16_0_0_0_0) (broadcastInDim S2x16384x8x16 ![0, 1, 2, 3] bcast_S1x16384x1x16_S2x16384x8x16_0_1_2_3 (broadcastInDim S1x16384x1x16 ![1, 3] bcast_S16384x16_S1x16384x1x16_1_3 s)))
        (mulf (extractStridedSlice S2x16384x8x16 ![0, 0, 0, 16] (extractStridedSlice S2x16384x8x32 ![0, 0, 0, 0] z slices_S2x16384x8x64_S2x16384x8x32_0_0_0_0) slices_S2x16384x8x32_S2x16384x8x16_0_0_0_16) (broadcastInDim S2x16384x8x16 ![0, 1, 2, 3] bcast_S1x16384x1x16_S2x16384x8x16_0_1_2_3 (broadcastInDim S1x16384x1x16 ![1, 3] bcast_S16384x16_S1x16384x1x16_1_3 c)))⟩]
    concatenates_S2x16384x8x16_S2x16384x8x16_S2x16384x8x32_d3
/-- The second half. -/
def hi8 (z : FVec Ideal S2x16384x8x64 .f32) (c s : FVec Ideal S16384x16 .f32) : FVec Ideal S2x16384x8x32 .f32 :=
  concatenate S2x16384x8x32 3
    [⟨S2x16384x8x16, subf (mulf (extractStridedSlice S2x16384x8x16 ![0, 0, 0, 0] (extractStridedSlice S2x16384x8x32 ![0, 0, 0, 32] z slices_S2x16384x8x64_S2x16384x8x32_0_0_0_32) slices_S2x16384x8x32_S2x16384x8x16_0_0_0_0) (broadcastInDim S2x16384x8x16 ![0, 1, 2, 3] bcast_S1x16384x1x16_S2x16384x8x16_0_1_2_3 (broadcastInDim S1x16384x1x16 ![1, 3] bcast_S16384x16_S1x16384x1x16_1_3 c)))
        (mulf (extractStridedSlice S2x16384x8x16 ![0, 0, 0, 16] (extractStridedSlice S2x16384x8x32 ![0, 0, 0, 32] z slices_S2x16384x8x64_S2x16384x8x32_0_0_0_32) slices_S2x16384x8x32_S2x16384x8x16_0_0_0_16) (broadcastInDim S2x16384x8x16 ![0, 1, 2, 3] bcast_S1x16384x1x16_S2x16384x8x16_0_1_2_3 (broadcastInDim S1x16384x1x16 ![1, 3] bcast_S16384x16_S1x16384x1x16_1_3 s)))⟩,
      ⟨S2x16384x8x16, addf (mulf (extractStridedSlice S2x16384x8x16 ![0, 0, 0, 0] (extractStridedSlice S2x16384x8x32 ![0, 0, 0, 32] z slices_S2x16384x8x64_S2x16384x8x32_0_0_0_32) slices_S2x16384x8x32_S2x16384x8x16_0_0_0_0) (broadcastInDim S2x16384x8x16 ![0, 1, 2, 3] bcast_S1x16384x1x16_S2x16384x8x16_0_1_2_3 (broadcastInDim S1x16384x1x16 ![1, 3] bcast_S16384x16_S1x16384x1x16_1_3 s)))
        (mulf (extractStridedSlice S2x16384x8x16 ![0, 0, 0, 16] (extractStridedSlice S2x16384x8x32 ![0, 0, 0, 32] z slices_S2x16384x8x64_S2x16384x8x32_0_0_0_32) slices_S2x16384x8x32_S2x16384x8x16_0_0_0_16) (broadcastInDim S2x16384x8x16 ![0, 1, 2, 3] bcast_S1x16384x1x16_S2x16384x8x16_0_1_2_3 (broadcastInDim S1x16384x1x16 ![1, 3] bcast_S16384x16_S1x16384x1x16_1_3 c)))⟩]
    concatenates_S2x16384x8x16_S2x16384x8x16_S2x16384x8x32_d3

/-- The turn. -/
def turn8 (z : FVec Ideal S2x16384x8x64 .f32) (cr sr cc sc : FVec Ideal S16384x16 .f32) : FVec Ideal S2x16384x8x64 .f32 :=
  concatenate S2x16384x8x64 3 [⟨S2x16384x8x32, lo8 z cr sr⟩, ⟨S2x16384x8x32, hi8 z cc sc⟩] concatenates_S2x16384x8x32_S2x16384x8x32_S2x16384x8x64_d3

/-- The heads of the projection. -/
def split8 (y : FVec Ideal S2x16384x5632 .f32) : FVec Ideal S2x16384x8x64 .f32 :=
  shapeCast S2x16384x8x64 (extractStridedSlice S2x16384x512 ![0, 0, 0] y slices_S2x16384x5632_S2x16384x512_0_0_0) shapeCasts_S2x16384x512_S2x16384x8x64
/-- The heads side by side. -/
def flat8 (z : FVec Ideal S2x16384x8x64 .f32) : FVec Ideal S2x16384x512 .f32 := shapeCast S2x16384x512 z shapeCasts_S2x16384x8x64_S2x16384x512

/-- The heads of the projection, normed and turned: 512 columns. -/
def heads8 (y : FVec Ideal S2x16384x5632 .f32) (g : FVec Ideal S64 .f32) : FVec Ideal S2x16384x512 .f32 :=
  flat8 (turn8 (norm8 (split8 y) g)
    (Host.cos (angles rowIds)) (Host.sin (angles rowIds)) (Host.cos (angles colIds)) (Host.sin (angles colIds)))

/-- A head's norm, of 2 heads. -/
def norm2 (y : FVec Ideal S2x16384x2x64 .f32) (g : FVec Ideal S64 .f32) : FVec Ideal S2x16384x2x64 .f32 :=
  mulf (mulf y (broadcastInDim S2x16384x2x64 ![0, 1, 2, 3] bcast_S2x16384x2x1_S2x16384x2x64_0_1_2_3 (Host.rsqrt (addf
      (Host.divf (broadcastInDim S2x16384x2x1 ![0, 1, 2] bcast_S2x16384x2_S2x16384x2x1_0_1_2
          (Host.reduceAdd (mulf y y) (constant S_ .f32 0x00000000#32) reducesTo_S2x16384x2x64_S2x16384x2_d3 h_S_))
        (broadcastInDim S2x16384x2x1 ![] bcast_S_S2x16384x2x1 (constant S_ .f32 0x42800000#32)))
      (broadcastInDim S2x16384x2x1 ![] bcast_S_S2x16384x2x1 (constant S_ .f32 0x358637BD#32))))))
    (broadcastInDim S2x16384x2x64 ![0, 1, 2, 3] bcast_S1x1x1x64_S2x16384x2x64_0_1_2_3 (broadcastInDim S1x1x1x64 ![3] bcast_S64_S1x1x1x64_3 g))

/-- The turn of a half by its angles' cosines and sines: the first half, of 2 heads. -/
def lo2 (z : FVec Ideal S2x16384x2x64 .f32) (c s : FVec Ideal S16384x16 .f32) : FVec Ideal S2x16384x2x32 .f32 :=
  concatenate S2x16384x2x32 3
    [⟨S2x16384x2x16, subf (mulf (extractStridedSlice S2x16384x2x16 ![0, 0, 0, 0] (extractStridedSlice S2x16384x2x32 ![0, 0, 0, 0] z slices_S2x16384x2x64_S2x16384x2x32_0_0_0_0) slices_S2x16384x2x32_S2x16384x2x16_0_0_0_0) (broadcastInDim S2x16384x2x16 ![0, 1, 2, 3] bcast_S1x16384x1x16_S2x16384x2x16_0_1_2_3 (broadcastInDim S1x16384x1x16 ![1, 3] bcast_S16384x16_S1x16384x1x16_1_3 c)))
        (mulf (extractStridedSlice S2x16384x2x16 ![0, 0, 0, 16] (extractStridedSlice S2x16384x2x32 ![0, 0, 0, 0] z slices_S2x16384x2x64_S2x16384x2x32_0_0_0_0) slices_S2x16384x2x32_S2x16384x2x16_0_0_0_16) (broadcastInDim S2x16384x2x16 ![0, 1, 2, 3] bcast_S1x16384x1x16_S2x16384x2x16_0_1_2_3 (broadcastInDim S1x16384x1x16 ![1, 3] bcast_S16384x16_S1x16384x1x16_1_3 s)))⟩,
      ⟨S2x16384x2x16, addf (mulf (extractStridedSlice S2x16384x2x16 ![0, 0, 0, 0] (extractStridedSlice S2x16384x2x32 ![0, 0, 0, 0] z slices_S2x16384x2x64_S2x16384x2x32_0_0_0_0) slices_S2x16384x2x32_S2x16384x2x16_0_0_0_0) (broadcastInDim S2x16384x2x16 ![0, 1, 2, 3] bcast_S1x16384x1x16_S2x16384x2x16_0_1_2_3 (broadcastInDim S1x16384x1x16 ![1, 3] bcast_S16384x16_S1x16384x1x16_1_3 s)))
        (mulf (extractStridedSlice S2x16384x2x16 ![0, 0, 0, 16] (extractStridedSlice S2x16384x2x32 ![0, 0, 0, 0] z slices_S2x16384x2x64_S2x16384x2x32_0_0_0_0) slices_S2x16384x2x32_S2x16384x2x16_0_0_0_16) (broadcastInDim S2x16384x2x16 ![0, 1, 2, 3] bcast_S1x16384x1x16_S2x16384x2x16_0_1_2_3 (broadcastInDim S1x16384x1x16 ![1, 3] bcast_S16384x16_S1x16384x1x16_1_3 c)))⟩]
    concatenates_S2x16384x2x16_S2x16384x2x16_S2x16384x2x32_d3
/-- The second half. -/
def hi2 (z : FVec Ideal S2x16384x2x64 .f32) (c s : FVec Ideal S16384x16 .f32) : FVec Ideal S2x16384x2x32 .f32 :=
  concatenate S2x16384x2x32 3
    [⟨S2x16384x2x16, subf (mulf (extractStridedSlice S2x16384x2x16 ![0, 0, 0, 0] (extractStridedSlice S2x16384x2x32 ![0, 0, 0, 32] z slices_S2x16384x2x64_S2x16384x2x32_0_0_0_32) slices_S2x16384x2x32_S2x16384x2x16_0_0_0_0) (broadcastInDim S2x16384x2x16 ![0, 1, 2, 3] bcast_S1x16384x1x16_S2x16384x2x16_0_1_2_3 (broadcastInDim S1x16384x1x16 ![1, 3] bcast_S16384x16_S1x16384x1x16_1_3 c)))
        (mulf (extractStridedSlice S2x16384x2x16 ![0, 0, 0, 16] (extractStridedSlice S2x16384x2x32 ![0, 0, 0, 32] z slices_S2x16384x2x64_S2x16384x2x32_0_0_0_32) slices_S2x16384x2x32_S2x16384x2x16_0_0_0_16) (broadcastInDim S2x16384x2x16 ![0, 1, 2, 3] bcast_S1x16384x1x16_S2x16384x2x16_0_1_2_3 (broadcastInDim S1x16384x1x16 ![1, 3] bcast_S16384x16_S1x16384x1x16_1_3 s)))⟩,
      ⟨S2x16384x2x16, addf (mulf (extractStridedSlice S2x16384x2x16 ![0, 0, 0, 0] (extractStridedSlice S2x16384x2x32 ![0, 0, 0, 32] z slices_S2x16384x2x64_S2x16384x2x32_0_0_0_32) slices_S2x16384x2x32_S2x16384x2x16_0_0_0_0) (broadcastInDim S2x16384x2x16 ![0, 1, 2, 3] bcast_S1x16384x1x16_S2x16384x2x16_0_1_2_3 (broadcastInDim S1x16384x1x16 ![1, 3] bcast_S16384x16_S1x16384x1x16_1_3 s)))
        (mulf (extractStridedSlice S2x16384x2x16 ![0, 0, 0, 16] (extractStridedSlice S2x16384x2x32 ![0, 0, 0, 32] z slices_S2x16384x2x64_S2x16384x2x32_0_0_0_32) slices_S2x16384x2x32_S2x16384x2x16_0_0_0_16) (broadcastInDim S2x16384x2x16 ![0, 1, 2, 3] bcast_S1x16384x1x16_S2x16384x2x16_0_1_2_3 (broadcastInDim S1x16384x1x16 ![1, 3] bcast_S16384x16_S1x16384x1x16_1_3 c)))⟩]
    concatenates_S2x16384x2x16_S2x16384x2x16_S2x16384x2x32_d3

/-- The turn. -/
def turn2 (z : FVec Ideal S2x16384x2x64 .f32) (cr sr cc sc : FVec Ideal S16384x16 .f32) : FVec Ideal S2x16384x2x64 .f32 :=
  concatenate S2x16384x2x64 3 [⟨S2x16384x2x32, lo2 z cr sr⟩, ⟨S2x16384x2x32, hi2 z cc sc⟩] concatenates_S2x16384x2x32_S2x16384x2x32_S2x16384x2x64_d3

/-- The heads of the projection. -/
def split2 (y : FVec Ideal S2x16384x5632 .f32) : FVec Ideal S2x16384x2x64 .f32 :=
  shapeCast S2x16384x2x64 (extractStridedSlice S2x16384x128 ![0, 0, 512] y slices_S2x16384x5632_S2x16384x128_0_0_512) shapeCasts_S2x16384x128_S2x16384x2x64
/-- The heads side by side. -/
def flat2 (z : FVec Ideal S2x16384x2x64 .f32) : FVec Ideal S2x16384x128 .f32 := shapeCast S2x16384x128 z shapeCasts_S2x16384x2x64_S2x16384x128

/-- The heads of the projection, normed and turned: 128 columns. -/
def heads2 (y : FVec Ideal S2x16384x5632 .f32) (g : FVec Ideal S64 .f32) : FVec Ideal S2x16384x128 .f32 :=
  flat2 (turn2 (norm2 (split2 y) g)
    (Host.cos (angles rowIds)) (Host.sin (angles rowIds)) (Host.cos (angles colIds)) (Host.sin (angles colIds)))

/-- The result from the projection. -/
def cat (y : FVec Ideal S2x16384x5632 .f32) (gq gk : FVec Ideal S64 .f32) : FVec Ideal S2x16384x2560 .f32 :=
  concatenate S2x16384x2560 2
    [⟨S2x16384x512, mulf (heads8 y gq) (broadcastInDim S2x16384x512 ![] bcast_S_S2x16384x512 (constant S_ .f32 0x3E38AA3B#32))⟩,
      ⟨S2x16384x128, heads2 y gk⟩,
      ⟨S2x16384x128, extractStridedSlice S2x16384x128 ![0, 0, 640] y slices_S2x16384x5632_S2x16384x128_0_0_640⟩,
      ⟨S2x16384x512, mulf (extractStridedSlice S2x16384x512 ![0, 0, 768] y slices_S2x16384x5632_S2x16384x512_0_0_768) (broadcastInDim S2x16384x512 ![] bcast_S_S2x16384x512 (constant S_ .f32 0x3E38AA3B#32))⟩,
      ⟨S2x16384x128, extractStridedSlice S2x16384x128 ![0, 0, 1280] y slices_S2x16384x5632_S2x16384x128_0_0_1280⟩,
      ⟨S2x16384x128, extractStridedSlice S2x16384x128 ![0, 0, 1408] y slices_S2x16384x5632_S2x16384x128_0_0_1408⟩,
      ⟨S2x16384x512, mulf (extractStridedSlice S2x16384x512 ![0, 0, 1536] y slices_S2x16384x5632_S2x16384x512_0_0_1536) (broadcastInDim S2x16384x512 ![] bcast_S_S2x16384x512 (constant S_ .f32 0x3E38AA3B#32))⟩,
      ⟨S2x16384x256, extractStridedSlice S2x16384x256 ![0, 0, 2048] y slices_S2x16384x5632_S2x16384x256_0_0_2048⟩,
      ⟨S2x16384x256, extractStridedSlice S2x16384x256 ![0, 0, 2304] y slices_S2x16384x5632_S2x16384x256_0_0_2304⟩]
    concatenates_S2x16384x512_S2x16384x128_S2x16384x128_S2x16384x512_S2x16384x128_S2x16384x128_S2x16384x512_S2x16384x256_S2x16384x256_S2x16384x2560_d2

/-- The columns as rows. -/
def rows (y : FVec Ideal S2x16384x5632 .f32) (gq gk : FVec Ideal S64 .f32) : FVec Ideal S2x2560x16384 .bf16 :=
  truncf .bf16 (transpose S2x2560x16384 [0, 2, 1] (cat y gq gk) transposes_S2x16384x2560_S2x2560x16384_0_2_1) bitsLt_bf16_f32

/-- The reference's result. -/
def refOut (x : FVec Ideal S2x16384x1024 .f32) (g : FVec Ideal S1024 .f32) (w : FVec Ideal S1024x5632 .f32) (gq gk : FVec Ideal S64 .f32) :
    FVec Ideal S2x2560x16384 .bf16 :=
  rows (proj (normed x g) w) gq gk

theorem res_eq (m : (ℓ : Loc nD τ sig) → Buf (Elt Ideal) ℓ) (c : Dev nD) : Value.res_main_v161 (F := Ideal) m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

theorem normed_at (x : FVec Ideal S2x16384x1024 .f32) (g : FVec Ideal S1024 .f32) (b : Fin 2) (p : Fin 16384) (i : Fin 1024) :
    normed x g (ix3 b p i) = rmsRow (fun i => x (ix3 b p i)) (fun i => g (ix1 i)) i := by
  pointwise [normed, rmsRow]

theorem proj_at (h : FVec Ideal S2x16384x1024 .f32) (w : FVec Ideal S1024x5632 .f32) (b : Fin 2) (p : Fin 16384) (e : Fin 5632) :
    proj h w (ix3 b p e) = ∑ i : Fin 1024, h (ix3 b p i) * w (ix2 i e) := by
  pointwise [proj]

theorem norm8_at (y : FVec Ideal S2x16384x8x64 .f32) (g : FVec Ideal S64 .f32) (b : Fin 2) (p : Fin 16384) (h : Fin 8) (d : Fin 64) :
    norm8 y g (ix4 b p h d) = headNorm (fun d => y (ix4 b p h d)) (fun d => g (ix1 d)) d := by
  pointwise [norm8, headNorm]

theorem turn8_at (z : FVec Ideal S2x16384x8x64 .f32) (cr sr cc sc : FVec Ideal S16384x16 .f32) (b : Fin 2) (p : Fin 16384) (h : Fin 8) (d : Fin 64) :
    turn8 z cr sr cc sc (ix4 b p h d)
      = turn (fun d => z (ix4 b p h d)) (fun f => cr (ix2 p f)) (fun f => sr (ix2 p f)) (fun f => cc (ix2 p f)) (fun f => sc (ix2 p f)) d := by
  refine quarters (fun d => turn8 z cr sr cc sc (ix4 b p h d)
      = turn (fun d => z (ix4 b p h d)) (fun f => cr (ix2 p f)) (fun f => sr (ix2 p f)) (fun f => cc (ix2 p f)) (fun f => sc (ix2 p f)) d)
    (fun f => ?_) (fun f => ?_) (fun f => ?_) (fun f => ?_) d
  · rw [turn_q0]
    pointwise [turn8, lo8, hi8]
    simp only [show f.val < 32 by omega, dite_true]
  · rw [turn_q1]
    pointwise [turn8, lo8, hi8]
    simp only [show 16 + f.val < 32 by omega, dite_true]
  · rw [turn_q2]
    pointwise [turn8, lo8, hi8]
    simp only [show 32 + (16 + f.val) = 48 + f.val by omega]
  · rw [turn_q3]
    pointwise [turn8, lo8, hi8]
    have h1 : ¬ 48 + f.val < 32 := by omega
    have h2 : ¬ 48 + f.val - 32 < 16 := by omega
    have h3 : 48 + f.val - 32 - 16 = f.val := by omega
    have h5 : 32 + (16 + f.val) = 48 + f.val := by omega
    simp only [h1, h2, h3, h5, dite_false]

theorem split8_at (y : FVec Ideal S2x16384x5632 .f32) (b : Fin 2) (p : Fin 16384) (h : Fin 8) (d : Fin 64) :
    split8 y (ix4 b p h d) = y (ix3 b p ⟨0 + (h.val * 64 + d.val), by omega⟩) := by
  pointwise [split8]

theorem flat8_at (z : FVec Ideal S2x16384x8x64 .f32) (b : Fin 2) (p : Fin 16384) (h : Fin 8) (d : Fin 64) :
    flat8 z (ix3 b p ⟨h.val * 64 + d.val, by omega⟩) = z (ix4 b p h d) := by
  pointwise [flat8]

theorem heads8_at (y : FVec Ideal S2x16384x5632 .f32) (g : FVec Ideal S64 .f32) (b : Fin 2) (p : Fin 16384) (h : Fin 8) (d : Fin 64) :
    heads8 y g (ix3 b p ⟨h.val * 64 + d.val, by omega⟩)
      = turn (headNorm (fun d => y (ix3 b p ⟨0 + (h.val * 64 + d.val), by omega⟩)) (fun d => g (ix1 d)))
          (fun f => Host.cos (angles rowIds) (ix2 p f)) (fun f => Host.sin (angles rowIds) (ix2 p f))
          (fun f => Host.cos (angles colIds) (ix2 p f)) (fun f => Host.sin (angles colIds) (ix2 p f)) d := by
  rw [heads8, flat8_at, turn8_at]
  refine congrArg (fun n => turn n _ _ _ _ d) (funext fun d => ?_)
  rw [norm8_at]
  refine congrArg (fun z => headNorm z _ d) (funext fun d => split8_at y b p h d)

theorem norm2_at (y : FVec Ideal S2x16384x2x64 .f32) (g : FVec Ideal S64 .f32) (b : Fin 2) (p : Fin 16384) (h : Fin 2) (d : Fin 64) :
    norm2 y g (ix4 b p h d) = headNorm (fun d => y (ix4 b p h d)) (fun d => g (ix1 d)) d := by
  pointwise [norm2, headNorm]

theorem turn2_at (z : FVec Ideal S2x16384x2x64 .f32) (cr sr cc sc : FVec Ideal S16384x16 .f32) (b : Fin 2) (p : Fin 16384) (h : Fin 2) (d : Fin 64) :
    turn2 z cr sr cc sc (ix4 b p h d)
      = turn (fun d => z (ix4 b p h d)) (fun f => cr (ix2 p f)) (fun f => sr (ix2 p f)) (fun f => cc (ix2 p f)) (fun f => sc (ix2 p f)) d := by
  refine quarters (fun d => turn2 z cr sr cc sc (ix4 b p h d)
      = turn (fun d => z (ix4 b p h d)) (fun f => cr (ix2 p f)) (fun f => sr (ix2 p f)) (fun f => cc (ix2 p f)) (fun f => sc (ix2 p f)) d)
    (fun f => ?_) (fun f => ?_) (fun f => ?_) (fun f => ?_) d
  · rw [turn_q0]
    pointwise [turn2, lo2, hi2]
    simp only [show f.val < 32 by omega, dite_true]
  · rw [turn_q1]
    pointwise [turn2, lo2, hi2]
    simp only [show 16 + f.val < 32 by omega, dite_true]
  · rw [turn_q2]
    pointwise [turn2, lo2, hi2]
    simp only [show 32 + (16 + f.val) = 48 + f.val by omega]
  · rw [turn_q3]
    pointwise [turn2, lo2, hi2]
    have h1 : ¬ 48 + f.val < 32 := by omega
    have h2 : ¬ 48 + f.val - 32 < 16 := by omega
    have h3 : 48 + f.val - 32 - 16 = f.val := by omega
    have h5 : 32 + (16 + f.val) = 48 + f.val := by omega
    simp only [h1, h2, h3, h5, dite_false]

theorem split2_at (y : FVec Ideal S2x16384x5632 .f32) (b : Fin 2) (p : Fin 16384) (h : Fin 2) (d : Fin 64) :
    split2 y (ix4 b p h d) = y (ix3 b p ⟨512 + (h.val * 64 + d.val), by omega⟩) := by
  pointwise [split2]

theorem flat2_at (z : FVec Ideal S2x16384x2x64 .f32) (b : Fin 2) (p : Fin 16384) (h : Fin 2) (d : Fin 64) :
    flat2 z (ix3 b p ⟨h.val * 64 + d.val, by omega⟩) = z (ix4 b p h d) := by
  pointwise [flat2]

theorem heads2_at (y : FVec Ideal S2x16384x5632 .f32) (g : FVec Ideal S64 .f32) (b : Fin 2) (p : Fin 16384) (h : Fin 2) (d : Fin 64) :
    heads2 y g (ix3 b p ⟨h.val * 64 + d.val, by omega⟩)
      = turn (headNorm (fun d => y (ix3 b p ⟨512 + (h.val * 64 + d.val), by omega⟩)) (fun d => g (ix1 d)))
          (fun f => Host.cos (angles rowIds) (ix2 p f)) (fun f => Host.sin (angles rowIds) (ix2 p f))
          (fun f => Host.cos (angles colIds) (ix2 p f)) (fun f => Host.sin (angles colIds) (ix2 p f)) d := by
  rw [heads2, flat2_at, turn2_at]
  refine congrArg (fun n => turn n _ _ _ _ d) (funext fun d => ?_)
  rw [norm2_at]
  refine congrArg (fun z => headNorm z _ d) (funext fun d => split2_at y b p h d)

end Cert.Reference5Ideal.Inproj

end
-- ==== Proof.Inproj.Rows.lean ====
/-
  The rows of the input projection's reference, piece by piece.
-/
module

public import proofs.«01_k».proof.Proof.Inproj.Reference
public import Idealize.ShloMosaic.Lib.Pipeline.Value

@[expose] public section

set_option maxRecDepth 16384

noncomputable section

namespace Cert.Reference5Ideal.Inproj

open Cert.Reference5Ideal Cert.Reference5Ideal.Gen
open Idealize.ShloMosaic Idealize.ShloMosaic.TcCoe
open Cert.Ffn Cert.Inproj
open scoped BigOperators

/-- The rows are the columns. -/
theorem rows_cat (y : FVec Ideal S2x16384x5632 .f32) (gq gk : FVec Ideal S64 .f32) (b : Fin 2) (p : Fin 16384) (r : Fin 2560) : rows y gq gk (ix3 b r p) = cat y gq gk (ix3 b p r) := by
  pointwise [rows]

/-- Off the last axis a piece's index is the whole's. -/
theorem off_axis128 (b : Fin 2) (p : Fin 16384) (j : Fin 128) (r : Fin 2560) (a : Fin S2x16384x128.rank)
    (ha : a.cast (rfl : S2x16384x128.rank = S2x16384x2560.rank) ≠ (2 : Fin S2x16384x2560.rank)) :
    ((ix3 b p j : S2x16384x128.Idx) a).val = ((ix3 b p r : S2x16384x2560.Idx) (a.cast rfl)).val :=
  match a, ha with
  | ⟨0, _⟩, _ => rfl
  | ⟨1, _⟩, _ => rfl
  | ⟨2, _⟩, ha => absurd rfl ha

/-- Off the last axis a piece's index is the whole's. -/
theorem off_axis256 (b : Fin 2) (p : Fin 16384) (j : Fin 256) (r : Fin 2560) (a : Fin S2x16384x256.rank)
    (ha : a.cast (rfl : S2x16384x256.rank = S2x16384x2560.rank) ≠ (2 : Fin S2x16384x2560.rank)) :
    ((ix3 b p j : S2x16384x256.Idx) a).val = ((ix3 b p r : S2x16384x2560.Idx) (a.cast rfl)).val :=
  match a, ha with
  | ⟨0, _⟩, _ => rfl
  | ⟨1, _⟩, _ => rfl
  | ⟨2, _⟩, ha => absurd rfl ha

/-- Off the last axis a piece's index is the whole's. -/
theorem off_axis512 (b : Fin 2) (p : Fin 16384) (j : Fin 512) (r : Fin 2560) (a : Fin S2x16384x512.rank)
    (ha : a.cast (rfl : S2x16384x512.rank = S2x16384x2560.rank) ≠ (2 : Fin S2x16384x2560.rank)) :
    ((ix3 b p j : S2x16384x512.Idx) a).val = ((ix3 b p r : S2x16384x2560.Idx) (a.cast rfl)).val :=
  match a, ha with
  | ⟨0, _⟩, _ => rfl
  | ⟨1, _⟩, _ => rfl
  | ⟨2, _⟩, ha => absurd rfl ha

theorem slice640 (y : FVec Ideal S2x16384x5632 .f32) (b : Fin 2) (p : Fin 16384) (j : Fin 128) :
    extractStridedSlice S2x16384x128 ![0, 0, 640] y slices_S2x16384x5632_S2x16384x128_0_0_640 (ix3 b p j) = y (ix3 b p ⟨640 + j.val, by omega⟩) := by
  pointwise
theorem slice768 (y : FVec Ideal S2x16384x5632 .f32) (b : Fin 2) (p : Fin 16384) (j : Fin 512) :
    extractStridedSlice S2x16384x512 ![0, 0, 768] y slices_S2x16384x5632_S2x16384x512_0_0_768 (ix3 b p j) = y (ix3 b p ⟨768 + j.val, by omega⟩) := by
  pointwise
theorem slice1280 (y : FVec Ideal S2x16384x5632 .f32) (b : Fin 2) (p : Fin 16384) (j : Fin 128) :
    extractStridedSlice S2x16384x128 ![0, 0, 1280] y slices_S2x16384x5632_S2x16384x128_0_0_1280 (ix3 b p j) = y (ix3 b p ⟨1280 + j.val, by omega⟩) := by
  pointwise
theorem slice1408 (y : FVec Ideal S2x16384x5632 .f32) (b : Fin 2) (p : Fin 16384) (j : Fin 128) :
    extractStridedSlice S2x16384x128 ![0, 0, 1408] y slices_S2x16384x5632_S2x16384x128_0_0_1408 (ix3 b p j) = y (ix3 b p ⟨1408 + j.val, by omega⟩) := by
  pointwise
theorem slice1536 (y : FVec Ideal S2x16384x5632 .f32) (b : Fin 2) (p : Fin 16384) (j : Fin 512) :
    extractStridedSlice S2x16384x512 ![0, 0, 1536] y slices_S2x16384x5632_S2x16384x512_0_0_1536 (ix3 b p j) = y (ix3 b p ⟨1536 + j.val, by omega⟩) := by
  pointwise
theorem slice2048 (y : FVec Ideal S2x16384x5632 .f32) (b : Fin 2) (p : Fin 16384) (j : Fin 256) :
    extractStridedSlice S2x16384x256 ![0, 0, 2048] y slices_S2x16384x5632_S2x16384x256_0_0_2048 (ix3 b p j) = y (ix3 b p ⟨2048 + j.val, by omega⟩) := by
  pointwise
theorem slice2304 (y : FVec Ideal S2x16384x5632 .f32) (b : Fin 2) (p : Fin 16384) (j : Fin 256) :
    extractStridedSlice S2x16384x256 ![0, 0, 2304] y slices_S2x16384x5632_S2x16384x256_0_0_2304 (ix3 b p j) = y (ix3 b p ⟨2304 + j.val, by omega⟩) := by
  pointwise

/-- A piece scaled. -/
theorem scaled (h : FVec Ideal S2x16384x512 .f32) (b : Fin 2) (p : Fin 16384) (j : Fin 512) :
    mulf h (broadcastInDim S2x16384x512 ![] bcast_S_S2x16384x512 (constant S_ .f32 0x3E38AA3B#32)) (ix3 b p j)
      = h (ix3 b p j) * Ideal.ofBits .f32 0x3E38AA3B#32 := by
  pointwise

theorem cat_q (y : FVec Ideal S2x16384x5632 .f32) (gq gk : FVec Ideal S64 .f32) (b : Fin 2) (p : Fin 16384) (j : Fin 512) :
    cat y gq gk (ix3 b p ⟨0 + j.val, by omega⟩) = (mulf (heads8 y gq) (broadcastInDim S2x16384x512 ![] bcast_S_S2x16384x512 (constant S_ .f32 0x3E38AA3B#32)) : FVec Ideal S2x16384x512 .f32) (ix3 b p j) := by
  unfold cat
  refine concatenate_apply_piece (t := S2x16384x2560) 2 _ _ (ix3 b p ⟨0 + j.val, by omega⟩) 0 ?_
    S2x16384x512 _ ?_ rfl 0 ?_ (ix3 b p j) (off_axis512 b p j _) ?_
  · show 0 < 9
    omega
  · rfl
  · rfl
  · rfl
theorem rows_q (y : FVec Ideal S2x16384x5632 .f32) (gq gk : FVec Ideal S64 .f32) (b : Fin 2) (p : Fin 16384) (j : Fin 512) :
    rows y gq gk (ix3 b ⟨0 + j.val, by omega⟩ p) = heads8 y gq (ix3 b p j) * Ideal.ofBits .f32 0x3E38AA3B#32 :=
  (rows_cat y gq gk b p _).trans ((cat_q y gq gk b p j).trans (scaled (heads8 y gq) b p j))

theorem cat_k (y : FVec Ideal S2x16384x5632 .f32) (gq gk : FVec Ideal S64 .f32) (b : Fin 2) (p : Fin 16384) (j : Fin 128) :
    cat y gq gk (ix3 b p ⟨512 + j.val, by omega⟩) = (heads2 y gk : FVec Ideal S2x16384x128 .f32) (ix3 b p j) := by
  unfold cat
  refine concatenate_apply_piece (t := S2x16384x2560) 2 _ _ (ix3 b p ⟨512 + j.val, by omega⟩) 1 ?_
    S2x16384x128 _ ?_ rfl 512 ?_ (ix3 b p j) (off_axis128 b p j _) ?_
  · show 1 < 9
    omega
  · rfl
  · rfl
  · rfl
theorem rows_k (y : FVec Ideal S2x16384x5632 .f32) (gq gk : FVec Ideal S64 .f32) (b : Fin 2) (p : Fin 16384) (j : Fin 128) :
    rows y gq gk (ix3 b ⟨512 + j.val, by omega⟩ p) = heads2 y gk (ix3 b p j) :=
  (rows_cat y gq gk b p _).trans (cat_k y gq gk b p j)

theorem cat_va (y : FVec Ideal S2x16384x5632 .f32) (gq gk : FVec Ideal S64 .f32) (b : Fin 2) (p : Fin 16384) (j : Fin 128) :
    cat y gq gk (ix3 b p ⟨640 + j.val, by omega⟩) = (extractStridedSlice S2x16384x128 ![0, 0, 640] y slices_S2x16384x5632_S2x16384x128_0_0_640 : FVec Ideal S2x16384x128 .f32) (ix3 b p j) := by
  unfold cat
  refine concatenate_apply_piece (t := S2x16384x2560) 2 _ _ (ix3 b p ⟨640 + j.val, by omega⟩) 2 ?_
    S2x16384x128 _ ?_ rfl 640 ?_ (ix3 b p j) (off_axis128 b p j _) ?_
  · show 2 < 9
    omega
  · rfl
  · rfl
  · rfl
theorem rows_va (y : FVec Ideal S2x16384x5632 .f32) (gq gk : FVec Ideal S64 .f32) (b : Fin 2) (p : Fin 16384) (j : Fin 128) :
    rows y gq gk (ix3 b ⟨640 + j.val, by omega⟩ p) = y (ix3 b p ⟨640 + j.val, by omega⟩) :=
  (rows_cat y gq gk b p _).trans ((cat_va y gq gk b p j).trans (slice640 y b p j))

theorem cat_qb (y : FVec Ideal S2x16384x5632 .f32) (gq gk : FVec Ideal S64 .f32) (b : Fin 2) (p : Fin 16384) (j : Fin 512) :
    cat y gq gk (ix3 b p ⟨768 + j.val, by omega⟩) = (mulf (extractStridedSlice S2x16384x512 ![0, 0, 768] y slices_S2x16384x5632_S2x16384x512_0_0_768) (broadcastInDim S2x16384x512 ![] bcast_S_S2x16384x512 (constant S_ .f32 0x3E38AA3B#32)) : FVec Ideal S2x16384x512 .f32) (ix3 b p j) := by
  unfold cat
  refine concatenate_apply_piece (t := S2x16384x2560) 2 _ _ (ix3 b p ⟨768 + j.val, by omega⟩) 3 ?_
    S2x16384x512 _ ?_ rfl 768 ?_ (ix3 b p j) (off_axis512 b p j _) ?_
  · show 3 < 9
    omega
  · rfl
  · rfl
  · rfl
theorem rows_qb (y : FVec Ideal S2x16384x5632 .f32) (gq gk : FVec Ideal S64 .f32) (b : Fin 2) (p : Fin 16384) (j : Fin 512) :
    rows y gq gk (ix3 b ⟨768 + j.val, by omega⟩ p) = y (ix3 b p ⟨768 + j.val, by omega⟩) * Ideal.ofBits .f32 0x3E38AA3B#32 :=
  (rows_cat y gq gk b p _).trans ((cat_qb y gq gk b p j).trans ((scaled _ b p j).trans (congrArg (fun v : EReal => v * Ideal.ofBits .f32 0x3E38AA3B#32) (slice768 y b p j))))

theorem cat_kb (y : FVec Ideal S2x16384x5632 .f32) (gq gk : FVec Ideal S64 .f32) (b : Fin 2) (p : Fin 16384) (j : Fin 128) :
    cat y gq gk (ix3 b p ⟨1280 + j.val, by omega⟩) = (extractStridedSlice S2x16384x128 ![0, 0, 1280] y slices_S2x16384x5632_S2x16384x128_0_0_1280 : FVec Ideal S2x16384x128 .f32) (ix3 b p j) := by
  unfold cat
  refine concatenate_apply_piece (t := S2x16384x2560) 2 _ _ (ix3 b p ⟨1280 + j.val, by omega⟩) 4 ?_
    S2x16384x128 _ ?_ rfl 1280 ?_ (ix3 b p j) (off_axis128 b p j _) ?_
  · show 4 < 9
    omega
  · rfl
  · rfl
  · rfl
theorem rows_kb (y : FVec Ideal S2x16384x5632 .f32) (gq gk : FVec Ideal S64 .f32) (b : Fin 2) (p : Fin 16384) (j : Fin 128) :
    rows y gq gk (ix3 b ⟨1280 + j.val, by omega⟩ p) = y (ix3 b p ⟨1280 + j.val, by omega⟩) :=
  (rows_cat y gq gk b p _).trans ((cat_kb y gq gk b p j).trans (slice1280 y b p j))

theorem cat_vb (y : FVec Ideal S2x16384x5632 .f32) (gq gk : FVec Ideal S64 .f32) (b : Fin 2) (p : Fin 16384) (j : Fin 128) :
    cat y gq gk (ix3 b p ⟨1408 + j.val, by omega⟩) = (extractStridedSlice S2x16384x128 ![0, 0, 1408] y slices_S2x16384x5632_S2x16384x128_0_0_1408 : FVec Ideal S2x16384x128 .f32) (ix3 b p j) := by
  unfold cat
  refine concatenate_apply_piece (t := S2x16384x2560) 2 _ _ (ix3 b p ⟨1408 + j.val, by omega⟩) 5 ?_
    S2x16384x128 _ ?_ rfl 1408 ?_ (ix3 b p j) (off_axis128 b p j _) ?_
  · show 5 < 9
    omega
  · rfl
  · rfl
  · rfl
theorem rows_vb (y : FVec Ideal S2x16384x5632 .f32) (gq gk : FVec Ideal S64 .f32) (b : Fin 2) (p : Fin 16384) (j : Fin 128) :
    rows y gq gk (ix3 b ⟨1408 + j.val, by omega⟩ p) = y (ix3 b p ⟨1408 + j.val, by omega⟩) :=
  (rows_cat y gq gk b p _).trans ((cat_vb y gq gk b p j).trans (slice1408 y b p j))

theorem cat_qc (y : FVec Ideal S2x16384x5632 .f32) (gq gk : FVec Ideal S64 .f32) (b : Fin 2) (p : Fin 16384) (j : Fin 512) :
    cat y gq gk (ix3 b p ⟨1536 + j.val, by omega⟩) = (mulf (extractStridedSlice S2x16384x512 ![0, 0, 1536] y slices_S2x16384x5632_S2x16384x512_0_0_1536) (broadcastInDim S2x16384x512 ![] bcast_S_S2x16384x512 (constant S_ .f32 0x3E38AA3B#32)) : FVec Ideal S2x16384x512 .f32) (ix3 b p j) := by
  unfold cat
  refine concatenate_apply_piece (t := S2x16384x2560) 2 _ _ (ix3 b p ⟨1536 + j.val, by omega⟩) 6 ?_
    S2x16384x512 _ ?_ rfl 1536 ?_ (ix3 b p j) (off_axis512 b p j _) ?_
  · show 6 < 9
    omega
  · rfl
  · rfl
  · rfl
theorem rows_qc (y : FVec Ideal S2x16384x5632 .f32) (gq gk : FVec Ideal S64 .f32) (b : Fin 2) (p : Fin 16384) (j : Fin 512) :
    rows y gq gk (ix3 b ⟨1536 + j.val, by omega⟩ p) = y (ix3 b p ⟨1536 + j.val, by omega⟩) * Ideal.ofBits .f32 0x3E38AA3B#32 :=
  (rows_cat y gq gk b p _).trans ((cat_qc y gq gk b p j).trans ((scaled _ b p j).trans (congrArg (fun v : EReal => v * Ideal.ofBits .f32 0x3E38AA3B#32) (slice1536 y b p j))))

theorem cat_kc (y : FVec Ideal S2x16384x5632 .f32) (gq gk : FVec Ideal S64 .f32) (b : Fin 2) (p : Fin 16384) (j : Fin 256) :
    cat y gq gk (ix3 b p ⟨2048 + j.val, by omega⟩) = (extractStridedSlice S2x16384x256 ![0, 0, 2048] y slices_S2x16384x5632_S2x16384x256_0_0_2048 : FVec Ideal S2x16384x256 .f32) (ix3 b p j) := by
  unfold cat
  refine concatenate_apply_piece (t := S2x16384x2560) 2 _ _ (ix3 b p ⟨2048 + j.val, by omega⟩) 7 ?_
    S2x16384x256 _ ?_ rfl 2048 ?_ (ix3 b p j) (off_axis256 b p j _) ?_
  · show 7 < 9
    omega
  · rfl
  · rfl
  · rfl
theorem rows_kc (y : FVec Ideal S2x16384x5632 .f32) (gq gk : FVec Ideal S64 .f32) (b : Fin 2) (p : Fin 16384) (j : Fin 256) :
    rows y gq gk (ix3 b ⟨2048 + j.val, by omega⟩ p) = y (ix3 b p ⟨2048 + j.val, by omega⟩) :=
  (rows_cat y gq gk b p _).trans ((cat_kc y gq gk b p j).trans (slice2048 y b p j))

theorem cat_vc (y : FVec Ideal S2x16384x5632 .f32) (gq gk : FVec Ideal S64 .f32) (b : Fin 2) (p : Fin 16384) (j : Fin 256) :
    cat y gq gk (ix3 b p ⟨2304 + j.val, by omega⟩) = (extractStridedSlice S2x16384x256 ![0, 0, 2304] y slices_S2x16384x5632_S2x16384x256_0_0_2304 : FVec Ideal S2x16384x256 .f32) (ix3 b p j) := by
  unfold cat
  refine concatenate_apply_piece (t := S2x16384x2560) 2 _ _ (ix3 b p ⟨2304 + j.val, by omega⟩) 8 ?_
    S2x16384x256 _ ?_ rfl 2304 ?_ (ix3 b p j) (off_axis256 b p j _) ?_
  · show 8 < 9
    omega
  · rfl
  · rfl
  · rfl
theorem rows_vc (y : FVec Ideal S2x16384x5632 .f32) (gq gk : FVec Ideal S64 .f32) (b : Fin 2) (p : Fin 16384) (j : Fin 256) :
    rows y gq gk (ix3 b ⟨2304 + j.val, by omega⟩ p) = y (ix3 b p ⟨2304 + j.val, by omega⟩) :=
  (rows_cat y gq gk b p _).trans ((cat_vc y gq gk b p j).trans (slice2304 y b p j))

end Cert.Reference5Ideal.Inproj

end
-- ==== Proof.Inproj.Pieces.lean ====
/-
  The pieces the input projection's body leaves, piece by piece the reference's rows.
-/
module

public import proofs.«01_k».proof.Proof.Inproj.Body
public import proofs.«01_k».proof.Proof.Inproj.Rows
public import Idealize.ShloMosaic.Lib.Pipeline.ValueKit
public import Idealize.ShloMosaic.Lib.WholeRead

@[expose] public section

set_option maxRecDepth 16384

noncomputable section

namespace Cert.Kernel5Ideal.Inproj

open Cert.Kernel5Ideal Cert.Kernel5Ideal.Gen
open Idealize.ShloMosaic Idealize.ShloMosaic.TcCoe
open Cert.Ffn Cert.Inproj
open scoped BigOperators

/-! ## A whole array loaded -/

theorem load_x (a : Memref sig .tc .vmem S1x512x1024 .f32) (b : a.IsWhole) (x : Vec Ideal S1x512x1024 .f32) (h) :
    (View.readAt (Elt Ideal) a.view (Rect.unit (s := S1x512x1024) ![0, 0, 0] S1x512x1024.size h).toLoadRect (b.unread x) : Vec Ideal S1x512x1024 .f32) = x := by
  funext i
  refine (b.readAt_unread x _ i).trans (congrArg x (funext fun k => Fin.ext ?_))
  match k with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
theorem load_g (a : Memref sig .tc .vmem S1x1024 .f32) (b : a.IsWhole) (x : Vec Ideal S1x1024 .f32) (h) :
    (View.readAt (Elt Ideal) a.view (Rect.unit (s := S1x1024) ![0, 0] S1x1024.size h).toLoadRect (b.unread x) : Vec Ideal S1x1024 .f32) = x := by
  funext i
  refine (b.readAt_unread x _ i).trans (congrArg x (funext fun k => Fin.ext ?_))
  match k with
  | ⟨0, _⟩ => exact (Nat.zero_add _).trans (Nat.one_mul _)
  | ⟨1, _⟩ => exact (Nat.zero_add _).trans (Nat.one_mul _)
theorem load_w (a : Memref sig .tc .vmem S2560x1024 .bf16) (b : a.IsWhole) (x : Vec Ideal S2560x1024 .bf16) (h) :
    (View.readAt (Elt Ideal) a.view (Rect.unit (s := S2560x1024) ![0, 0] S2560x1024.size h).toLoadRect (b.unread x) : Vec Ideal S2560x1024 .bf16) = x := by
  funext i
  refine (b.readAt_unread x _ i).trans (congrArg x (funext fun k => Fin.ext ?_))
  match k with
  | ⟨0, _⟩ => exact (Nat.zero_add _).trans (Nat.one_mul _)
  | ⟨1, _⟩ => exact (Nat.zero_add _).trans (Nat.one_mul _)
theorem load_t (a : Memref sig .tc .vmem S64x512 .f32) (b : a.IsWhole) (x : Vec Ideal S64x512 .f32) (h) :
    (View.readAt (Elt Ideal) a.view (Rect.unit (s := S64x512) ![0, 0] S64x512.size h).toLoadRect (b.unread x) : Vec Ideal S64x512 .f32) = x := by
  funext i
  refine (b.readAt_unread x _ i).trans (congrArg x (funext fun k => Fin.ext ?_))
  match k with
  | ⟨0, _⟩ => exact (Nat.zero_add _).trans (Nat.one_mul _)
  | ⟨1, _⟩ => exact (Nat.zero_add _).trans (Nat.one_mul _)

/-! ## The pieces -/

/-- The pieces, last first, from the projection `y`, the gains and the table. -/
def pieces (y : FVec Ideal S2560x512 .f32) (gq gk t : FVec Ideal S64x512 .f32) : List (View.Piece (Elt Ideal) S1x2560x512 .bf16) :=
  [⟨Rect.unit ![0, 2048, 0] ![1, 512, 512] inb_S1x2560x512_S1x512x512_0_2048_0, k0_pay62 y⟩,
    ⟨Rect.unit ![0, 1536, 0] ![1, 512, 512] inb_S1x2560x512_S1x512x512_0_1536_0, k0_pay61 y⟩,
    ⟨Rect.unit ![0, 1280, 0] ![1, 256, 512] inb_S1x2560x512_S1x256x512_0_1280_0, k0_pay60 y⟩,
    ⟨Rect.unit ![0, 768, 0] ![1, 512, 512] inb_S1x2560x512_S1x512x512_0_768_0, k0_pay59 y⟩,
    ⟨Rect.unit ![0, 640, 0] ![1, 128, 512] inb_S1x2560x512_S1x128x512_0_640_0, k0_pay58 y⟩,
    ⟨Rect.unit ![0, 576, 0] ![1, 64, 512] inb_S1x2560x512_S1x64x512_0_576_0, storedK (head 576 slices_S2560x512_o576_0_S64x512 y) gk t⟩,
    ⟨Rect.unit ![0, 512, 0] ![1, 64, 512] inb_S1x2560x512_S1x64x512_0_512_0, storedK (head 512 slices_S2560x512_o512_0_S64x512 y) gk t⟩,
    ⟨Rect.unit ![0, 448, 0] ![1, 64, 512] inb_S1x2560x512_S1x64x512_0_448_0, storedQ (head 448 slices_S2560x512_o448_0_S64x512 y) gq t⟩,
    ⟨Rect.unit ![0, 384, 0] ![1, 64, 512] inb_S1x2560x512_S1x64x512_0_384_0, storedQ (head 384 slices_S2560x512_o384_0_S64x512 y) gq t⟩,
    ⟨Rect.unit ![0, 320, 0] ![1, 64, 512] inb_S1x2560x512_S1x64x512_0_320_0, storedQ (head 320 slices_S2560x512_o320_0_S64x512 y) gq t⟩,
    ⟨Rect.unit ![0, 256, 0] ![1, 64, 512] inb_S1x2560x512_S1x64x512_0_256_0, storedQ (head 256 slices_S2560x512_o256_0_S64x512 y) gq t⟩,
    ⟨Rect.unit ![0, 192, 0] ![1, 64, 512] inb_S1x2560x512_S1x64x512_0_192_0, storedQ (head 192 slices_S2560x512_o192_0_S64x512 y) gq t⟩,
    ⟨Rect.unit ![0, 128, 0] ![1, 64, 512] inb_S1x2560x512_S1x64x512_0_128_0, storedQ (head 128 slices_S2560x512_o128_0_S64x512 y) gq t⟩,
    ⟨Rect.unit ![0, 64, 0] ![1, 64, 512] inb_S1x2560x512_S1x64x512_0_64_0, storedQ (head 64 slices_S2560x512_o64_0_S64x512 y) gq t⟩,
    ⟨Rect.unit ![0, 0, 0] ![1, 64, 512] inb_S1x2560x512_S1x64x512_0_0_0, storedQ (head 0 slices_S2560x512_o0_0_S64x512 y) gq t⟩]

theorem run_pieces (c : Dev nD) (i : grid0.Coords) (a0 : Memref sig .tc .vmem S1x512x1024 .f32) (b0 : a0.IsWhole) (a1 : Memref sig .tc .vmem S1x1024 .f32) (b1 : a1.IsWhole) (a2 : Memref sig .tc .vmem S2560x1024 .bf16) (b2 : a2.IsWhole) (a3 : Memref sig .tc .vmem S64x512 .f32) (b3 : a3.IsWhole) (a4 : Memref sig .tc .vmem S64x512 .f32) (b4 : a4.IsWhole) (a5 : Memref sig .tc .vmem S64x512 .f32) (b5 : a5.IsWhole) (a6 : Memref sig .tc .vmem S1x2560x512 .bf16) (b6 : a6.IsWhole)
    (x0 : Vec Ideal S1x512x1024 .f32) (x1 : Vec Ideal S1x1024 .f32) (x2 : Vec Ideal S2560x1024 .bf16) (x3 x4 x5 : Vec Ideal S64x512 .f32) :
    (kernelRun0_A (F := Ideal) c i a0 b0 a1 b1 a2 b2 a3 b3 a4 b4 a5 b5 a6 b6 x0 x1 x2 x3 x4 x5).1
      = pieces (k0_pay1 (View.readAt (Elt Ideal) a0.view (Rect.unit (s := S1x512x1024) ![0, 0, 0] S1x512x1024.size inb_S1x512x1024_S1x512x1024_0_0_0).toLoadRect (b0.unread x0))
          (View.readAt (Elt Ideal) a1.view (Rect.unit (s := S1x1024) ![0, 0] S1x1024.size inb_S1x1024_S1x1024_0_0).toLoadRect (b1.unread x1))
          (View.readAt (Elt Ideal) a2.view (Rect.unit (s := S2560x1024) ![0, 0] S2560x1024.size inb_S2560x1024_S2560x1024_0_0).toLoadRect (b2.unread x2)))
        (View.readAt (Elt Ideal) a3.view (Rect.unit (s := S64x512) ![0, 0] S64x512.size inb_S64x512_S64x512_0_0).toLoadRect (b3.unread x3))
        (View.readAt (Elt Ideal) a4.view (Rect.unit (s := S64x512) ![0, 0] S64x512.size inb_S64x512_S64x512_0_0).toLoadRect (b4.unread x4))
        (k0_pay2 (View.readAt (Elt Ideal) a5.view (Rect.unit (s := S64x512) ![0, 0] S64x512.size inb_S64x512_S64x512_0_0).toLoadRect (b5.unread x5))) := by
  rfl

theorem out_canon (c : Dev nD) (i : grid0.Coords) (a0 : Memref sig .tc .vmem S1x512x1024 .f32) (b0 : a0.IsWhole) (a1 : Memref sig .tc .vmem S1x1024 .f32) (b1 : a1.IsWhole) (a2 : Memref sig .tc .vmem S2560x1024 .bf16) (b2 : a2.IsWhole) (a3 : Memref sig .tc .vmem S64x512 .f32) (b3 : a3.IsWhole) (a4 : Memref sig .tc .vmem S64x512 .f32) (b4 : a4.IsWhole) (a5 : Memref sig .tc .vmem S64x512 .f32) (b5 : a5.IsWhole) (a6 : Memref sig .tc .vmem S1x2560x512 .bf16) (b6 : a6.IsWhole)
    (x0 : Vec Ideal S1x512x1024 .f32) (x1 : Vec Ideal S1x1024 .f32) (x2 : Vec Ideal S2560x1024 .bf16) (x3 x4 x5 : Vec Ideal S64x512 .f32) :
    out0_A_6 (F := Ideal) c i a0 b0 a1 b1 a2 b2 a3 b3 a4 b4 a5 b5 a6 b6 x0 x1 x2 x3 x4 x5 = View.canon (pieces (k0_pay1 (F := Ideal) x0 x1 x2) x3 x4 (k0_pay2 (F := Ideal) x5)) := by
  unfold out0_A_6
  rw [View.read_writes_junk_eq_canon, run_pieces, load_x, load_g, load_w, load_t, load_t, load_t]

/-! ## Piece by piece the reference's rows -/

section

variable (yy : FVec Ideal Cert.Reference5Ideal.S2x16384x5632 .f32) (gq gk : FVec Ideal S64 .f32) (b : Fin 2) (s : Fin 512 → Fin 16384)
variable (y : FVec Ideal S2560x512 .f32) (gq' gk' t : FVec Ideal S64x512 .f32)

open Cert.Reference5Ideal.Inproj (rows angles rowIds colIds)

/-- The rows of the table: the angles' cosines and sines. -/
structure Table : Prop where
  cr : ∀ (f : Fin 16) (p : Fin 512), t (ix2 ⟨f.val, by omega⟩ p) = Host.cos (angles rowIds) (ix2 (s p) f)
  sr : ∀ (f : Fin 16) (p : Fin 512), t (ix2 ⟨16 + f.val, by omega⟩ p) = Host.sin (angles rowIds) (ix2 (s p) f)
  cc : ∀ (f : Fin 16) (p : Fin 512), t (ix2 ⟨32 + f.val, by omega⟩ p) = Host.cos (angles colIds) (ix2 (s p) f)
  sc : ∀ (f : Fin 16) (p : Fin 512), t (ix2 ⟨48 + f.val, by omega⟩ p) = Host.sin (angles colIds) (ix2 (s p) f)

theorem storedQ_rows (ht : Table s t) (hg : ∀ d p, gq' (ix2 d p) = gq (ix1 d)) (z : FVec Ideal S64x512 .f32) (h : Fin 8)
    (hz : ∀ d p, z (ix2 d p) = yy (ix3 b (s p) ⟨0 + (h.val * 64 + d.val), by omega⟩)) (d : Fin 64) (p : Fin 512) :
    storedQ z gq' t (ix3 0 d p) = rows yy gq gk (ix3 b ⟨0 + (h.val * 64 + d.val), by omega⟩ (s p)) := by
  rw [storedQ_at]
  refine Eq.trans ?_ (Cert.Reference5Ideal.Inproj.rows_q yy gq gk b (s p) ⟨h.val * 64 + d.val, by omega⟩).symm
  rw [Cert.Reference5Ideal.Inproj.heads8_at]
  simp only [hz, hg, ht.cr, ht.sr, ht.cc, ht.sc]

theorem storedK_rows (ht : Table s t) (hg : ∀ d p, gk' (ix2 d p) = gk (ix1 d)) (z : FVec Ideal S64x512 .f32) (h : Fin 2)
    (hz : ∀ d p, z (ix2 d p) = yy (ix3 b (s p) ⟨512 + (h.val * 64 + d.val), by omega⟩)) (d : Fin 64) (p : Fin 512) :
    storedK z gk' t (ix3 0 d p) = rows yy gq gk (ix3 b ⟨512 + (h.val * 64 + d.val), by omega⟩ (s p)) := by
  rw [storedK_at]
  refine Eq.trans ?_ (Cert.Reference5Ideal.Inproj.rows_k yy gq gk b (s p) ⟨h.val * 64 + d.val, by omega⟩).symm
  rw [Cert.Reference5Ideal.Inproj.heads2_at]
  simp only [hz, hg, ht.cr, ht.sr, ht.cc, ht.sc]

theorem head_at (o : Nat) (ho : o + 64 ≤ 2560) (h : S2560x512.Slices ![o, 0] S64x512) (d : Fin 64) (p : Fin 512) :
    head o h y (ix2 d p) = y (ix2 ⟨o + d.val, by omega⟩ p) := by
  refine congrArg y (funext fun a => Fin.ext ?_)
  match a with
  | ⟨0, _⟩ => rfl
  | ⟨1, _⟩ => exact Nat.zero_add _

/-- Where a piece's index lies in the block. -/
theorem emb_eq (o n : Nat) (h) (j : Fin n) (p : Fin 512) (hj : o + j.val < 2560) :
    (Rect.unit (s := S1x2560x512) ![0, o, 0] ![1, n, 512] h).emb (ix3 (0 : Fin 1) j p) = ix3 (0 : Fin 1) ⟨o + j.val, hj⟩ p := by
  refine funext fun a => Fin.ext ?_
  match a with
  | ⟨0, _⟩ => rfl
  | ⟨1, _⟩ => exact congrArg (o + ·) (Nat.one_mul _)
  | ⟨2, _⟩ => exact (Nat.zero_add _).trans (Nat.one_mul _)

/-- The block the rows make. -/
def block (x : S1x2560x512.Idx) : EReal := rows yy gq gk (ix3 b (x 1) (s (x 2)))

theorem block_at (r : Fin 2560) (p : Fin 512) : block yy gq gk b s (ix3 (0 : Fin 1) r p) = rows yy gq gk (ix3 b r (s p)) := rfl

theorem piece_of (o n : Nat) (ho : o + n ≤ 2560) (h) (w : (Rect.unit (s := S1x2560x512) ![0, o, 0] ![1, n, 512] h).shape.Idx → EReal)
    (hw : ∀ (j : Fin n) (p : Fin 512), w (ix3 (0 : Fin 1) j p) = rows yy gq gk (ix3 b ⟨o + j.val, by omega⟩ (s p)))
    (x : (Rect.unit (s := S1x2560x512) ![0, o, 0] ![1, n, 512] h).shape.Idx) :
    w x = block yy gq gk b s ((Rect.unit (s := S1x2560x512) ![0, o, 0] ![1, n, 512] h).emb x) := by
  obtain ⟨z, j, p, rfl⟩ : ∃ (z : Fin 1) (j : Fin n) (p : Fin 512), x = ix3 z j p := ⟨x 0, x 1, x 2, eq_ix3 x⟩
  have hz : z = 0 := Subsingleton.elim _ _
  subst hz
  rw [emb_eq o n h j p (by omega), block_at]
  exact hw j p

theorem pieces_rows (ht : Table s t) (hq : ∀ d p, gq' (ix2 d p) = gq (ix1 d)) (hk : ∀ d p, gk' (ix2 d p) = gk (ix1 d))
    (hy : ∀ (r : Fin 2560) (p : Fin 512), y (ix2 r p) = yy (ix3 b (s p) ⟨r.val, by omega⟩)) :
    ∀ q ∈ pieces y gq' gk' t, ∀ x, q.2 x = block yy gq gk b s (q.1.emb x) := by
  unfold pieces
  refine List.forall_mem_cons.2 ⟨piece_of yy gq gk b s 2048 512 (by omega) inb_S1x2560x512_S1x512x512_0_2048_0
    (k0_pay62 (F := Ideal) y) fun j p => ?_, ?_⟩
  · refine (pay62_at y j p).trans ?_
    rw [hy]
    by_cases h : j.val < 256
    · exact (Cert.Reference5Ideal.Inproj.rows_kc yy gq gk b (s p) ⟨j.val, h⟩).symm
    · have e : (⟨2048 + j.val, by omega⟩ : Fin 2560) = ⟨2304 + (j.val - 256), by omega⟩ := Fin.ext (by show 2048 + j.val = 2304 + (j.val - 256); omega)
      rw [e]
      refine Eq.trans ?_ (Cert.Reference5Ideal.Inproj.rows_vc yy gq gk b (s p) ⟨j.val - 256, by omega⟩).symm
      rfl
  refine List.forall_mem_cons.2 ⟨piece_of yy gq gk b s 1536 512 (by omega) inb_S1x2560x512_S1x512x512_0_1536_0
    (k0_pay61 (F := Ideal) y) fun j p => ?_, ?_⟩
  · refine (pay61_at y j p).trans (Eq.trans ?_ (Cert.Reference5Ideal.Inproj.rows_qc yy gq gk b (s p) j).symm)
    rw [hy]
  refine List.forall_mem_cons.2 ⟨piece_of yy gq gk b s 1280 256 (by omega) inb_S1x2560x512_S1x256x512_0_1280_0
    (k0_pay60 (F := Ideal) y) fun j p => ?_, ?_⟩
  · refine (pay60_at y j p).trans ?_
    rw [hy]
    by_cases h : j.val < 128
    · exact (Cert.Reference5Ideal.Inproj.rows_kb yy gq gk b (s p) ⟨j.val, h⟩).symm
    · have e : (⟨1280 + j.val, by omega⟩ : Fin 2560) = ⟨1408 + (j.val - 128), by omega⟩ := Fin.ext (by show 1280 + j.val = 1408 + (j.val - 128); omega)
      rw [e]
      refine Eq.trans ?_ (Cert.Reference5Ideal.Inproj.rows_vb yy gq gk b (s p) ⟨j.val - 128, by omega⟩).symm
      rfl
  refine List.forall_mem_cons.2 ⟨piece_of yy gq gk b s 768 512 (by omega) inb_S1x2560x512_S1x512x512_0_768_0
    (k0_pay59 (F := Ideal) y) fun j p => ?_, ?_⟩
  · refine (pay59_at y j p).trans (Eq.trans ?_ (Cert.Reference5Ideal.Inproj.rows_qb yy gq gk b (s p) j).symm)
    rw [hy]
  refine List.forall_mem_cons.2 ⟨piece_of yy gq gk b s 640 128 (by omega) inb_S1x2560x512_S1x128x512_0_640_0
    (k0_pay58 (F := Ideal) y) fun j p => ?_, ?_⟩
  · refine (pay58_at y j p).trans (Eq.trans ?_ (Cert.Reference5Ideal.Inproj.rows_va yy gq gk b (s p) j).symm)
    rw [hy]
  refine List.forall_mem_cons.2 ⟨piece_of yy gq gk b s 576 64 (by omega) inb_S1x2560x512_S1x64x512_0_576_0
    (storedK (head 576 slices_S2560x512_o576_0_S64x512 y) gk' t) fun j p => ?_, ?_⟩
  · refine (storedK_rows yy gq gk b s gk' t ht hk _ (1 : Fin 2) (fun d p => ?_) j p).trans (congrArg (fun r => rows yy gq gk (ix3 b r (s p))) (Fin.ext ?_))
    · rw [head_at y 576 (by omega), hy]
      refine congrArg (fun r => yy (ix3 b (s p) r)) (Fin.ext ?_)
      show 576 + d.val = 512 + (1 * 64 + d.val)
      omega
    · show 512 + (1 * 64 + j.val) = 576 + j.val
      omega
  refine List.forall_mem_cons.2 ⟨piece_of yy gq gk b s 512 64 (by omega) inb_S1x2560x512_S1x64x512_0_512_0
    (storedK (head 512 slices_S2560x512_o512_0_S64x512 y) gk' t) fun j p => ?_, ?_⟩
  · refine (storedK_rows yy gq gk b s gk' t ht hk _ (0 : Fin 2) (fun d p => ?_) j p).trans (congrArg (fun r => rows yy gq gk (ix3 b r (s p))) (Fin.ext ?_))
    · rw [head_at y 512 (by omega), hy]
      refine congrArg (fun r => yy (ix3 b (s p) r)) (Fin.ext ?_)
      show 512 + d.val = 512 + (0 * 64 + d.val)
      omega
    · show 512 + (0 * 64 + j.val) = 512 + j.val
      omega
  refine List.forall_mem_cons.2 ⟨piece_of yy gq gk b s 448 64 (by omega) inb_S1x2560x512_S1x64x512_0_448_0
    (storedQ (head 448 slices_S2560x512_o448_0_S64x512 y) gq' t) fun j p => ?_, ?_⟩
  · refine (storedQ_rows yy gq gk b s gq' t ht hq _ (7 : Fin 8) (fun d p => ?_) j p).trans (congrArg (fun r => rows yy gq gk (ix3 b r (s p))) (Fin.ext ?_))
    · rw [head_at y 448 (by omega), hy]
      refine congrArg (fun r => yy (ix3 b (s p) r)) (Fin.ext ?_)
      show 448 + d.val = 0 + (7 * 64 + d.val)
      omega
    · show 0 + (7 * 64 + j.val) = 448 + j.val
      omega
  refine List.forall_mem_cons.2 ⟨piece_of yy gq gk b s 384 64 (by omega) inb_S1x2560x512_S1x64x512_0_384_0
    (storedQ (head 384 slices_S2560x512_o384_0_S64x512 y) gq' t) fun j p => ?_, ?_⟩
  · refine (storedQ_rows yy gq gk b s gq' t ht hq _ (6 : Fin 8) (fun d p => ?_) j p).trans (congrArg (fun r => rows yy gq gk (ix3 b r (s p))) (Fin.ext ?_))
    · rw [head_at y 384 (by omega), hy]
      refine congrArg (fun r => yy (ix3 b (s p) r)) (Fin.ext ?_)
      show 384 + d.val = 0 + (6 * 64 + d.val)
      omega
    · show 0 + (6 * 64 + j.val) = 384 + j.val
      omega
  refine List.forall_mem_cons.2 ⟨piece_of yy gq gk b s 320 64 (by omega) inb_S1x2560x512_S1x64x512_0_320_0
    (storedQ (head 320 slices_S2560x512_o320_0_S64x512 y) gq' t) fun j p => ?_, ?_⟩
  · refine (storedQ_rows yy gq gk b s gq' t ht hq _ (5 : Fin 8) (fun d p => ?_) j p).trans (congrArg (fun r => rows yy gq gk (ix3 b r (s p))) (Fin.ext ?_))
    · rw [head_at y 320 (by omega), hy]
      refine congrArg (fun r => yy (ix3 b (s p) r)) (Fin.ext ?_)
      show 320 + d.val = 0 + (5 * 64 + d.val)
      omega
    · show 0 + (5 * 64 + j.val) = 320 + j.val
      omega
  refine List.forall_mem_cons.2 ⟨piece_of yy gq gk b s 256 64 (by omega) inb_S1x2560x512_S1x64x512_0_256_0
    (storedQ (head 256 slices_S2560x512_o256_0_S64x512 y) gq' t) fun j p => ?_, ?_⟩
  · refine (storedQ_rows yy gq gk b s gq' t ht hq _ (4 : Fin 8) (fun d p => ?_) j p).trans (congrArg (fun r => rows yy gq gk (ix3 b r (s p))) (Fin.ext ?_))
    · rw [head_at y 256 (by omega), hy]
      refine congrArg (fun r => yy (ix3 b (s p) r)) (Fin.ext ?_)
      show 256 + d.val = 0 + (4 * 64 + d.val)
      omega
    · show 0 + (4 * 64 + j.val) = 256 + j.val
      omega
  refine List.forall_mem_cons.2 ⟨piece_of yy gq gk b s 192 64 (by omega) inb_S1x2560x512_S1x64x512_0_192_0
    (storedQ (head 192 slices_S2560x512_o192_0_S64x512 y) gq' t) fun j p => ?_, ?_⟩
  · refine (storedQ_rows yy gq gk b s gq' t ht hq _ (3 : Fin 8) (fun d p => ?_) j p).trans (congrArg (fun r => rows yy gq gk (ix3 b r (s p))) (Fin.ext ?_))
    · rw [head_at y 192 (by omega), hy]
      refine congrArg (fun r => yy (ix3 b (s p) r)) (Fin.ext ?_)
      show 192 + d.val = 0 + (3 * 64 + d.val)
      omega
    · show 0 + (3 * 64 + j.val) = 192 + j.val
      omega
  refine List.forall_mem_cons.2 ⟨piece_of yy gq gk b s 128 64 (by omega) inb_S1x2560x512_S1x64x512_0_128_0
    (storedQ (head 128 slices_S2560x512_o128_0_S64x512 y) gq' t) fun j p => ?_, ?_⟩
  · refine (storedQ_rows yy gq gk b s gq' t ht hq _ (2 : Fin 8) (fun d p => ?_) j p).trans (congrArg (fun r => rows yy gq gk (ix3 b r (s p))) (Fin.ext ?_))
    · rw [head_at y 128 (by omega), hy]
      refine congrArg (fun r => yy (ix3 b (s p) r)) (Fin.ext ?_)
      show 128 + d.val = 0 + (2 * 64 + d.val)
      omega
    · show 0 + (2 * 64 + j.val) = 128 + j.val
      omega
  refine List.forall_mem_cons.2 ⟨piece_of yy gq gk b s 64 64 (by omega) inb_S1x2560x512_S1x64x512_0_64_0
    (storedQ (head 64 slices_S2560x512_o64_0_S64x512 y) gq' t) fun j p => ?_, ?_⟩
  · refine (storedQ_rows yy gq gk b s gq' t ht hq _ (1 : Fin 8) (fun d p => ?_) j p).trans (congrArg (fun r => rows yy gq gk (ix3 b r (s p))) (Fin.ext ?_))
    · rw [head_at y 64 (by omega), hy]
      refine congrArg (fun r => yy (ix3 b (s p) r)) (Fin.ext ?_)
      show 64 + d.val = 0 + (1 * 64 + d.val)
      omega
    · show 0 + (1 * 64 + j.val) = 64 + j.val
      omega
  refine List.forall_mem_cons.2 ⟨piece_of yy gq gk b s 0 64 (by omega) inb_S1x2560x512_S1x64x512_0_0_0
    (storedQ (head 0 slices_S2560x512_o0_0_S64x512 y) gq' t) fun j p => ?_, ?_⟩
  · refine (storedQ_rows yy gq gk b s gq' t ht hq _ (0 : Fin 8) (fun d p => ?_) j p).trans (congrArg (fun r => rows yy gq gk (ix3 b r (s p))) (Fin.ext ?_))
    · rw [head_at y 0 (by omega), hy]
      refine congrArg (fun r => yy (ix3 b (s p) r)) (Fin.ext ?_)
      show 0 + d.val = 0 + (0 * 64 + d.val)
      omega
    · show 0 + (0 * 64 + j.val) = 0 + j.val
      omega
  exact fun q hq => absurd hq List.not_mem_nil

end

end Cert.Kernel5Ideal.Inproj

end
-- ==== Proof.Inproj.Value.lean ====
/-
  The input projection's array after the run: entry by entry the reference's.
-/
module

public import proofs.«01_k».proof.Proof.Inproj.Pieces
public import Idealize.ShloMosaic.Lib.Pipeline.ValueKit.Point

@[expose] public section

set_option maxRecDepth 16384

noncomputable section

namespace Cert.Kernel5Ideal.Inproj

open Cert.Kernel5Ideal Cert.Kernel5Ideal.Gen
open Idealize.ShloMosaic Idealize.ShloMosaic.TcCoe
open Cert.Ffn Cert.Inproj
open Cert.Reference5Ideal.Inproj (rows angles rowIds colIds normed proj)
open scoped BigOperators

variable (m : (ℓ : Loc nD τ sig) → Buf (Elt Ideal) ℓ) (c : Dev nD)

/-- The arguments. -/
abbrev ax : FVec Ideal S2x16384x1024 .f32 := m ((c.tc : Thread nD τ).loc main_arg0)
abbrev ag : FVec Ideal S1024 .f32 := m ((c.tc : Thread nD τ).loc main_arg1)
abbrev aw : FVec Ideal S1024x5632 .f32 := m ((c.tc : Thread nD τ).loc main_arg2)
abbrev aq : FVec Ideal S64 .f32 := m ((c.tc : Thread nD τ).loc main_arg3)
abbrev ak : FVec Ideal S64 .f32 := m ((c.tc : Thread nD τ).loc main_arg4)

/-! ## What the host leaves -/

theorem V_weights : V (F := Ideal) m c main_v37
    = truncf .bf16 (transpose S2560x1024 [1, 0] (extractStridedSlice S1024x2560 ![0, 0] (aw m c) slices_S1024x5632_S1024x2560_0_0)
        transposes_S1024x2560_S2560x1024_1_0) bitsLt_bf16_f32 := by
  unfold V
  simp only [hostOps0, List.flatten_cons, List.flatten_nil, List.append_nil, List.cons_append, List.nil_append]
  after_results <;> rfl
theorem V_gain : V (F := Ideal) m c main_v38
    = shapeCast S1x1024 (ag m c) shapeCasts_S1024_S1x1024 := by
  unfold V
  simp only [hostOps0, List.flatten_cons, List.flatten_nil, List.append_nil, List.cons_append, List.nil_append]
  after_results <;> rfl
theorem V_qgain : V (F := Ideal) m c main_v40
    = broadcastInDim S64x512 ![0, 1] bcast_S64x1_S64x512_0_1 (shapeCast S64x1 (aq m c) shapeCasts_S64_S64x1) := by
  unfold V
  simp only [hostOps0, List.flatten_cons, List.flatten_nil, List.append_nil, List.cons_append, List.nil_append]
  after_results <;> rfl
theorem V_kgain : V (F := Ideal) m c main_v42
    = broadcastInDim S64x512 ![0, 1] bcast_S64x1_S64x512_0_1 (shapeCast S64x1 (ak m c) shapeCasts_S64_S64x1) := by
  unfold V
  simp only [hostOps0, List.flatten_cons, List.flatten_nil, List.append_nil, List.cons_append, List.nil_append]
  after_results <;> rfl
/-- The table before its transpose. -/
def table : FVec Ideal S16384x64 .f32 :=
  concatenate S16384x64 1 [⟨S16384x16, Host.cos (angles rowIds)⟩, ⟨S16384x16, Host.sin (angles rowIds)⟩,
    ⟨S16384x16, Host.cos (angles colIds)⟩, ⟨S16384x16, Host.sin (angles colIds)⟩]
    concatenates_S16384x16_S16384x16_S16384x16_S16384x16_S16384x64_d1
theorem V_table : V (F := Ideal) m c main_v34
    = transpose S64x16384 [1, 0] table transposes_S16384x64_S64x16384_1_0 := by
  unfold V
  simp only [hostOps0, List.flatten_cons, List.flatten_nil, List.append_nil, List.cons_append, List.nil_append]
  after_results <;> rfl

theorem off_axis' (p : Fin 16384) (f : Fin 16) (r : Fin 64) (a : Fin S16384x16.rank)
    (ha : a.cast (rfl : S16384x16.rank = S16384x64.rank) ≠ (1 : Fin S16384x64.rank)) :
    ((ix2 p f : S16384x16.Idx) a).val = ((ix2 p r : S16384x64.Idx) (a.cast rfl)).val :=
  match a, ha with
  | ⟨0, _⟩, _ => rfl
  | ⟨1, _⟩, ha => absurd rfl ha

theorem table0 (p : Fin 16384) (f : Fin 16) : table (ix2 p ⟨f.val, by omega⟩) = Host.cos (angles rowIds) (ix2 p f) := by
  unfold table
  refine concatenate_apply_piece (t := S16384x64) 1 _ _ (ix2 p ⟨f.val, by omega⟩) 0 ?_ S16384x16 _ ?_ rfl 0 ?_ (ix2 p f) (off_axis' p f _) ?_
  · show 0 < 4
    omega
  · rfl
  · rfl
  · exact Nat.zero_add _
theorem table1 (p : Fin 16384) (f : Fin 16) : table (ix2 p ⟨16 + f.val, by omega⟩) = Host.sin (angles rowIds) (ix2 p f) := by
  unfold table
  refine concatenate_apply_piece (t := S16384x64) 1 _ _ (ix2 p ⟨16 + f.val, by omega⟩) 1 ?_ S16384x16 _ ?_ rfl 16 ?_ (ix2 p f) (off_axis' p f _) ?_
  · show 1 < 4
    omega
  · rfl
  · rfl
  · rfl
theorem table2 (p : Fin 16384) (f : Fin 16) : table (ix2 p ⟨32 + f.val, by omega⟩) = Host.cos (angles colIds) (ix2 p f) := by
  unfold table
  refine concatenate_apply_piece (t := S16384x64) 1 _ _ (ix2 p ⟨32 + f.val, by omega⟩) 2 ?_ S16384x16 _ ?_ rfl 32 ?_ (ix2 p f) (off_axis' p f _) ?_
  · show 2 < 4
    omega
  · rfl
  · rfl
  · rfl
theorem table3 (p : Fin 16384) (f : Fin 16) : table (ix2 p ⟨48 + f.val, by omega⟩) = Host.sin (angles colIds) (ix2 p f) := by
  unfold table
  refine concatenate_apply_piece (t := S16384x64) 1 _ _ (ix2 p ⟨48 + f.val, by omega⟩) 3 ?_ S16384x16 _ ?_ rfl 48 ?_ (ix2 p f) (off_axis' p f _) ?_
  · show 3 < 4
    omega
  · rfl
  · rfl
  · rfl

/-! ## A point's blocks -/

/-- The batch entry of a point. -/
def ib (t : Fin cfg0.N) : Fin 2 := grid0.coords t 0
/-- The block of positions of a point. -/
def ir (t : Fin cfg0.N) : Fin 32 := grid0.coords t 1
/-- A position of a point's block. -/
def pos (t : Fin cfg0.N) (p : Fin 512) : Fin 16384 := ⟨512 * (ir t).val + p.val, by omega⟩

theorem idx : ∀ t : Fin cfg0.N, win0_0.index t = ![(ib t).val, (ir t).val, 0] ∧ win0_1.index t = ![0, 0]
    ∧ win0_2.index t = ![0, 0] ∧ win0_3.index t = ![0, 0] ∧ win0_4.index t = ![0, 0]
    ∧ win0_5.index t = ![0, (ir t).val] ∧ win0_6.index t = ![(ib t).val, 0, (ir t).val] := by
  decide +kernel

theorem xblk_at (t : Fin cfg0.N) (p : Fin 512) (i : Fin 1024) :
    (iblk (F := Ideal) m c 0 t : FVec Ideal S1x512x1024 .f32) (ix3 0 p i) = ax m c (ix3 (ib t) (pos t p) i) := by
  rw [show ax m c = V (F := Ideal) m c main_arg0 from (V_main_arg0 m c).symm]
  unfold iblk
  rw [View.read_apply]
  have := (idx t).1
  refine (cast_eq _ _).trans (congrArg (V (F := Ideal) m c main_arg0) (funext fun a => Fin.ext ?_))
  match a with
  | ⟨0, h⟩ =>
    refine (Pipeline.Window.rect_emb_val win0_0 t _ ⟨0, h⟩).trans ?_
    rw [this]
    exact Nat.mul_one _
  | ⟨1, h⟩ =>
    refine (Pipeline.Window.rect_emb_val win0_0 t _ ⟨1, h⟩).trans ?_
    rw [this]
    exact congrArg (· + p.val) (Nat.mul_comm _ _)
  | ⟨2, h⟩ => exact (Pipeline.Window.rect_emb_val_of_index_zero win0_0 t ⟨2, h⟩ (by rw [this]; rfl) _).trans rfl
theorem tblk_at (t : Fin cfg0.N) (d : Fin 64) (p : Fin 512) :
    (iblk (F := Ideal) m c 5 t : FVec Ideal S64x512 .f32) (ix2 d p) = table (ix2 (pos t p) d) := by
  have hv : V (F := Ideal) m c main_v34 (ix2 d (pos t p)) = table (ix2 (pos t p) d) := by
    rw [V_table]
    generalize table = u
    pointwise
  rw [← hv]
  unfold iblk
  rw [View.read_apply]
  have := (idx t).2.2.2.2.2.1
  refine (cast_eq _ _).trans (congrArg (V (F := Ideal) m c main_v34) (funext fun a => Fin.ext ?_))
  match a with
  | ⟨0, h⟩ => exact (Pipeline.Window.rect_emb_val_of_index_zero win0_5 t ⟨0, h⟩ (by rw [this]; rfl) _).trans rfl
  | ⟨1, h⟩ =>
    refine (Pipeline.Window.rect_emb_val win0_5 t _ ⟨1, h⟩).trans ?_
    rw [this]
    exact congrArg (· + p.val) (Nat.mul_comm _ _)

/-! A window that is its whole array at every point. -/

theorem whole1 (t : Fin cfg0.N) : (iblk (F := Ideal) m c 1 t : FVec Ideal S1x1024 .f32) = V (F := Ideal) m c main_v38 := by
  funext y
  unfold iblk
  rw [View.read_apply]
  have := (idx t).2.1
  refine (cast_eq _ _).trans (congrArg (V (F := Ideal) m c main_v38) (funext fun a => Fin.ext ?_))
  match a with
  | ⟨0, h⟩ => exact (Pipeline.Window.rect_emb_val_of_index_zero win0_1 t ⟨0, h⟩ (by rw [this]; rfl) _).trans rfl
  | ⟨1, h⟩ => exact (Pipeline.Window.rect_emb_val_of_index_zero win0_1 t ⟨1, h⟩ (by rw [this]; rfl) _).trans rfl
theorem whole2 (t : Fin cfg0.N) : (iblk (F := Ideal) m c 2 t : FVec Ideal S2560x1024 .bf16) = V (F := Ideal) m c main_v37 := by
  funext y
  unfold iblk
  rw [View.read_apply]
  have := (idx t).2.2.1
  refine (cast_eq _ _).trans (congrArg (V (F := Ideal) m c main_v37) (funext fun a => Fin.ext ?_))
  match a with
  | ⟨0, h⟩ => exact (Pipeline.Window.rect_emb_val_of_index_zero win0_2 t ⟨0, h⟩ (by rw [this]; rfl) _).trans rfl
  | ⟨1, h⟩ => exact (Pipeline.Window.rect_emb_val_of_index_zero win0_2 t ⟨1, h⟩ (by rw [this]; rfl) _).trans rfl
theorem whole3 (t : Fin cfg0.N) : (iblk (F := Ideal) m c 3 t : FVec Ideal S64x512 .f32) = V (F := Ideal) m c main_v40 := by
  funext y
  unfold iblk
  rw [View.read_apply]
  have := (idx t).2.2.2.1
  refine (cast_eq _ _).trans (congrArg (V (F := Ideal) m c main_v40) (funext fun a => Fin.ext ?_))
  match a with
  | ⟨0, h⟩ => exact (Pipeline.Window.rect_emb_val_of_index_zero win0_3 t ⟨0, h⟩ (by rw [this]; rfl) _).trans rfl
  | ⟨1, h⟩ => exact (Pipeline.Window.rect_emb_val_of_index_zero win0_3 t ⟨1, h⟩ (by rw [this]; rfl) _).trans rfl
theorem whole4 (t : Fin cfg0.N) : (iblk (F := Ideal) m c 4 t : FVec Ideal S64x512 .f32) = V (F := Ideal) m c main_v42 := by
  funext y
  unfold iblk
  rw [View.read_apply]
  have := (idx t).2.2.2.2.1
  refine (cast_eq _ _).trans (congrArg (V (F := Ideal) m c main_v42) (funext fun a => Fin.ext ?_))
  match a with
  | ⟨0, h⟩ => exact (Pipeline.Window.rect_emb_val_of_index_zero win0_4 t ⟨0, h⟩ (by rw [this]; rfl) _).trans rfl
  | ⟨1, h⟩ => exact (Pipeline.Window.rect_emb_val_of_index_zero win0_4 t ⟨1, h⟩ (by rw [this]; rfl) _).trans rfl

theorem gain_at (t : Fin cfg0.N) (i : Fin 1024) :
    (iblk (F := Ideal) m c 1 t : FVec Ideal S1x1024 .f32) (ix2 0 i) = ag m c (ix1 i) := by
  rw [whole1, V_gain]
  pointwise
theorem weights_at (t : Fin cfg0.N) (r : Fin 2560) (i : Fin 1024) :
    (iblk (F := Ideal) m c 2 t : FVec Ideal S2560x1024 .bf16) (ix2 r i) = aw m c (ix2 i ⟨r.val, by omega⟩) := by
  rw [whole2, V_weights]
  pointwise
theorem qgain_at (t : Fin cfg0.N) (d : Fin 64) (p : Fin 512) :
    (iblk (F := Ideal) m c 3 t : FVec Ideal S64x512 .f32) (ix2 d p) = aq m c (ix1 d) := by
  rw [whole3, V_qgain]
  pointwise
theorem kgain_at (t : Fin cfg0.N) (d : Fin 64) (p : Fin 512) :
    (iblk (F := Ideal) m c 4 t : FVec Ideal S64x512 .f32) (ix2 d p) = ak m c (ix1 d) := by
  rw [whole4, V_kgain]
  pointwise

/-! ## What a point stores -/

theorem proj_rows (t : Fin cfg0.N) (r : Fin 2560) (p : Fin 512) :
    k0_pay1 (F := Ideal) (iblk (F := Ideal) m c 0 t) (iblk (F := Ideal) m c 1 t) (iblk (F := Ideal) m c 2 t) (ix2 r p)
      = proj (normed (ax m c) (ag m c)) (aw m c) (ix3 (ib t) (pos t p) ⟨r.val, by omega⟩) := by
  refine (pay1_at _ _ _ r p).trans ?_
  refine Eq.trans ?_ (Cert.Reference5Ideal.Inproj.proj_at _ _ _ _ _).symm
  refine Finset.sum_congr rfl fun i _ => ?_
  rw [weights_at, Cert.Reference5Ideal.Inproj.normed_at, mul_comm]
  simp only [xblk_at, gain_at]

theorem table_rows (t : Fin cfg0.N) : Table (pos t) (k0_pay2 (F := Ideal) (iblk (F := Ideal) m c 5 t)) where
  cr f p := (pay2_at _ _ p).trans ((tblk_at m c t _ p).trans (table0 _ f))
  sr f p := (pay2_at _ _ p).trans ((tblk_at m c t _ p).trans (table1 _ f))
  cc f p := (pay2_at _ _ p).trans ((tblk_at m c t _ p).trans (table2 _ f))
  sc f p := (pay2_at _ _ p).trans ((tblk_at m c t _ p).trans (table3 _ f))

theorem stored_at (t : Fin cfg0.N) (r : Fin 2560) (p : Fin 512) :
    outsAt0 (F := Ideal) m c t (ix3 0 r p)
      = Cert.Reference5Ideal.Inproj.refOut (ax m c) (ag m c) (aw m c) (aq m c) (ak m c) (ix3 (ib t) r (pos t p)) := by
  have hc := cover0_A_6 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (iblk m c 0 t) (iblk m c 1 t) (iblk m c 2 t) (iblk m c 3 t) (iblk m c 4 t)
    (iblk m c 5 t) (ix3 0 r p)
  rw [run_pieces, load_x, load_g, load_w, load_t, load_t, load_t] at hc
  unfold outsAt0
  rw [out_canon]
  exact (View.canon_apply_of_pieces (Val := Elt Ideal) (block (proj (normed (ax m c) (ag m c)) (aw m c)) (aq m c) (ak m c) (ib t) (pos t)) _
    (pieces_rows _ _ _ (ib t) (pos t) _ _ _ _ (table_rows m c t) (qgain_at m c t) (kgain_at m c t) (proj_rows m c t)) _ hc).trans
    (block_at _ _ _ _ _ r p)

/-! ## The array -/

theorem covers : (cfg0.win 6).Covers := by decide +kernel

theorem result_eq : (dats (F := Ideal) m 0 c).arrAt 6 cfg0.N
    = Cert.Reference5Ideal.Inproj.refOut (ax m c) (ag m c) (aw m c) (aq m c) (ak m c) := by
  refine (dats (F := Ideal) m 0 c).arrAt_eq_of_covers 6 _ covers fun t hf y => ?_
  rw [after0_6]
  refine (cast_eq _ _).trans ?_
  obtain ⟨z, r, p, rfl⟩ : ∃ (z : Fin 1) (r : Fin 2560) (p : Fin 512), y = ix3 z r p := ⟨y 0, y 1, y 2, eq_ix3 y⟩
  have hz : z = 0 := Subsingleton.elim _ _
  subst hz
  have hx : (cfg0.win 6).xinj (cfg0.grid.coords t) (ix3 0 r p) = ix3 0 r p := rfl
  rw [hx]
  have he : ((cfg0.win 6).blk t).view.emb (ix3 0 r p) = ix3 (ib t) r (pos t p) := by
    have := (idx t).2.2.2.2.2.2
    refine funext fun a => Fin.ext ?_
    match a with
    | ⟨0, h⟩ =>
      refine (Pipeline.Window.rect_emb_val win0_6 t _ ⟨0, h⟩).trans ?_
      rw [this]
      exact Nat.mul_one _
    | ⟨1, h⟩ =>
      refine (Pipeline.Window.rect_emb_val win0_6 t _ ⟨1, h⟩).trans ?_
      rw [this]
      exact (congrArg (· + r.val) (Nat.zero_mul _)).trans (Nat.zero_add _)
    | ⟨2, h⟩ =>
      refine (Pipeline.Window.rect_emb_val win0_6 t _ ⟨2, h⟩).trans ?_
      rw [this]
      exact congrArg (· + p.val) (Nat.mul_comm _ _)
  rw [he]
  exact stored_at m c t r p

end Cert.Kernel5Ideal.Inproj

end
-- ==== Proof.lean ====
/-
  The claims: the three programs run and leave their arguments as they were; the kernel's named constants are what they are said
  to be; and over the extended reals the kernel's result is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Bits.Launch
public import proofs.«01_k».proof.Proof.Value
public import proofs.«01_k».proof.Proof.Pre
public import proofs.«01_k».proof.Proof.Ffn.Value
public import proofs.«01_k».proof.Proof.Ffn3.Value
public import proofs.«01_k».proof.Proof.Merge.Value
public import proofs.«01_k».proof.Proof.Inproj.Value
public import Idealize.ShloMosaic.Lib.Quiescent

@[expose] public section

set_option maxRecDepth 16384

noncomputable section

namespace Cert.Proof

open Idealize.ShloMosaic Idealize.ShloMosaic.TcCoe Idealize.SL.Sem

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem equal : Cert.algebraic_KernelIdeal_ReferenceIdeal_pre_finite := by
  intro m g m' g' hpre hargs
  refine ⟨fun c => Cert.ReferenceIdeal.Attn.refOut (Cert.KernelIdeal.Attn.aq m c) (Cert.KernelIdeal.Attn.ak m c)
    (Cert.KernelIdeal.Attn.av m c), ?_, ?_⟩
  · refine (θ_run Cert.KernelIdeal.defs _ _).mono (fun r h c => ?_) (Cert.KernelIdeal.Attn.run_main (F := Ideal) m g)
    obtain ⟨hq, hk⟩ := Cert.Pre_finite.reals _ _ _ (hpre c)
    refine ⟨((h.1 c).1 4).trans (Cert.KernelIdeal.Attn.result_eq m c hq hk), ?_, ?_, ?_⟩
    · exact ((h.1 c).2 Cert.KernelIdeal.main_arg0 (Pipeline.mem_restRefs_of Cert.KernelIdeal.main_arg0 (by decide) (by decide))).trans
        (Cert.KernelIdeal.Gen.V_main_arg0 m c)
    · exact ((h.1 c).2 Cert.KernelIdeal.main_arg1 (Pipeline.mem_restRefs_of Cert.KernelIdeal.main_arg1 (by decide) (by decide))).trans
        (Cert.KernelIdeal.Gen.V_main_arg1 m c)
    · exact ((h.1 c).2 Cert.KernelIdeal.main_arg2 (Pipeline.mem_restRefs_of Cert.KernelIdeal.main_arg2 (by decide) (by decide))).trans
        (Cert.KernelIdeal.Gen.V_main_arg2 m c)
  · refine (θ_run Cert.ReferenceIdeal.defs _ _).mono (fun r h c => ⟨(h c).1.trans ?_, (h c).2⟩)
      (Cert.ReferenceIdeal.Value.run (F := Ideal) m' g')
    rw [(hargs c).1, (hargs c).2.1, (hargs c).2.2]
    rfl

theorem frame_reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
      r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3)
          = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4)
          = m ((c.tc : Thread Cert.Reference2Ideal.nD Cert.Reference2Ideal.τ).loc Cert.Reference2Ideal.main_arg4))
      ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem equal2 : Cert.algebraic_Kernel2Ideal_Reference2Ideal := by
  intro m g m' g' hpre hargs
  refine ⟨fun c => Cert.Reference2Ideal.Ffn.refOut (Cert.Kernel2Ideal.Ffn.ax m c) (Cert.Kernel2Ideal.Ffn.ag m c) (Cert.Kernel2Ideal.Ffn.aw m c)
    (Cert.Kernel2Ideal.Ffn.ao m c) (Cert.Kernel2Ideal.Ffn.af m c), ?_, ?_⟩
  · refine (θ_run Cert.Kernel2Ideal.defs _ _).mono (fun r h c => ?_) (Cert.Kernel2Ideal.Gen.run_main (F := Ideal) m g)
    exact ⟨((h c).1 6).trans (Cert.Kernel2Ideal.Ffn.result_eq m c),
      ((h c).1 0).trans ((((Cert.Kernel2Ideal.Gen.dats (F := Ideal) m 0 c).arrAt_in 0 rfl _).trans (Cert.Kernel2Ideal.Gen.A_eq m c 0)).trans
        (Cert.Kernel2Ideal.Gen.V_main_arg0 m c)),
      ((h c).2 Cert.Kernel2Ideal.main_arg1 (Pipeline.mem_restRefs_of Cert.Kernel2Ideal.main_arg1 (by decide) (by decide))).trans
        (Cert.Kernel2Ideal.Gen.V_main_arg1 m c),
      ((h c).2 Cert.Kernel2Ideal.main_arg2 (Pipeline.mem_restRefs_of Cert.Kernel2Ideal.main_arg2 (by decide) (by decide))).trans
        (Cert.Kernel2Ideal.Gen.V_main_arg2 m c),
      ((h c).2 Cert.Kernel2Ideal.main_arg3 (Pipeline.mem_restRefs_of Cert.Kernel2Ideal.main_arg3 (by decide) (by decide))).trans
        (Cert.Kernel2Ideal.Gen.V_main_arg3 m c),
      ((h c).2 Cert.Kernel2Ideal.main_arg4 (Pipeline.mem_restRefs_of Cert.Kernel2Ideal.main_arg4 (by decide) (by decide))).trans
        (Cert.Kernel2Ideal.Gen.V_main_arg4 m c)⟩
  · refine (θ_run Cert.Reference2Ideal.defs _ _).mono (fun r h c => ⟨(h c).1.trans ?_, (h c).2⟩)
      (Cert.Reference2Ideal.Value.run (F := Ideal) m' g')
    rw [Cert.Reference2Ideal.Ffn.res_eq, (hargs c).1, (hargs c).2.1, (hargs c).2.2.1, (hargs c).2.2.2.1, (hargs c).2.2.2.2]

theorem frame_reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
      r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem equal3 : Cert.algebraic_Kernel3Ideal_Reference3Ideal := by
  intro m g m' g' hpre hargs
  refine ⟨fun c => Cert.Reference3Ideal.Ffn.refOut (Cert.Kernel3Ideal.Ffn.ax m c) (Cert.Kernel3Ideal.Ffn.ag m c) (Cert.Kernel3Ideal.Ffn.aw m c) (Cert.Kernel3Ideal.Ffn.ao m c), ?_, ?_⟩
  · refine (θ_run Cert.Kernel3Ideal.defs _ _).mono (fun r h c => ?_) (Cert.Kernel3Ideal.Gen.run_main (F := Ideal) m g)
    exact ⟨((h c).1 6).trans (Cert.Kernel3Ideal.Ffn.result_eq m c),
      ((h c).1 0).trans (((((Cert.Kernel3Ideal.Gen.dats (F := Ideal) m 0 c).arrAt_in 0 rfl _).trans (Cert.Kernel3Ideal.Gen.A_eq m c 0))).trans
        (Cert.Kernel3Ideal.Gen.V_main_arg0 m c)),
      ((h c).2 Cert.Kernel3Ideal.main_arg1 (Pipeline.mem_restRefs_of Cert.Kernel3Ideal.main_arg1 (by decide) (by decide))).trans
        (Cert.Kernel3Ideal.Gen.V_main_arg1 m c),
      ((h c).2 Cert.Kernel3Ideal.main_arg2 (Pipeline.mem_restRefs_of Cert.Kernel3Ideal.main_arg2 (by decide) (by decide))).trans
        (Cert.Kernel3Ideal.Gen.V_main_arg2 m c),
      ((h c).2 Cert.Kernel3Ideal.main_arg3 (Pipeline.mem_restRefs_of Cert.Kernel3Ideal.main_arg3 (by decide) (by decide))).trans
        (Cert.Kernel3Ideal.Gen.V_main_arg3 m c)⟩
  · refine (θ_run Cert.Reference3Ideal.defs _ _).mono (fun r h c => ⟨(h c).1.trans ?_, (h c).2⟩)
      (Cert.Reference3Ideal.Value.run (F := Ideal) m' g')
    rw [(hargs c).1, (hargs c).2.1, (hargs c).2.2.1, (hargs c).2.2.2]
    rfl

theorem frame_reference4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
      r.2.mem ((c.tc : Thread Cert.Reference4Ideal.nD Cert.Reference4Ideal.τ).loc Cert.Reference4Ideal.main_arg0)
          = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1)
          = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2)
          = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3)
          = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4)
          = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5)
          = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6)
          = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7)
          = m ((c.tc : Thread Cert.Reference4Ideal.nD Cert.Reference4Ideal.τ).loc Cert.Reference4Ideal.main_arg7))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem equal4 : Cert.algebraic_Kernel4Ideal_Reference4Ideal := by
  intro m g m' g' hpre hargs
  refine ⟨fun c => Cert.Reference4Ideal.Merge.refOut (Cert.Kernel4Ideal.Merge.ax m c) (Cert.Kernel4Ideal.Merge.ag m c) (Cert.Kernel4Ideal.Merge.ya m c) (Cert.Kernel4Ideal.Merge.yb m c) (Cert.Kernel4Ideal.Merge.yc m c) (Cert.Kernel4Ideal.Merge.aw m c) (Cert.Kernel4Ideal.Merge.ab m c) (Cert.Kernel4Ideal.Merge.ao m c), ?_, ?_⟩
  · refine (θ_run Cert.Kernel4Ideal.defs _ _).mono (fun r h c => ?_) (Cert.Kernel4Ideal.Gen.run_main (F := Ideal) m g)
    exact ⟨((h c).1 8).trans (Cert.Kernel4Ideal.Merge.result_eq m c),
      ((h c).1 0).trans (((((Cert.Kernel4Ideal.Gen.dats (F := Ideal) m 0 c).arrAt_in 0 rfl _).trans (Cert.Kernel4Ideal.Gen.A_eq m c 0))).trans
        (Cert.Kernel4Ideal.Gen.V_main_arg0 m c)),
      ((h c).2 Cert.Kernel4Ideal.main_arg1 (Pipeline.mem_restRefs_of Cert.Kernel4Ideal.main_arg1 (by decide) (by decide))).trans
        (Cert.Kernel4Ideal.Gen.V_main_arg1 m c),
      ((h c).1 2).trans (((((Cert.Kernel4Ideal.Gen.dats (F := Ideal) m 0 c).arrAt_in 2 rfl _).trans (Cert.Kernel4Ideal.Gen.A_eq m c 2))).trans
        (Cert.Kernel4Ideal.Gen.V_main_arg2 m c)),
      ((h c).1 3).trans (((((Cert.Kernel4Ideal.Gen.dats (F := Ideal) m 0 c).arrAt_in 3 rfl _).trans (Cert.Kernel4Ideal.Gen.A_eq m c 3))).trans
        (Cert.Kernel4Ideal.Gen.V_main_arg3 m c)),
      ((h c).1 4).trans (((((Cert.Kernel4Ideal.Gen.dats (F := Ideal) m 0 c).arrAt_in 4 rfl _).trans (Cert.Kernel4Ideal.Gen.A_eq m c 4))).trans
        (Cert.Kernel4Ideal.Gen.V_main_arg4 m c)),
      ((h c).2 Cert.Kernel4Ideal.main_arg5 (Pipeline.mem_restRefs_of Cert.Kernel4Ideal.main_arg5 (by decide) (by decide))).trans
        (Cert.Kernel4Ideal.Gen.V_main_arg5 m c),
      ((h c).2 Cert.Kernel4Ideal.main_arg6 (Pipeline.mem_restRefs_of Cert.Kernel4Ideal.main_arg6 (by decide) (by decide))).trans
        (Cert.Kernel4Ideal.Gen.V_main_arg6 m c),
      ((h c).2 Cert.Kernel4Ideal.main_arg7 (Pipeline.mem_restRefs_of Cert.Kernel4Ideal.main_arg7 (by decide) (by decide))).trans
        (Cert.Kernel4Ideal.Gen.V_main_arg7 m c)⟩
  · refine (θ_run Cert.Reference4Ideal.defs _ _).mono (fun r h c => ⟨(h c).1.trans ?_, (h c).2⟩)
      (Cert.Reference4Ideal.Value.run (F := Ideal) m' g')
    rw [(hargs c).1, (hargs c).2.1, (hargs c).2.2.1, (hargs c).2.2.2.1, (hargs c).2.2.2.2.1, (hargs c).2.2.2.2.2.1, (hargs c).2.2.2.2.2.2.1, (hargs c).2.2.2.2.2.2.2]
    rfl

theorem frame_reference5 (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal)))
      ⟨m, fun _ => 0, ρ⟩ (fun r => (∀ c : Dev Cert.Reference5Ideal.nD,
      r.2.mem ((c.tc : Thread Cert.Reference5Ideal.nD Cert.Reference5Ideal.τ).loc Cert.Reference5Ideal.main_arg0)
          = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1)
          = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2)
          = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3)
          = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4)
          = m ((c.tc : Thread Cert.Reference5Ideal.nD Cert.Reference5Ideal.τ).loc Cert.Reference5Ideal.main_arg4))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem equal5 : Cert.algebraic_Kernel5Ideal_Reference5Ideal := by
  intro m g m' g' hpre hargs
  refine ⟨fun c => Cert.Reference5Ideal.Inproj.refOut (Cert.Kernel5Ideal.Inproj.ax m c) (Cert.Kernel5Ideal.Inproj.ag m c) (Cert.Kernel5Ideal.Inproj.aw m c) (Cert.Kernel5Ideal.Inproj.aq m c) (Cert.Kernel5Ideal.Inproj.ak m c), ?_, ?_⟩
  · refine (θ_run Cert.Kernel5Ideal.defs _ _).mono (fun r h c => ?_) (Cert.Kernel5Ideal.Gen.run_main (F := Ideal) m g)
    exact ⟨((h c).1 6).trans (Cert.Kernel5Ideal.Inproj.result_eq m c),
      ((h c).1 0).trans ((((Cert.Kernel5Ideal.Gen.dats (F := Ideal) m 0 c).arrAt_in 0 rfl _).trans (Cert.Kernel5Ideal.Gen.A_eq m c 0)).trans
        (Cert.Kernel5Ideal.Gen.V_main_arg0 m c)),
      ((h c).2 Cert.Kernel5Ideal.main_arg1 (Pipeline.mem_restRefs_of Cert.Kernel5Ideal.main_arg1 (by decide) (by decide))).trans
        (Cert.Kernel5Ideal.Gen.V_main_arg1 m c),
      ((h c).2 Cert.Kernel5Ideal.main_arg2 (Pipeline.mem_restRefs_of Cert.Kernel5Ideal.main_arg2 (by decide) (by decide))).trans
        (Cert.Kernel5Ideal.Gen.V_main_arg2 m c),
      ((h c).2 Cert.Kernel5Ideal.main_arg3 (Pipeline.mem_restRefs_of Cert.Kernel5Ideal.main_arg3 (by decide) (by decide))).trans
        (Cert.Kernel5Ideal.Gen.V_main_arg3 m c),
      ((h c).2 Cert.Kernel5Ideal.main_arg4 (Pipeline.mem_restRefs_of Cert.Kernel5Ideal.main_arg4 (by decide) (by decide))).trans
        (Cert.Kernel5Ideal.Gen.V_main_arg4 m c)⟩
  · refine (θ_run Cert.Reference5Ideal.defs _ _).mono (fun r h c => ⟨(h c).1.trans ?_, (h c).2⟩)
      (Cert.Reference5Ideal.Value.run (F := Ideal) m' g')
    rw [Cert.Reference5Ideal.Inproj.res_eq, (hargs c).1, (hargs c).2.1, (hargs c).2.2.1, (hargs c).2.2.2.1, (hargs c).2.2.2.2]

theorem claim : Cert.Claim :=
  ⟨inferInstance, inferInstance, inferInstance, inferInstance, inferInstance, inferInstance, inferInstance, inferInstance, inferInstance,
    inferInstance, inferInstance, inferInstance, inferInstance, inferInstance, inferInstance, inferInstance,
    fun m g _ => Cert.Kernel.Attn.frame_main (F := Bits) m g,
    fun m g _ => Cert.KernelIdeal.Attn.frame_main (F := Ideal) m g,
    fun m g _ => Cert.KernelIdeal.Attn.frame_main (F := Ideal) m g,
    fun m g _ => frame_reference m g,
    fun m g _ => frame_reference m g,
    fun m g _ => Cert.Kernel2.Gen.frame (F := Bits) m g,
    fun m g _ => Cert.Kernel2Ideal.Gen.frame (F := Ideal) m g,
    fun m g _ => frame_reference2 m g,
    fun m g _ => Cert.Kernel3.Gen.frame (F := Bits) m g,
    fun m g _ => Cert.Kernel3Ideal.Gen.frame (F := Ideal) m g,
    fun m g _ => frame_reference3 m g,
    fun m g _ => Cert.Kernel4.Gen.frame (F := Bits) m g,
    fun m g _ => Cert.Kernel4Ideal.Gen.frame (F := Ideal) m g,
    fun m g _ => frame_reference4 m g,
    fun m g _ => Cert.Kernel5.Gen.frame (F := Bits) m g,
    fun m g _ => Cert.Kernel5Ideal.Gen.frame (F := Ideal) m g,
    fun m g _ => frame_reference5 m g,
    ⟨IdealRules.named_const.statement Cert.KernelIdeal.κ "mask" .f32 _ ⊥ rfl,
      IdealRules.named_const.statement Cert.KernelIdeal.κ "huge" .f32 _ ⊤ rfl⟩,
    equal,
    trivial,
    equal2,
    trivial,
    equal3,
    trivial,
    equal4,
    trivial,
    equal5⟩

end Cert.Proof

end
